-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v64)) (v1 : (c : Dev Cert.KernelIdeal.nD) → Buf (Elt Ideal) ((c.tc : Thread Cert.KernelIdeal.nD Cert.KernelIdeal.τ).loc Cert.KernelIdeal.main_v60)) (v2 : (c : Dev Cert.KernelIdeal.nD) → Buf (Elt Ideal) ((c.tc : Thread Cert.KernelIdeal.nD Cert.KernelIdeal.τ).loc Cert.KernelIdeal.main_v66)) (v3 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_v60) = v1 c
          ∧ r.2.mem ((c.tc : Thread Cert.KernelIdeal.nD Cert.KernelIdeal.τ).loc Cert.KernelIdeal.main_v66) = v2 c
          ∧ r.2.mem ((c.tc : Thread Cert.KernelIdeal.nD Cert.KernelIdeal.τ).loc Cert.KernelIdeal.main_v63) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_v63) = v2 c
          ∧ r.2.mem ((c.tc : Thread Cert.ReferenceIdeal.nD Cert.ReferenceIdeal.τ).loc Cert.ReferenceIdeal.main_v57) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v32_0)) (v1 : (c : Dev Cert.Kernel2Ideal.nD) → Buf (Elt Ideal) ((c.tc : Thread Cert.Kernel2Ideal.nD Cert.Kernel2Ideal.τ).loc Cert.Kernel2Ideal.main_v32_1)) (v2 : (c : Dev Cert.Kernel2Ideal.nD) → Buf (Elt Ideal) ((c.tc : Thread Cert.Kernel2Ideal.nD Cert.Kernel2Ideal.τ).loc Cert.Kernel2Ideal.main_v32_2)) (v3 : (c : Dev Cert.Kernel2Ideal.nD) → Buf (Elt Ideal) ((c.tc : Thread Cert.Kernel2Ideal.nD Cert.Kernel2Ideal.τ).loc Cert.Kernel2Ideal.main_v32_3)) (v4 : (c : Dev Cert.Kernel2Ideal.nD) → Buf (Elt Ideal) ((c.tc : Thread Cert.Kernel2Ideal.nD Cert.Kernel2Ideal.τ).loc Cert.Kernel2Ideal.main_v34)) (v5 : (c : Dev Cert.Kernel2Ideal.nD) → Buf (Elt Ideal) ((c.tc : Thread Cert.Kernel2Ideal.nD Cert.Kernel2Ideal.τ).loc Cert.Kernel2Ideal.main_v36)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v32_0) = v0 c
          ∧ r.2.mem ((c.tc : Thread Cert.Kernel2Ideal.nD Cert.Kernel2Ideal.τ).loc Cert.Kernel2Ideal.main_v32_1) = v1 c
          ∧ r.2.mem ((c.tc : Thread Cert.Kernel2Ideal.nD Cert.Kernel2Ideal.τ).loc Cert.Kernel2Ideal.main_v32_2) = v2 c
          ∧ r.2.mem ((c.tc : Thread Cert.Kernel2Ideal.nD Cert.Kernel2Ideal.τ).loc Cert.Kernel2Ideal.main_v32_3) = v3 c
          ∧ r.2.mem ((c.tc : Thread Cert.Kernel2Ideal.nD Cert.Kernel2Ideal.τ).loc Cert.Kernel2Ideal.main_v34) = v4 c
          ∧ r.2.mem ((c.tc : Thread Cert.Kernel2Ideal.nD Cert.Kernel2Ideal.τ).loc Cert.Kernel2Ideal.main_v36) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v59) = v0 c
          ∧ r.2.mem ((c.tc : Thread Cert.Reference2Ideal.nD Cert.Reference2Ideal.τ).loc Cert.Reference2Ideal.main_v60) = v1 c
          ∧ r.2.mem ((c.tc : Thread Cert.Reference2Ideal.nD Cert.Reference2Ideal.τ).loc Cert.Reference2Ideal.main_v62) = v2 c
          ∧ r.2.mem ((c.tc : Thread Cert.Reference2Ideal.nD Cert.Reference2Ideal.τ).loc Cert.Reference2Ideal.main_v63) = v3 c
          ∧ r.2.mem ((c.tc : Thread Cert.Reference2Ideal.nD Cert.Reference2Ideal.τ).loc Cert.Reference2Ideal.main_v30) = v4 c
          ∧ r.2.mem ((c.tc : Thread Cert.Reference2Ideal.nD Cert.Reference2Ideal.τ).loc Cert.Reference2Ideal.main_v36) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v30_0)) (v1 : (c : Dev Cert.Kernel3Ideal.nD) → Buf (Elt Ideal) ((c.tc : Thread Cert.Kernel3Ideal.nD Cert.Kernel3Ideal.τ).loc Cert.Kernel3Ideal.main_v30_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v30_0) = v0 c
          ∧ r.2.mem ((c.tc : Thread Cert.Kernel3Ideal.nD Cert.Kernel3Ideal.τ).loc Cert.Kernel3Ideal.main_v30_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v35) = v0 c
          ∧ r.2.mem ((c.tc : Thread Cert.Reference3Ideal.nD Cert.Reference3Ideal.τ).loc Cert.Reference3Ideal.main_v36) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v50_0)) (v1 : (c : Dev Cert.Kernel4Ideal.nD) → Buf (Elt Ideal) ((c.tc : Thread Cert.Kernel4Ideal.nD Cert.Kernel4Ideal.τ).loc Cert.Kernel4Ideal.main_v50_1)) (v2 : (c : Dev Cert.Kernel4Ideal.nD) → Buf (Elt Ideal) ((c.tc : Thread Cert.Kernel4Ideal.nD Cert.Kernel4Ideal.τ).loc Cert.Kernel4Ideal.main_v50_2)) (v3 : (c : Dev Cert.Kernel4Ideal.nD) → Buf (Elt Ideal) ((c.tc : Thread Cert.Kernel4Ideal.nD Cert.Kernel4Ideal.τ).loc Cert.Kernel4Ideal.main_v50_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v50_0) = v0 c
          ∧ r.2.mem ((c.tc : Thread Cert.Kernel4Ideal.nD Cert.Kernel4Ideal.τ).loc Cert.Kernel4Ideal.main_v50_1) = v1 c
          ∧ r.2.mem ((c.tc : Thread Cert.Kernel4Ideal.nD Cert.Kernel4Ideal.τ).loc Cert.Kernel4Ideal.main_v50_2) = v2 c
          ∧ r.2.mem ((c.tc : Thread Cert.Kernel4Ideal.nD Cert.Kernel4Ideal.τ).loc Cert.Kernel4Ideal.main_v50_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v62) = v0 c
          ∧ r.2.mem ((c.tc : Thread Cert.Reference4Ideal.nD Cert.Reference4Ideal.τ).loc Cert.Reference4Ideal.main_v66) = v1 c
          ∧ r.2.mem ((c.tc : Thread Cert.Reference4Ideal.nD Cert.Reference4Ideal.τ).loc Cert.Reference4Ideal.main_v26) = v2 c
          ∧ r.2.mem ((c.tc : Thread Cert.Reference4Ideal.nD Cert.Reference4Ideal.τ).loc Cert.Reference4Ideal.main_v67) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v25_0)) (v1 : (c : Dev Cert.Kernel5Ideal.nD) → Buf (Elt Ideal) ((c.tc : Thread Cert.Kernel5Ideal.nD Cert.Kernel5Ideal.τ).loc Cert.Kernel5Ideal.main_v25_1)) (v2 : (c : Dev Cert.Kernel5Ideal.nD) → Buf (Elt Ideal) ((c.tc : Thread Cert.Kernel5Ideal.nD Cert.Kernel5Ideal.τ).loc Cert.Kernel5Ideal.main_v26)) (v3 : (c : Dev Cert.Kernel5Ideal.nD) → Buf (Elt Ideal) ((c.tc : Thread Cert.Kernel5Ideal.nD Cert.Kernel5Ideal.τ).loc Cert.Kernel5Ideal.main_v27)) (v4 : (c : Dev Cert.Kernel5Ideal.nD) → Buf (Elt Ideal) ((c.tc : Thread Cert.Kernel5Ideal.nD Cert.Kernel5Ideal.τ).loc Cert.Kernel5Ideal.main_v29)) (v5 : (c : Dev Cert.Kernel5Ideal.nD) → Buf (Elt Ideal) ((c.tc : Thread Cert.Kernel5Ideal.nD Cert.Kernel5Ideal.τ).loc Cert.Kernel5Ideal.main_v31)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v25_0) = v0 c
          ∧ r.2.mem ((c.tc : Thread Cert.Kernel5Ideal.nD Cert.Kernel5Ideal.τ).loc Cert.Kernel5Ideal.main_v25_1) = v1 c
          ∧ r.2.mem ((c.tc : Thread Cert.Kernel5Ideal.nD Cert.Kernel5Ideal.τ).loc Cert.Kernel5Ideal.main_v26) = v2 c
          ∧ r.2.mem ((c.tc : Thread Cert.Kernel5Ideal.nD Cert.Kernel5Ideal.τ).loc Cert.Kernel5Ideal.main_v27) = v3 c
          ∧ r.2.mem ((c.tc : Thread Cert.Kernel5Ideal.nD Cert.Kernel5Ideal.τ).loc Cert.Kernel5Ideal.main_v29) = v4 c
          ∧ r.2.mem ((c.tc : Thread Cert.Kernel5Ideal.nD Cert.Kernel5Ideal.τ).loc Cert.Kernel5Ideal.main_v31) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v72) = v0 c
          ∧ r.2.mem ((c.tc : Thread Cert.Reference5Ideal.nD Cert.Reference5Ideal.τ).loc Cert.Reference5Ideal.main_v71) = v1 c
          ∧ r.2.mem ((c.tc : Thread Cert.Reference5Ideal.nD Cert.Reference5Ideal.τ).loc Cert.Reference5Ideal.main_v73) = v2 c
          ∧ r.2.mem ((c.tc : Thread Cert.Reference5Ideal.nD Cert.Reference5Ideal.τ).loc Cert.Reference5Ideal.main_v77) = v3 c
          ∧ r.2.mem ((c.tc : Thread Cert.Reference5Ideal.nD Cert.Reference5Ideal.τ).loc Cert.Reference5Ideal.main_v56) = v4 c
          ∧ r.2.mem ((c.tc : Thread Cert.Reference5Ideal.nD Cert.Reference5Ideal.τ).loc Cert.Reference5Ideal.main_v40) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v26_0)) (v1 : (c : Dev Cert.Kernel6Ideal.nD) → Buf (Elt Ideal) ((c.tc : Thread Cert.Kernel6Ideal.nD Cert.Kernel6Ideal.τ).loc Cert.Kernel6Ideal.main_v27)) (v2 : (c : Dev Cert.Kernel6Ideal.nD) → Buf (Elt Ideal) ((c.tc : Thread Cert.Kernel6Ideal.nD Cert.Kernel6Ideal.τ).loc Cert.Kernel6Ideal.main_v28)) (v3 : (c : Dev Cert.Kernel6Ideal.nD) → Buf (Elt Ideal) ((c.tc : Thread Cert.Kernel6Ideal.nD Cert.Kernel6Ideal.τ).loc Cert.Kernel6Ideal.main_v30)) (v4 : (c : Dev Cert.Kernel6Ideal.nD) → Buf (Elt Ideal) ((c.tc : Thread Cert.Kernel6Ideal.nD Cert.Kernel6Ideal.τ).loc Cert.Kernel6Ideal.main_v32)) (v5 : (c : Dev Cert.Kernel6Ideal.nD) → Buf (Elt Ideal) ((c.tc : Thread Cert.Kernel6Ideal.nD Cert.Kernel6Ideal.τ).loc Cert.Kernel6Ideal.main_v34)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v26_0) = v0 c
          ∧ r.2.mem ((c.tc : Thread Cert.Kernel6Ideal.nD Cert.Kernel6Ideal.τ).loc Cert.Kernel6Ideal.main_v27) = v1 c
          ∧ r.2.mem ((c.tc : Thread Cert.Kernel6Ideal.nD Cert.Kernel6Ideal.τ).loc Cert.Kernel6Ideal.main_v28) = v2 c
          ∧ r.2.mem ((c.tc : Thread Cert.Kernel6Ideal.nD Cert.Kernel6Ideal.τ).loc Cert.Kernel6Ideal.main_v30) = v3 c
          ∧ r.2.mem ((c.tc : Thread Cert.Kernel6Ideal.nD Cert.Kernel6Ideal.τ).loc Cert.Kernel6Ideal.main_v32) = v4 c
          ∧ r.2.mem ((c.tc : Thread Cert.Kernel6Ideal.nD Cert.Kernel6Ideal.τ).loc Cert.Kernel6Ideal.main_v34) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v69) = v0 c
          ∧ r.2.mem ((c.tc : Thread Cert.Reference6Ideal.nD Cert.Reference6Ideal.τ).loc Cert.Reference6Ideal.main_v70) = v1 c
          ∧ r.2.mem ((c.tc : Thread Cert.Reference6Ideal.nD Cert.Reference6Ideal.τ).loc Cert.Reference6Ideal.main_v74) = v2 c
          ∧ r.2.mem ((c.tc : Thread Cert.Reference6Ideal.nD Cert.Reference6Ideal.τ).loc Cert.Reference6Ideal.main_v42) = v3 c
          ∧ r.2.mem ((c.tc : Thread Cert.Reference6Ideal.nD Cert.Reference6Ideal.τ).loc Cert.Reference6Ideal.main_v48) = v4 c
          ∧ r.2.mem ((c.tc : Thread Cert.Reference6Ideal.nD Cert.Reference6Ideal.τ).loc Cert.Reference6Ideal.main_v54) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v15_0)) (v1 : (c : Dev Cert.Kernel7Ideal.nD) → Buf (Elt Ideal) ((c.tc : Thread Cert.Kernel7Ideal.nD Cert.Kernel7Ideal.τ).loc Cert.Kernel7Ideal.main_v16)) (v2 : (c : Dev Cert.Kernel7Ideal.nD) → Buf (Elt Ideal) ((c.tc : Thread Cert.Kernel7Ideal.nD Cert.Kernel7Ideal.τ).loc Cert.Kernel7Ideal.main_v15_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v15_0) = v0 c
          ∧ r.2.mem ((c.tc : Thread Cert.Kernel7Ideal.nD Cert.Kernel7Ideal.τ).loc Cert.Kernel7Ideal.main_v16) = v1 c
          ∧ r.2.mem ((c.tc : Thread Cert.Kernel7Ideal.nD Cert.Kernel7Ideal.τ).loc Cert.Kernel7Ideal.main_v15_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v26) = v0 c
          ∧ r.2.mem ((c.tc : Thread Cert.Reference7Ideal.nD Cert.Reference7Ideal.τ).loc Cert.Reference7Ideal.main_v30) = v1 c
          ∧ r.2.mem ((c.tc : Thread Cert.Reference7Ideal.nD Cert.Reference7Ideal.τ).loc Cert.Reference7Ideal.main_v33) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v28_0)) (v1 : (c : Dev Cert.Kernel8Ideal.nD) → Buf (Elt Ideal) ((c.tc : Thread Cert.Kernel8Ideal.nD Cert.Kernel8Ideal.τ).loc Cert.Kernel8Ideal.main_v28_1)) (v2 : (c : Dev Cert.Kernel8Ideal.nD) → Buf (Elt Ideal) ((c.tc : Thread Cert.Kernel8Ideal.nD Cert.Kernel8Ideal.τ).loc Cert.Kernel8Ideal.main_v28_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v28_0) = v0 c
          ∧ r.2.mem ((c.tc : Thread Cert.Kernel8Ideal.nD Cert.Kernel8Ideal.τ).loc Cert.Kernel8Ideal.main_v28_1) = v1 c
          ∧ r.2.mem ((c.tc : Thread Cert.Kernel8Ideal.nD Cert.Kernel8Ideal.τ).loc Cert.Kernel8Ideal.main_v28_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v22) = v0 c
          ∧ r.2.mem ((c.tc : Thread Cert.Reference8Ideal.nD Cert.Reference8Ideal.τ).loc Cert.Reference8Ideal.main_v3) = v1 c
          ∧ r.2.mem ((c.tc : Thread Cert.Reference8Ideal.nD Cert.Reference8Ideal.τ).loc Cert.Reference8Ideal.main_v23) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)) →
    ∃ (v0 : (c : Dev Cert.Kernel9Ideal.nD) → Buf (Elt Ideal) ((c.tc : Thread Cert.Kernel9Ideal.nD Cert.Kernel9Ideal.τ).loc Cert.Kernel9Ideal.main_v50_0)) (v1 : (c : Dev Cert.Kernel9Ideal.nD) → Buf (Elt Ideal) ((c.tc : Thread Cert.Kernel9Ideal.nD Cert.Kernel9Ideal.τ).loc Cert.Kernel9Ideal.main_v50_1)) (v2 : (c : Dev Cert.Kernel9Ideal.nD) → Buf (Elt Ideal) ((c.tc : Thread Cert.Kernel9Ideal.nD Cert.Kernel9Ideal.τ).loc Cert.Kernel9Ideal.main_v50_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v50_0) = v0 c
          ∧ r.2.mem ((c.tc : Thread Cert.Kernel9Ideal.nD Cert.Kernel9Ideal.τ).loc Cert.Kernel9Ideal.main_v50_1) = v1 c
          ∧ r.2.mem ((c.tc : Thread Cert.Kernel9Ideal.nD Cert.Kernel9Ideal.τ).loc Cert.Kernel9Ideal.main_v50_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v47) = v0 c
          ∧ r.2.mem ((c.tc : Thread Cert.Reference9Ideal.nD Cert.Reference9Ideal.τ).loc Cert.Reference9Ideal.main_v51) = v1 c
          ∧ r.2.mem ((c.tc : Thread Cert.Reference9Ideal.nD Cert.Reference9Ideal.τ).loc Cert.Reference9Ideal.main_v26) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_finite2 : Cert.Pre_finite2.Facts) (hPre_finite3 : Cert.Pre_finite3.Facts) (hPre_finite5 : Cert.Pre_finite5.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S4096x16x128 : Shape := ⟨3, ![4096, 16, 128]⟩
abbrev S4096x16x32 : Shape := ⟨3, ![4096, 16, 32]⟩
abbrev S4096x128 : Shape := ⟨2, ![4096, 128]⟩
abbrev S4096x32 : Shape := ⟨2, ![4096, 32]⟩
abbrev S_ : Shape := ⟨0, ![]⟩

class Facts : Prop where
  bcast_S_S4096x16x128 : S_.BroadcastsInDim S4096x16x128 (![] : Fin 0 → Fin S4096x16x128.rank)
  reducesTo_S4096x16x128_S_d0_1_2 : S4096x16x128.ReducesTo [0, 1, 2] S_
  h_S_ : 0 < S_.numel
  bcast_S_S4096x16x32 : S_.BroadcastsInDim S4096x16x32 (![] : Fin 0 → Fin S4096x16x32.rank)
  reducesTo_S4096x16x32_S_d0_1_2 : S4096x16x32.ReducesTo [0, 1, 2] S_
  bcast_S_S4096x128 : S_.BroadcastsInDim S4096x128 (![] : Fin 0 → Fin S4096x128.rank)
  reducesTo_S4096x128_S_d0_1 : S4096x128.ReducesTo [0, 1] S_
  bcast_S_S4096x32 : S_.BroadcastsInDim S4096x32 (![] : Fin 0 → Fin S4096x32.rank)
  reducesTo_S4096x32_S_d0_1 : S4096x32.ReducesTo [0, 1] S_

variable [Facts]

def fn_part1 {F : FTy → Type} [FloatOps F] (main_arg4 : FVec F S4096x16x128 .f32) (main_v13 : IVec S_ 1) (main_v16 : IVec S4096x32 1) : IVec S_ 1 :=
  let main_c_5 : IVec S_ 1 := constantI S_ 1 1#1
  let main_v17 : IVec S_ 1 := (fun x v => Host.reduce IntOp.andi x v reducesTo_S4096x32_S_d0_1 h_S_) main_v16 main_c_5
  let main_v18 : IVec S_ 1 := andi main_v13 main_v17
  let main_v19 : FVec F S4096x16x128 .f32 := Host.absf main_arg4
  let main_cst_6 : FVec F S_ .f32 := constant S_ .f32 0x7F800000#32
  let main_v20 : FVec F S4096x16x128 .f32 := broadcastInDim S4096x16x128 ![] bcast_S_S4096x16x128 main_cst_6
  let main_v21 : IVec S4096x16x128 1 := cmpf .olt main_v19 main_v20
  let main_c_7 : IVec S_ 1 := constantI S_ 1 1#1
  let main_v22 : IVec S_ 1 := (fun x v => Host.reduce IntOp.andi x v reducesTo_S4096x16x128_S_d0_1_2 h_S_) main_v21 main_c_7
  let main_v23 : IVec S_ 1 := andi main_v18 main_v22
  main_v23

def fn {F : FTy → Type} [FloatOps F] (main_arg0 : FVec F S4096x16x128 .f32) (main_arg1 : FVec F S4096x16x32 .f32) (main_arg2 : FVec F S4096x128 .f32) (main_arg3 : FVec F S4096x32 .f32) (main_arg4 : FVec F S4096x16x128 .f32) : IVec S_ 1 :=
  let main_v0 : FVec F S4096x16x128 .f32 := Host.absf main_arg0
  let main_cst : FVec F S_ .f32 := constant S_ .f32 0x7F800000#32
  let main_v1 : FVec F S4096x16x128 .f32 := broadcastInDim S4096x16x128 ![] bcast_S_S4096x16x128 main_cst
  let main_v2 : IVec S4096x16x128 1 := cmpf .olt main_v0 main_v1
  let main_c : IVec S_ 1 := constantI S_ 1 1#1
  let main_v3 : IVec S_ 1 := (fun x v => Host.reduce IntOp.andi x v reducesTo_S4096x16x128_S_d0_1_2 h_S_) main_v2 main_c
  let main_v4 : FVec F S4096x16x32 .f32 := Host.absf main_arg1
  let main_cst_0 : FVec F S_ .f32 := constant S_ .f32 0x7F800000#32
  let main_v5 : FVec F S4096x16x32 .f32 := broadcastInDim S4096x16x32 ![] bcast_S_S4096x16x32 main_cst_0
  let main_v6 : IVec S4096x16x32 1 := cmpf .olt main_v4 main_v5
  let main_c_1 : IVec S_ 1 := constantI S_ 1 1#1
  let main_v7 : IVec S_ 1 := (fun x v => Host.reduce IntOp.andi x v reducesTo_S4096x16x32_S_d0_1_2 h_S_) main_v6 main_c_1
  let main_v8 : IVec S_ 1 := andi main_v3 main_v7
  let main_v9 : FVec F S4096x128 .f32 := Host.absf main_arg2
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  let main_c_3 : IVec S_ 1 := constantI S_ 1 1#1
  let main_v12 : IVec S_ 1 := (fun x v => Host.reduce IntOp.andi x v reducesTo_S4096x128_S_d0_1 h_S_) main_v11 main_c_3
  let main_v13 : IVec S_ 1 := andi main_v8 main_v12
  let main_v14 : FVec F S4096x32 .f32 := Host.absf main_arg3
  let main_cst_4 : FVec F S_ .f32 := constant S_ .f32 0x7F800000#32
  let main_v15 : FVec F S4096x32 .f32 := broadcastInDim S4096x32 ![] bcast_S_S4096x32 main_cst_4
  let main_v16 : IVec S4096x32 1 := cmpf .olt main_v14 main_v15
  fn_part1 (F := F) main_arg4 main_v13 main_v16
-- ==== Pre_finite2.lean ====
abbrev S4096x16x128 : Shape := ⟨3, ![4096, 16, 128]⟩
abbrev S128x16x64 : Shape := ⟨3, ![128, 16, 64]⟩
abbrev S1024x1024 : Shape := ⟨2, ![1024, 1024]⟩
abbrev S1024 : Shape := ⟨1, ![1024]⟩
abbrev S4096x1024 : Shape := ⟨2, ![4096, 1024]⟩
abbrev S_ : Shape := ⟨0, ![]⟩

class Facts : Prop where
  bcast_S_S4096x16x128 : S_.BroadcastsInDim S4096x16x128 (![] : Fin 0 → Fin S4096x16x128.rank)
  reducesTo_S4096x16x128_S_d0_1_2 : S4096x16x128.ReducesTo [0, 1, 2] S_
  h_S_ : 0 < S_.numel
  bcast_S_S128x16x64 : S_.BroadcastsInDim S128x16x64 (![] : Fin 0 → Fin S128x16x64.rank)
  reducesTo_S128x16x64_S_d0_1_2 : S128x16x64.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S1024 .f32) (main_arg5 : FVec F S4096x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  main_v28

def fn {F : FTy → Type} [FloatOps F] (main_arg0 : FVec F S4096x16x128 .f32) (main_arg1 : FVec F S128x16x64 .f32) (main_arg2 : FVec F S1024x1024 .f32) (main_arg3 : FVec F S1024 .f32) (main_arg4 : FVec F S1024 .f32) (main_arg5 : FVec F S4096x1024 .f32) : IVec S_ 1 :=
  let main_v0 : FVec F S4096x16x128 .f32 := Host.absf main_arg0
  let main_cst : FVec F S_ .f32 := constant S_ .f32 0x7F800000#32
  let main_v1 : FVec F S4096x16x128 .f32 := broadcastInDim S4096x16x128 ![] bcast_S_S4096x16x128 main_cst
  let main_v2 : IVec S4096x16x128 1 := cmpf .olt main_v0 main_v1
  let main_c : IVec S_ 1 := constantI S_ 1 1#1
  let main_v3 : IVec S_ 1 := (fun x v => Host.reduce IntOp.andi x v reducesTo_S4096x16x128_S_d0_1_2 h_S_) main_v2 main_c
  let main_v4 : FVec F S128x16x64 .f32 := Host.absf main_arg1
  let main_cst_0 : FVec F S_ .f32 := constant S_ .f32 0x7F800000#32
  let main_v5 : FVec F S128x16x64 .f32 := broadcastInDim S128x16x64 ![] bcast_S_S128x16x64 main_cst_0
  let main_v6 : IVec S128x16x64 1 := cmpf .olt main_v4 main_v5
  let main_c_1 : IVec S_ 1 := constantI S_ 1 1#1
  let main_v7 : IVec S_ 1 := (fun x v => Host.reduce IntOp.andi x v reducesTo_S128x16x64_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Pre_finite3.lean ====
abbrev S4096x16x128 : Shape := ⟨3, ![4096, 16, 128]⟩
abbrev S4096x16x32 : Shape := ⟨3, ![4096, 16, 32]⟩
abbrev S4096x128 : Shape := ⟨2, ![4096, 128]⟩
abbrev S4096x32 : Shape := ⟨2, ![4096, 32]⟩
abbrev S_ : Shape := ⟨0, ![]⟩

class Facts : Prop where
  bcast_S_S4096x16x128 : S_.BroadcastsInDim S4096x16x128 (![] : Fin 0 → Fin S4096x16x128.rank)
  reducesTo_S4096x16x128_S_d0_1_2 : S4096x16x128.ReducesTo [0, 1, 2] S_
  h_S_ : 0 < S_.numel
  bcast_S_S4096x16x32 : S_.BroadcastsInDim S4096x16x32 (![] : Fin 0 → Fin S4096x16x32.rank)
  reducesTo_S4096x16x32_S_d0_1_2 : S4096x16x32.ReducesTo [0, 1, 2] S_
  bcast_S_S4096x128 : S_.BroadcastsInDim S4096x128 (![] : Fin 0 → Fin S4096x128.rank)
  reducesTo_S4096x128_S_d0_1 : S4096x128.ReducesTo [0, 1] S_
  bcast_S_S4096x32 : S_.BroadcastsInDim S4096x32 (![] : Fin 0 → Fin S4096x32.rank)
  reducesTo_S4096x32_S_d0_1 : S4096x32.ReducesTo [0, 1] S_

variable [Facts]

def fn_part1 {F : FTy → Type} [FloatOps F] (main_v13 : IVec S_ 1) (main_v16 : IVec S4096x32 1) : IVec S_ 1 :=
  let main_c_5 : IVec S_ 1 := constantI S_ 1 1#1
  let main_v17 : IVec S_ 1 := (fun x v => Host.reduce IntOp.andi x v reducesTo_S4096x32_S_d0_1 h_S_) main_v16 main_c_5
  let main_v18 : IVec S_ 1 := andi main_v13 main_v17
  main_v18

def fn {F : FTy → Type} [FloatOps F] (main_arg0 : FVec F S4096x16x128 .f32) (main_arg1 : FVec F S4096x16x32 .f32) (main_arg2 : FVec F S4096x128 .f32) (main_arg3 : FVec F S4096x32 .f32) : IVec S_ 1 :=
  let main_v0 : FVec F S4096x16x128 .f32 := Host.absf main_arg0
  let main_cst : FVec F S_ .f32 := constant S_ .f32 0x7F800000#32
  let main_v1 : FVec F S4096x16x128 .f32 := broadcastInDim S4096x16x128 ![] bcast_S_S4096x16x128 main_cst
  let main_v2 : IVec S4096x16x128 1 := cmpf .olt main_v0 main_v1
  let main_c : IVec S_ 1 := constantI S_ 1 1#1
  let main_v3 : IVec S_ 1 := (fun x v => Host.reduce IntOp.andi x v reducesTo_S4096x16x128_S_d0_1_2 h_S_) main_v2 main_c
  let main_v4 : FVec F S4096x16x32 .f32 := Host.absf main_arg1
  let main_cst_0 : FVec F S_ .f32 := constant S_ .f32 0x7F800000#32
  let main_v5 : FVec F S4096x16x32 .f32 := broadcastInDim S4096x16x32 ![] bcast_S_S4096x16x32 main_cst_0
  let main_v6 : IVec S4096x16x32 1 := cmpf .olt main_v4 main_v5
  let main_c_1 : IVec S_ 1 := constantI S_ 1 1#1
  let main_v7 : IVec S_ 1 := (fun x v => Host.reduce IntOp.andi x v reducesTo_S4096x16x32_S_d0_1_2 h_S_) main_v6 main_c_1
  let main_v8 : IVec S_ 1 := andi main_v3 main_v7
  let main_v9 : FVec F S4096x128 .f32 := Host.absf main_arg2
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  let main_c_3 : IVec S_ 1 := constantI S_ 1 1#1
  let main_v12 : IVec S_ 1 := (fun x v => Host.reduce IntOp.andi x v reducesTo_S4096x128_S_d0_1 h_S_) main_v11 main_c_3
  let main_v13 : IVec S_ 1 := andi main_v8 main_v12
  let main_v14 : FVec F S4096x32 .f32 := Host.absf main_arg3
  let main_cst_4 : FVec F S_ .f32 := constant S_ .f32 0x7F800000#32
  let main_v15 : FVec F S4096x32 .f32 := broadcastInDim S4096x32 ![] bcast_S_S4096x32 main_cst_4
  let main_v16 : IVec S4096x32 1 := cmpf .olt main_v14 main_v15
  fn_part1 (F := F) main_v13 main_v16
-- ==== Pre_finite5.lean ====
abbrev S4096x1024 : Shape := ⟨2, ![4096, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S4096x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  main_v28

def fn {F : FTy → Type} [FloatOps F] (main_arg0 : FVec F S4096x1024 .f32) (main_arg1 : FVec F S1024x5632 .f32) (main_arg2 : FVec F S2816x1024 .f32) (main_arg3 : FVec F S1024 .f32) (main_arg4 : FVec F S1024 .f32) (main_arg5 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x5632 .f32 := Host.absf main_arg1
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : IVec S_ 1 := andi main_v3 main_v7
  let main_v9 : FVec F S2816x1024 .f32 := Host.absf main_arg2
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Pre_finite6.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_arg8 : FVec F S4096x1024 .f32) (main_v33 : IVec S_ 1) : IVec S_ 1 :=
  let main_v34 : FVec F S4096x1024 .f32 := Host.absf main_arg8
  let main_cst_12 : FVec F S_ .f32 := constant S_ .f32 0x7F800000#32
  let main_v35 : FVec F S4096x1024 .f32 := broadcastInDim S4096x1024 ![] bcast_S_S4096x1024 main_cst_12
  let main_v36 : IVec S4096x1024 1 := cmpf .olt main_v34 main_v35
  let main_c_13 : IVec S_ 1 := constantI S_ 1 1#1
  let main_v37 : IVec S_ 1 := (fun x v => Host.reduce IntOp.andi x v reducesTo_S4096x1024_S_d0_1 h_S_) main_v36 main_c_13
  let main_v38 : IVec S_ 1 := andi main_v33 main_v37
  main_v38

def fn_part1 {F : FTy → Type} [FloatOps F] (main_arg4 : FVec F S1024x5632 .f32) (main_arg5 : FVec F S2816x1024 .f32) (main_arg7 : FVec F S4096x1024 .f32) (main_arg8 : FVec F S4096x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x5632 .f32 := Host.absf main_arg4
  let main_cst_6 : FVec F S_ .f32 := constant S_ .f32 0x7F800000#32
  let main_v20 : FVec F S1024x5632 .f32 := broadcastInDim S1024x5632 ![] bcast_S_S1024x5632 main_cst_6
  let main_v21 : IVec S1024x5632 1 := cmpf .olt main_v19 main_v20
  let main_c_7 : IVec S_ 1 := constantI S_ 1 1#1
  let main_v22 : IVec S_ 1 := (fun x v => Host.reduce IntOp.andi x v reducesTo_S1024x5632_S_d0_1 h_S_) main_v21 main_c_7
  let main_v23 : IVec S_ 1 := andi main_v18 main_v22
  let main_v24 : FVec F S2816x1024 .f32 := Host.absf main_arg5
  let main_cst_8 : FVec F S_ .f32 := constant S_ .f32 0x7F800000#32
  let main_v25 : FVec F S2816x1024 .f32 := broadcastInDim S2816x1024 ![] bcast_S_S2816x1024 main_cst_8
  let main_v26 : IVec S2816x1024 1 := cmpf .olt main_v24 main_v25
  let main_c_9 : IVec S_ 1 := constantI S_ 1 1#1
  let main_v27 : IVec S_ 1 := (fun x v => Host.reduce IntOp.andi x v reducesTo_S2816x1024_S_d0_1 h_S_) main_v26 main_c_9
  let main_v28 : IVec S_ 1 := andi main_v23 main_v27
  let main_v29 : FVec F S4096x1024 .f32 := Host.absf main_arg7
  let main_cst_10 : FVec F S_ .f32 := constant S_ .f32 0x7F800000#32
  let main_v30 : FVec F S4096x1024 .f32 := broadcastInDim S4096x1024 ![] bcast_S_S4096x1024 main_cst_10
  let main_v31 : IVec S4096x1024 1 := cmpf .olt main_v29 main_v30
  let main_c_11 : IVec S_ 1 := constantI S_ 1 1#1
  let main_v32 : IVec S_ 1 := (fun x v => Host.reduce IntOp.andi x v reducesTo_S4096x1024_S_d0_1 h_S_) main_v31 main_c_11
  let main_v33 : IVec S_ 1 := andi main_v28 main_v32
  fn_part2 (F := F) main_arg8 main_v33

def fn {F : FTy → Type} [FloatOps F] (main_arg0 : FVec F S4096x1024 .f32) (main_arg1 : FVec F S1024 .f32) (main_arg2 : FVec F S1024 .f32) (main_arg3 : FVec F S1024 .f32) (main_arg4 : FVec F S1024x5632 .f32) (main_arg5 : FVec F S2816x1024 .f32) (main_arg6 : FVec F S4096x1024 .f32) (main_arg7 : FVec F S4096x1024 .f32) (main_arg8 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg7 main_arg8 main_v13 main_v16
-- ==== Kernel.lean ====
abbrev S4096x16x128 : Shape := ⟨3, ![4096, 16, 128]⟩
abbrev S4096x16x32 : Shape := ⟨3, ![4096, 16, 32]⟩
abbrev S4096x128 : Shape := ⟨2, ![4096, 128]⟩
abbrev S4096x32 : Shape := ⟨2, ![4096, 32]⟩
abbrev S_ : Shape := ⟨0, ![]⟩
abbrev S4096x4096x16 : Shape := ⟨3, ![4096, 4096, 16]⟩
abbrev S16x4096x4096 : Shape := ⟨3, ![16, 4096, 4096]⟩
abbrev S16x4096 : Shape := ⟨2, ![16, 4096]⟩
abbrev S16x4096x1 : Shape := ⟨3, ![16, 4096, 1]⟩
abbrev S128x16x4096 : Shape := ⟨3, ![128, 16, 4096]⟩
abbrev S4096x16 : Shape := ⟨2, ![4096, 16]⟩
abbrev S4 : Shape := ⟨1, ![4]⟩
abbrev S4x1 : Shape := ⟨2, ![4, 1]⟩
abbrev S1x4 : Shape := ⟨2, ![1, 4]⟩
abbrev S4x4 : Shape := ⟨2, ![4, 4]⟩
abbrev S1x1x4x4x1 : Shape := ⟨5, ![1, 1, 4, 4, 1]⟩
abbrev S4096x4x4x1x32 : Shape := ⟨5, ![4096, 4, 4, 1, 32]⟩
abbrev S4096x4x4x4x32 : Shape := ⟨5, ![4096, 4, 4, 4, 32]⟩
abbrev S4096x16x256 : Shape := ⟨3, ![4096, 16, 256]⟩
abbrev S16x4096x256 : Shape := ⟨3, ![16, 4096, 256]⟩
abbrev S1x4096x1x32 : Shape := ⟨4, ![1, 4096, 1, 32]⟩
abbrev S1x4096x4x32 : Shape := ⟨4, ![1, 4096, 4, 32]⟩
abbrev S4096x256 : Shape := ⟨2, ![4096, 256]⟩
abbrev S256x4096 : Shape := ⟨2, ![256, 4096]⟩
abbrev S4096x2048 : Shape := ⟨2, ![4096, 2048]⟩
abbrev S16x1x4096 : Shape := ⟨3, ![16, 1, 4096]⟩
abbrev S1x2048x256 : Shape := ⟨3, ![1, 2048, 256]⟩
abbrev S2048x128 : Shape := ⟨2, ![2048, 128]⟩
abbrev S1x1x2048 : Shape := ⟨3, ![1, 1, 2048]⟩
abbrev S2048x256 : Shape := ⟨2, ![2048, 256]⟩
abbrev S1x2048 : Shape := ⟨2, ![1, 2048]⟩
abbrev S256x2048 : Shape := ⟨2, ![256, 2048]⟩
abbrev S1024x256 : Shape := ⟨2, ![1024, 256]⟩
abbrev S1024x2048 : Shape := ⟨2, ![1024, 2048]⟩
abbrev S1024x128 : Shape := ⟨2, ![1024, 128]⟩
abbrev S256x1024 : Shape := ⟨2, ![256, 1024]⟩
abbrev S4096x4x4x32 : Shape := ⟨4, ![4096, 4, 4, 32]⟩
abbrev S4096x4x32 : Shape := ⟨3, ![4096, 4, 32]⟩

abbrev nBuf : Space → Nat
  | .hbm => 92
  | .vmem => 14
  | .smem => 0
  | _ => 0

abbrev bufTy : (tb : Table) → Fin (tcTables nBuf tb) → BufTy
  | .hbm, ⟨0, _⟩ => ⟨S4096x16x128, .f32⟩
  | .hbm, ⟨1, _⟩ => ⟨S4096x16x32, .f32⟩
  | .hbm, ⟨2, _⟩ => ⟨S4096x128, .f32⟩
  | .hbm, ⟨3, _⟩ => ⟨S4096x32, .f32⟩
  | .hbm, ⟨4, _⟩ => ⟨S4096x16x128, .f32⟩
  | .hbm, ⟨5, _⟩ => ⟨S_, .f32⟩
  | .hbm, ⟨6, _⟩ => ⟨S4096x16x128, .f32⟩
  | .hbm, ⟨7, _⟩ => ⟨S4096x16x128, .f32⟩
  | .hbm, ⟨8, _⟩ => ⟨S4096x4096x16, .f32⟩
  | .hbm, ⟨9, _⟩ => ⟨S16x4096x4096, .f32⟩
  | .hbm, ⟨10, _⟩ => ⟨S_, .f32⟩
  | .hbm, ⟨11, _⟩ => ⟨S4096x16x32, .f32⟩
  | .hbm, ⟨12, _⟩ => ⟨S4096x16x32, .f32⟩
  | .hbm, ⟨13, _⟩ => ⟨S4096x4096x16, .f32⟩
  | .hbm, ⟨14, _⟩ => ⟨S16x4096x4096, .f32⟩
  | .hbm, ⟨15, _⟩ => ⟨S16x4096x4096, .f32⟩
  | .hbm, ⟨16, _⟩ => ⟨S_, .f32⟩
  | .hbm, ⟨17, _⟩ => ⟨S16x4096, .f32⟩
  | .hbm, ⟨18, _⟩ => ⟨S16x4096x1, .f32⟩
  | .hbm, ⟨19, _⟩ => ⟨S16x4096x4096, .f32⟩
  | .hbm, ⟨20, _⟩ => ⟨S16x4096x4096, .f32⟩
  | .hbm, ⟨21, _⟩ => ⟨S16x4096x4096, .f32⟩
  | .hbm, ⟨22, _⟩ => ⟨S_, .f32⟩
  | .hbm, ⟨23, _⟩ => ⟨S16x4096, .f32⟩
  | .hbm, ⟨24, _⟩ => ⟨S16x4096x1, .f32⟩
  | .hbm, ⟨25, _⟩ => ⟨S16x4096x1, .f32⟩
  | .hbm, ⟨26, _⟩ => ⟨S16x4096x1, .f32⟩
  | .hbm, ⟨27, _⟩ => ⟨S16x4096x4096, .f32⟩
  | .hbm, ⟨28, _⟩ => ⟨S16x4096x4096, .f32⟩
  | .hbm, ⟨29, _⟩ => ⟨S128x16x4096, .f32⟩
  | .hbm, ⟨30, _⟩ => ⟨S4096x16x128, .f32⟩
  | .hbm, ⟨31, _⟩ => ⟨S4096x16x128, .f32⟩
  | .hbm, ⟨32, _⟩ => ⟨S_, .f32⟩
  | .hbm, ⟨33, _⟩ => ⟨S4096x16, .f32⟩
  | .hbm, ⟨34, _⟩ => ⟨S16x4096, .f32⟩
  | .hbm, ⟨35, _⟩ => ⟨S4, .i32⟩
  | .hbm, ⟨36, _⟩ => ⟨S4x1, .i32⟩
  | .hbm, ⟨37, _⟩ => ⟨S4, .i32⟩
  | .hbm, ⟨38, _⟩ => ⟨S1x4, .i32⟩
  | .hbm, ⟨39, _⟩ => ⟨S4x4, .i32⟩
  | .hbm, ⟨40, _⟩ => ⟨S4x4, .i32⟩
  | .hbm, ⟨41, _⟩ => ⟨S4x4, .i1⟩
  | .hbm, ⟨42, _⟩ => ⟨S1x1x4x4x1, .i1⟩
  | .hbm, ⟨43, _⟩ => ⟨S_, .f32⟩
  | .hbm, ⟨44, _⟩ => ⟨S4096x16x32, .f32⟩
  | .hbm, ⟨45, _⟩ => ⟨S4096x16x32, .f32⟩
  | .hbm, ⟨46, _⟩ => ⟨S4096x4x4x1x32, .f32⟩
  | .hbm, ⟨47, _⟩ => ⟨S_, .f32⟩
  | .hbm, ⟨48, _⟩ => ⟨S_, .f32⟩
  | .hbm, ⟨49, _⟩ => ⟨S4096x4x4x4x32, .i1⟩
  | .hbm, ⟨50, _⟩ => ⟨S4096x4x4x4x32, .f32⟩
  | .hbm, ⟨51, _⟩ => ⟨S4096x4x4x4x32, .f32⟩
  | .hbm, ⟨52, _⟩ => ⟨S4096x4x4x4x32, .f32⟩
  | .hbm, ⟨53, _⟩ => ⟨S4096x16x128, .f32⟩
  | .hbm, ⟨54, _⟩ => ⟨S_, .f32⟩
  | .hbm, ⟨55, _⟩ => ⟨S4096x16x128, .f32⟩
  | .hbm, ⟨56, _⟩ => ⟨S4096x16x128, .f32⟩
  | .hbm, ⟨57, _⟩ => ⟨S4096x16x256, .f32⟩
  | .hbm, ⟨58, _⟩ => ⟨S16x4096x256, .f32⟩
  | .hbm, ⟨59, _⟩ => ⟨S16x4096x256, .bf16⟩
  | .hbm, ⟨60, _⟩ => ⟨S1x4096x1x32, .f32⟩
  | .hbm, ⟨61, _⟩ => ⟨S1x4096x4x32, .f32⟩
  | .hbm, ⟨62, _⟩ => ⟨S4096x128, .f32⟩
  | .hbm, ⟨63, _⟩ => ⟨S4096x256, .f32⟩
  | .hbm, ⟨64, _⟩ => ⟨S4096x256, .bf16⟩
  | .hbm, ⟨65, _⟩ => ⟨S256x4096, .bf16⟩
  | .hbm, ⟨66, _⟩ => ⟨S4096x2048, .f32⟩
  | .hbm, ⟨67, _⟩ => ⟨S4096x2048, .bf16⟩
  | .hbm, ⟨68, _⟩ => ⟨S16x1x4096, .f32⟩
  | .hbm, ⟨69, _⟩ => ⟨S16x1x4096, .f32⟩
  | .hbm, ⟨70, _⟩ => ⟨S16x4096x256, .bf16⟩
  | .hbm, ⟨71, _⟩ => ⟨S4096x256, .f32⟩
  | .hbm, ⟨72, _⟩ => ⟨S4096x128, .f32⟩
  | .hbm, ⟨73, _⟩ => ⟨S16x4096x256, .f32⟩
  | .hbm, ⟨74, _⟩ => ⟨S4096x16x256, .f32⟩
  | .hbm, ⟨75, _⟩ => ⟨S4096x16x128, .f32⟩
  | .hbm, ⟨76, _⟩ => ⟨S4096x4x4x4x32, .f32⟩
  | .hbm, ⟨77, _⟩ => ⟨S_, .f32⟩
  | .hbm, ⟨78, _⟩ => ⟨S_, .f32⟩
  | .hbm, ⟨79, _⟩ => ⟨S4096x4x4x4x32, .i1⟩
  | .hbm, ⟨80, _⟩ => ⟨S4096x4x4x4x32, .f32⟩
  | .hbm, ⟨81, _⟩ => ⟨S4096x4x4x4x32, .f32⟩
  | .hbm, ⟨82, _⟩ => ⟨S_, .f32⟩
  | .hbm, ⟨83, _⟩ => ⟨S4096x4x4x32, .f32⟩
  | .hbm, ⟨84, _⟩ => ⟨S4096x16x32, .f32⟩
  | .hbm, ⟨85, _⟩ => ⟨S4096x128, .f32⟩
  | .hbm, ⟨86, _⟩ => ⟨S4096x4x32, .f32⟩
  | .hbm, ⟨87, _⟩ => ⟨S_, .f32⟩
  | .hbm, ⟨88, _⟩ => ⟨S4096x32, .f32⟩
  | .hbm, ⟨89, _⟩ => ⟨S4096x16x128, .f32⟩
  | .hbm, ⟨90, _⟩ => ⟨S4096x128, .f32⟩
  | .hbm, ⟨91, _⟩ => ⟨S4096x128, .f32⟩
  | .local _ .vmem, ⟨0, _⟩ => ⟨S1x2048x256, .bf16⟩
  | .local _ .vmem, ⟨1, _⟩ => ⟨S1x2048x256, .bf16⟩
  | .local _ .vmem, ⟨2, _⟩ => ⟨S4096x256, .bf16⟩
  | .local _ .vmem, ⟨3, _⟩ => ⟨S256x4096, .bf16⟩
  | .local _ .vmem, ⟨4, _⟩ => ⟨S2048x128, .bf16⟩
  | .local _ .vmem, ⟨5, _⟩ => ⟨S2048x128, .bf16⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x2048x256, .bf16⟩
  | .local _ .vmem, ⟨11, _⟩ => ⟨S1x2048x256, .bf16⟩
  | .local _ .vmem, ⟨12, _⟩ => ⟨S4096x256, .f32⟩
  | .local _ .vmem, ⟨13, _⟩ => ⟨S4096x128, .f32⟩
  | _, _ => ⟨S4096x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53_0 : Ref sig .tc := ⟨.hbm, 70, rfl⟩
abbrev main_v53_1 : Ref sig .tc := ⟨.hbm, 71, rfl⟩
abbrev main_v53_2 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_7 : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_v58 : Ref sig .tc := ⟨.hbm, 81, rfl⟩
abbrev main_cst_8 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_9 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S4096x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4096x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== ReferenceIdeal.lean ====
abbrev S4096x16x128 : Shape := ⟨3, ![4096, 16, 128]⟩
abbrev S4096x16x32 : Shape := ⟨3, ![4096, 16, 32]⟩
abbrev S4096x128 : Shape := ⟨2, ![4096, 128]⟩
abbrev S4096x32 : Shape := ⟨2, ![4096, 32]⟩
abbrev S_ : Shape := ⟨0, ![]⟩
abbrev S4096x4096x16 : Shape := ⟨3, ![4096, 4096, 16]⟩
abbrev S16x4096x4096 : Shape := ⟨3, ![16, 4096, 4096]⟩
abbrev S16x4096 : Shape := ⟨2, ![16, 4096]⟩
abbrev S16x4096x1 : Shape := ⟨3, ![16, 4096, 1]⟩
abbrev S128x16x4096 : Shape := ⟨3, ![128, 16, 4096]⟩
abbrev S128x4096 : Shape := ⟨2, ![128, 4096]⟩

abbrev nBuf : Space → Nat
  | .hbm => 87
  | .vmem => 0
  | .smem => 0
  | _ => 0

abbrev bufTy : (tb : Table) → Fin (tcTables nBuf tb) → BufTy
  | .hbm, ⟨0, _⟩ => ⟨S4096x16x128, .f32⟩
  | .hbm, ⟨1, _⟩ => ⟨S4096x16x32, .f32⟩
  | .hbm, ⟨2, _⟩ => ⟨S4096x128, .f32⟩
  | .hbm, ⟨3, _⟩ => ⟨S4096x32, .f32⟩
  | .hbm, ⟨4, _⟩ => ⟨S4096x16x128, .f32⟩
  | .hbm, ⟨5, _⟩ => ⟨S_, .f32⟩
  | .hbm, ⟨6, _⟩ => ⟨S4096x16x128, .f32⟩
  | .hbm, ⟨7, _⟩ => ⟨S4096x16x128, .f32⟩
  | .hbm, ⟨8, _⟩ => ⟨S4096x4096x16, .f32⟩
  | .hbm, ⟨9, _⟩ => ⟨S16x4096x4096, .f32⟩
  | .hbm, ⟨10, _⟩ => ⟨S_, .f32⟩
  | .hbm, ⟨11, _⟩ => ⟨S4096x16x32, .f32⟩
  | .hbm, ⟨12, _⟩ => ⟨S4096x16x32, .f32⟩
  | .hbm, ⟨13, _⟩ => ⟨S4096x4096x16, .f32⟩
  | .hbm, ⟨14, _⟩ => ⟨S16x4096x4096, .f32⟩
  | .hbm, ⟨15, _⟩ => ⟨S16x4096x4096, .f32⟩
  | .hbm, ⟨16, _⟩ => ⟨S_, .f32⟩
  | .hbm, ⟨17, _⟩ => ⟨S16x4096, .f32⟩
  | .hbm, ⟨18, _⟩ => ⟨S16x4096x1, .f32⟩
  | .hbm, ⟨19, _⟩ => ⟨S16x4096x4096, .f32⟩
  | .hbm, ⟨20, _⟩ => ⟨S16x4096x4096, .i1⟩
  | .hbm, ⟨21, _⟩ => ⟨S16x4096x4096, .f32⟩
  | .hbm, ⟨22, _⟩ => ⟨S_, .f32⟩
  | .hbm, ⟨23, _⟩ => ⟨S16x4096, .f32⟩
  | .hbm, ⟨24, _⟩ => ⟨S_, .f32⟩
  | .hbm, ⟨25, _⟩ => ⟨S16x4096, .f32⟩
  | .hbm, ⟨26, _⟩ => ⟨S16x4096, .f32⟩
  | .hbm, ⟨27, _⟩ => ⟨S_, .f32⟩
  | .hbm, ⟨28, _⟩ => ⟨S16x4096, .f32⟩
  | .hbm, ⟨29, _⟩ => ⟨S16x4096, .i1⟩
  | .hbm, ⟨30, _⟩ => ⟨S_, .f32⟩
  | .hbm, ⟨31, _⟩ => ⟨S16x4096, .f32⟩
  | .hbm, ⟨32, _⟩ => ⟨S16x4096, .i1⟩
  | .hbm, ⟨33, _⟩ => ⟨S_, .f32⟩
  | .hbm, ⟨34, _⟩ => ⟨S16x4096, .f32⟩
  | .hbm, ⟨35, _⟩ => ⟨S_, .f32⟩
  | .hbm, ⟨36, _⟩ => ⟨S16x4096, .f32⟩
  | .hbm, ⟨37, _⟩ => ⟨S_, .f32⟩
  | .hbm, ⟨38, _⟩ => ⟨S16x4096, .f32⟩
  | .hbm, ⟨39, _⟩ => ⟨S16x4096, .f32⟩
  | .hbm, ⟨40, _⟩ => ⟨S16x4096, .f32⟩
  | .hbm, ⟨41, _⟩ => ⟨S16x4096x1, .f32⟩
  | .hbm, ⟨42, _⟩ => ⟨S16x4096x4096, .f32⟩
  | .hbm, ⟨43, _⟩ => ⟨S16x4096x4096, .f32⟩
  | .hbm, ⟨44, _⟩ => ⟨S16x4096x4096, .f32⟩
  | .hbm, ⟨45, _⟩ => ⟨S_, .f32⟩
  | .hbm, ⟨46, _⟩ => ⟨S16x4096, .f32⟩
  | .hbm, ⟨47, _⟩ => ⟨S16x4096x1, .f32⟩
  | .hbm, ⟨48, _⟩ => ⟨S16x4096x4096, .f32⟩
  | .hbm, ⟨49, _⟩ => ⟨S16x4096x4096, .f32⟩
  | .hbm, ⟨50, _⟩ => ⟨S16x4096x1, .f32⟩
  | .hbm, ⟨51, _⟩ => ⟨S_, .f32⟩
  | .hbm, ⟨52, _⟩ => ⟨S16x4096x1, .f32⟩
  | .hbm, ⟨53, _⟩ => ⟨S16x4096x1, .f32⟩
  | .hbm, ⟨54, _⟩ => ⟨S128x16x4096, .f32⟩
  | .hbm, ⟨55, _⟩ => ⟨S4096x16x128, .f32⟩
  | .hbm, ⟨56, _⟩ => ⟨S128x16x4096, .f32⟩
  | .hbm, ⟨57, _⟩ => ⟨S16x4096x4096, .f32⟩
  | .hbm, ⟨58, _⟩ => ⟨S128x4096, .f32⟩
  | .hbm, ⟨59, _⟩ => ⟨S4096x128, .f32⟩
  | .hbm, ⟨60, _⟩ => ⟨S16x4096x4096, .f32⟩
  | .hbm, ⟨61, _⟩ => ⟨S16x4096x4096, .f32⟩
  | .hbm, ⟨62, _⟩ => ⟨S16x4096x4096, .f32⟩
  | .hbm, ⟨63, _⟩ => ⟨S_, .f32⟩
  | .hbm, ⟨64, _⟩ => ⟨S16x4096, .f32⟩
  | .hbm, ⟨65, _⟩ => ⟨S16x4096x1, .f32⟩
  | .hbm, ⟨66, _⟩ => ⟨S16x4096x1, .f32⟩
  | .hbm, ⟨67, _⟩ => ⟨S16x4096x4096, .f32⟩
  | .hbm, ⟨68, _⟩ => ⟨S16x4096x4096, .f32⟩
  | .hbm, ⟨69, _⟩ => ⟨S_, .f32⟩
  | .hbm, ⟨70, _⟩ => ⟨S16x4096, .f32⟩
  | .hbm, ⟨71, _⟩ => ⟨S16x4096x4096, .f32⟩
  | .hbm, ⟨72, _⟩ => ⟨S16x4096x4096, .f32⟩
  | .hbm, ⟨73, _⟩ => ⟨S16x4096x4096, .f32⟩
  | .hbm, ⟨74, _⟩ => ⟨S4096x4096x16, .f32⟩
  | .hbm, ⟨75, _⟩ => ⟨S4096x16x32, .f32⟩
  | .hbm, ⟨76, _⟩ => ⟨S4096x32, .f32⟩
  | .hbm, ⟨77, _⟩ => ⟨S_, .f32⟩
  | .hbm, ⟨78, _⟩ => ⟨S4096x16x32, .f32⟩
  | .hbm, ⟨79, _⟩ => ⟨S4096x16x32, .f32⟩
  | .hbm, ⟨80, _⟩ => ⟨S4096x4096x16, .f32⟩
  | .hbm, ⟨81, _⟩ => ⟨S4096x16x128, .f32⟩
  | .hbm, ⟨82, _⟩ => ⟨S4096x128, .f32⟩
  | .hbm, ⟨83, _⟩ => ⟨S4096x128, .f32⟩
  | .hbm, ⟨84, _⟩ => ⟨S_, .f32⟩
  | .hbm, ⟨85, _⟩ => ⟨S4096x16x128, .f32⟩
  | .hbm, ⟨86, _⟩ => ⟨S4096x16x128, .f32⟩
  | _, _ => ⟨S4096x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_cst_8 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_10 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_11 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_12 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_13 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_14 : Ref sig .tc := ⟨.hbm, 84, rfl⟩
abbrev main_v64 : Ref sig .tc := ⟨.hbm, 85, rfl⟩
abbrev main_v65 : Ref sig .tc := ⟨.hbm, 86, rfl⟩

abbrev nD : Nat := 1
abbrev τ : Topo := Topo.v7x

variable {F : FTy → Type} [FloatOps F]
-- ==== Kernel2.lean ====
abbrev S4096x16x128 : Shape := ⟨3, ![4096, 16, 128]⟩
abbrev S128x16x64 : Shape := ⟨3, ![128, 16, 64]⟩
abbrev S1024x1024 : Shape := ⟨2, ![1024, 1024]⟩
abbrev S1024 : Shape := ⟨1, ![1024]⟩
abbrev S4096x1024 : Shape := ⟨2, ![4096, 1024]⟩
abbrev S_ : Shape := ⟨0, ![]⟩
abbrev S1x1024 : Shape := ⟨2, ![1, 1024]⟩
abbrev S8x1024 : Shape := ⟨2, ![8, 1024]⟩
abbrev S16x128x64 : Shape := ⟨3, ![16, 128, 64]⟩
abbrev S8x2x128x64 : Shape := ⟨4, ![8, 2, 128, 64]⟩
abbrev S2x2 : Shape := ⟨2, ![2, 2]⟩
abbrev S8x2x128x1x64 : Shape := ⟨5, ![8, 2, 128, 1, 64]⟩
abbrev S1x2x1x2x1 : Shape := ⟨5, ![1, 2, 1, 2, 1]⟩
abbrev S8x2x128x2x64 : Shape := ⟨5, ![8, 2, 128, 2, 64]⟩
abbrev S8x256x128 : Shape := ⟨3, ![8, 256, 128]⟩
abbrev S16x64x4096 : Shape := ⟨3, ![16, 64, 4096]⟩
abbrev S4096x16x64 : Shape := ⟨3, ![4096, 16, 64]⟩
abbrev S4096x2048 : Shape := ⟨2, ![4096, 2048]⟩
abbrev S16x1x4096 : Shape := ⟨3, ![16, 1, 4096]⟩
abbrev S512x1024 : Shape := ⟨2, ![512, 1024]⟩
abbrev S512x2048 : Shape := ⟨2, ![512, 2048]⟩
abbrev S16x1x512 : Shape := ⟨3, ![16, 1, 512]⟩
abbrev S512 : Shape := ⟨1, ![512]⟩
abbrev S512x1 : Shape := ⟨2, ![512, 1]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩
abbrev S128x512 : Shape := ⟨2, ![128, 512]⟩
abbrev S1x512 : Shape := ⟨2, ![1, 512]⟩
abbrev S1x1x512 : Shape := ⟨3, ![1, 1, 512]⟩

abbrev nBuf : Space → Nat
  | .hbm => 49
  | .vmem => 18
  | .smem => 0
  | _ => 0

abbrev bufTy : (tb : Table) → Fin (tcTables nBuf tb) → BufTy
  | .hbm, ⟨0, _⟩ => ⟨S4096x16x128, .f32⟩
  | .hbm, ⟨1, _⟩ => ⟨S128x16x64, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S8x1024, .f32⟩
  | .hbm, ⟨17, _⟩ => ⟨S128x16x64, .bf16⟩
  | .hbm, ⟨18, _⟩ => ⟨S16x128x64, .bf16⟩
  | .hbm, ⟨19, _⟩ => ⟨S8x2x128x64, .bf16⟩
  | .hbm, ⟨20, _⟩ => ⟨S2x2, .i32⟩
  | .hbm, ⟨21, _⟩ => ⟨S2x2, .i32⟩
  | .hbm, ⟨22, _⟩ => ⟨S_, .i32⟩
  | .hbm, ⟨23, _⟩ => ⟨S2x2, .i32⟩
  | .hbm, ⟨24, _⟩ => ⟨S2x2, .i32⟩
  | .hbm, ⟨25, _⟩ => ⟨S2x2, .i1⟩
  | .hbm, ⟨26, _⟩ => ⟨S2x2, .bf16⟩
  | .hbm, ⟨27, _⟩ => ⟨S8x2x128x1x64, .bf16⟩
  | .hbm, ⟨28, _⟩ => ⟨S1x2x1x2x1, .bf16⟩
  | .hbm, ⟨29, _⟩ => ⟨S8x2x128x2x64, .bf16⟩
  | .hbm, ⟨30, _⟩ => ⟨S8x2x128x2x64, .bf16⟩
  | .hbm, ⟨31, _⟩ => ⟨S8x2x128x2x64, .bf16⟩
  | .hbm, ⟨32, _⟩ => ⟨S8x256x128, .bf16⟩
  | .hbm, ⟨33, _⟩ => ⟨S16x64x4096, .f32⟩
  | .hbm, ⟨34, _⟩ => ⟨S4096x16x64, .f32⟩
  | .hbm, ⟨35, _⟩ => ⟨S4096x1024, .f32⟩
  | .hbm, ⟨36, _⟩ => ⟨S4096x1024, .f32⟩
  | .hbm, ⟨37, _⟩ => ⟨S4096x2048, .f32⟩
  | .hbm, ⟨38, _⟩ => ⟨S4096x2048, .bf16⟩
  | .hbm, ⟨39, _⟩ => ⟨S1024x1024, .bf16⟩
  | .hbm, ⟨40, _⟩ => ⟨S4096x1024, .bf16⟩
  | .hbm, ⟨41, _⟩ => ⟨S4096x1024, .bf16⟩
  | .hbm, ⟨42, _⟩ => ⟨S4096x2048, .bf16⟩
  | .hbm, ⟨43, _⟩ => ⟨S16x1x4096, .f32⟩
  | .hbm, ⟨44, _⟩ => ⟨S8x1024, .f32⟩
  | .hbm, ⟨45, _⟩ => ⟨S1x1024, .f32⟩
  | .hbm, ⟨46, _⟩ => ⟨S1024, .f32⟩
  | .hbm, ⟨47, _⟩ => ⟨S1x1024, .f32⟩
  | .hbm, ⟨48, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x2048, .bf16⟩
  | .local _ .vmem, ⟨5, _⟩ => ⟨S512x2048, .bf16⟩
  | .local _ .vmem, ⟨6, _⟩ => ⟨S8x1024, .f32⟩
  | .local _ .vmem, ⟨7, _⟩ => ⟨S8x256x128, .bf16⟩
  | .local _ .vmem, ⟨8, _⟩ => ⟨S1024x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x2048, .bf16⟩
  | .local _ .vmem, ⟨14, _⟩ => ⟨S512x2048, .bf16⟩
  | .local _ .vmem, ⟨15, _⟩ => ⟨S16x1x512, .f32⟩
  | .local _ .vmem, ⟨16, _⟩ => ⟨S16x1x512, .f32⟩
  | .local _ .vmem, ⟨17, _⟩ => ⟨S8x1024, .f32⟩
  | _, _ => ⟨S4096x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32_0 : Ref sig .tc := ⟨.hbm, 40, rfl⟩
abbrev main_v32_1 : Ref sig .tc := ⟨.hbm, 41, rfl⟩
abbrev main_v32_2 : Ref sig .tc := ⟨.hbm, 42, rfl⟩
abbrev main_v32_3 : Ref sig .tc := ⟨.hbm, 43, rfl⟩
abbrev main_v32_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference2Ideal.lean ====
abbrev S4096x16x128 : Shape := ⟨3, ![4096, 16, 128]⟩
abbrev S128x16x64 : Shape := ⟨3, ![128, 16, 64]⟩
abbrev S1024x1024 : Shape := ⟨2, ![1024, 1024]⟩
abbrev S1024 : Shape := ⟨1, ![1024]⟩
abbrev S4096x1024 : Shape := ⟨2, ![4096, 1024]⟩
abbrev S16x64x4096 : Shape := ⟨3, ![16, 64, 4096]⟩
abbrev S4096x16x64 : Shape := ⟨3, ![4096, 16, 64]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S16x4096x128 : Shape := ⟨3, ![16, 4096, 128]⟩
abbrev S4096x16 : Shape := ⟨2, ![4096, 16]⟩
abbrev S16x4096 : Shape := ⟨2, ![16, 4096]⟩
abbrev S4096x2048 : Shape := ⟨2, ![4096, 2048]⟩
abbrev S16x1x4096 : Shape := ⟨3, ![16, 1, 4096]⟩

abbrev nBuf : Space → Nat
  | .hbm => 83
  | .vmem => 0
  | .smem => 0
  | _ => 0

abbrev bufTy : (tb : Table) → Fin (tcTables nBuf tb) → BufTy
  | .hbm, ⟨0, _⟩ => ⟨S4096x16x128, .f32⟩
  | .hbm, ⟨1, _⟩ => ⟨S128x16x64, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S16x64x4096, .f32⟩
  | .hbm, ⟨7, _⟩ => ⟨S4096x16x64, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S_, .f32⟩
  | .hbm, ⟨43, _⟩ => ⟨S1024, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S4096x1024, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S4096x1024, .f32⟩
  | .hbm, ⟨57, _⟩ => ⟨S4096x1024, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S_, .f32⟩
  | .hbm, ⟨63, _⟩ => ⟨S4096, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x16x64, .f32⟩
  | .hbm, ⟨71, _⟩ => ⟨S16x64x4096, .f32⟩
  | .hbm, ⟨72, _⟩ => ⟨S16x4096x128, .f32⟩
  | .hbm, ⟨73, _⟩ => ⟨S4096x16x128, .f32⟩
  | .hbm, ⟨74, _⟩ => ⟨S4096x16x128, .f32⟩
  | .hbm, ⟨75, _⟩ => ⟨S_, .f32⟩
  | .hbm, ⟨76, _⟩ => ⟨S4096x16, .f32⟩
  | .hbm, ⟨77, _⟩ => ⟨S16x4096, .f32⟩
  | .hbm, ⟨78, _⟩ => ⟨S4096x1024, .bf16⟩
  | .hbm, ⟨79, _⟩ => ⟨S4096x1024, .bf16⟩
  | .hbm, ⟨80, _⟩ => ⟨S4096x2048, .f32⟩
  | .hbm, ⟨81, _⟩ => ⟨S4096x2048, .bf16⟩
  | .hbm, ⟨82, _⟩ => ⟨S16x1x4096, .f32⟩
  | _, _ => ⟨S4096x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_11 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩

abbrev nD : Nat := 1
abbrev τ : Topo := Topo.v7x

variable {F : FTy → Type} [FloatOps F]
-- ==== Kernel3.lean ====
abbrev S4096x16x128 : Shape := ⟨3, ![4096, 16, 128]⟩
abbrev S4096x16x32 : Shape := ⟨3, ![4096, 16, 32]⟩
abbrev S4096x128 : Shape := ⟨2, ![4096, 128]⟩
abbrev S4096x32 : Shape := ⟨2, ![4096, 32]⟩
abbrev S4 : Shape := ⟨1, ![4]⟩
abbrev S4x1 : Shape := ⟨2, ![4, 1]⟩
abbrev S1x4 : Shape := ⟨2, ![1, 4]⟩
abbrev S4x4 : Shape := ⟨2, ![4, 4]⟩
abbrev S1x1x4x4x1 : Shape := ⟨5, ![1, 1, 4, 4, 1]⟩
abbrev S_ : Shape := ⟨0, ![]⟩
abbrev S4096x4x4x1x32 : Shape := ⟨5, ![4096, 4, 4, 1, 32]⟩
abbrev S4096x4x4x4x32 : Shape := ⟨5, ![4096, 4, 4, 4, 32]⟩
abbrev S4096x16x256 : Shape := ⟨3, ![4096, 16, 256]⟩
abbrev S16x4096x256 : Shape := ⟨3, ![16, 4096, 256]⟩
abbrev S1x4096x1x32 : Shape := ⟨4, ![1, 4096, 1, 32]⟩
abbrev S1x4096x4x32 : Shape := ⟨4, ![1, 4096, 4, 32]⟩
abbrev S4096x256 : Shape := ⟨2, ![4096, 256]⟩
abbrev S4096x2048 : Shape := ⟨2, ![4096, 2048]⟩
abbrev S16x1x4096 : Shape := ⟨3, ![16, 1, 4096]⟩
abbrev S1x1024x256 : Shape := ⟨3, ![1, 1024, 256]⟩
abbrev S1024x128 : Shape := ⟨2, ![1024, 128]⟩
abbrev S1x1x1024 : Shape := ⟨3, ![1, 1, 1024]⟩
abbrev S1024x256 : Shape := ⟨2, ![1024, 256]⟩
abbrev S1024x1 : Shape := ⟨2, ![1024, 1]⟩
abbrev S512x256 : Shape := ⟨2, ![512, 256]⟩
abbrev S1024x512 : Shape := ⟨2, ![1024, 512]⟩
abbrev S1024 : Shape := ⟨1, ![1024]⟩
abbrev S128x1024 : Shape := ⟨2, ![128, 1024]⟩
abbrev S1x1024 : Shape := ⟨2, ![1, 1024]⟩

abbrev nBuf : Space → Nat
  | .hbm => 48
  | .vmem => 8
  | .smem => 0
  | _ => 0

abbrev bufTy : (tb : Table) → Fin (tcTables nBuf tb) → BufTy
  | .hbm, ⟨0, _⟩ => ⟨S4096x16x128, .f32⟩
  | .hbm, ⟨1, _⟩ => ⟨S4096x16x32, .f32⟩
  | .hbm, ⟨2, _⟩ => ⟨S4096x128, .f32⟩
  | .hbm, ⟨3, _⟩ => ⟨S4096x32, .f32⟩
  | .hbm, ⟨4, _⟩ => ⟨S4, .i32⟩
  | .hbm, ⟨5, _⟩ => ⟨S4x1, .i32⟩
  | .hbm, ⟨6, _⟩ => ⟨S4, .i32⟩
  | .hbm, ⟨7, _⟩ => ⟨S1x4, .i32⟩
  | .hbm, ⟨8, _⟩ => ⟨S4x4, .i32⟩
  | .hbm, ⟨9, _⟩ => ⟨S4x4, .i32⟩
  | .hbm, ⟨10, _⟩ => ⟨S4x4, .i1⟩
  | .hbm, ⟨11, _⟩ => ⟨S1x1x4x4x1, .i1⟩
  | .hbm, ⟨12, _⟩ => ⟨S_, .f32⟩
  | .hbm, ⟨13, _⟩ => ⟨S4096x16x32, .f32⟩
  | .hbm, ⟨14, _⟩ => ⟨S4096x16x32, .f32⟩
  | .hbm, ⟨15, _⟩ => ⟨S4096x4x4x1x32, .f32⟩
  | .hbm, ⟨16, _⟩ => ⟨S_, .f32⟩
  | .hbm, ⟨17, _⟩ => ⟨S_, .f32⟩
  | .hbm, ⟨18, _⟩ => ⟨S4096x4x4x4x32, .i1⟩
  | .hbm, ⟨19, _⟩ => ⟨S4096x4x4x4x32, .f32⟩
  | .hbm, ⟨20, _⟩ => ⟨S4096x4x4x4x32, .f32⟩
  | .hbm, ⟨21, _⟩ => ⟨S4096x4x4x4x32, .f32⟩
  | .hbm, ⟨22, _⟩ => ⟨S4096x16x128, .f32⟩
  | .hbm, ⟨23, _⟩ => ⟨S_, .f32⟩
  | .hbm, ⟨24, _⟩ => ⟨S4096x16x128, .f32⟩
  | .hbm, ⟨25, _⟩ => ⟨S4096x16x128, .f32⟩
  | .hbm, ⟨26, _⟩ => ⟨S4096x16x256, .f32⟩
  | .hbm, ⟨27, _⟩ => ⟨S16x4096x256, .f32⟩
  | .hbm, ⟨28, _⟩ => ⟨S16x4096x256, .bf16⟩
  | .hbm, ⟨29, _⟩ => ⟨S1x4096x1x32, .f32⟩
  | .hbm, ⟨30, _⟩ => ⟨S1x4096x4x32, .f32⟩
  | .hbm, ⟨31, _⟩ => ⟨S4096x128, .f32⟩
  | .hbm, ⟨32, _⟩ => ⟨S4096x256, .f32⟩
  | .hbm, ⟨33, _⟩ => ⟨S4096x256, .bf16⟩
  | .hbm, ⟨34, _⟩ => ⟨S4096x128, .i32⟩
  | .hbm, ⟨35, _⟩ => ⟨S_, .i32⟩
  | .hbm, ⟨36, _⟩ => ⟨S4096x128, .i32⟩
  | .hbm, ⟨37, _⟩ => ⟨S4096x128, .i1⟩
  | .hbm, ⟨38, _⟩ => ⟨S_, .f32⟩
  | .hbm, ⟨39, _⟩ => ⟨S_, .f32⟩
  | .hbm, ⟨40, _⟩ => ⟨S4096x128, .f32⟩
  | .hbm, ⟨41, _⟩ => ⟨S4096x128, .f32⟩
  | .hbm, ⟨42, _⟩ => ⟨S4096x128, .f32⟩
  | .hbm, ⟨43, _⟩ => ⟨S4096x128, .f32⟩
  | .hbm, ⟨44, _⟩ => ⟨S4096x256, .f32⟩
  | .hbm, ⟨45, _⟩ => ⟨S4096x256, .bf16⟩
  | .hbm, ⟨46, _⟩ => ⟨S4096x2048, .bf16⟩
  | .hbm, ⟨47, _⟩ => ⟨S16x1x4096, .f32⟩
  | .local _ .vmem, ⟨0, _⟩ => ⟨S1x1024x256, .bf16⟩
  | .local _ .vmem, ⟨1, _⟩ => ⟨S1x1024x256, .bf16⟩
  | .local _ .vmem, ⟨2, _⟩ => ⟨S4096x256, .bf16⟩
  | .local _ .vmem, ⟨3, _⟩ => ⟨S4096x256, .bf16⟩
  | .local _ .vmem, ⟨4, _⟩ => ⟨S1024x128, .bf16⟩
  | .local _ .vmem, ⟨5, _⟩ => ⟨S1024x128, .bf16⟩
  | .local _ .vmem, ⟨6, _⟩ => ⟨S1x1x1024, .f32⟩
  | .local _ .vmem, ⟨7, _⟩ => ⟨S1x1x1024, .f32⟩
  | _, _ => ⟨S4096x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_cst_3 : Ref sig .tc := ⟨.hbm, 39, rfl⟩
abbrev main_call1_v0 : Ref sig .tc := ⟨.hbm, 40, rfl⟩
abbrev main_call1_v1 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30_0 : Ref sig .tc := ⟨.hbm, 46, rfl⟩
abbrev main_v30_1 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4096x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S4096x16x128 : Shape := ⟨3, ![4096, 16, 128]⟩
abbrev S4096x16x32 : Shape := ⟨3, ![4096, 16, 32]⟩
abbrev S4096x128 : Shape := ⟨2, ![4096, 128]⟩
abbrev S4096x32 : Shape := ⟨2, ![4096, 32]⟩
abbrev S_ : Shape := ⟨0, ![]⟩
abbrev S4096x4096x16 : Shape := ⟨3, ![4096, 4096, 16]⟩
abbrev S16x4096x4096 : Shape := ⟨3, ![16, 4096, 4096]⟩
abbrev S16x4096 : Shape := ⟨2, ![16, 4096]⟩
abbrev S16x4096x1 : Shape := ⟨3, ![16, 4096, 1]⟩
abbrev S128x16x4096 : Shape := ⟨3, ![128, 16, 4096]⟩
abbrev S4096x2048 : Shape := ⟨2, ![4096, 2048]⟩
abbrev S16x1x4096 : Shape := ⟨3, ![16, 1, 4096]⟩

abbrev nBuf : Space → Nat
  | .hbm => 49
  | .vmem => 0
  | .smem => 0
  | _ => 0

abbrev bufTy : (tb : Table) → Fin (tcTables nBuf tb) → BufTy
  | .hbm, ⟨0, _⟩ => ⟨S4096x16x128, .f32⟩
  | .hbm, ⟨1, _⟩ => ⟨S4096x16x32, .f32⟩
  | .hbm, ⟨2, _⟩ => ⟨S4096x128, .f32⟩
  | .hbm, ⟨3, _⟩ => ⟨S4096x32, .f32⟩
  | .hbm, ⟨4, _⟩ => ⟨S_, .f32⟩
  | .hbm, ⟨5, _⟩ => ⟨S4096x16x128, .f32⟩
  | .hbm, ⟨6, _⟩ => ⟨S4096x16x128, .f32⟩
  | .hbm, ⟨7, _⟩ => ⟨S4096x4096x16, .f32⟩
  | .hbm, ⟨8, _⟩ => ⟨S16x4096x4096, .f32⟩
  | .hbm, ⟨9, _⟩ => ⟨S_, .f32⟩
  | .hbm, ⟨10, _⟩ => ⟨S4096x16x32, .f32⟩
  | .hbm, ⟨11, _⟩ => ⟨S4096x16x32, .f32⟩
  | .hbm, ⟨12, _⟩ => ⟨S4096x4096x16, .f32⟩
  | .hbm, ⟨13, _⟩ => ⟨S16x4096x4096, .f32⟩
  | .hbm, ⟨14, _⟩ => ⟨S16x4096x4096, .f32⟩
  | .hbm, ⟨15, _⟩ => ⟨S_, .f32⟩
  | .hbm, ⟨16, _⟩ => ⟨S16x4096, .f32⟩
  | .hbm, ⟨17, _⟩ => ⟨S_, .f32⟩
  | .hbm, ⟨18, _⟩ => ⟨S16x4096, .f32⟩
  | .hbm, ⟨19, _⟩ => ⟨S16x4096, .f32⟩
  | .hbm, ⟨20, _⟩ => ⟨S16x4096x1, .f32⟩
  | .hbm, ⟨21, _⟩ => ⟨S16x4096x4096, .f32⟩
  | .hbm, ⟨22, _⟩ => ⟨S16x4096x4096, .f32⟩
  | .hbm, ⟨23, _⟩ => ⟨S16x4096x4096, .f32⟩
  | .hbm, ⟨24, _⟩ => ⟨S_, .f32⟩
  | .hbm, ⟨25, _⟩ => ⟨S16x4096, .f32⟩
  | .hbm, ⟨26, _⟩ => ⟨S16x4096x1, .f32⟩
  | .hbm, ⟨27, _⟩ => ⟨S16x4096x4096, .f32⟩
  | .hbm, ⟨28, _⟩ => ⟨S16x4096x4096, .f32⟩
  | .hbm, ⟨29, _⟩ => ⟨S128x16x4096, .f32⟩
  | .hbm, ⟨30, _⟩ => ⟨S4096x16x128, .f32⟩
  | .hbm, ⟨31, _⟩ => ⟨S_, .f32⟩
  | .hbm, ⟨32, _⟩ => ⟨S4096x16x128, .f32⟩
  | .hbm, ⟨33, _⟩ => ⟨S4096x16x128, .f32⟩
  | .hbm, ⟨34, _⟩ => ⟨S4096x4096x16, .f32⟩
  | .hbm, ⟨35, _⟩ => ⟨S16x4096x4096, .f32⟩
  | .hbm, ⟨36, _⟩ => ⟨S_, .f32⟩
  | .hbm, ⟨37, _⟩ => ⟨S4096x16x32, .f32⟩
  | .hbm, ⟨38, _⟩ => ⟨S4096x16x32, .f32⟩
  | .hbm, ⟨39, _⟩ => ⟨S4096x4096x16, .f32⟩
  | .hbm, ⟨40, _⟩ => ⟨S16x4096x4096, .f32⟩
  | .hbm, ⟨41, _⟩ => ⟨S16x4096x4096, .f32⟩
  | .hbm, ⟨42, _⟩ => ⟨S16x4096x4096, .f32⟩
  | .hbm, ⟨43, _⟩ => ⟨S_, .f32⟩
  | .hbm, ⟨44, _⟩ => ⟨S16x4096, .f32⟩
  | .hbm, ⟨45, _⟩ => ⟨S16x4096, .f32⟩
  | .hbm, ⟨46, _⟩ => ⟨S4096x2048, .f32⟩
  | .hbm, ⟨47, _⟩ => ⟨S4096x2048, .bf16⟩
  | .hbm, ⟨48, _⟩ => ⟨S16x1x4096, .f32⟩
  | _, _ => ⟨S4096x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel4.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x1408 : Shape := ⟨2, ![1024, 1408]⟩
abbrev S4096x1408 : Shape := ⟨2, ![4096, 1408]⟩
abbrev S1408x1024 : Shape := ⟨2, ![1408, 1024]⟩
abbrev S1x4096x1408 : Shape := ⟨3, ![1, 4096, 1408]⟩
abbrev S2x4096x1408 : Shape := ⟨3, ![2, 4096, 1408]⟩
abbrev S2x4096x2816 : Shape := ⟨3, ![2, 4096, 2816]⟩
abbrev S8x1024 : Shape := ⟨2, ![8, 1024]⟩
abbrev S1024x4x1408 : Shape := ⟨3, ![1024, 4, 1408]⟩
abbrev S4x1024x1408 : Shape := ⟨3, ![4, 1024, 1408]⟩
abbrev S2x1408x1024 : Shape := ⟨3, ![2, 1408, 1024]⟩
abbrev S1x1 : Shape := ⟨2, ![1, 1]⟩
abbrev S512x1024 : Shape := ⟨2, ![512, 1024]⟩
abbrev S1x1024x1408 : Shape := ⟨3, ![1, 1024, 1408]⟩
abbrev S1x1408x1024 : Shape := ⟨3, ![1, 1408, 1024]⟩
abbrev S2x512x1408 : Shape := ⟨3, ![2, 512, 1408]⟩
abbrev S512x1408 : Shape := ⟨2, ![512, 1408]⟩
abbrev S1x512x1408 : Shape := ⟨3, ![1, 512, 1408]⟩
abbrev S512 : Shape := ⟨1, ![512]⟩
abbrev S512x1 : Shape := ⟨2, ![512, 1]⟩
abbrev S1 : Shape := ⟨1, ![1]⟩

abbrev nBuf : Space → Nat
  | .hbm => 78
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S1024, .f32⟩
  | .hbm, ⟨7, _⟩ => ⟨S1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S1024x1408, .f32⟩
  | .hbm, ⟨35, _⟩ => ⟨S4096x1408, .f32⟩
  | .hbm, ⟨36, _⟩ => ⟨S1024x1408, .f32⟩
  | .hbm, ⟨37, _⟩ => ⟨S4096x1408, .f32⟩
  | .hbm, ⟨38, _⟩ => ⟨S4096x1408, .f32⟩
  | .hbm, ⟨39, _⟩ => ⟨S4096x1408, .f32⟩
  | .hbm, ⟨40, _⟩ => ⟨S_, .f32⟩
  | .hbm, ⟨41, _⟩ => ⟨S4096x1408, .f32⟩
  | .hbm, ⟨42, _⟩ => ⟨S4096x1408, .f32⟩
  | .hbm, ⟨43, _⟩ => ⟨S_, .f32⟩
  | .hbm, ⟨44, _⟩ => ⟨S4096x1408, .f32⟩
  | .hbm, ⟨45, _⟩ => ⟨S4096x1408, .f32⟩
  | .hbm, ⟨46, _⟩ => ⟨S4096x1408, .f32⟩
  | .hbm, ⟨47, _⟩ => ⟨S4096x1408, .f32⟩
  | .hbm, ⟨48, _⟩ => ⟨S1408x1024, .f32⟩
  | .hbm, ⟨49, _⟩ => ⟨S4096x1024, .f32⟩
  | .hbm, ⟨50, _⟩ => ⟨S1x4096x1408, .f32⟩
  | .hbm, ⟨51, _⟩ => ⟨S1x4096x1408, .f32⟩
  | .hbm, ⟨52, _⟩ => ⟨S2x4096x1408, .f32⟩
  | .hbm, ⟨53, _⟩ => ⟨S2x4096x1408, .bf16⟩
  | .hbm, ⟨54, _⟩ => ⟨S_, .i32⟩
  | .hbm, ⟨55, _⟩ => ⟨S_, .bf16⟩
  | .hbm, ⟨56, _⟩ => ⟨S2x4096x2816, .bf16⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S8x1024, .f32⟩
  | .hbm, ⟨68, _⟩ => ⟨S1024x4x1408, .f32⟩
  | .hbm, ⟨69, _⟩ => ⟨S4x1024x1408, .f32⟩
  | .hbm, ⟨70, _⟩ => ⟨S4x1024x1408, .bf16⟩
  | .hbm, ⟨71, _⟩ => ⟨S4096x1024, .bf16⟩
  | .hbm, ⟨72, _⟩ => ⟨S2x1408x1024, .f32⟩
  | .hbm, ⟨73, _⟩ => ⟨S2x1408x1024, .bf16⟩
  | .hbm, ⟨74, _⟩ => ⟨S4096x1024, .f32⟩
  | .hbm, ⟨75, _⟩ => ⟨S2x4096x2816, .bf16⟩
  | .hbm, ⟨76, _⟩ => ⟨S4096x1024, .f32⟩
  | .hbm, ⟨77, _⟩ => ⟨S1x1, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S8x1024, .f32⟩
  | .local _ .vmem, ⟨7, _⟩ => ⟨S1x1024x1408, .bf16⟩
  | .local _ .vmem, ⟨8, _⟩ => ⟨S1x1024x1408, .bf16⟩
  | .local _ .vmem, ⟨9, _⟩ => ⟨S1x1408x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S2x512x1408, .bf16⟩
  | .local _ .vmem, ⟨15, _⟩ => ⟨S2x512x1408, .bf16⟩
  | .local _ .vmem, ⟨16, _⟩ => ⟨S512x1024, .f32⟩
  | .local _ .vmem, ⟨17, _⟩ => ⟨S512x1024, .f32⟩
  | .local _ .vmem, ⟨18, _⟩ => ⟨S1x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c : Ref sig .tc := ⟨.hbm, 54, rfl⟩
abbrev main_call1_v0 : Ref sig .tc := ⟨.hbm, 55, rfl⟩
abbrev main_v33 : Ref sig .tc := ⟨.hbm, 56, rfl⟩
abbrev main_cst_3 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50_0 : Ref sig .tc := ⟨.hbm, 74, rfl⟩
abbrev main_v50_1 : Ref sig .tc := ⟨.hbm, 75, rfl⟩
abbrev main_v50_2 : Ref sig .tc := ⟨.hbm, 76, rfl⟩
abbrev main_v50_3 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![c0_i32.toNat, arg0.toNat, c1_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x1408 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1408x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x512x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference4Ideal.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S1x1 : Shape := ⟨2, ![1, 1]⟩

abbrev nBuf : Space → Nat
  | .hbm => 102
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S1024, .f32⟩
  | .hbm, ⟨7, _⟩ => ⟨S1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x5632, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S_, .f32⟩
  | .hbm, ⟨40, _⟩ => ⟨S4096x2816, .f32⟩
  | .hbm, ⟨41, _⟩ => ⟨S4096x2816, .f32⟩
  | .hbm, ⟨42, _⟩ => ⟨S_, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1024, .f32⟩
  | .hbm, ⟨51, _⟩ => ⟨S_, .f32⟩
  | .hbm, ⟨52, _⟩ => ⟨S1024, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S4096x1, .f32⟩
  | .hbm, ⟨65, _⟩ => ⟨S4096x1024, .f32⟩
  | .hbm, ⟨66, _⟩ => ⟨S4096x1024, .f32⟩
  | .hbm, ⟨67, _⟩ => ⟨S1x1024, .f32⟩
  | .hbm, ⟨68, _⟩ => ⟨S4096x1024, .f32⟩
  | .hbm, ⟨69, _⟩ => ⟨S4096x1024, .f32⟩
  | .hbm, ⟨70, _⟩ => ⟨S1x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S_, .f32⟩
  | .hbm, ⟨77, _⟩ => ⟨S4096x1024, .f32⟩
  | .hbm, ⟨78, _⟩ => ⟨S4096x1024, .f32⟩
  | .hbm, ⟨79, _⟩ => ⟨S_, .f32⟩
  | .hbm, ⟨80, _⟩ => ⟨S4096, .f32⟩
  | .hbm, ⟨81, _⟩ => ⟨S_, .f32⟩
  | .hbm, ⟨82, _⟩ => ⟨S4096, .f32⟩
  | .hbm, ⟨83, _⟩ => ⟨S4096, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S4096, .f32⟩
  | .hbm, ⟨92, _⟩ => ⟨S_, .f32⟩
  | .hbm, ⟨93, _⟩ => ⟨S4096, .f32⟩
  | .hbm, ⟨94, _⟩ => ⟨S4096, .f32⟩
  | .hbm, ⟨95, _⟩ => ⟨S4096x1024, .f32⟩
  | .hbm, ⟨96, _⟩ => ⟨S4096x1024, .f32⟩
  | .hbm, ⟨97, _⟩ => ⟨S1x4096x2816, .f32⟩
  | .hbm, ⟨98, _⟩ => ⟨S1x4096x2816, .f32⟩
  | .hbm, ⟨99, _⟩ => ⟨S2x4096x2816, .f32⟩
  | .hbm, ⟨100, _⟩ => ⟨S2x4096x2816, .bf16⟩
  | .hbm, ⟨101, _⟩ => ⟨S1x1, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_3 : Ref sig .tc := ⟨.hbm, 48, rfl⟩
abbrev main_v27 : Ref sig .tc := ⟨.hbm, 49, rfl⟩
abbrev main_v28 : Ref sig .tc := ⟨.hbm, 50, rfl⟩
abbrev main_cst_4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_5 : Ref sig .tc := ⟨.hbm, 55, rfl⟩
abbrev main_v32 : Ref sig .tc := ⟨.hbm, 56, rfl⟩
abbrev main_v33 : Ref sig .tc := ⟨.hbm, 57, rfl⟩
abbrev main_cst_6 : Ref sig .tc := ⟨.hbm, 58, rfl⟩
abbrev main_v34 : Ref sig .tc := ⟨.hbm, 59, rfl⟩
abbrev main_v35 : Ref sig .tc := ⟨.hbm, 60, rfl⟩
abbrev main_cst_7 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_8 : Ref sig .tc := ⟨.hbm, 76, rfl⟩
abbrev main_v50 : Ref sig .tc := ⟨.hbm, 77, rfl⟩
abbrev main_v51 : Ref sig .tc := ⟨.hbm, 78, rfl⟩
abbrev main_cst_9 : Ref sig .tc := ⟨.hbm, 79, rfl⟩
abbrev main_v52 : Ref sig .tc := ⟨.hbm, 80, rfl⟩
abbrev main_cst_10 : Ref sig .tc := ⟨.hbm, 81, rfl⟩
abbrev main_v53 : Ref sig .tc := ⟨.hbm, 82, rfl⟩
abbrev main_v54 : Ref sig .tc := ⟨.hbm, 83, rfl⟩
abbrev main_cst_11 : Ref sig .tc := ⟨.hbm, 84, rfl⟩
abbrev main_v55 : Ref sig .tc := ⟨.hbm, 85, rfl⟩
abbrev main_cst_12 : Ref sig .tc := ⟨.hbm, 86, rfl⟩
abbrev main_v56 : Ref sig .tc := ⟨.hbm, 87, rfl⟩
abbrev main_cst_13 : Ref sig .tc := ⟨.hbm, 88, rfl⟩
abbrev main_cst_14 : Ref sig .tc := ⟨.hbm, 89, rfl⟩
abbrev main_v57 : Ref sig .tc := ⟨.hbm, 90, rfl⟩
abbrev main_v58 : Ref sig .tc := ⟨.hbm, 91, rfl⟩
abbrev main_cst_15 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩

abbrev nD : Nat := 1
abbrev τ : Topo := Topo.v7x

variable {F : FTy → Type} [FloatOps F]
-- ==== Kernel5.lean ====
abbrev S4096x1024 : Shape := ⟨2, ![4096, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩
abbrev S1x1024 : Shape := ⟨2, ![1, 1024]⟩
abbrev S8x1024 : Shape := ⟨2, ![8, 1024]⟩
abbrev S1024x4x1408 : Shape := ⟨3, ![1024, 4, 1408]⟩
abbrev S4x1024x1408 : Shape := ⟨3, ![4, 1024, 1408]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S2x1408x1024 : Shape := ⟨3, ![2, 1408, 1024]⟩
abbrev S512x1024 : Shape := ⟨2, ![512, 1024]⟩
abbrev S2x512x1408 : Shape := ⟨3, ![2, 512, 1408]⟩
abbrev S1x1024x1408 : Shape := ⟨3, ![1, 1024, 1408]⟩
abbrev S1x1408x1024 : Shape := ⟨3, ![1, 1408, 1024]⟩
abbrev S512x1408 : Shape := ⟨2, ![512, 1408]⟩
abbrev S512 : Shape := ⟨1, ![512]⟩
abbrev S512x1 : Shape := ⟨2, ![512, 1]⟩
abbrev S1408x1024 : Shape := ⟨2, ![1408, 1024]⟩
abbrev S1x512x1408 : Shape := ⟨3, ![1, 512, 1408]⟩
abbrev S1024x1408 : Shape := ⟨2, ![1024, 1408]⟩
abbrev S4096x1408 : Shape := ⟨2, ![4096, 1408]⟩
abbrev S2x4096x1408 : Shape := ⟨3, ![2, 4096, 1408]⟩

abbrev nBuf : Space → Nat
  | .hbm => 51
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S8x1024, .f32⟩
  | .hbm, ⟨17, _⟩ => ⟨S1024x4x1408, .f32⟩
  | .hbm, ⟨18, _⟩ => ⟨S4x1024x1408, .f32⟩
  | .hbm, ⟨19, _⟩ => ⟨S4x1024x1408, .bf16⟩
  | .hbm, ⟨20, _⟩ => ⟨S4096x5632, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x1024, .f32⟩
  | .hbm, ⟨34, _⟩ => ⟨S1x4096x2816, .f32⟩
  | .hbm, ⟨35, _⟩ => ⟨S1x4096x2816, .f32⟩
  | .hbm, ⟨36, _⟩ => ⟨S2x4096x2816, .f32⟩
  | .hbm, ⟨37, _⟩ => ⟨S2x4096x2816, .bf16⟩
  | .hbm, ⟨38, _⟩ => ⟨S2x1408x1024, .f32⟩
  | .hbm, ⟨39, _⟩ => ⟨S2x1408x1024, .bf16⟩
  | .hbm, ⟨40, _⟩ => ⟨S4096x1024, .bf16⟩
  | .hbm, ⟨41, _⟩ => ⟨S4096x1024, .f32⟩
  | .hbm, ⟨42, _⟩ => ⟨S4096x2816, .bf16⟩
  | .hbm, ⟨43, _⟩ => ⟨S2x4096x2816, .bf16⟩
  | .hbm, ⟨44, _⟩ => ⟨S8x1024, .f32⟩
  | .hbm, ⟨45, _⟩ => ⟨S4096x1408, .bf16⟩
  | .hbm, ⟨46, _⟩ => ⟨S2x4096x1408, .bf16⟩
  | .hbm, ⟨47, _⟩ => ⟨S1x1024, .f32⟩
  | .hbm, ⟨48, _⟩ => ⟨S1024, .f32⟩
  | .hbm, ⟨49, _⟩ => ⟨S1x1024, .f32⟩
  | .hbm, ⟨50, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S2x512x1408, .bf16⟩
  | .local _ .vmem, ⟨5, _⟩ => ⟨S2x512x1408, .bf16⟩
  | .local _ .vmem, ⟨6, _⟩ => ⟨S8x1024, .f32⟩
  | .local _ .vmem, ⟨7, _⟩ => ⟨S1x1024x1408, .bf16⟩
  | .local _ .vmem, ⟨8, _⟩ => ⟨S1x1024x1408, .bf16⟩
  | .local _ .vmem, ⟨9, _⟩ => ⟨S1x1408x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1408, .bf16⟩
  | .local _ .vmem, ⟨15, _⟩ => ⟨S512x1408, .bf16⟩
  | .local _ .vmem, ⟨16, _⟩ => ⟨S2x512x1408, .bf16⟩
  | .local _ .vmem, ⟨17, _⟩ => ⟨S2x512x1408, .bf16⟩
  | .local _ .vmem, ⟨18, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25_0 : Ref sig .tc := ⟨.hbm, 40, rfl⟩
abbrev main_v25_1 : Ref sig .tc := ⟨.hbm, 41, rfl⟩
abbrev main_v25_2 : Ref sig .tc := ⟨.hbm, 42, rfl⟩
abbrev main_v25_3 : Ref sig .tc := ⟨.hbm, 43, rfl⟩
abbrev main_v25_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x1408 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1408x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x512x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference5Ideal.lean ====
abbrev S4096x1024 : Shape := ⟨2, ![4096, 1024]⟩
abbrev S1024x5632 : Shape := ⟨2, ![1024, 5632]⟩
abbrev S2816x1024 : Shape := ⟨2, ![2816, 1024]⟩
abbrev S1024 : Shape := ⟨1, ![1024]⟩
abbrev S4096x5632 : Shape := ⟨2, ![4096, 5632]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x1408 : Shape := ⟨2, ![1024, 1408]⟩
abbrev S1408x1024 : Shape := ⟨2, ![1408, 1024]⟩
abbrev S4096x1408 : Shape := ⟨2, ![4096, 1408]⟩
abbrev S1x4096x1408 : Shape := ⟨3, ![1, 4096, 1408]⟩
abbrev S2x4096x1408 : Shape := ⟨3, ![2, 4096, 1408]⟩

abbrev nBuf : Space → Nat
  | .hbm => 121
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S4096x5632, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x1024, .f32⟩
  | .hbm, ⟨20, _⟩ => ⟨S_, .f32⟩
  | .hbm, ⟨21, _⟩ => ⟨S1024, .f32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S1x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S_, .f32⟩
  | .hbm, ⟨56, _⟩ => ⟨S1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S1024, .f32⟩
  | .hbm, ⟨65, _⟩ => ⟨S4096x1024, .f32⟩
  | .hbm, ⟨66, _⟩ => ⟨S_, .f32⟩
  | .hbm, ⟨67, _⟩ => ⟨S4096, .f32⟩
  | .hbm, ⟨68, _⟩ => ⟨S4096x1, .f32⟩
  | .hbm, ⟨69, _⟩ => ⟨S4096x1024, .f32⟩
  | .hbm, ⟨70, _⟩ => ⟨S4096x1024, .f32⟩
  | .hbm, ⟨71, _⟩ => ⟨S4096x1, .f32⟩
  | .hbm, ⟨72, _⟩ => ⟨S_, .f32⟩
  | .hbm, ⟨73, _⟩ => ⟨S4096x1, .f32⟩
  | .hbm, ⟨74, _⟩ => ⟨S4096x1, .f32⟩
  | .hbm, ⟨75, _⟩ => ⟨S_, .f32⟩
  | .hbm, ⟨76, _⟩ => ⟨S4096, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S1024, .f32⟩
  | .hbm, ⟨84, _⟩ => ⟨S1024, .f32⟩
  | .hbm, ⟨85, _⟩ => ⟨S1024x1408, .f32⟩
  | .hbm, ⟨86, _⟩ => ⟨S1024x1408, .f32⟩
  | .hbm, ⟨87, _⟩ => ⟨S1408x1024, .f32⟩
  | .hbm, ⟨88, _⟩ => ⟨S4096x1408, .f32⟩
  | .hbm, ⟨89, _⟩ => ⟨S4096x1408, .f32⟩
  | .hbm, ⟨90, _⟩ => ⟨S4096x1408, .f32⟩
  | .hbm, ⟨91, _⟩ => ⟨S4096x1408, .f32⟩
  | .hbm, ⟨92, _⟩ => ⟨S_, .f32⟩
  | .hbm, ⟨93, _⟩ => ⟨S4096x1408, .f32⟩
  | .hbm, ⟨94, _⟩ => ⟨S4096x1408, .f32⟩
  | .hbm, ⟨95, _⟩ => ⟨S_, .f32⟩
  | .hbm, ⟨96, _⟩ => ⟨S4096x1408, .f32⟩
  | .hbm, ⟨97, _⟩ => ⟨S4096x1408, .f32⟩
  | .hbm, ⟨98, _⟩ => ⟨S_, .f32⟩
  | .hbm, ⟨99, _⟩ => ⟨S4096x1408, .f32⟩
  | .hbm, ⟨100, _⟩ => ⟨S4096x1408, .f32⟩
  | .hbm, ⟨101, _⟩ => ⟨S4096x1408, .f32⟩
  | .hbm, ⟨102, _⟩ => ⟨S4096x1408, .f32⟩
  | .hbm, ⟨103, _⟩ => ⟨S4096x1408, .f32⟩
  | .hbm, ⟨104, _⟩ => ⟨S4096x1024, .f32⟩
  | .hbm, ⟨105, _⟩ => ⟨S4096x1408, .f32⟩
  | .hbm, ⟨106, _⟩ => ⟨S4096x1408, .f32⟩
  | .hbm, ⟨107, _⟩ => ⟨S4096x1408, .f32⟩
  | .hbm, ⟨108, _⟩ => ⟨S4096x1408, .f32⟩
  | .hbm, ⟨109, _⟩ => ⟨S4096x1408, .f32⟩
  | .hbm, ⟨110, _⟩ => ⟨S4096x1408, .f32⟩
  | .hbm, ⟨111, _⟩ => ⟨S4096x1408, .f32⟩
  | .hbm, ⟨112, _⟩ => ⟨S4096x1024, .f32⟩
  | .hbm, ⟨113, _⟩ => ⟨S4096x1024, .f32⟩
  | .hbm, ⟨114, _⟩ => ⟨S4096x1024, .f32⟩
  | .hbm, ⟨115, _⟩ => ⟨S4096x1024, .bf16⟩
  | .hbm, ⟨116, _⟩ => ⟨S4096x1408, .bf16⟩
  | .hbm, ⟨117, _⟩ => ⟨S1x4096x1408, .f32⟩
  | .hbm, ⟨118, _⟩ => ⟨S1x4096x1408, .f32⟩
  | .hbm, ⟨119, _⟩ => ⟨S2x4096x1408, .f32⟩
  | .hbm, ⟨120, _⟩ => ⟨S2x4096x1408, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_10 : Ref sig .tc := ⟨.hbm, 72, rfl⟩
abbrev main_v47 : Ref sig .tc := ⟨.hbm, 73, rfl⟩
abbrev main_v48 : Ref sig .tc := ⟨.hbm, 74, rfl⟩
abbrev main_cst_11 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_12 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_call1_v0 : Ref sig .tc := ⟨.hbm, 90, rfl⟩
abbrev main_call1_v1 : Ref sig .tc := ⟨.hbm, 91, rfl⟩
abbrev main_call1_cst : Ref sig .tc := ⟨.hbm, 92, rfl⟩
abbrev main_call1_v2 : Ref sig .tc := ⟨.hbm, 93, rfl⟩
abbrev main_call1_v3 : Ref sig .tc := ⟨.hbm, 94, rfl⟩
abbrev main_call1_cst_0 : Ref sig .tc := ⟨.hbm, 95, rfl⟩
abbrev main_call1_v4 : Ref sig .tc := ⟨.hbm, 96, rfl⟩
abbrev main_v62_2 : Ref sig .tc := ⟨.hbm, 97, rfl⟩
abbrev main_call1_cst_1 : Ref sig .tc := ⟨.hbm, 98, rfl⟩
abbrev main_call1_v6 : Ref sig .tc := ⟨.hbm, 99, rfl⟩
abbrev main_call1_v7 : Ref sig .tc := ⟨.hbm, 100, rfl⟩
abbrev main_v62_1 : Ref sig .tc := ⟨.hbm, 101, rfl⟩
abbrev main_v62_0 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_call2_v0 : Ref sig .tc := ⟨.hbm, 108, rfl⟩
abbrev main_call2_v1 : Ref sig .tc := ⟨.hbm, 109, rfl⟩
abbrev main_call2_v2 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩

abbrev nD : Nat := 1
abbrev τ : Topo := Topo.v7x

variable {F : FTy → Type} [FloatOps F]
-- ==== Kernel6.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S1x1024 : Shape := ⟨2, ![1, 1024]⟩
abbrev S8x1024 : Shape := ⟨2, ![8, 1024]⟩
abbrev S1024x4x1408 : Shape := ⟨3, ![1024, 4, 1408]⟩
abbrev S4x1024x1408 : Shape := ⟨3, ![4, 1024, 1408]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S2x1408x1024 : Shape := ⟨3, ![2, 1408, 1024]⟩
abbrev S512x1024 : Shape := ⟨2, ![512, 1024]⟩
abbrev S2x512x1408 : Shape := ⟨3, ![2, 512, 1408]⟩
abbrev S1x1024x1408 : Shape := ⟨3, ![1, 1024, 1408]⟩
abbrev S1x1408x1024 : Shape := ⟨3, ![1, 1408, 1024]⟩
abbrev S512x1408 : Shape := ⟨2, ![512, 1408]⟩
abbrev S1408x1024 : Shape := ⟨2, ![1408, 1024]⟩
abbrev S1x512x1408 : Shape := ⟨3, ![1, 512, 1408]⟩
abbrev S1024x1408 : Shape := ⟨2, ![1024, 1408]⟩
abbrev S512 : Shape := ⟨1, ![512]⟩
abbrev S512x1 : Shape := ⟨2, ![512, 1]⟩
abbrev S4096x1408 : Shape := ⟨2, ![4096, 1408]⟩
abbrev S2x4096x1408 : Shape := ⟨3, ![2, 4096, 1408]⟩

abbrev nBuf : Space → Nat
  | .hbm => 74
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S8x1024, .f32⟩
  | .hbm, ⟨20, _⟩ => ⟨S1024x4x1408, .f32⟩
  | .hbm, ⟨21, _⟩ => ⟨S4x1024x1408, .f32⟩
  | .hbm, ⟨22, _⟩ => ⟨S4x1024x1408, .bf16⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x5632, .f32⟩
  | .hbm, ⟨49, _⟩ => ⟨S4096x2816, .f32⟩
  | .hbm, ⟨50, _⟩ => ⟨S4096x2816, .f32⟩
  | .hbm, ⟨51, _⟩ => ⟨S1x4096x2816, .f32⟩
  | .hbm, ⟨52, _⟩ => ⟨S1x4096x2816, .f32⟩
  | .hbm, ⟨53, _⟩ => ⟨S2x4096x2816, .f32⟩
  | .hbm, ⟨54, _⟩ => ⟨S2x4096x2816, .bf16⟩
  | .hbm, ⟨55, _⟩ => ⟨S_, .bf16⟩
  | .hbm, ⟨56, _⟩ => ⟨S4096x2816, .bf16⟩
  | .hbm, ⟨57, _⟩ => ⟨S_, .bf16⟩
  | .hbm, ⟨58, _⟩ => ⟨S2x4096x2816, .bf16⟩
  | .hbm, ⟨59, _⟩ => ⟨S4096x1024, .bf16⟩
  | .hbm, ⟨60, _⟩ => ⟨S2x1408x1024, .f32⟩
  | .hbm, ⟨61, _⟩ => ⟨S2x1408x1024, .bf16⟩
  | .hbm, ⟨62, _⟩ => ⟨S4096x1024, .f32⟩
  | .hbm, ⟨63, _⟩ => ⟨S4096x2816, .bf16⟩
  | .hbm, ⟨64, _⟩ => ⟨S2x4096x2816, .bf16⟩
  | .hbm, ⟨65, _⟩ => ⟨S8x1024, .f32⟩
  | .hbm, ⟨66, _⟩ => ⟨S4096x1408, .bf16⟩
  | .hbm, ⟨67, _⟩ => ⟨S2x4096x1408, .bf16⟩
  | .hbm, ⟨68, _⟩ => ⟨S1x1024, .f32⟩
  | .hbm, ⟨69, _⟩ => ⟨S1024, .f32⟩
  | .hbm, ⟨70, _⟩ => ⟨S1x1024, .f32⟩
  | .hbm, ⟨71, _⟩ => ⟨S1024, .f32⟩
  | .hbm, ⟨72, _⟩ => ⟨S1x1024, .f32⟩
  | .hbm, ⟨73, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S2x512x1408, .bf16⟩
  | .local _ .vmem, ⟨9, _⟩ => ⟨S2x512x1408, .bf16⟩
  | .local _ .vmem, ⟨10, _⟩ => ⟨S8x1024, .f32⟩
  | .local _ .vmem, ⟨11, _⟩ => ⟨S1x1024x1408, .bf16⟩
  | .local _ .vmem, ⟨12, _⟩ => ⟨S1x1024x1408, .bf16⟩
  | .local _ .vmem, ⟨13, _⟩ => ⟨S1x1408x1024, .bf16⟩
  | .local _ .vmem, ⟨14, _⟩ => ⟨S512x1024, .f32⟩
  | .local _ .vmem, ⟨15, _⟩ => ⟨S512x1024, .f32⟩
  | .local _ .vmem, ⟨16, _⟩ => ⟨S512x1408, .bf16⟩
  | .local _ .vmem, ⟨17, _⟩ => ⟨S512x1408, .bf16⟩
  | .local _ .vmem, ⟨18, _⟩ => ⟨S2x512x1408, .bf16⟩
  | .local _ .vmem, ⟨19, _⟩ => ⟨S2x512x1408, .bf16⟩
  | .local _ .vmem, ⟨20, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call0_v0 : Ref sig .tc := ⟨.hbm, 23, rfl⟩
abbrev main_call0_cst : Ref sig .tc := ⟨.hbm, 24, rfl⟩
abbrev main_call0_v1 : Ref sig .tc := ⟨.hbm, 25, rfl⟩
abbrev main_call0_v2 : Ref sig .tc := ⟨.hbm, 26, rfl⟩
abbrev main_call0_cst_0 : Ref sig .tc := ⟨.hbm, 27, rfl⟩
abbrev main_call0_v3 : Ref sig .tc := ⟨.hbm, 28, rfl⟩
abbrev main_call0_v4 : Ref sig .tc := ⟨.hbm, 29, rfl⟩
abbrev main_call0_cst_1 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_v12 : Ref sig .tc := ⟨.hbm, 38, rfl⟩
abbrev main_call0_cst_2 : Ref sig .tc := ⟨.hbm, 39, rfl⟩
abbrev main_call0_v13 : Ref sig .tc := ⟨.hbm, 40, rfl⟩
abbrev main_call0_v14 : Ref sig .tc := ⟨.hbm, 41, rfl⟩
abbrev main_call0_v15 : Ref sig .tc := ⟨.hbm, 42, rfl⟩
abbrev main_call0_v16 : Ref sig .tc := ⟨.hbm, 43, rfl⟩
abbrev main_call0_v17 : Ref sig .tc := ⟨.hbm, 44, rfl⟩
abbrev main_call0_v18 : Ref sig .tc := ⟨.hbm, 45, rfl⟩
abbrev main_call0_v19 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_cst_0 : Ref sig .tc := ⟨.hbm, 55, rfl⟩
abbrev main_v21 : Ref sig .tc := ⟨.hbm, 56, rfl⟩
abbrev main_cst_1 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26_0 : Ref sig .tc := ⟨.hbm, 62, rfl⟩
abbrev main_v26_1 : Ref sig .tc := ⟨.hbm, 63, rfl⟩
abbrev main_v26_2 : Ref sig .tc := ⟨.hbm, 64, rfl⟩
abbrev main_v26_3 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![c0_i32.toNat, arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_13 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![c0_i32.toNat, arg0.toNat, c1_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1408 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x1408 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1408x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x512x1408 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference6Ideal.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S1024x1408 : Shape := ⟨2, ![1024, 1408]⟩
abbrev S1408x1024 : Shape := ⟨2, ![1408, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x1408 : Shape := ⟨2, ![4096, 1408]⟩
abbrev S1x4096x1408 : Shape := ⟨3, ![1, 4096, 1408]⟩
abbrev S2x4096x1408 : Shape := ⟨3, ![2, 4096, 1408]⟩

abbrev nBuf : Space → Nat
  | .hbm => 113
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S1024x1408, .f32⟩
  | .hbm, ⟨10, _⟩ => ⟨S1024x1408, .f32⟩
  | .hbm, ⟨11, _⟩ => ⟨S1408x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1408, .f32⟩
  | .hbm, ⟨42, _⟩ => ⟨S4096x1408, .f32⟩
  | .hbm, ⟨43, _⟩ => ⟨S4096x1408, .f32⟩
  | .hbm, ⟨44, _⟩ => ⟨S4096x1408, .f32⟩
  | .hbm, ⟨45, _⟩ => ⟨S_, .f32⟩
  | .hbm, ⟨46, _⟩ => ⟨S4096x1408, .f32⟩
  | .hbm, ⟨47, _⟩ => ⟨S4096x1408, .f32⟩
  | .hbm, ⟨48, _⟩ => ⟨S_, .f32⟩
  | .hbm, ⟨49, _⟩ => ⟨S4096x1408, .f32⟩
  | .hbm, ⟨50, _⟩ => ⟨S4096x1408, .f32⟩
  | .hbm, ⟨51, _⟩ => ⟨S_, .f32⟩
  | .hbm, ⟨52, _⟩ => ⟨S4096x1408, .f32⟩
  | .hbm, ⟨53, _⟩ => ⟨S4096x1408, .f32⟩
  | .hbm, ⟨54, _⟩ => ⟨S4096x1408, .f32⟩
  | .hbm, ⟨55, _⟩ => ⟨S4096x1408, .f32⟩
  | .hbm, ⟨56, _⟩ => ⟨S4096x1408, .f32⟩
  | .hbm, ⟨57, _⟩ => ⟨S4096x1024, .f32⟩
  | .hbm, ⟨58, _⟩ => ⟨S4096x1408, .f32⟩
  | .hbm, ⟨59, _⟩ => ⟨S4096x1408, .f32⟩
  | .hbm, ⟨60, _⟩ => ⟨S4096x1408, .f32⟩
  | .hbm, ⟨61, _⟩ => ⟨S4096x1408, .f32⟩
  | .hbm, ⟨62, _⟩ => ⟨S4096x1408, .f32⟩
  | .hbm, ⟨63, _⟩ => ⟨S4096x1408, .f32⟩
  | .hbm, ⟨64, _⟩ => ⟨S4096x1408, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S_, .f32⟩
  | .hbm, ⟨73, _⟩ => ⟨S1024, .f32⟩
  | .hbm, ⟨74, _⟩ => ⟨S4096x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S4096x1024, .f32⟩
  | .hbm, ⟨79, _⟩ => ⟨S4096x1024, .f32⟩
  | .hbm, ⟨80, _⟩ => ⟨S_, .f32⟩
  | .hbm, ⟨81, _⟩ => ⟨S1024, .f32⟩
  | .hbm, ⟨82, _⟩ => ⟨S4096x1024, .f32⟩
  | .hbm, ⟨83, _⟩ => ⟨S_, .f32⟩
  | .hbm, ⟨84, _⟩ => ⟨S1024, .f32⟩
  | .hbm, ⟨85, _⟩ => ⟨S1x1024, .f32⟩
  | .hbm, ⟨86, _⟩ => ⟨S4096x1024, .f32⟩
  | .hbm, ⟨87, _⟩ => ⟨S4096x1024, .f32⟩
  | .hbm, ⟨88, _⟩ => ⟨S_, .f32⟩
  | .hbm, ⟨89, _⟩ => ⟨S1024, .f32⟩
  | .hbm, ⟨90, _⟩ => ⟨S4096x1024, .f32⟩
  | .hbm, ⟨91, _⟩ => ⟨S_, .f32⟩
  | .hbm, ⟨92, _⟩ => ⟨S4096, .f32⟩
  | .hbm, ⟨93, _⟩ => ⟨S4096x1, .f32⟩
  | .hbm, ⟨94, _⟩ => ⟨S4096x1024, .f32⟩
  | .hbm, ⟨95, _⟩ => ⟨S4096x1024, .f32⟩
  | .hbm, ⟨96, _⟩ => ⟨S4096x1, .f32⟩
  | .hbm, ⟨97, _⟩ => ⟨S_, .f32⟩
  | .hbm, ⟨98, _⟩ => ⟨S4096x1, .f32⟩
  | .hbm, ⟨99, _⟩ => ⟨S4096x1, .f32⟩
  | .hbm, ⟨100, _⟩ => ⟨S_, .f32⟩
  | .hbm, ⟨101, _⟩ => ⟨S4096, .f32⟩
  | .hbm, ⟨102, _⟩ => ⟨S4096x1024, .f32⟩
  | .hbm, ⟨103, _⟩ => ⟨S4096x1024, .f32⟩
  | .hbm, ⟨104, _⟩ => ⟨S4096x1024, .f32⟩
  | .hbm, ⟨105, _⟩ => ⟨S4096x1024, .f32⟩
  | .hbm, ⟨106, _⟩ => ⟨S4096x1024, .f32⟩
  | .hbm, ⟨107, _⟩ => ⟨S4096x1024, .f32⟩
  | .hbm, ⟨108, _⟩ => ⟨S4096x1408, .bf16⟩
  | .hbm, ⟨109, _⟩ => ⟨S1x4096x1408, .f32⟩
  | .hbm, ⟨110, _⟩ => ⟨S1x4096x1408, .f32⟩
  | .hbm, ⟨111, _⟩ => ⟨S2x4096x1408, .f32⟩
  | .hbm, ⟨112, _⟩ => ⟨S2x4096x1408, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_v29_2 : Ref sig .tc := ⟨.hbm, 50, rfl⟩
abbrev main_call0_cst_1 : Ref sig .tc := ⟨.hbm, 51, rfl⟩
abbrev main_call0_v6 : Ref sig .tc := ⟨.hbm, 52, rfl⟩
abbrev main_call0_v7 : Ref sig .tc := ⟨.hbm, 53, rfl⟩
abbrev main_v29_1 : Ref sig .tc := ⟨.hbm, 54, rfl⟩
abbrev main_v29_0 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_4 : Ref sig .tc := ⟨.hbm, 69, rfl⟩
abbrev main_v40 : Ref sig .tc := ⟨.hbm, 70, rfl⟩
abbrev main_v41 : Ref sig .tc := ⟨.hbm, 71, rfl⟩
abbrev main_cst_5 : Ref sig .tc := ⟨.hbm, 72, rfl⟩
abbrev main_v42 : Ref sig .tc := ⟨.hbm, 73, rfl⟩
abbrev main_v43 : Ref sig .tc := ⟨.hbm, 74, rfl⟩
abbrev main_cst_6 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_7 : Ref sig .tc := ⟨.hbm, 80, rfl⟩
abbrev main_v48 : Ref sig .tc := ⟨.hbm, 81, rfl⟩
abbrev main_v49 : Ref sig .tc := ⟨.hbm, 82, rfl⟩
abbrev main_cst_8 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_9 : Ref sig .tc := ⟨.hbm, 88, rfl⟩
abbrev main_v54 : Ref sig .tc := ⟨.hbm, 89, rfl⟩
abbrev main_v55 : Ref sig .tc := ⟨.hbm, 90, rfl⟩
abbrev main_cst_10 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst_11 : Ref sig .tc := ⟨.hbm, 97, rfl⟩
abbrev main_v61 : Ref sig .tc := ⟨.hbm, 98, rfl⟩
abbrev main_v62 : Ref sig .tc := ⟨.hbm, 99, rfl⟩
abbrev main_cst_12 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩

abbrev nD : Nat := 1
abbrev τ : Topo := Topo.v7x

variable {F : FTy → Type} [FloatOps F]
-- ==== Kernel7.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S1x1024 : Shape := ⟨2, ![1, 1024]⟩
abbrev S8x1024 : Shape := ⟨2, ![8, 1024]⟩
abbrev S1024x4x1408 : Shape := ⟨3, ![1024, 4, 1408]⟩
abbrev S4x1024x1408 : Shape := ⟨3, ![4, 1024, 1408]⟩
abbrev S2x1408x1024 : Shape := ⟨3, ![2, 1408, 1024]⟩
abbrev S2x4096x2816 : Shape := ⟨3, ![2, 4096, 2816]⟩
abbrev S512x1024 : Shape := ⟨2, ![512, 1024]⟩
abbrev S1x1024x1408 : Shape := ⟨3, ![1, 1024, 1408]⟩
abbrev S1x1408x1024 : Shape := ⟨3, ![1, 1408, 1024]⟩
abbrev S2x512x1408 : Shape := ⟨3, ![2, 512, 1408]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1x512x1408 : Shape := ⟨3, ![1, 512, 1408]⟩
abbrev S1408x1024 : Shape := ⟨2, ![1408, 1024]⟩
abbrev S2x4096x1408 : Shape := ⟨3, ![2, 4096, 1408]⟩

abbrev nBuf : Space → Nat
  | .hbm => 26
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S_, .f32⟩
  | .hbm, ⟨7, _⟩ => ⟨S1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S8x1024, .f32⟩
  | .hbm, ⟨17, _⟩ => ⟨S1024x4x1408, .f32⟩
  | .hbm, ⟨18, _⟩ => ⟨S4x1024x1408, .f32⟩
  | .hbm, ⟨19, _⟩ => ⟨S4x1024x1408, .bf16⟩
  | .hbm, ⟨20, _⟩ => ⟨S2x1408x1024, .f32⟩
  | .hbm, ⟨21, _⟩ => ⟨S2x1408x1024, .bf16⟩
  | .hbm, ⟨22, _⟩ => ⟨S4096x1024, .bf16⟩
  | .hbm, ⟨23, _⟩ => ⟨S2x4096x2816, .bf16⟩
  | .hbm, ⟨24, _⟩ => ⟨S4096x1024, .f32⟩
  | .hbm, ⟨25, _⟩ => ⟨S2x4096x1408, .bf16⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S1x1024x1408, .bf16⟩
  | .local _ .vmem, ⟨4, _⟩ => ⟨S1x1024x1408, .bf16⟩
  | .local _ .vmem, ⟨5, _⟩ => ⟨S1x1408x1024, .bf16⟩
  | .local _ .vmem, ⟨6, _⟩ => ⟨S512x1024, .bf16⟩
  | .local _ .vmem, ⟨7, _⟩ => ⟨S512x1024, .bf16⟩
  | .local _ .vmem, ⟨8, _⟩ => ⟨S2x512x1408, .bf16⟩
  | .local _ .vmem, ⟨9, _⟩ => ⟨S2x512x1408, .bf16⟩
  | .local _ .vmem, ⟨10, _⟩ => ⟨S512x1024, .f32⟩
  | .local _ .vmem, ⟨11, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev main_v15_2 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1408x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S1024x1408 : Shape := ⟨2, ![1024, 1408]⟩
abbrev S1408x1024 : Shape := ⟨2, ![1408, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x1408 : Shape := ⟨2, ![4096, 1408]⟩
abbrev S1x4096x1408 : Shape := ⟨3, ![1, 4096, 1408]⟩
abbrev S2x4096x1408 : Shape := ⟨3, ![2, 4096, 1408]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S1024x1408, .f32⟩
  | .hbm, ⟨7, _⟩ => ⟨S1024x1408, .f32⟩
  | .hbm, ⟨8, _⟩ => ⟨S1408x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1408, .f32⟩
  | .hbm, ⟨35, _⟩ => ⟨S4096x1408, .f32⟩
  | .hbm, ⟨36, _⟩ => ⟨S4096x1024, .bf16⟩
  | .hbm, ⟨37, _⟩ => ⟨S1x4096x1408, .f32⟩
  | .hbm, ⟨38, _⟩ => ⟨S1x4096x1408, .f32⟩
  | .hbm, ⟨39, _⟩ => ⟨S2x4096x1408, .f32⟩
  | .hbm, ⟨40, _⟩ => ⟨S2x4096x1408, .bf16⟩
  | .hbm, ⟨41, _⟩ => ⟨S4096x1408, .f32⟩
  | .hbm, ⟨42, _⟩ => ⟨S4096x1408, .f32⟩
  | .hbm, ⟨43, _⟩ => ⟨S_, .f32⟩
  | .hbm, ⟨44, _⟩ => ⟨S4096x1408, .f32⟩
  | .hbm, ⟨45, _⟩ => ⟨S4096x1408, .f32⟩
  | .hbm, ⟨46, _⟩ => ⟨S_, .f32⟩
  | .hbm, ⟨47, _⟩ => ⟨S4096x1408, .f32⟩
  | .hbm, ⟨48, _⟩ => ⟨S4096x1408, .f32⟩
  | .hbm, ⟨49, _⟩ => ⟨S4096x1408, .f32⟩
  | .hbm, ⟨50, _⟩ => ⟨S4096x1408, .f32⟩
  | .hbm, ⟨51, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩

abbrev nD : Nat := 1
abbrev τ : Topo := Topo.v7x

variable {F : FTy → Type} [FloatOps F]
-- ==== Kernel8.lean ====
abbrev S4096x16x128 : Shape := ⟨3, ![4096, 16, 128]⟩
abbrev S4096x1024 : Shape := ⟨2, ![4096, 1024]⟩
abbrev S128x16x64 : Shape := ⟨3, ![128, 16, 64]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩
abbrev S8x1024 : Shape := ⟨2, ![8, 1024]⟩
abbrev S16x128x64 : Shape := ⟨3, ![16, 128, 64]⟩
abbrev S8x2x128x64 : Shape := ⟨4, ![8, 2, 128, 64]⟩
abbrev S2x2 : Shape := ⟨2, ![2, 2]⟩
abbrev S8x2x128x1x64 : Shape := ⟨5, ![8, 2, 128, 1, 64]⟩
abbrev S1x2x1x2x1 : Shape := ⟨5, ![1, 2, 1, 2, 1]⟩
abbrev S8x2x128x2x64 : Shape := ⟨5, ![8, 2, 128, 2, 64]⟩
abbrev S8x256x128 : Shape := ⟨3, ![8, 256, 128]⟩
abbrev S4096x2048 : Shape := ⟨2, ![4096, 2048]⟩
abbrev S512x2048 : Shape := ⟨2, ![512, 2048]⟩
abbrev S512x1024 : Shape := ⟨2, ![512, 1024]⟩
abbrev S512x256 : Shape := ⟨2, ![512, 256]⟩
abbrev S1x256x128 : Shape := ⟨3, ![1, 256, 128]⟩
abbrev S256x128 : Shape := ⟨2, ![256, 128]⟩
abbrev S512x128 : Shape := ⟨2, ![512, 128]⟩
abbrev S512 : Shape := ⟨1, ![512]⟩
abbrev S512x1 : Shape := ⟨2, ![512, 1]⟩

abbrev nBuf : Space → Nat
  | .hbm => 39
  | .vmem => 13
  | .smem => 0
  | _ => 0

abbrev bufTy : (tb : Table) → Fin (tcTables nBuf tb) → BufTy
  | .hbm, ⟨0, _⟩ => ⟨S4096x16x128, .f32⟩
  | .hbm, ⟨1, _⟩ => ⟨S4096x1024, .f32⟩
  | .hbm, ⟨2, _⟩ => ⟨S128x16x64, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S8x1024, .f32⟩
  | .hbm, ⟨17, _⟩ => ⟨S128x16x64, .bf16⟩
  | .hbm, ⟨18, _⟩ => ⟨S16x128x64, .bf16⟩
  | .hbm, ⟨19, _⟩ => ⟨S8x2x128x64, .bf16⟩
  | .hbm, ⟨20, _⟩ => ⟨S2x2, .i32⟩
  | .hbm, ⟨21, _⟩ => ⟨S2x2, .i32⟩
  | .hbm, ⟨22, _⟩ => ⟨S_, .i32⟩
  | .hbm, ⟨23, _⟩ => ⟨S2x2, .i32⟩
  | .hbm, ⟨24, _⟩ => ⟨S2x2, .i32⟩
  | .hbm, ⟨25, _⟩ => ⟨S2x2, .i1⟩
  | .hbm, ⟨26, _⟩ => ⟨S2x2, .bf16⟩
  | .hbm, ⟨27, _⟩ => ⟨S8x2x128x1x64, .bf16⟩
  | .hbm, ⟨28, _⟩ => ⟨S1x2x1x2x1, .bf16⟩
  | .hbm, ⟨29, _⟩ => ⟨S8x2x128x2x64, .bf16⟩
  | .hbm, ⟨30, _⟩ => ⟨S8x2x128x2x64, .bf16⟩
  | .hbm, ⟨31, _⟩ => ⟨S8x2x128x2x64, .bf16⟩
  | .hbm, ⟨32, _⟩ => ⟨S8x256x128, .bf16⟩
  | .hbm, ⟨33, _⟩ => ⟨S4096x2048, .f32⟩
  | .hbm, ⟨34, _⟩ => ⟨S4096x2048, .bf16⟩
  | .hbm, ⟨35, _⟩ => ⟨S1024x1024, .bf16⟩
  | .hbm, ⟨36, _⟩ => ⟨S4096x1024, .f32⟩
  | .hbm, ⟨37, _⟩ => ⟨S4096x1024, .f32⟩
  | .hbm, ⟨38, _⟩ => ⟨S4096x1024, .bf16⟩
  | .local _ .vmem, ⟨0, _⟩ => ⟨S512x2048, .bf16⟩
  | .local _ .vmem, ⟨1, _⟩ => ⟨S512x2048, .bf16⟩
  | .local _ .vmem, ⟨2, _⟩ => ⟨S512x1024, .f32⟩
  | .local _ .vmem, ⟨3, _⟩ => ⟨S512x1024, .f32⟩
  | .local _ .vmem, ⟨4, _⟩ => ⟨S8x1024, .f32⟩
  | .local _ .vmem, ⟨5, _⟩ => ⟨S8x256x128, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28_0 : Ref sig .tc := ⟨.hbm, 36, rfl⟩
abbrev main_v28_1 : Ref sig .tc := ⟨.hbm, 37, rfl⟩
abbrev main_v28_2 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S4096x16x128 : Shape := ⟨3, ![4096, 16, 128]⟩
abbrev S4096x1024 : Shape := ⟨2, ![4096, 1024]⟩
abbrev S128x16x64 : Shape := ⟨3, ![128, 16, 64]⟩
abbrev S1024x1024 : Shape := ⟨2, ![1024, 1024]⟩
abbrev S1024 : Shape := ⟨1, ![1024]⟩
abbrev S16x64x4096 : Shape := ⟨3, ![16, 64, 4096]⟩
abbrev S4096x16x64 : Shape := ⟨3, ![4096, 16, 64]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 34
  | .vmem => 0
  | .smem => 0
  | _ => 0

abbrev bufTy : (tb : Table) → Fin (tcTables nBuf tb) → BufTy
  | .hbm, ⟨0, _⟩ => ⟨S4096x16x128, .f32⟩
  | .hbm, ⟨1, _⟩ => ⟨S4096x1024, .f32⟩
  | .hbm, ⟨2, _⟩ => ⟨S128x16x64, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S16x64x4096, .f32⟩
  | .hbm, ⟨7, _⟩ => ⟨S4096x16x64, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .bf16⟩
  | _, _ => ⟨S4096x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Kernel9.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x1408 : Shape := ⟨2, ![1024, 1408]⟩
abbrev S4096x1408 : Shape := ⟨2, ![4096, 1408]⟩
abbrev S1408x1024 : Shape := ⟨2, ![1408, 1024]⟩
abbrev S1x4096x1408 : Shape := ⟨3, ![1, 4096, 1408]⟩
abbrev S2x4096x1408 : Shape := ⟨3, ![2, 4096, 1408]⟩
abbrev S2x4096x2816 : Shape := ⟨3, ![2, 4096, 2816]⟩
abbrev S8x1024 : Shape := ⟨2, ![8, 1024]⟩
abbrev S1024x4x1408 : Shape := ⟨3, ![1024, 4, 1408]⟩
abbrev S4x1024x1408 : Shape := ⟨3, ![4, 1024, 1408]⟩
abbrev S2x1408x1024 : Shape := ⟨3, ![2, 1408, 1024]⟩
abbrev S512x1024 : Shape := ⟨2, ![512, 1024]⟩
abbrev S1x1024x1408 : Shape := ⟨3, ![1, 1024, 1408]⟩
abbrev S1x1408x1024 : Shape := ⟨3, ![1, 1408, 1024]⟩
abbrev S2x512x1408 : Shape := ⟨3, ![2, 512, 1408]⟩
abbrev S512x1408 : Shape := ⟨2, ![512, 1408]⟩
abbrev S1x512x1408 : Shape := ⟨3, ![1, 512, 1408]⟩
abbrev S512 : Shape := ⟨1, ![512]⟩
abbrev S512x1 : Shape := ⟨2, ![512, 1]⟩

abbrev nBuf : Space → Nat
  | .hbm => 76
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S1024, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S1024x1408, .f32⟩
  | .hbm, ⟨34, _⟩ => ⟨S4096x1408, .f32⟩
  | .hbm, ⟨35, _⟩ => ⟨S1024x1408, .f32⟩
  | .hbm, ⟨36, _⟩ => ⟨S4096x1408, .f32⟩
  | .hbm, ⟨37, _⟩ => ⟨S4096x1408, .f32⟩
  | .hbm, ⟨38, _⟩ => ⟨S4096x1408, .f32⟩
  | .hbm, ⟨39, _⟩ => ⟨S_, .f32⟩
  | .hbm, ⟨40, _⟩ => ⟨S4096x1408, .f32⟩
  | .hbm, ⟨41, _⟩ => ⟨S4096x1408, .f32⟩
  | .hbm, ⟨42, _⟩ => ⟨S_, .f32⟩
  | .hbm, ⟨43, _⟩ => ⟨S4096x1408, .f32⟩
  | .hbm, ⟨44, _⟩ => ⟨S4096x1408, .f32⟩
  | .hbm, ⟨45, _⟩ => ⟨S4096x1408, .f32⟩
  | .hbm, ⟨46, _⟩ => ⟨S4096x1408, .f32⟩
  | .hbm, ⟨47, _⟩ => ⟨S1408x1024, .f32⟩
  | .hbm, ⟨48, _⟩ => ⟨S4096x1024, .f32⟩
  | .hbm, ⟨49, _⟩ => ⟨S1x4096x1408, .f32⟩
  | .hbm, ⟨50, _⟩ => ⟨S1x4096x1408, .f32⟩
  | .hbm, ⟨51, _⟩ => ⟨S2x4096x1408, .f32⟩
  | .hbm, ⟨52, _⟩ => ⟨S2x4096x1408, .bf16⟩
  | .hbm, ⟨53, _⟩ => ⟨S_, .i32⟩
  | .hbm, ⟨54, _⟩ => ⟨S_, .bf16⟩
  | .hbm, ⟨55, _⟩ => ⟨S2x4096x2816, .bf16⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S1x1024, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S8x1024, .f32⟩
  | .hbm, ⟨67, _⟩ => ⟨S1024x4x1408, .f32⟩
  | .hbm, ⟨68, _⟩ => ⟨S4x1024x1408, .f32⟩
  | .hbm, ⟨69, _⟩ => ⟨S4x1024x1408, .bf16⟩
  | .hbm, ⟨70, _⟩ => ⟨S4096x1024, .bf16⟩
  | .hbm, ⟨71, _⟩ => ⟨S2x1408x1024, .f32⟩
  | .hbm, ⟨72, _⟩ => ⟨S2x1408x1024, .bf16⟩
  | .hbm, ⟨73, _⟩ => ⟨S4096x1024, .f32⟩
  | .hbm, ⟨74, _⟩ => ⟨S2x4096x2816, .bf16⟩
  | .hbm, ⟨75, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S8x1024, .f32⟩
  | .local _ .vmem, ⟨7, _⟩ => ⟨S1x1024x1408, .bf16⟩
  | .local _ .vmem, ⟨8, _⟩ => ⟨S1x1024x1408, .bf16⟩
  | .local _ .vmem, ⟨9, _⟩ => ⟨S1x1408x1024, .bf16⟩
  | .local _ .vmem, ⟨10, _⟩ => ⟨S512x1024, .f32⟩
  | .local _ .vmem, ⟨11, _⟩ => ⟨S512x1024, .f32⟩
  | .local _ .vmem, ⟨12, _⟩ => ⟨S2x512x1408, .bf16⟩
  | .local _ .vmem, ⟨13, _⟩ => ⟨S2x512x1408, .bf16⟩
  | .local _ .vmem, ⟨14, _⟩ => ⟨S512x1024, .f32⟩
  | .local _ .vmem, ⟨15, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c : Ref sig .tc := ⟨.hbm, 53, rfl⟩
abbrev main_call1_v0 : Ref sig .tc := ⟨.hbm, 54, rfl⟩
abbrev main_v33 : Ref sig .tc := ⟨.hbm, 55, rfl⟩
abbrev main_cst_3 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50_0 : Ref sig .tc := ⟨.hbm, 73, rfl⟩
abbrev main_v50_1 : Ref sig .tc := ⟨.hbm, 74, rfl⟩
abbrev main_v50_2 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![c0_i32.toNat, arg0.toNat, c1_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x1408 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1408x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference9Ideal.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩

abbrev nBuf : Space → Nat
  | .hbm => 77
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S1024, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x5632, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x2816, .f32⟩
  | .hbm, ⟨40, _⟩ => ⟨S4096x2816, .f32⟩
  | .hbm, ⟨41, _⟩ => ⟨S_, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1024, .f32⟩
  | .hbm, ⟨50, _⟩ => ⟨S_, .f32⟩
  | .hbm, ⟨51, _⟩ => ⟨S1024, .f32⟩
  | .hbm, ⟨52, _⟩ => ⟨S1024, .f32⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S1x1024, .f32⟩
  | .hbm, ⟨67, _⟩ => ⟨S4096x1024, .f32⟩
  | .hbm, ⟨68, _⟩ => ⟨S4096x1024, .f32⟩
  | .hbm, ⟨69, _⟩ => ⟨S1x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S1x4096x2816, .f32⟩
  | .hbm, ⟨74, _⟩ => ⟨S1x4096x2816, .f32⟩
  | .hbm, ⟨75, _⟩ => ⟨S2x4096x2816, .f32⟩
  | .hbm, ⟨76, _⟩ => ⟨S2x4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_3 : Ref sig .tc := ⟨.hbm, 47, rfl⟩
abbrev main_v27 : Ref sig .tc := ⟨.hbm, 48, rfl⟩
abbrev main_v28 : Ref sig .tc := ⟨.hbm, 49, rfl⟩
abbrev main_cst_4 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_5 : Ref sig .tc := ⟨.hbm, 54, rfl⟩
abbrev main_v32 : Ref sig .tc := ⟨.hbm, 55, rfl⟩
abbrev main_v33 : Ref sig .tc := ⟨.hbm, 56, rfl⟩
abbrev main_cst_6 : Ref sig .tc := ⟨.hbm, 57, rfl⟩
abbrev main_v34 : Ref sig .tc := ⟨.hbm, 58, rfl⟩
abbrev main_v35 : Ref sig .tc := ⟨.hbm, 59, rfl⟩
abbrev main_cst_7 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩

abbrev nD : Nat := 1
abbrev τ : Topo := Topo.v7x

variable {F : FTy → Type} [FloatOps F]
-- ==== Proof.Reals.lean ====
/- Finite extended reals: sums, quotients, maxima and comparisons of real numbers read inside the extended reals. -/
module

public import Idealize.ShloMosaic.PureOps.Ideal.Laws
public import Idealize.ShloMosaic.Lib.ReduceAll
public import Idealize.ShloMosaic.PureOps.Reduce

@[expose] public section

noncomputable section

namespace Cert.Proof

open Idealize.ShloMosaic

/-- A finite sum of reals, read as an extended real, is the sum of the reals so read. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Division of reals whose divisor is not zero. -/
theorem div_real (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The logarithm of a positive real. -/
theorem log_real (a : ℝ) (ha : 0 < a) : Ideal.log (a : EReal) = ((Real.log a : ℝ) : EReal) := by
  rw [Ideal.log_coe, if_neg (not_le.2 ha)]

/-- The reciprocal square root of a positive real. -/
theorem rsqrt_real (a : ℝ) (ha : 0 < a) : Ideal.rsqrt (a : EReal) = (((Real.sqrt a)⁻¹ : ℝ) : EReal) := by
  rw [Ideal.rsqrt_coe, if_neg (not_lt.2 ha.le), if_neg ha.ne']

/-- The pattern of the positive infinity. -/
theorem ofBits_inf : Ideal.ofBits .f32 0x7F800000#32 = ⊤ := by simp [Ideal.ofBits, Ideal.ieee]

/-- The pattern of the negative infinity. -/
theorem ofBits_neg_inf : Ideal.ofBits .f32 0xFF800000#32 = ⊥ := by simp [Ideal.ofBits, Ideal.ieee]

/-- The pattern of one. -/
theorem ofBits_one : Ideal.ofBits .f32 0x3F800000#32 = ((1 : ℝ) : EReal) := by
  simp [Ideal.ofBits, Ideal.ieee, -EReal.coe_mul]; norm_num

/-- An extended real whose absolute value compares below infinity is a real. -/
theorem coe_toReal_of_lt (x : EReal) (h : Ideal.cmp .olt (max x (-x)) ⊤ = 1#1) : x = ((x.toReal : ℝ) : EReal) := by
  refine (EReal.coe_toReal ?_ ?_).symm
  · rintro rfl
    simp [Ideal.cmp] at h
  · rintro rfl
    simp [Ideal.cmp] at h

/-- Two bits whose conjunction is one are both one. -/
theorem andi_split {a b : BitVec 1} (h : IntOp.andi a b = 1#1) : a = 1#1 ∧ b = 1#1 := IntOp.andi_eq_one.1 h

/-- A maximum over a list that starts from a real, of reals, is a real. -/
theorem foldl_max_real {ι : Type} (f : ι → EReal) (hf : ∀ i, ∃ r : ℝ, f i = r) :
    ∀ (l : List ι) (a : EReal), (∃ r : ℝ, a = r) → ∃ r : ℝ, l.foldl (fun b n => max b (f n)) a = r
  | [], _, h => h
  | n :: l, a, ⟨r, hr⟩ => by
    obtain ⟨s, hs⟩ := hf n
    exact foldl_max_real f hf l _ ⟨max r s, by show max a (f n) = _; rw [hr, hs]; exact (EReal.coe_strictMono.monotone.map_max).symm⟩

/-- The host's maximum over some axes, from minus infinity, of an array of reals is a real wherever some element
    reduces into the index. -/
theorem reduce_max_real {s t u : Shape} {axes : List (Fin s.rank)} (x : s.Idx → EReal) (init : u.Idx → EReal)
    (h : s.ReducesTo axes t) (hu : 0 < u.numel) (hx : ∀ i, ∃ r : ℝ, x i = r) (hi : ∀ i, init i = ⊥) (i : s.Idx) :
    ∃ r : ℝ, Host.reduce (FloatOps.maximumf (F := Ideal) (φ := .f32)) x init h hu (h.drop i) = r := by
  rw [Host.reduce_eq_foldl]
  have hm : i ∈ ((List.finRange s.numel).map s.rowMajor.symm).filter (fun k => decide (h.drop k = h.drop i)) := by
    rw [List.mem_filter]
    exact ⟨List.mem_map.2 ⟨s.rowMajor i, List.mem_finRange _, Equiv.symm_apply_apply _ _⟩, by simp⟩
  generalize ((List.finRange s.numel).map s.rowMajor.symm).filter (fun k => decide (h.drop k = h.drop i)) = l at hm ⊢
  cases l with
  | nil => simp at hm
  | cons a l =>
    obtain ⟨r, hr⟩ := hx a
    refine foldl_max_real x hx l _ ⟨r, ?_⟩
    show max (init _) (x a) = _
    rw [hi, hr]
    exact max_eq_right bot_le

end Cert.Proof

end
-- ==== Proof.Attention.lean ====
/- Attention over a shared latent and its gradients, as real functions.

   A head `h` scores query `q` against key `k` by a product over the latent columns and one over the rotary columns;
   the keys' latents are also the values. The gradients are those of the weighted values paired with `dout`. -/
module

public import proofs.«01_k».proof.Proof.Reals

@[expose] public section

noncomputable section

namespace Cert.Proof

/-- What the attention takes: the queries' latent and rotary parts, the keys' latents and rotary parts, the scale of the
    scores, and the cotangent of the weighted values. -/
structure Attn (H Q K C R : Type) where
  ql : Q → H → C → ℝ
  qr : Q → H → R → ℝ
  ckv : K → C → ℝ
  kr : K → R → ℝ
  dout : Q → H → C → ℝ
  scale : ℝ

namespace Attn

variable {H Q K C R : Type} [Fintype H] [Fintype Q] [Fintype K] [Fintype C] [Fintype R] (a : Attn H Q K C R)

/-- The scaled score of query `q` against key `k` in head `h`. -/
def score (h : H) (q : Q) (k : K) : ℝ :=
  (∑ c, a.ckv k c * (a.ql q h c * a.scale)) + ∑ r, a.kr k r * (a.qr q h r * a.scale)

/-- The sum of the exponentials of a query's scores. -/
def total (h : H) (q : Q) : ℝ := ∑ k, Real.exp (a.score h q k)

/-- The weight of key `k`: the softmax of the scores. -/
def prob (h : H) (q : Q) (k : K) : ℝ := Real.exp (a.score h q k) / a.total h q

/-- The weighted values. -/
def out (q : Q) (h : H) (c : C) : ℝ := ∑ k, a.ckv k c * a.prob h q k

/-- The cotangent of the weights. -/
def dprob (h : H) (q : Q) (k : K) : ℝ := ∑ c, a.dout q h c * a.ckv k c

/-- The weights' cotangents averaged by the weights. -/
def delta (h : H) (q : Q) : ℝ := ∑ k, a.prob h q k * a.dprob h q k

/-- The cotangent of the scores. -/
def dscore (h : H) (q : Q) (k : K) : ℝ := a.prob h q k * (a.dprob h q k - a.delta h q)

/-- The gradient of the queries' latent parts. -/
def dql (q : Q) (h : H) (c : C) : ℝ := (∑ k, a.dscore h q k * a.ckv k c) * a.scale

/-- The gradient of the queries' rotary parts. -/
def dqr (q : Q) (h : H) (r : R) : ℝ := (∑ k, a.dscore h q k * a.kr k r) * a.scale

/-- The gradient of the keys' latents: as values, and as keys. -/
def dckv (k : K) (c : C) : ℝ :=
  (∑ h, ∑ q, a.dout q h c * a.prob h q k) + ∑ h, ∑ q, a.dscore h q k * (a.ql q h c * a.scale)

/-- The gradient of the keys' rotary parts. -/
def dkr (k : K) (r : R) : ℝ := ∑ h, ∑ q, a.dscore h q k * (a.qr q h r * a.scale)

variable [Nonempty K]

theorem total_pos (h : H) (q : Q) : 0 < a.total h q :=
  Finset.sum_pos (fun _ _ => Real.exp_pos _) Finset.univ_nonempty

/-- The exponentials of scores lowered by `M`. -/
theorem exp_lowered (M : ℝ) (h : H) (q : Q) (k : K) :
    Real.exp (a.score h q k - M) = Real.exp (a.score h q k) * Real.exp (-M) := by
  rw [sub_eq_add_neg, Real.exp_add]

/-- Their sum. -/
theorem total_lowered (M : ℝ) (h : H) (q : Q) :
    ∑ k, Real.exp (a.score h q k - M) = a.total h q * Real.exp (-M) := by
  simp only [exp_lowered, ← Finset.sum_mul, total]

theorem total_lowered_pos (M : ℝ) (h : H) (q : Q) : 0 < ∑ k, Real.exp (a.score h q k - M) :=
  Finset.sum_pos (fun _ _ => Real.exp_pos _) Finset.univ_nonempty

/-- The weights do not depend on what the scores are lowered by. -/
theorem prob_lowered (M : ℝ) (h : H) (q : Q) (k : K) :
    Real.exp (a.score h q k - M) / (∑ j, Real.exp (a.score h q j - M)) = a.prob h q k := by
  rw [total_lowered, exp_lowered, prob, mul_div_mul_right _ _ (Real.exp_pos _).ne']

/-- The weights from the logarithm of the sum. -/
theorem prob_log (M : ℝ) (h : H) (q : Q) (k : K) :
    Real.exp (a.score h q k - (M + Real.log (∑ j, Real.exp (a.score h q j - M)))) = a.prob h q k := by
  rw [← prob_lowered a M, ← sub_sub, Real.exp_sub _ (Real.log _), Real.exp_log (total_lowered_pos a M h q)]

/-- The average of the weights' cotangents, from the weighted values. -/
theorem delta_eq (h : H) (q : Q) : ∑ c, a.dout q h c * a.out q h c = a.delta h q := by
  simp only [out, delta, dprob, Finset.mul_sum]
  rw [Finset.sum_comm]
  exact Finset.sum_congr rfl fun k _ => Finset.sum_congr rfl fun c _ => by ring

/-- The cotangent of the scores as the derivative of a quotient of exponentials by their sum. -/
theorem dscore_eq (M : ℝ) (h : H) (q : Q) (k : K) :
    (a.dprob h q k / (∑ j, Real.exp (a.score h q j - M))
        + -(∑ j, a.dprob h q j * (1 / ((∑ i, Real.exp (a.score h q i - M)) * (∑ i, Real.exp (a.score h q i - M))))
            * Real.exp (a.score h q j - M))) * Real.exp (a.score h q k - M) = a.dscore h q k := by
  have hz := (total_lowered_pos a M h q).ne'
  have hd : ∑ j, a.dprob h q j * (1 / ((∑ i, Real.exp (a.score h q i - M)) * (∑ i, Real.exp (a.score h q i - M))))
      * Real.exp (a.score h q j - M) = a.delta h q / (∑ i, Real.exp (a.score h q i - M)) := by
    rw [delta, Finset.sum_div]
    refine Finset.sum_congr rfl fun j _ => ?_
    rw [← prob_lowered a M]
    field_simp
  rw [hd, dscore, ← prob_lowered a M]
  field_simp
  ring

end Attn

end Cert.Proof

end
-- ==== Proof.Inputs.lean ====
/- Arrays of finite extended reals and the attention's inputs read from them. -/
module

public import proofs.«01_k».proof.Proof.Attention
public import Idealize.ShloMosaic.Lib.ValueIdx

@[expose] public section

noncomputable section

namespace Cert.Proof

open Idealize.ShloMosaic Idealize.ShloMosaic.ValueIdx

/-- Every element is a real. -/
def AllReal {ι : Type} (x : ι → EReal) : Prop := ∀ i, x i = ((x i).toReal : EReal)

theorem AllReal.at2 {n0 n1 : Nat} {x : (⟨2, ![n0, n1]⟩ : Shape).Idx → EReal} (h : AllReal x) (j : (⟨2, ![n0, n1]⟩ : Shape).Idx) :
    x j = ((x (ix2 (j 0) (j 1))).toReal : EReal) := (h j).trans (congrArg (fun k => ((x k).toReal : EReal)) (eq_ix2 j))

theorem AllReal.at3 {n0 n1 n2 : Nat} {x : (⟨3, ![n0, n1, n2]⟩ : Shape).Idx → EReal} (h : AllReal x)
    (j : (⟨3, ![n0, n1, n2]⟩ : Shape).Idx) : x j = ((x (ix3 (j 0) (j 1) (j 2))).toReal : EReal) :=
  (h j).trans (congrArg (fun k => ((x k).toReal : EReal)) (eq_ix3 j))

/-- A sum of products of reals. -/
theorem sum_mul_real {ι : Type} [Fintype ι] {f g : ι → EReal} {f' g' : ι → ℝ} (hf : ∀ k, f k = f' k) (hg : ∀ k, g k = g' k) :
    ∑ k, f k * g k = ((∑ k, f' k * g' k : ℝ) : EReal) := by
  rw [coe_sum]
  exact Finset.sum_congr rfl fun k _ => by rw [hf, hg, EReal.coe_mul]

/-- A sum of reals. -/
theorem sum_real {ι : Type} [Fintype ι] {f : ι → EReal} {f' : ι → ℝ} (hf : ∀ k, f k = f' k) :
    ∑ k, f k = ((∑ k, f' k : ℝ) : EReal) := by
  rw [coe_sum]
  exact Finset.sum_congr rfl fun k _ => hf k

/-- The scale of the scores, one over the square root of 96 rounded to single precision. -/
def attnScale : ℝ := (Ideal.ofBits .f32 0x3DD105EC#32).toReal

theorem attnScale_eq : Ideal.ofBits .f32 0x3DD105EC#32 = (attnScale : EReal) := by
  have h : Ideal.ofBits .f32 0x3DD105EC#32 = ((13698540 * (2 ^ 27)⁻¹ : ℝ) : EReal) := by
    simp [Ideal.ofBits, Ideal.ieee, -EReal.coe_mul]
  unfold attnScale
  rw [h, EReal.toReal_coe]

/-- The attention's inputs from the five arrays. -/
def attnOf (x0 : (⟨3, ![4096, 16, 128]⟩ : Shape).Idx → EReal) (x1 : (⟨3, ![4096, 16, 32]⟩ : Shape).Idx → EReal)
    (x2 : (⟨2, ![4096, 128]⟩ : Shape).Idx → EReal) (x3 : (⟨2, ![4096, 32]⟩ : Shape).Idx → EReal)
    (x4 : (⟨3, ![4096, 16, 128]⟩ : Shape).Idx → EReal) : Attn (Fin 16) (Fin 4096) (Fin 4096) (Fin 128) (Fin 32) where
  ql q h c := (x0 (ix3 q h c)).toReal
  qr q h r := (x1 (ix3 q h r)).toReal
  ckv k c := (x2 (ix2 k c)).toReal
  kr k r := (x3 (ix2 k r)).toReal
  dout q h c := (x4 (ix3 q h c)).toReal
  scale := attnScale

end Cert.Proof

end
-- ==== Proof.Block.lean ====
/- One point of the backward attention's grid: what its chunks compute, at an index, and what the point leaves in the three output
blocks, from the blocks it reads. -/
module

public import proofs.«01_k».proof.Proof.Inputs
public import proofs.«01_k».proof.Proof.Gen.KernelIdeal.Frame
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

section Chunk

variable (b0 : S1x2048x256.Idx → EReal) (b1 : S4096x256.Idx → EReal) (b2 : S256x4096.Idx → EReal) (b3 : S2048x128.Idx → EReal)
  (b4 b5 : S1x1x2048.Idx → EReal)

/-- The weight of the key `k` for the block's query `q`: the exponential of the score less the saved log-sum. -/
def weight (k : Fin 4096) (q : Fin 2048) : EReal :=
  Ideal.exp (∑ j : Fin 256, b1 (ix2 k j) * b0 (ix3 0 q j) - b4 (ix3 0 0 q))

/-- The derivative of the loss by the score of `q` and `k`: the weight times (value·cotangent less the saved product). -/
def slope (k : Fin 4096) (q : Fin 2048) : EReal :=
  weight b0 b1 b4 k q * (∑ c : Fin 128, b1 (ix2 k (c.castLE (by decide))) * b3 (ix2 q c) - b5 (ix3 0 0 q))

variable {b0 b1 b2 b3 b4 b5}

theorem pay13_at {o : Nat} (h) (i : S1024x2048.Idx) (k : Fin 4096) (hk : k.val = o + (i 0).val) :
    k0_pay13 (F := Ideal) (k0_pay3 b0) (k0_pay5 b4) (View.ld b1 (Rect.unit (s := S4096x256) ![o, 0] ![1024, 256] h)) i =
      weight b0 b1 b4 k (i 1) := by
  unfold k0_pay13 k0_pay3 k0_pay5
  pointwise
  unfold weight
  congr 2
  refine Finset.sum_congr rfl fun j _ => ?_
  congr 1
  exact congrArg (fun k => b1 (ix2 k j)) (Fin.ext hk.symm)

theorem pay14_at {o : Nat} (h h') (i : S1024x2048.Idx) (k : Fin 4096) (hk : k.val = o + (i 0).val) :
    k0_pay14 (F := Ideal) (k0_pay3 b0) (k0_pay4 b3) (k0_pay5 b4) (k0_pay6 b5)
        (View.ld b1 (Rect.unit (s := S4096x256) ![o, 0] ![1024, 256] h))
        (View.ld b1 (Rect.unit (s := S4096x256) ![o, 0] ![1024, 128] h')) i =
      slope b0 b1 b3 b4 b5 k (i 1) := by
  unfold k0_pay14 k0_pay4 k0_pay6
  pointwise
  rw [pay13_at h _ k hk]
  unfold slope
  congr 2
  refine Finset.sum_congr rfl fun c _ => ?_
  congr 1
  exact congrArg (fun k => b1 (ix2 k (c.castLE (by decide)))) (Fin.ext hk.symm)

theorem pay15_at {o : Nat} (h) (g : Vec Ideal S1024x128 .f32) (i : S1024x128.Idx) (k : Fin 4096) (hk : k.val = o + (i 0).val) :
    k0_pay15 (F := Ideal) (k0_pay3 b0) (k0_pay4 b3) (k0_pay5 b4)
        (View.ld b1 (Rect.unit (s := S4096x256) ![o, 0] ![1024, 256] h)) g i =
      g i + ∑ q : Fin 2048, weight b0 b1 b4 k q * b3 (ix2 q (i 1)) := by
  unfold k0_pay15 k0_pay4
  pointwise
  congr 1
  refine Finset.sum_congr rfl fun q _ => ?_
  rw [pay13_at h _ k hk]
  rfl

theorem pay16_at {o : Nat} (h h') (g : Vec Ideal S1024x256 .f32) (i : S1024x256.Idx) (k : Fin 4096) (hk : k.val = o + (i 0).val) :
    k0_pay16 (F := Ideal) (k0_pay3 b0) (k0_pay4 b3) (k0_pay5 b4) (k0_pay6 b5)
        (View.ld b1 (Rect.unit (s := S4096x256) ![o, 0] ![1024, 256] h))
        (View.ld b1 (Rect.unit (s := S4096x256) ![o, 0] ![1024, 128] h')) g i =
      g i + ∑ q : Fin 2048, slope b0 b1 b3 b4 b5 k q * b0 (ix3 0 q (i 1)) := by
  unfold k0_pay16
  pointwise
  congr 1
  refine Finset.sum_congr rfl fun q _ => ?_
  rw [pay14_at h h' _ k hk]
  unfold k0_pay3
  pointwise

/-- One chunk added to the queries' gradient, transposed. -/
theorem pay12_at {o : Nat} (h h' h'') (g : FVec Ideal S256x2048 .f32) (i : S256x2048.Idx) (ho : o + 1024 ≤ 4096) :
    k0_pay12 (F := Ideal) g (k0_pay14 (F := Ideal) (k0_pay3 b0) (k0_pay4 b3) (k0_pay5 b4) (k0_pay6 b5)
        (View.ld b1 (Rect.unit (s := S4096x256) ![o, 0] ![1024, 256] h))
        (View.ld b1 (Rect.unit (s := S4096x256) ![o, 0] ![1024, 128] h')))
        (View.ld b2 (Rect.unit (s := S256x4096) ![0, o] ![256, 1024] h'')) i =
      g i + ∑ x : Fin 1024, b2 (ix2 (i 0) ⟨o + x, by omega⟩) * slope b0 b1 b3 b4 b5 ⟨o + x, by omega⟩ (i 1) := by
  unfold k0_pay12
  pointwise
  congr 1
  refine Finset.sum_congr rfl fun x _ => ?_
  rw [pay14_at h h' _ ⟨o + x, by omega⟩ rfl]
  rfl

/-- The last chunk of the queries' gradient, transposed back and scaled. -/
theorem pay26_at (v6 v8 v10 v12 v97 v98 v104 v122) (y : S1x2048x256.Idx) :
    k0_pay26 (F := Ideal) v6 v8 v10 v12 v97 v98 v104 v122 y =
      k0_pay12 (F := Ideal) v97 (k0_pay14 (F := Ideal) v6 v8 v10 v12 v98 v104) v122 (ix2 (y 2) (y 1)) *
        Ideal.ofBits .f32 0x3DD105EC#32 := by
  unfold k0_pay26 k0_pay12
  pointwise
  rfl

end Chunk

/-! ## The whole point -/

/-- Four stores of 1024 rows each, over whatever was stored before, leave the array they are the blocks of. -/
theorem canon_rows {w : Nat} (G : (⟨2, ![4096, w]⟩ : Shape).Idx → EReal)
    (L' : List (View.Piece (Elt Ideal) (⟨2, ![4096, w]⟩ : Shape) .f32)) (h0 h1 h2 h3)
    (w0 w1 w2 w3 : Vec Ideal (⟨2, ![1024, w]⟩ : Shape) .f32)
    (e0 : ∀ (x : (⟨2, ![1024, w]⟩ : Shape).Idx) (k : Fin 4096), k.val = 0 + (x 0).val → w0 x = G (ix2 k (x 1)))
    (e1 : ∀ (x : (⟨2, ![1024, w]⟩ : Shape).Idx) (k : Fin 4096), k.val = 1024 + (x 0).val → w1 x = G (ix2 k (x 1)))
    (e2 : ∀ (x : (⟨2, ![1024, w]⟩ : Shape).Idx) (k : Fin 4096), k.val = 2048 + (x 0).val → w2 x = G (ix2 k (x 1)))
    (e3 : ∀ (x : (⟨2, ![1024, w]⟩ : Shape).Idx) (k : Fin 4096), k.val = 3072 + (x 0).val → w3 x = G (ix2 k (x 1))) (y) :
    View.canon ([⟨Rect.unit (s := (⟨2, ![4096, w]⟩ : Shape)) ![3072, 0] ![1024, w] h3, w3⟩,
      ⟨Rect.unit (s := (⟨2, ![4096, w]⟩ : Shape)) ![2048, 0] ![1024, w] h2, w2⟩,
      ⟨Rect.unit (s := (⟨2, ![4096, w]⟩ : Shape)) ![1024, 0] ![1024, w] h1, w1⟩,
      ⟨Rect.unit (s := (⟨2, ![4096, w]⟩ : Shape)) ![0, 0] ![1024, w] h0, w0⟩] ++ L') y = G y := by
  have step : ∀ {o : Nat} (h : ∀ a, (![o, 0] : Fin 2 → Nat) a + (![1024, w] : Fin 2 → Nat) a ≤ (![4096, w] : Fin 2 → Nat) a)
      (v : Vec Ideal (⟨2, ![1024, w]⟩ : Shape) .f32)
      (e : ∀ (x : (⟨2, ![1024, w]⟩ : Shape).Idx) (k : Fin 4096), k.val = o + (x 0).val → v x = G (ix2 k (x 1)))
      (x : (⟨2, ![1024, w]⟩ : Shape).Idx), v x = G ((Rect.unit (s := (⟨2, ![4096, w]⟩ : Shape)) ![o, 0] ![1024, w] h).emb x) := by
    intro o h v e x
    have hx : (x 0).val < 1024 := (x 0).isLt
    have ho : o + 1024 ≤ 4096 := h 0
    rw [e x ⟨o + (x 0).val, by omega⟩ rfl]
    congr 1
    funext a
    match a with
    | 0 => exact Fin.ext (show o + (x 0).val = o + 1 * (x 0).val by omega)
    | 1 => exact Fin.ext (show (x 1).val = 0 + 1 * (x 1).val by omega)
  refine View.canon_append_of_piecesOf (Val := Elt Ideal) (e := .f32) G L' (_ :: _ :: _ :: _ :: []) ⟨step h3 _ e3, step h2 _ e2, step h1 _ e1, step h0 _ e0, trivial⟩ y ?_
  have hin : ∀ {o : Nat} (h : ∀ a, (![o, 0] : Fin 2 → Nat) a + (![1024, w] : Fin 2 → Nat) a ≤ (![4096, w] : Fin 2 → Nat) a),
      o ≤ (y 0).val → (y 0).val < o + 1024 →
      y ∈ (Rect.unit (s := (⟨2, ![4096, w]⟩ : Shape)) ![o, 0] ![1024, w] h).set := by
    intro o h hl hu
    rw [Rect.mem_set_unit]
    intro a
    match a with
    | 0 => exact ⟨hl, hu⟩
    | 1 => exact ⟨Nat.zero_le _, (y 1).isLt.trans_eq (Nat.zero_add _).symm⟩
  have hy : (y 0).val < 4096 := (y 0).isLt
  by_cases c3 : 3072 ≤ (y 0).val
  · exact ⟨_, .head _, hin h3 c3 (by omega)⟩
  by_cases c2 : 2048 ≤ (y 0).val
  · exact ⟨_, .tail _ (.head _), hin h2 c2 (by omega)⟩
  by_cases c1 : 1024 ≤ (y 0).val
  · exact ⟨_, .tail _ (.tail _ (.head _)), hin h1 c1 (by omega)⟩
  · exact ⟨_, .tail _ (.tail _ (.tail _ (.head _))), hin h0 (by omega) (by omega)⟩

/-- A sum over 4096 keys, chunk by chunk. -/
theorem sum_chunks (f : Fin 4096 → EReal) :
    ∑ k, f k = (((0 + ∑ x : Fin 1024, f ⟨0 + x, by omega⟩) + ∑ x : Fin 1024, f ⟨1024 + x, by omega⟩) +
      ∑ x : Fin 1024, f ⟨2048 + x, by omega⟩) + ∑ x : Fin 1024, f ⟨3072 + x, by omega⟩ := by
  rw [zero_add, ← (finProdFinEquiv (m := 4) (n := 1024)).sum_comp f, Fintype.sum_prod_type, Fin.sum_univ_four]
  have e : ∀ (a : Fin 4) (x : Fin 1024) (h), f (finProdFinEquiv (a, x)) = f ⟨1024 * a.val + x, h⟩ := fun a x h =>
    congrArg f (Fin.ext (Nat.add_comm _ _))
  simp only [fun (a : Fin 4) (x : Fin 1024) => e a x (by omega)]
  rfl

section Queries

variable (b0 : S1x2048x256.Idx → EReal) (b1 : S4096x256.Idx → EReal) (b2 : S256x4096.Idx → EReal) (b3 : S2048x128.Idx → EReal)
  (b4 b5 : S1x1x2048.Idx → EReal)

/-- The queries' gradient of one block: the keys' columns against the derivatives by the scores, scaled. -/
def dqOf (y : S1x2048x256.Idx) : EReal :=
  (∑ k : Fin 4096, b2 (ix2 (y 2) k) * slope b0 b1 b3 b4 b5 k (y 1)) * Ideal.ofBits .f32 0x3DD105EC#32

variable {b0 b1 b2 b3 b4 b5}

/-- The queries' gradient of a point's chunks. -/
theorem dq_chunks (h0 h0' h0'' h1 h1' h1'' h2 h2' h2'' h3 h3' h3'') (y : S1x2048x256.Idx) :
    k0_pay26 (F := Ideal) (k0_pay3 b0) (k0_pay4 b3) (k0_pay5 b4) (k0_pay6 b5)
      (k0_pay21 (k0_pay3 b0) (k0_pay4 b3) (k0_pay5 b4) (k0_pay6 b5)
        (k0_pay12 k0_pay7 (k0_pay9 b0 b3 b4 b5
          (View.ld b1 (Rect.unit (s := S4096x256) ![0, 0] ![1024, 256] h0))
          (View.ld b1 (Rect.unit (s := S4096x256) ![0, 0] ![1024, 128] h0')))
          (View.ld b2 (Rect.unit (s := S256x4096) ![0, 0] ![256, 1024] h0'')))
        (k0_pay14 (k0_pay3 b0) (k0_pay4 b3) (k0_pay5 b4) (k0_pay6 b5)
          (View.ld b1 (Rect.unit (s := S4096x256) ![1024, 0] ![1024, 256] h1))
          (View.ld b1 (Rect.unit (s := S4096x256) ![1024, 0] ![1024, 128] h1')))
        (View.ld b2 (Rect.unit (s := S256x4096) ![0, 1024] ![256, 1024] h1''))
        (View.ld b1 (Rect.unit (s := S4096x256) ![2048, 0] ![1024, 256] h2))
        (View.ld b1 (Rect.unit (s := S4096x256) ![2048, 0] ![1024, 128] h2'))
        (View.ld b2 (Rect.unit (s := S256x4096) ![0, 2048] ![256, 1024] h2'')))
      (View.ld b1 (Rect.unit (s := S4096x256) ![3072, 0] ![1024, 256] h3))
      (View.ld b1 (Rect.unit (s := S4096x256) ![3072, 0] ![1024, 128] h3'))
      (View.ld b2 (Rect.unit (s := S256x4096) ![0, 3072] ![256, 1024] h3'')) y = dqOf b0 b1 b2 b3 b4 b5 y := by
  have e9 : ∀ v14 v20, k0_pay9 (F := Ideal) b0 b3 b4 b5 v14 v20 =
      k0_pay14 (k0_pay3 b0) (k0_pay4 b3) (k0_pay5 b4) (k0_pay6 b5) v14 v20 := fun _ _ => rfl
  have e21 : ∀ v6 v8 v10 v12 v41 v54 v66 v70 v76 v94, k0_pay21 (F := Ideal) v6 v8 v10 v12 v41 v54 v66 v70 v76 v94 =
      k0_pay12 (k0_pay12 v41 v54 v66) (k0_pay14 v6 v8 v10 v12 v70 v76) v94 := fun _ _ _ _ _ _ _ _ _ _ => rfl
  rw [e9, e21]
  refine (pay26_at _ _ _ _ _ _ _ _ y).trans (congrArg (· * _) ?_)
  refine Eq.trans ?_ (sum_chunks _).symm
  refine (pay12_at h3 h3' h3'' _ _ (by decide)).trans (congrArg (· + _) ?_)
  refine (pay12_at h2 h2' h2'' _ _ (by decide)).trans (congrArg (· + _) ?_)
  refine (pay12_at h1 h1' h1'' _ _ (by decide)).trans (congrArg (· + _) ?_)
  refine (pay12_at h0 h0' h0'' _ _ (by decide)).trans (congrArg (· + _) ?_)
  unfold k0_pay7
  pointwise

end Queries

section Point

variable (m : (ℓ : Loc nD τ sig) → Buf (Elt Ideal) ℓ) (c : Dev nD) (t : Fin cfg0.N)

/-- The weight of a key for a query of the point's block. -/
def wt (k : Fin 4096) (q : Fin 2048) : EReal := weight (iblk m c 0 t) (iblk m c 1 t) (iblk m c 4 t) k q

/-- The derivative by a score of the point's block. -/
def sl (k : Fin 4096) (q : Fin 2048) : EReal :=
  slope (iblk m c 0 t) (iblk m c 1 t) (iblk m c 3 t) (iblk m c 4 t) (iblk m c 5 t) k q

/-- What the point adds to the keys' gradient. -/
def dkStep (y : S4096x256.Idx) : EReal := ∑ q : Fin 2048, sl m c t (y 0) q * (iblk m c 0 t : S1x2048x256.Idx → EReal) (ix3 0 q (y 1))

/-- What the point adds to the values' gradient. -/
def dvStep (y : S4096x128.Idx) : EReal := ∑ q : Fin 2048, wt m c t (y 0) q * (iblk m c 3 t : S2048x128.Idx → EReal) (ix2 q (y 1))

/-- What the point leaves in the queries' gradient. -/
def dqBlock (y : S1x2048x256.Idx) : EReal :=
  dqOf (iblk m c 0 t) (iblk m c 1 t) (iblk m c 2 t) (iblk m c 3 t) (iblk m c 4 t) (iblk m c 5 t) y

variable {m c t}

theorem dv_chunk {o : Nat} (h h') (g : S4096x128.Idx → EReal) (x : S1024x128.Idx) (k : Fin 4096) (hk : k.val = o + (x 0).val) :
    k0_pay15 (F := Ideal) (k0_pay3 (iblk m c 0 t)) (k0_pay4 (iblk m c 3 t)) (k0_pay5 (iblk m c 4 t))
        (View.ld (iblk m c 1 t) (Rect.unit (s := S4096x256) ![o, 0] ![1024, 256] h))
        (View.ld (Val := Elt Ideal) (e' := .f32) g (Rect.unit (s := S4096x128) ![o, 0] ![1024, 128] h')) x =
      (fun y => g y + dvStep m c t y) (ix2 k (x 1)) :=
  (pay15_at h _ x k hk).trans (congrArg (· + _) (View.ld_unit_apply_of (Val := Elt Ideal) (e := .f32) g _ _ h' x (ix2 k (x 1))
    fun | 0 => hk | 1 => (Nat.zero_add _).symm))

theorem dk_chunk {o : Nat} (h h' h'') (g : S4096x256.Idx → EReal) (x : S1024x256.Idx) (k : Fin 4096) (hk : k.val = o + (x 0).val) :
    k0_pay16 (F := Ideal) (k0_pay3 (iblk m c 0 t)) (k0_pay4 (iblk m c 3 t)) (k0_pay5 (iblk m c 4 t)) (k0_pay6 (iblk m c 5 t))
        (View.ld (iblk m c 1 t) (Rect.unit (s := S4096x256) ![o, 0] ![1024, 256] h))
        (View.ld (iblk m c 1 t) (Rect.unit (s := S4096x256) ![o, 0] ![1024, 128] h'))
        (View.ld (Val := Elt Ideal) (e' := .f32) g (Rect.unit (s := S4096x256) ![o, 0] ![1024, 256] h'')) x =
      (fun y => g y + dkStep m c t y) (ix2 k (x 1)) :=
  (pay16_at h h' _ x k hk).trans (congrArg (· + _) (View.ld_unit_apply_of (Val := Elt Ideal) (e := .f32) g _ _ h'' x (ix2 k (x 1))
    fun | 0 => hk | 1 => (Nat.zero_add _).symm))

/-- The values' gradient after a first point. -/
theorem outs_dv_first (h : t.val % 32 = 0) (y : S4096x128.Idx) :
    (outsAt0 (F := Ideal) m c t.val t.isLt).2.2 y = 0 + dvStep m c t y := by
  rw [outsAt0_A m c t h]
  frame_open
  simp (disch := decide) only [↓ View.readCov_skip, ↓ View.readCov_cons_toLoadRect, ↓ View.readCov_fill]
  frame_out
  refine (canon_rows (fun y => k0_pay2 (F := Ideal) y + dvStep m c t y) [_] _ _ _ _ _ _ _ _
    (dv_chunk _ _ _) (dv_chunk _ _ _) (dv_chunk _ _ _) (dv_chunk _ _ _) y).trans (congrArg (· + _) ?_)
  unfold k0_pay2
  pointwise

/-- The values' gradient after a later point. -/
theorem outs_dv_next (h : ¬t.val % 32 = 0) (y : S4096x128.Idx) :
    (outsAt0 (F := Ideal) m c t.val t.isLt).2.2 y =
      (outsAt0 (F := Ideal) m c (t.val - 1) (by omega)).2.2 y + dvStep m c t y := by
  rw [outsAt0_B m c t h]
  frame_open
  simp (disch := decide) only [↓ View.readCov_skip, ↓ View.readCov_cons_toLoadRect, ↓ View.readCov_fill]
  frame_out
  exact canon_rows (fun y => (outsAt0 (F := Ideal) m c (t.val - 1) (by omega)).2.2 y + dvStep m c t y) [] _ _ _ _ _ _ _ _
    (dv_chunk _ _ _) (dv_chunk _ _ _) (dv_chunk _ _ _) (dv_chunk _ _ _) y

/-- The keys' gradient after a first point. -/
theorem outs_dk_first (h : t.val % 32 = 0) (y : S4096x256.Idx) :
    (outsAt0 (F := Ideal) m c t.val t.isLt).2.1 y = 0 + dkStep m c t y := by
  rw [outsAt0_A m c t h]
  frame_open
  simp (disch := decide) only [↓ View.readCov_skip, ↓ View.readCov_cons_toLoadRect, ↓ View.readCov_fill]
  frame_out
  refine (canon_rows (fun y => k0_pay1 (F := Ideal) y + dkStep m c t y) [_] _ _ _ _ _ _ _ _
    (dk_chunk _ _ _ _) (dk_chunk _ _ _ _) (dk_chunk _ _ _ _) (dk_chunk _ _ _ _) y).trans (congrArg (· + _) ?_)
  unfold k0_pay1
  pointwise

/-- The keys' gradient after a later point. -/
theorem outs_dk_next (h : ¬t.val % 32 = 0) (y : S4096x256.Idx) :
    (outsAt0 (F := Ideal) m c t.val t.isLt).2.1 y =
      (outsAt0 (F := Ideal) m c (t.val - 1) (by omega)).2.1 y + dkStep m c t y := by
  rw [outsAt0_B m c t h]
  frame_open
  simp (disch := decide) only [↓ View.readCov_skip, ↓ View.readCov_cons_toLoadRect, ↓ View.readCov_fill]
  frame_out
  exact canon_rows (fun y => (outsAt0 (F := Ideal) m c (t.val - 1) (by omega)).2.1 y + dkStep m c t y) [] _ _ _ _ _ _ _ _
    (dk_chunk _ _ _ _) (dk_chunk _ _ _ _) (dk_chunk _ _ _ _) (dk_chunk _ _ _ _) y

theorem outs_dq_first (h : t.val % 32 = 0) (y : S1x2048x256.Idx) :
    (outsAt0 (F := Ideal) m c t.val t.isLt).1 y = dqBlock m c t y := by
  rw [outsAt0_A m c t h]
  frame_open
  simp (disch := decide) only [↓ View.readCov_skip, ↓ View.readCov_cons_toLoadRect, ↓ View.readCov_fill]
  frame_out
  exact dq_chunks _ _ _ _ _ _ _ _ _ _ _ _ y

theorem outs_dq_next (h : ¬t.val % 32 = 0) (y : S1x2048x256.Idx) :
    (outsAt0 (F := Ideal) m c t.val t.isLt).1 y = dqBlock m c t y := by
  rw [outsAt0_B m c t h]
  frame_open
  simp (disch := decide) only [↓ View.readCov_skip, ↓ View.readCov_cons_toLoadRect, ↓ View.readCov_fill]
  frame_out
  exact dq_chunks _ _ _ _ _ _ _ _ _ _ _ _ y

/-- The queries' gradient after a point. -/
theorem outs_dq (y : S1x2048x256.Idx) : (outsAt0 (F := Ideal) m c t.val t.isLt).1 y = dqBlock m c t y := by
  by_cases h : t.val % 32 = 0
  · exact outs_dq_first h y
  · exact outs_dq_next h y

end Point

end Cert.KernelIdeal.Hand

end
-- ==== Proof.Arrays.lean ====
/- The three arrays that the backward attention's grid leaves, from the arrays it reads. -/
module

public import proofs.«01_k».proof.Proof.Block

@[expose] public section

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (c : Dev nD)

/-- The head of a grid point. -/
def headOf (t : Fin cfg0.N) : Fin 16 := ⟨t.val / 2, by have := t.isLt; have : cfg0.N = 32 := N_0; omega⟩

/-- The row of the array that is row `q` of a grid point's block. -/
def rowOf (t : Fin cfg0.N) (q : Fin 2048) : Fin 4096 := ⟨t.val % 2 * 2048 + q.val, by omega⟩

theorem index_0 : ∀ t : Fin cfg0.N, (cfg0.win 0).index t = ![t.val / 2, t.val % 2, 0] := by decide +kernel
theorem index_1 : ∀ t : Fin cfg0.N, (cfg0.win 1).index t = ![0, 0] := by decide +kernel
theorem index_2 : ∀ t : Fin cfg0.N, (cfg0.win 2).index t = ![0, 0] := by decide +kernel
theorem index_3 : ∀ t : Fin cfg0.N, (cfg0.win 3).index t = ![t.val % 2, t.val / 2] := by decide +kernel
theorem index_4 : ∀ t : Fin cfg0.N, (cfg0.win 4).index t = ![t.val / 2, 0, t.val % 2] := by decide +kernel
theorem index_5 : ∀ t : Fin cfg0.N, (cfg0.win 5).index t = ![t.val / 2, 0, t.val % 2] := by decide +kernel
theorem index_6 : ∀ t : Fin cfg0.N, (cfg0.win 6).index t = ![t.val / 2, t.val % 2, 0] := by decide +kernel

variable {m c}

theorem emb_0 (A : S16x4096x256.Idx → EReal) (t : Fin cfg0.N) (q : Fin 2048) (j : Fin 256) :
    ((cfg0.win 0).blk t).view.read (Elt Ideal) A (ix3 0 q j) = A (ix3 (headOf t) (rowOf t q) j) := by
  refine congrArg A (funext fun a => Fin.ext ?_)
  match a with
  | 0 => blk_simp [index_0 t]; exact Nat.add_zero _
  | 1 => blk_simp [index_0 t]; rfl
  | 2 => blk_simp [index_0 t]

theorem emb_1 (A : S4096x256.Idx → EReal) (t : Fin cfg0.N) (k : Fin 4096) (j : Fin 256) :
    ((cfg0.win 1).blk t).view.read (Elt Ideal) A (ix2 k j) = A (ix2 k j) := by
  refine congrArg A (funext fun a => Fin.ext ?_)
  match a with
  | 0 => blk_simp [index_1 t]
  | 1 => blk_simp [index_1 t]

theorem emb_2 (A : S256x4096.Idx → EReal) (t : Fin cfg0.N) (j : Fin 256) (k : Fin 4096) :
    ((cfg0.win 2).blk t).view.read (Elt Ideal) A (ix2 j k) = A (ix2 j k) := by
  refine congrArg A (funext fun a => Fin.ext ?_)
  match a with
  | 0 => blk_simp [index_2 t]
  | 1 => blk_simp [index_2 t]

theorem emb_3 (A : S4096x2048.Idx → EReal) (t : Fin cfg0.N) (q : Fin 2048) (e : Fin 128) (k : Fin 2048) (hk : k.val = t.val / 2 * 128 + e.val) :
    ((cfg0.win 3).blk t).view.read (Elt Ideal) A (ix2 q e) = A (ix2 (rowOf t q) k) := by
  refine congrArg A (funext fun a => Fin.ext ?_)
  match a with
  | 0 => blk_simp [index_3 t]; rfl
  | 1 => blk_simp [index_3 t]; exact hk.symm

theorem emb_4 (A : S16x1x4096.Idx → EReal) (t : Fin cfg0.N) (q : Fin 2048) :
    ((cfg0.win 4).blk t).view.read (Elt Ideal) A (ix3 0 0 q) = A (ix3 (headOf t) 0 (rowOf t q)) := by
  refine congrArg A (funext fun a => Fin.ext ?_)
  match a with
  | 0 => blk_simp [index_4 t]; exact Nat.add_zero _
  | 1 => blk_simp [index_4 t]
  | 2 => blk_simp [index_4 t]; rfl

theorem emb_5 (A : S16x1x4096.Idx → EReal) (t : Fin cfg0.N) (q : Fin 2048) :
    ((cfg0.win 5).blk t).view.read (Elt Ideal) A (ix3 0 0 q) = A (ix3 (headOf t) 0 (rowOf t q)) := by
  refine congrArg A (funext fun a => Fin.ext ?_)
  match a with
  | 0 => blk_simp [index_5 t]; exact Nat.add_zero _
  | 1 => blk_simp [index_5 t]
  | 2 => blk_simp [index_5 t]; rfl

/-! ## The arrays the region reads -/

variable (m c)

/-- The packed queries. -/
def qcat : S16x4096x256.Idx → EReal := V m c main_v42
/-- The packed keys. -/
def kcat : S4096x256.Idx → EReal := V m c main_v47
/-- The packed keys, transposed. -/
def kcatT : S256x4096.Idx → EReal := V m c main_v48
/-- The cotangent, a row a query, the heads side by side. -/
def dout2 : S4096x2048.Idx → EReal := V m c main_v50
/-- The saved log-sums. -/
def lse3 : S16x1x4096.Idx → EReal := V m c main_v51
/-- The saved products of the cotangent and the output. -/
def delta3 : S16x1x4096.Idx → EReal := V m c main_v52

/-- The weight of a key for a query of a head. -/
def arrWeight (h : Fin 16) (q k : Fin 4096) : EReal :=
  Ideal.exp (∑ j : Fin 256, kcat m c (ix2 k j) * qcat m c (ix3 h q j) - lse3 m c (ix3 h 0 q))

/-- The column of the flat cotangent. -/
def colOf (h : Fin 16) (e : Fin 128) : Fin 2048 := ⟨h.val * 128 + e.val, by omega⟩

/-- The derivative by the score of a query and a key. -/
def arrSlope (h : Fin 16) (q k : Fin 4096) : EReal :=
  arrWeight m c h q k *
    (∑ e : Fin 128, kcat m c (ix2 k (e.castLE (by decide))) * dout2 m c (ix2 q (colOf h e)) - delta3 m c (ix3 h 0 q))

variable {m c}

theorem wt_eq (t : Fin cfg0.N) (k : Fin 4096) (q : Fin 2048) :
    wt m c t k q = arrWeight m c (headOf t) (rowOf t q) k := by
  refine congrArg Ideal.exp (congrArg₂ (· - ·) (Finset.sum_congr rfl fun j _ => congrArg₂ (· * ·) ?_ ?_) ?_)
  · exact emb_1 (V m c main_v47) t k j
  · exact emb_0 (V m c main_v42) t q j
  · exact emb_4 (V m c main_v51) t q

theorem sl_eq (t : Fin cfg0.N) (k : Fin 4096) (q : Fin 2048) :
    sl m c t k q = arrSlope m c (headOf t) (rowOf t q) k := by
  refine congrArg₂ (· * ·) (wt_eq t k q) (congrArg₂ (· - ·) (Finset.sum_congr rfl fun j _ => congrArg₂ (· * ·) ?_ ?_) ?_)
  · exact emb_1 (V m c main_v47) t k _
  · exact emb_3 (V m c main_v50) t q j _ rfl
  · exact emb_5 (V m c main_v52) t q

/-- A sum over the points and the rows of their blocks is one over the heads and the queries. -/
theorem sum_points (f : Fin 16 → Fin 4096 → EReal) :
    ∑ t : Fin cfg0.N, ∑ q : Fin 2048, f (headOf t) (rowOf t q) = ∑ h, ∑ q, f h q := by
  have e : ∀ h : Fin 16, ∑ q : Fin 4096, f h q = ∑ b : Fin 2, ∑ q : Fin 2048, f h ⟨b.val * 2048 + q.val, by omega⟩ := fun h => by
    rw [← (finProdFinEquiv (m := 2) (n := 2048)).sum_comp (f h), Fintype.sum_prod_type]
    refine Finset.sum_congr rfl fun b _ => Finset.sum_congr rfl fun q _ => congrArg (f h) (Fin.ext ?_)
    exact (Nat.add_comm _ _).trans (congrArg (· + _) (Nat.mul_comm _ _))
  have e2 : ∀ g : Fin 32 → EReal, ∑ t : Fin cfg0.N, g ⟨t.val, t.isLt.trans_eq N_0⟩ = ∑ h : Fin 16, ∑ b : Fin 2, g ⟨h.val * 2 + b.val, by omega⟩ := fun g => by
    refine ((finCongr N_0).sum_comp g).trans ?_
    rw [← (finProdFinEquiv (m := 16) (n := 2)).sum_comp g, Fintype.sum_prod_type]
    refine Finset.sum_congr rfl fun b _ => Finset.sum_congr rfl fun q _ => congrArg g (Fin.ext ?_)
    exact (Nat.add_comm _ _).trans (congrArg (· + _) (Nat.mul_comm _ _))
  simp only [e]
  refine (e2 fun t => ∑ q : Fin 2048, f ⟨t.val / 2, by omega⟩ ⟨t.val % 2 * 2048 + q.val, by omega⟩).trans ?_
  refine Finset.sum_congr rfl fun h _ => Finset.sum_congr rfl fun b _ => Finset.sum_congr rfl fun q _ => congrArg₂ f (Fin.ext ?_) (Fin.ext ?_)
  · show (h.val * 2 + b.val) / 2 = h.val
    omega
  · show (h.val * 2 + b.val) % 2 * 2048 + q.val = b.val * 2048 + q.val
    rw [show (h.val * 2 + b.val) % 2 = b.val by omega]

/-- The last point. -/
def lastPt : Fin cfg0.N := ⟨31, Nat.lt_of_lt_of_eq (by decide : 31 < 32) N_0.symm⟩

/-! ## What the region leaves -/

variable (m c)

/-- The gradient of the packed keys through the scores. -/
def dkArr (y : S4096x256.Idx) : EReal := ∑ h : Fin 16, ∑ q : Fin 4096, arrSlope m c h q (y 0) * qcat m c (ix3 h q (y 1))

/-- The gradient of the values. -/
def dvArr (y : S4096x128.Idx) : EReal :=
  ∑ h : Fin 16, ∑ q : Fin 4096, arrWeight m c h q (y 0) * dout2 m c (ix2 q (colOf h (y 1)))

/-- The gradient of the packed queries. -/
def dqArr (y : S16x4096x256.Idx) : EReal :=
  (∑ k : Fin 4096, kcatT m c (ix2 (y 2) k) * arrSlope m c (y 0) (y 1) k) * Ideal.ofBits .f32 0x3DD105EC#32

variable {m c}

theorem outs_dk_last (y : S4096x256.Idx) : (outsAt0 (F := Ideal) m c lastPt.val lastPt.isLt).2.1 y = dkArr m c y := by
  refine (Pipeline.eq_sum_fin_of_reset_step_apply_last (fun n hn => (outsAt0 (F := Ideal) m c n hn).2.1) 32 (fun _ => (0 : EReal))
    (fun t y => dkStep m c t y) (fun t h i => outs_dk_first h i) (fun t h i => outs_dk_next h i) N_0.le lastPt
    N_0.symm y).trans ?_
  rw [zero_add]
  refine Eq.trans ?_ (sum_points fun h q => arrSlope m c h q (y 0) * qcat m c (ix3 h q (y 1)))
  refine Finset.sum_congr rfl fun t _ => Finset.sum_congr rfl fun q _ => congrArg₂ (· * ·) (sl_eq t _ q) ?_
  exact emb_0 (V m c main_v42) t q _

theorem outs_dv_last (y : S4096x128.Idx) : (outsAt0 (F := Ideal) m c lastPt.val lastPt.isLt).2.2 y = dvArr m c y := by
  refine (Pipeline.eq_sum_fin_of_reset_step_apply_last (fun n hn => (outsAt0 (F := Ideal) m c n hn).2.2) 32 (fun _ => (0 : EReal))
    (fun t y => dvStep m c t y) (fun t h i => outs_dv_first h i) (fun t h i => outs_dv_next h i) N_0.le lastPt
    N_0.symm y).trans ?_
  rw [zero_add]
  refine Eq.trans ?_ (sum_points fun h q => arrWeight m c h q (y 0) * dout2 m c (ix2 q (colOf h (y 1))))
  refine Finset.sum_congr rfl fun t _ => Finset.sum_congr rfl fun q _ => congrArg₂ (· * ·) (wt_eq t _ q) ?_
  exact emb_3 (V m c main_v50) t q _ _ rfl

theorem arr_dk : (dats (F := Ideal) m 0 c).arrAt 7 cfg0.N = dkArr m c := by
  refine (dats m 0 c).arrAt_eq_of_after_last 7 lastPt (by decide +kernel) _ fun j => ?_
  blk_simp
  rw [after0_7]
  exact outs_dk_last j

theorem arr_dv : (dats (F := Ideal) m 0 c).arrAt 8 cfg0.N = dvArr m c := by
  refine (dats m 0 c).arrAt_eq_of_after_last 8 lastPt (by decide +kernel) _ fun j => ?_
  blk_simp
  rw [after0_8]
  exact outs_dv_last j

theorem arr_dq : (dats (F := Ideal) m 0 c).arrAt 6 cfg0.N = dqArr m c := by
  refine (dats m 0 c).arrAt_eq_of_covers 6 _ (by decide +kernel) fun t hf y => ?_
  blk_simp
  rw [after0_6]
  refine (outs_dq y).trans ?_
  have he : ((cfg0.win 6).blk t).view.emb y = ix3 (headOf t) (rowOf t (y 1)) (y 2) := by
    funext a
    refine Fin.ext ?_
    match a with
    | 0 => blk_simp [index_6 t]; exact Nat.add_zero _
    | 1 => blk_simp [index_6 t]; rfl
    | 2 => blk_simp [index_6 t]
  refine Eq.trans ?_ (congrArg (dqArr m c) he).symm
  refine congrArg (· * _) (Finset.sum_congr rfl fun k _ => congrArg₂ (· * ·) ?_ (sl_eq t k (y 1)))
  exact emb_2 (V m c main_v48) t (y 2) k

end Cert.KernelIdeal.Hand

end
-- ==== Proof.HostIn.lean ====
/- The arrays the region reads, as the host lines before it make them from the arguments. -/
module

public import proofs.«01_k».proof.Proof.Arrays
public import Idealize.ShloMosaic.Lib.StableHlo.RunRead

@[expose] public section

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

section Ops

variable (x0 x4 : FVec Ideal S4096x16x128 .f32) (x1 : FVec Ideal S4096x16x32 .f32) (x2 : FVec Ideal S4096x128 .f32) (x3 : FVec Ideal S4096x32 .f32)

/-- The scaled latent parts of the queries. -/
def sql : FVec Ideal S4096x16x128 .f32 :=
  mulf x0 (broadcastInDim S4096x16x128 ![] bcast_S_S4096x16x128 (constant (F := Ideal) S_ .f32 0x3DD105EC#32))
/-- The scaled rotary parts of the queries. -/
def sqr : FVec Ideal S4096x16x32 .f32 :=
  mulf x1 (broadcastInDim S4096x16x32 ![] bcast_S_S4096x16x32 (constant (F := Ideal) S_ .f32 0x3DD105EC#32))
/-- The scores. -/
def scores : FVec Ideal S16x4096x4096 .f32 :=
  addf (transpose S16x4096x4096 [2, 1, 0]
      (Host.dotGeneral dot_S4096x128_S4096x16x128_S4096x4096x16_1_2_0_01_n_n none x2 (sql x0)) transposes_S4096x4096x16_S16x4096x4096_2_1_0)
    (transpose S16x4096x4096 [2, 1, 0]
      (Host.dotGeneral dot_S4096x32_S4096x16x32_S4096x4096x16_1_2_0_01_n_n none x3 (sqr x1)) transposes_S4096x4096x16_S16x4096x4096_2_1_0)
/-- Their maxima over the keys. -/
def maxima : FVec Ideal S16x4096x1 .f32 :=
  broadcastInDim S16x4096x1 ![0, 1] bcast_S16x4096_S16x4096x1_0_1
    (Host.reduce FloatOps.maximumf (scores x0 x1 x2 x3) (constant (F := Ideal) S_ .f32 0xFF800000#32) reducesTo_S16x4096x4096_S16x4096_d2 h_S_)
/-- The exponentials of the scores lowered by the maxima. -/
def exps : FVec Ideal S16x4096x4096 .f32 :=
  Host.exp (subf (scores x0 x1 x2 x3) (broadcastInDim S16x4096x4096 ![0, 1, 2] bcast_S16x4096x1_S16x4096x4096_0_1_2 (maxima x0 x1 x2 x3)))
/-- Their sums. -/
def sums : FVec Ideal S16x4096x1 .f32 :=
  broadcastInDim S16x4096x1 ![0, 1] bcast_S16x4096_S16x4096x1_0_1
    (Host.reduceAdd (exps x0 x1 x2 x3) (constant (F := Ideal) S_ .f32 0x00000000#32) reducesTo_S16x4096x4096_S16x4096_d2 h_S_)
/-- The output's latent part. -/
def olat : FVec Ideal S4096x16x128 .f32 :=
  transpose S4096x16x128 [2, 1, 0] (Host.dotGeneral dot_S4096x128_S16x4096x4096_S128x16x4096_0_2_1_01_n_n none x2
    (Host.divf (exps x0 x1 x2 x3) (broadcastInDim S16x4096x4096 ![0, 1, 2] bcast_S16x4096x1_S16x4096x4096_0_1_2 (sums x0 x1 x2 x3))))
    transposes_S128x16x4096_S4096x16x128_2_1_0
/-- The products of the cotangent and the output. -/
def deltas : FVec Ideal S16x4096 .f32 :=
  transpose S16x4096 [1, 0] (Host.reduceAdd (mulf x4 (olat x0 x1 x2 x3)) (constant (F := Ideal) S_ .f32 0x00000000#32)
    reducesTo_S4096x16x128_S4096x16_d2 h_S_) transposes_S4096x16_S16x4096_1_0
/-- Which of a group's four column blocks is a head's own. -/
def own : Vec Ideal S1x1x4x4x1 .i1 :=
  broadcastInDim S1x1x4x4x1 ![2, 3] bcast_S4x4_S1x1x4x4x1_2_3
    (cmpi .eq (broadcastInDim S4x4 ![0, 1] bcast_S4x1_S4x4_0_1 (broadcastInDim S4x1 ![0] bcast_S4_S4x1_0 (iotaInDim S4 32 0)))
      (broadcastInDim S4x4 ![0, 1] bcast_S1x4_S4x4_0_1 (broadcastInDim S1x4 ![1] bcast_S4_S1x4_1 (iotaInDim S4 32 0))))
/-- The rotary parts of the queries, each in its own column block. -/
def spread : FVec Ideal S4096x16x128 .f32 :=
  shapeCast S4096x16x128 (select (broadcastInDim S4096x4x4x4x32 ![0, 1, 2, 3, 4] bcast_S1x1x4x4x1_S4096x4x4x4x32_0_1_2_3_4 own)
    (broadcastInDim S4096x4x4x4x32 ![0, 1, 2, 3, 4] bcast_S4096x4x4x1x32_S4096x4x4x4x32_0_1_2_3_4
      (shapeCast S4096x4x4x1x32 (sqr x1) shapeCasts_S4096x16x32_S4096x4x4x1x32))
    (broadcastInDim S4096x4x4x4x32 ![] bcast_S_S4096x4x4x4x32 (constant (F := Ideal) S_ .f32 0x00000000#32))) shapeCasts_S4096x4x4x4x32_S4096x16x128

/-- The queries packed: their latent parts and the spread rotary parts. -/
def packQ : FVec Ideal S16x4096x256 .f32 :=
  transpose S16x4096x256 [1, 0, 2] (concatenate S4096x16x256 2 [⟨S4096x16x128, sql x0⟩, ⟨S4096x16x128, spread x1⟩]
    concatenates_S4096x16x128_S4096x16x128_S4096x16x256_d2) transposes_S4096x16x256_S16x4096x256_1_0_2

/-- The keys packed: their latent parts and four copies of the rotary parts. -/
def packK : FVec Ideal S4096x256 .f32 :=
  concatenate S4096x256 1 [⟨S4096x128, x2⟩, ⟨S4096x128, shapeCast S4096x128
    (broadcastInDim S1x4096x4x32 ![0, 1, 2, 3] bcast_S1x4096x1x32_S1x4096x4x32_0_1_2_3
      (shapeCast S1x4096x1x32 x3 shapeCasts_S4096x32_S1x4096x1x32)) shapeCasts_S1x4096x4x32_S4096x128⟩]
    concatenates_S4096x128_S4096x128_S4096x256_d1

end Ops

variable (m : (ℓ : Loc nD τ sig) → Buf (Elt Ideal) ℓ) (c : Dev nD)

/-- The arguments. -/
def a0 : FVec Ideal S4096x16x128 .f32 := m (c.tc.loc main_arg0)
def a1 : FVec Ideal S4096x16x32 .f32 := m (c.tc.loc main_arg1)
def a2 : FVec Ideal S4096x128 .f32 := m (c.tc.loc main_arg2)
def a3 : FVec Ideal S4096x32 .f32 := m (c.tc.loc main_arg3)
def a4 : FVec Ideal S4096x16x128 .f32 := m (c.tc.loc main_arg4)

/-- The log-sums. -/
theorem lse3_eq : lse3 m c = shapeCast S16x1x4096 (addf (maxima (a0 m c) (a1 m c) (a2 m c) (a3 m c))
    (Host.log (sums (a0 m c) (a1 m c) (a2 m c) (a3 m c)))) shapeCasts_S16x4096x1_S16x1x4096 := by
  show StableHlo.after (List.flatten [hostOps0, hostOps0_1, hostOps0_2]) (fun b => m (c, b)) (Proc.devRef .tc main_v51) = _
  simp only [List.flatten_cons, List.flatten_nil, List.append_nil, hostOps0, hostOps0_1, hostOps0_2, List.cons_append, List.nil_append]
  after_results_simp
  rfl

/-- The products. -/
theorem delta3_eq : delta3 m c = broadcastInDim S16x1x4096 ![0, 2] bcast_S16x4096_S16x1x4096_0_2
    (deltas (a0 m c) (a4 m c) (a1 m c) (a2 m c) (a3 m c)) := by
  show StableHlo.after (List.flatten [hostOps0, hostOps0_1, hostOps0_2]) (fun b => m (c, b)) (Proc.devRef .tc main_v52) = _
  simp only [List.flatten_cons, List.flatten_nil, List.append_nil, hostOps0, hostOps0_1, hostOps0_2, List.cons_append, List.nil_append]
  after_results_simp
  rfl

/-- The packed queries. -/
theorem qcat_eq : qcat m c = truncf .bf16 (packQ (a0 m c) (a1 m c)) bitsLt_bf16_f32 := by
  show StableHlo.after (List.flatten [hostOps0, hostOps0_1, hostOps0_2]) (fun b => m (c, b)) (Proc.devRef .tc main_v42) = _
  simp only [List.flatten_cons, List.flatten_nil, List.append_nil, hostOps0, hostOps0_1, hostOps0_2, List.cons_append, List.nil_append]
  after_results_simp
  rfl

/-- The packed keys. -/
theorem kcat_eq : kcat m c = truncf .bf16 (packK (a2 m c) (a3 m c)) bitsLt_bf16_f32 := by
  show StableHlo.after (List.flatten [hostOps0, hostOps0_1, hostOps0_2]) (fun b => m (c, b)) (Proc.devRef .tc main_v47) = _
  simp only [List.flatten_cons, List.flatten_nil, List.append_nil, hostOps0, hostOps0_1, hostOps0_2, List.cons_append, List.nil_append]
  after_results_simp
  rfl

/-- Their transpose. -/
theorem kcatT_eq : kcatT m c = transpose S256x4096 [1, 0] (truncf .bf16 (packK (a2 m c) (a3 m c)) bitsLt_bf16_f32) transposes_S4096x256_S256x4096_1_0 := by
  show StableHlo.after (List.flatten [hostOps0, hostOps0_1, hostOps0_2]) (fun b => m (c, b)) (Proc.devRef .tc main_v48) = _
  simp only [List.flatten_cons, List.flatten_nil, List.append_nil, hostOps0, hostOps0_1, hostOps0_2, List.cons_append, List.nil_append]
  after_results_simp
  rfl

/-- The cotangent. -/
theorem dout2_eq : dout2 m c = truncf .bf16 (shapeCast S4096x2048 (a4 m c) shapeCasts_S4096x16x128_S4096x2048) bitsLt_bf16_f32 := by
  show StableHlo.after (List.flatten [hostOps0, hostOps0_1, hostOps0_2]) (fun b => m (c, b)) (Proc.devRef .tc main_v50) = _
  simp only [List.flatten_cons, List.flatten_nil, List.append_nil, hostOps0, hostOps0_1, hostOps0_2, List.cons_append, List.nil_append]
  after_results_simp
  rfl

/-- The mask the later lines read. -/
theorem own_eq : V m c main_v32 = own := by
  show StableHlo.after (List.flatten [hostOps0, hostOps0_1, hostOps0_2]) (fun b => m (c, b)) (Proc.devRef .tc main_v32) = _
  simp only [List.flatten_cons, List.flatten_nil, List.append_nil, hostOps0, hostOps0_1, hostOps0_2, List.cons_append, List.nil_append]
  after_results_simp
  rfl

end Cert.KernelIdeal.Hand

end
-- ==== Proof.Packed.lean ====
/- The attention with sixteen heads in groups of four, its queries and keys packed into rows of 256: the latent parts first, then four
blocks of 32, of which a query's rotary part takes its head's own and the key's fills all four. -/
module

public import proofs.«01_k».proof.Proof.Attention

@[expose] public section

noncomputable section

namespace Cert.Proof.Attn

variable {Q K : Type} [Fintype Q] [Fintype K] (a : Attn (Fin 16) Q K (Fin 128) (Fin 32))

/-- A packed key. -/
def pk (k : K) (j : Fin 256) : ℝ :=
  if h : j.val < 128 then a.ckv k ⟨j.val, h⟩ else a.kr k ⟨(j.val - 128) % 32, Nat.mod_lt _ (by decide)⟩

/-- A packed query. -/
def pq (q : Q) (h : Fin 16) (j : Fin 256) : ℝ :=
  if hj : j.val < 128 then a.ql q h ⟨j.val, hj⟩ * a.scale
  else if h.val % 4 = (j.val - 128) / 32 then a.qr q h ⟨(j.val - 128) % 32, Nat.mod_lt _ (by decide)⟩ * a.scale else 0

/-- The column of the block `s` of the rotary half. -/
def col (s : Fin 4) (r : Fin 32) : Fin 256 := ⟨128 + (s.val * 32 + r.val), by omega⟩

theorem pk_lat (k : K) (c : Fin 128) : a.pk k (c.castLE (by decide)) = a.ckv k c := dif_pos c.isLt

theorem pk_col (k : K) (s : Fin 4) (r : Fin 32) : a.pk k (col s r) = a.kr k r := by
  unfold pk col
  rw [dif_neg (by simp)]
  congr 1
  exact Fin.ext (show (128 + (s.val * 32 + r.val) - 128) % 32 = r.val by omega)

theorem pq_lat (q : Q) (h : Fin 16) (c : Fin 128) : a.pq q h (c.castLE (by decide)) = a.ql q h c * a.scale := dif_pos c.isLt

theorem pq_col (q : Q) (h : Fin 16) (s : Fin 4) (r : Fin 32) :
    a.pq q h (col s r) = if h.val % 4 = s.val then a.qr q h r * a.scale else 0 := by
  unfold pq col
  rw [dif_neg (by simp)]
  have e1 : (128 + (s.val * 32 + r.val) - 128) / 32 = s.val := by omega
  have e2 : (⟨(128 + (s.val * 32 + r.val) - 128) % 32, Nat.mod_lt _ (by decide)⟩ : Fin 32) = r :=
    Fin.ext (show (128 + (s.val * 32 + r.val) - 128) % 32 = r.val by omega)
  simp only [e1, e2]

/-- A sum over the packed columns. -/
theorem sum_packed {M : Type} [AddCommMonoid M] (f : Fin 256 → M) :
    ∑ j, f j = ∑ c : Fin 128, f (c.castLE (by decide)) + ∑ s : Fin 4, ∑ r : Fin 32, f (col s r) := by
  rw [← Fin.sum_congr' f (show 128 + 128 = 256 from rfl), Fin.sum_univ_add]
  congr 1
  rw [← (finProdFinEquiv (m := 4) (n := 32)).sum_comp, Fintype.sum_prod_type]
  refine Finset.sum_congr rfl fun s _ => Finset.sum_congr rfl fun r _ => congrArg f (Fin.ext ?_)
  show 128 + (r.val + 32 * s.val) = 128 + (s.val * 32 + r.val)
  omega

/-- A head's own block of the four. -/
theorem sum_own {M : Type} [AddCommMonoid M] (h : Fin 16) (f : Fin 4 → M) :
    ∑ s : Fin 4, (if h.val % 4 = s.val then f s else 0) = f ⟨h.val % 4, Nat.mod_lt _ (by decide)⟩ := by
  refine (Finset.sum_congr rfl fun s _ => ?_).trans
    ((Finset.sum_ite_eq' Finset.univ (⟨h.val % 4, Nat.mod_lt _ (by decide)⟩ : Fin 4) f).trans (if_pos (Finset.mem_univ _)))
  simp only [Fin.ext_iff, eq_comm]

/-- The packed product is the score. -/
theorem packed_score (h : Fin 16) (q : Q) (k : K) : ∑ j, a.pk k j * a.pq q h j = a.score h q k := by
  rw [sum_packed]
  refine congrArg₂ (· + ·) (Finset.sum_congr rfl fun c _ => by rw [pk_lat, pq_lat]) ?_
  rw [Finset.sum_comm]
  refine Finset.sum_congr rfl fun r _ => ?_
  simp only [pk_col, pq_col, mul_ite, mul_zero]
  exact sum_own h fun _ => a.kr k r * (a.qr q h r * a.scale)

/-- The gradient of a packed query. -/
def dpq (q : Q) (h : Fin 16) (j : Fin 256) : ℝ := (∑ k, a.pk k j * a.dscore h q k) * a.scale

/-- The gradient of a packed key through the scores. -/
def dpk (k : K) (j : Fin 256) : ℝ := ∑ h, ∑ q, a.dscore h q k * a.pq q h j

theorem dpq_lat (q : Q) (h : Fin 16) (c : Fin 128) : a.dpq q h (c.castLE (by decide)) = a.dql q h c := by
  unfold dpq dql
  exact congrArg (· * _) (Finset.sum_congr rfl fun k _ => by rw [pk_lat, mul_comm])

/-- A query's rotary gradient is its own block of the four. -/
theorem dpq_rot (q : Q) (h : Fin 16) (r : Fin 32) :
    ∑ s : Fin 4, (if h.val % 4 = s.val then a.dpq q h (col s r) else 0) = a.dqr q h r := by
  rw [sum_own h fun s => a.dpq q h (col s r)]
  unfold dpq dqr
  exact congrArg (· * _) (Finset.sum_congr rfl fun k _ => by rw [pk_col, mul_comm])

theorem dpk_lat (k : K) (c : Fin 128) : a.dpk k (c.castLE (by decide)) = ∑ h, ∑ q, a.dscore h q k * (a.ql q h c * a.scale) := by
  unfold dpk
  exact Finset.sum_congr rfl fun h _ => Finset.sum_congr rfl fun q _ => by rw [pq_lat]

/-- A key's rotary gradient is the sum of the four blocks. -/
theorem dpk_rot (k : K) (r : Fin 32) : ∑ s : Fin 4, a.dpk k (col s r) = a.dkr k r := by
  unfold dpk dkr
  rw [Finset.sum_comm]
  refine Finset.sum_congr rfl fun h _ => ?_
  rw [Finset.sum_comm]
  refine Finset.sum_congr rfl fun q _ => ?_
  simp only [pq_col, mul_ite, mul_zero]
  exact sum_own h fun _ => a.dscore h q k * (a.qr q h r * a.scale)

end Cert.Proof.Attn

end
-- ==== Proof.Reference.lean ====
/- The reference's four gradients, read as the real gradients of the attention. -/
module

public import proofs.«01_k».proof.Proof.Inputs
public import proofs.«01_k».proof.Proof.Gen.ReferenceIdeal.Read
public import Idealize.ShloMosaic.Lib.Pointwise

@[expose] public section

noncomputable section

namespace Cert.ReferenceIdeal.Hand

open Cert.ReferenceIdeal Cert.ReferenceIdeal.Gen Cert.ReferenceIdeal.Read Cert.Proof
open Idealize.ShloMosaic Idealize.ShloMosaic.TcCoe Idealize.ShloMosaic.StableHlo

variable {x0 x4 : (⟨S4096x16x128, .f32⟩ : BufTy).Contents (Elt Ideal)} {x1 : (⟨S4096x16x32, .f32⟩ : BufTy).Contents (Elt Ideal)}
  {x2 : (⟨S4096x128, .f32⟩ : BufTy).Contents (Elt Ideal)} {x3 : (⟨S4096x32, .f32⟩ : BufTy).Contents (Elt Ideal)}

/-- The scaled queries. -/
theorem v1_real (f0 : AllReal x0) (i : S4096x16x128.Idx) :
    val_main_v1 (F := Ideal) x0 i = (((attnOf x0 x1 x2 x3 x4).ql (i 0) (i 1) (i 2) * attnScale : ℝ) : EReal) := by
  rw [val_main_v1_apply, val_main_v0_apply, val_main_cst_apply, Ideal.mulf_def, Ideal.ofBits_def, attnScale_eq, EReal.coe_mul]
  exact congrArg (· * _) (f0.at3 i)

theorem v5_real (f1 : AllReal x1) (i : S4096x16x32.Idx) :
    val_main_v5 (F := Ideal) x1 i = (((attnOf x0 x1 x2 x3 x4).qr (i 0) (i 1) (i 2) * attnScale : ℝ) : EReal) := by
  rw [val_main_v5_apply, val_main_v4_apply, val_main_cst_0_apply, Ideal.mulf_def, Ideal.ofBits_def, attnScale_eq, EReal.coe_mul]
  exact congrArg (· * _) (f1.at3 i)

/-- The scores. -/
theorem v8_real (f0 : AllReal x0) (f1 : AllReal x1) (f2 : AllReal x2) (f3 : AllReal x3) (i : S16x4096x4096.Idx) :
    val_main_v8 (F := Ideal) x0 x1 x2 x3 i = ((attnOf x0 x1 x2 x3 x4).score (i 0) (i 1) (i 2) : EReal) := by
  rw [val_main_v8_apply, val_main_v3_apply, val_main_v2_apply, val_main_v7_apply, val_main_v6_apply, Ideal.addf_def]
  refine Eq.trans ?_ (EReal.coe_add _ _).symm
  exact congrArg₂ (· + ·) (sum_mul_real (fun k => f2.at2 _) fun k => v1_real f0 _)
    (sum_mul_real (fun k => f3.at2 _) fun k => v5_real f1 _)

/-- What the scores are lowered by, some real for each head and query. -/
theorem v16_real (f0 : AllReal x0) (f1 : AllReal x1) (f2 : AllReal x2) (f3 : AllReal x3) :
    ∃ M : Fin 16 → Fin 4096 → ℝ, ∀ i, val_main_v16 (F := Ideal) x0 x1 x2 x3 i = (M (i 0) (i 1) : EReal) := by
  have h : ∀ i : S16x4096.Idx, ∃ r : ℝ, val_main_v16 (F := Ideal) x0 x1 x2 x3 i = r := by
    intro i
    rw [val_main_v16_apply, val_main_v15_apply, val_main_cst_3_apply, Ideal.maximumf_def, Ideal.ofBits_def, ofBits_neg_inf]
    obtain ⟨r, hr⟩ := reduce_max_real (val_main_v8 (F := Ideal) x0 x1 x2 x3) (val_main_cst_1 (F := Ideal))
      reducesTo_S16x4096x4096_S16x4096_d2 h_S_ (fun k => ⟨_, v8_real (x4 := x0) f0 f1 f2 f3 k⟩) (fun k => ofBits_neg_inf)
      (ValueIdx.ix3 (i 0) (i 1) (0 : Fin 4096))
    have e : reducesTo_S16x4096x4096_S16x4096_d2.drop (ValueIdx.ix3 (i 0) (i 1) (0 : Fin 4096)) = i := by
      funext a; match a with | ⟨0, _⟩ => rfl | ⟨1, _⟩ => rfl
    rw [e] at hr
    exact ⟨r, (max_eq_right bot_le).trans hr⟩
  choose M hM using h
  exact ⟨fun a b => M (ValueIdx.ix2 a b), fun i => (hM i).trans (congrArg (fun k => ((M k : ℝ) : EReal)) (ValueIdx.eq_ix2 i))⟩

section Lowered

variable (f0 : AllReal x0) (f1 : AllReal x1) (f2 : AllReal x2) (f3 : AllReal x3) (f4 : AllReal x4)
  {M : Fin 16 → Fin 4096 → ℝ} (hM : ∀ i, val_main_v16 (F := Ideal) x0 x1 x2 x3 i = (M (i 0) (i 1) : EReal))

include f0 f1 f2 f3 hM

/-- The exponentials of the lowered scores. -/
theorem v29_real (i : S16x4096x4096.Idx) : val_main_v29 (F := Ideal) x0 x1 x2 x3 i
    = (Real.exp ((attnOf x0 x1 x2 x3 x4).score (i 0) (i 1) (i 2) - M (i 0) (i 1)) : EReal) := by
  rw [val_main_v29_apply, val_main_v28_apply, val_main_v27_apply, val_main_v26_apply, hM, v8_real (x4 := x4) f0 f1 f2 f3,
    Ideal.subf_def, ← EReal.coe_sub]
  rfl

/-- Their sum. -/
theorem v30_real (i : S16x4096.Idx) : val_main_v30 (F := Ideal) x0 x1 x2 x3 i
    = ((∑ k, Real.exp ((attnOf x0 x1 x2 x3 x4).score (i 0) (i 1) k - M (i 0) (i 1)) : ℝ) : EReal) := by
  rw [val_main_v30_apply, val_main_cst_9_apply, Ideal.ofBits_def, Ideal.ofBits_zero_f32, zero_add]
  exact sum_real fun k => v29_real f0 f1 f2 f3 hM _

/-- The weights. -/
theorem v33_real (i : S16x4096x4096.Idx) : val_main_v33 (F := Ideal) x0 x1 x2 x3 i
    = ((attnOf x0 x1 x2 x3 x4).prob (i 0) (i 1) (i 2) : EReal) := by
  rw [val_main_v33_apply, val_main_v32_apply, val_main_v31_apply, v29_real (x4 := x4) f0 f1 f2 f3 hM, v30_real (x4 := x4) f0 f1 f2 f3 hM,
    ← congrArg Real.toEReal (Attn.prob_lowered (attnOf x0 x1 x2 x3 x4) (M (i 0) (i 1)) (i 0) (i 1) (i 2))]
  exact div_real _ _ (Attn.total_lowered_pos (attnOf x0 x1 x2 x3 x4) (M (i 0) (i 1)) (i 0) (i 1)).ne'

/-- One over the square of the sum. -/
theorem v36_real (i : S16x4096x1.Idx) : val_main_v36 (F := Ideal) x0 x1 x2 x3 i
    = ((1 / ((∑ k, Real.exp ((attnOf x0 x1 x2 x3 x4).score (i 0) (i 1) k - M (i 0) (i 1)))
        * (∑ k, Real.exp ((attnOf x0 x1 x2 x3 x4).score (i 0) (i 1) k - M (i 0) (i 1)))) : ℝ) : EReal) := by
  rw [val_main_v36_apply, val_main_v35_apply, val_main_cst_10_apply, val_main_v34_apply, val_main_v31_apply,
    v30_real (x4 := x4) f0 f1 f2 f3 hM, Ideal.ofBits_def, ofBits_one, Ideal.mulf_def, ← EReal.coe_mul]
  have h := (Attn.total_lowered_pos (attnOf x0 x1 x2 x3 x4) (M (i 0) (i 1)) (i 0) (i 1)).ne'
  exact div_real _ _ (mul_ne_zero h h)

omit f0 f1 f3 hM in
include f4 in
/-- The weights' cotangents. -/
theorem v40_real (i : S16x4096x4096.Idx) : val_main_v40 (F := Ideal) x2 x4 i
    = ((attnOf x0 x1 x2 x3 x4).dprob (i 0) (i 1) (i 2) : EReal) := by
  rw [val_main_v40_apply]
  exact sum_mul_real (fun k => by rw [val_main_v39_apply]; exact f4.at3 _) fun k => f2.at2 _

include f4 in
/-- The scores' cotangents. -/
theorem v54_real (i : S16x4096x4096.Idx) : val_main_v54 (F := Ideal) x0 x1 x2 x3 x4 i
    = ((attnOf x0 x1 x2 x3 x4).dscore (i 0) (i 1) (i 2) : EReal) := by
  have h46 : ∀ j : S16x4096.Idx, val_main_v46 (F := Ideal) x0 x1 x2 x3 x4 j
      = ((∑ k, (attnOf x0 x1 x2 x3 x4).dprob (j 0) (j 1) k
          * (1 / ((∑ k, Real.exp ((attnOf x0 x1 x2 x3 x4).score (j 0) (j 1) k - M (j 0) (j 1)))
            * (∑ k, Real.exp ((attnOf x0 x1 x2 x3 x4).score (j 0) (j 1) k - M (j 0) (j 1)))))
          * Real.exp ((attnOf x0 x1 x2 x3 x4).score (j 0) (j 1) k - M (j 0) (j 1)) : ℝ) : EReal) := by
    intro j
    rw [val_main_v46_apply, val_main_cst_11_apply, Ideal.ofBits_def, Ideal.ofBits_zero_f32, zero_add]
    refine sum_real fun k => ?_
    rw [val_main_v45_apply, val_main_v44_apply, val_main_v43_apply, v29_real (x4 := x4) f0 f1 f2 f3 hM,
      v40_real (x0 := x0) (x1 := x1) (x3 := x3) f2 f4, v36_real (x4 := x4) f0 f1 f2 f3 hM, EReal.coe_mul, EReal.coe_mul]
    rfl
  have hi : idx_main_v47 (idx_main_v51 (idx_main_v52 i) 0) = ValueIdx.ix2 (n0 := 16) (n1 := 4096) (i 0) (i 1) := by
    have b0 : (i 0).val < 16 := (i 0).isLt
    have b1 : (i 1).val < 4096 := (i 1).isLt
    funext a
    match a with
    | ⟨0, _⟩ => exact Fin.ext (show (((i 0).val * 4096 + (i 1).val) * 1 + 0) / 4096 = (i 0).val by omega)
    | ⟨1, _⟩ => exact Fin.ext (show (((i 0).val * 4096 + (i 1).val) * 1 + 0) % 4096 = (i 1).val by omega)
  have h46' := (congrArg (val_main_v46 (F := Ideal) x0 x1 x2 x3 x4) hi).trans (h46 _)
  refine Eq.trans ?_ (congrArg Real.toEReal (Attn.dscore_eq (attnOf x0 x1 x2 x3 x4) (M (i 0) (i 1)) (i 0) (i 1) (i 2)))
  rw [val_main_v54_apply, val_main_v53_apply, val_main_v50_apply, val_main_v49_apply, val_main_v31_apply, val_main_v52_apply,
    val_main_v51_apply, val_main_cst_12_apply, v29_real (x4 := x4) f0 f1 f2 f3 hM, v40_real (x0 := x0) (x1 := x1) (x3 := x3) f2 f4,
    v30_real (x4 := x4) f0 f1 f2 f3 hM, Ideal.ofBits_def, Ideal.ofBits_zero_f32, zero_add, Fin.sum_univ_one, val_main_v48_apply,
    val_main_v47_apply, h46', EReal.coe_mul, EReal.coe_add, EReal.coe_neg,
    ← div_real _ _ (Attn.total_lowered_pos (attnOf x0 x1 x2 x3 x4) (M (i 0) (i 1)) (i 0) (i 1)).ne']
  rfl

end Lowered

/-- The reference's gradient of the queries' latent parts. -/
theorem dql_real (f0 : AllReal x0) (f1 : AllReal x1) (f2 : AllReal x2) (f3 : AllReal x3) (f4 : AllReal x4) (i : S4096x16x128.Idx) :
    val_main_v65 (F := Ideal) x0 x1 x2 x3 x4 i = ((attnOf x0 x1 x2 x3 x4).dql (i 0) (i 1) (i 2) : EReal) := by
  obtain ⟨M, hM⟩ := v16_real f0 f1 f2 f3
  rw [val_main_v65_apply, val_main_v61_apply, val_main_v64_apply, val_main_cst_14_apply, Ideal.mulf_def, Ideal.ofBits_def, attnScale_eq]
  refine Eq.trans ?_ (EReal.coe_mul _ _).symm
  exact congrArg (· * _) (sum_mul_real (fun k => by rw [val_main_v60_apply]; exact v54_real f0 f1 f2 f3 f4 hM _) fun k => f2.at2 _)

/-- The reference's gradient of the queries' rotary parts. -/
theorem dqr_real (f0 : AllReal x0) (f1 : AllReal x1) (f2 : AllReal x2) (f3 : AllReal x3) (f4 : AllReal x4) (i : S4096x16x32.Idx) :
    val_main_v59 (F := Ideal) x0 x1 x2 x3 x4 i = ((attnOf x0 x1 x2 x3 x4).dqr (i 0) (i 1) (i 2) : EReal) := by
  obtain ⟨M, hM⟩ := v16_real f0 f1 f2 f3
  rw [val_main_v59_apply, val_main_v56_apply, val_main_v58_apply, val_main_cst_13_apply, Ideal.mulf_def, Ideal.ofBits_def, attnScale_eq]
  refine Eq.trans ?_ (EReal.coe_mul _ _).symm
  exact congrArg (· * _) (sum_mul_real (fun k => by rw [val_main_v55_apply]; exact v54_real f0 f1 f2 f3 f4 hM _) fun k => f3.at2 _)

/-- The reference's gradient of the keys' rotary parts. -/
theorem dkr_real (f0 : AllReal x0) (f1 : AllReal x1) (f2 : AllReal x2) (f3 : AllReal x3) (f4 : AllReal x4) (i : S4096x32.Idx) :
    val_main_v57 (F := Ideal) x0 x1 x2 x3 x4 i = ((attnOf x0 x1 x2 x3 x4).dkr (i 0) (i 1) : EReal) := by
  obtain ⟨M, hM⟩ := v16_real f0 f1 f2 f3
  have h55 := fun j => (val_main_v55_apply (F := Ideal) x0 x1 x2 x3 x4 j).trans (v54_real f0 f1 f2 f3 f4 hM _)
  have h5 := v5_real (x0 := x0) (x2 := x2) (x3 := x3) (x4 := x4) f1
  unfold val_main_v57
  generalize val_main_v55 (F := Ideal) x0 x1 x2 x3 x4 = y, val_main_v5 (F := Ideal) x1 = z at *
  pointwise
  rw [Finset.sum_comm]
  exact sum_real fun h => sum_mul_real (fun q => h55 _) fun q => h5 _

/-- The reference's gradient of the keys' latents. -/
theorem dckv_real (f0 : AllReal x0) (f1 : AllReal x1) (f2 : AllReal x2) (f3 : AllReal x3) (f4 : AllReal x4) (i : S4096x128.Idx) :
    val_main_v63 (F := Ideal) x0 x1 x2 x3 x4 i = ((attnOf x0 x1 x2 x3 x4).dckv (i 0) (i 1) : EReal) := by
  obtain ⟨M, hM⟩ := v16_real f0 f1 f2 f3
  have h60 := fun j => (val_main_v60_apply (F := Ideal) x0 x1 x2 x3 x4 j).trans (v54_real f0 f1 f2 f3 f4 hM _)
  have h1 := v1_real (x1 := x1) (x2 := x2) (x3 := x3) (x4 := x4) f0
  have h33 := v33_real (x4 := x4) f0 f1 f2 f3 hM
  have h39 := fun j => (val_main_v39_apply (F := Ideal) x4 j).trans (f4.at3 _)
  rw [val_main_v63_apply, val_main_v42_apply]
  unfold val_main_v62 val_main_v41
  generalize val_main_v60 (F := Ideal) x0 x1 x2 x3 x4 = y, val_main_v1 (F := Ideal) x0 = z,
    val_main_v33 (F := Ideal) x0 x1 x2 x3 = p, val_main_v39 (F := Ideal) x4 = d at *
  pointwise
  refine Eq.trans ?_ (EReal.coe_add _ _).symm
  refine congrArg₂ (· + ·) (sum_real fun h => sum_mul_real (fun q => h39 _) fun q => h33 _) ?_
  rw [Finset.sum_comm]
  exact sum_real fun h => sum_mul_real (fun q => h60 _) fun q => h1 _

end Cert.ReferenceIdeal.Hand

end
-- ==== Proof.HostReal.lean ====
/- The host lines' arrays as reals. -/
module

public import proofs.«01_k».proof.Proof.HostIn
public import proofs.«01_k».proof.Proof.Packed
public import proofs.«01_k».proof.Proof.Reference

@[expose] public section

set_option maxRecDepth 16384

noncomputable section

namespace Cert.KernelIdeal.Hand

open Cert.KernelIdeal Cert.KernelIdeal.Gen Cert.Proof Idealize.ShloMosaic Idealize.ShloMosaic.TcCoe Idealize.SL.Sem Idealize.ShloMosaic.StableHlo

variable {x0 x4 : FVec Ideal S4096x16x128 .f32} {x1 : FVec Ideal S4096x16x32 .f32} {x2 : FVec Ideal S4096x128 .f32} {x3 : FVec Ideal S4096x32 .f32}

theorem scores_eq : scores x0 x1 x2 x3 = Cert.ReferenceIdeal.Read.val_main_v8 (F := Ideal) x0 x1 x2 x3 := rfl

theorem sql_real (f0 : AllReal x0) (i : S4096x16x128.Idx) :
    sql x0 i = (((attnOf x0 x1 x2 x3 x4).ql (i 0) (i 1) (i 2) * attnScale : ℝ) : EReal) :=
  Cert.ReferenceIdeal.Hand.v1_real f0 i

theorem sqr_real (f1 : AllReal x1) (i : S4096x16x32.Idx) :
    sqr x1 i = (((attnOf x0 x1 x2 x3 x4).qr (i 0) (i 1) (i 2) * attnScale : ℝ) : EReal) :=
  Cert.ReferenceIdeal.Hand.v5_real f1 i

section Saved

variable (f0 : AllReal x0) (f1 : AllReal x1) (f2 : AllReal x2) (f3 : AllReal x3) (f4 : AllReal x4)

include f0 f1 f2 f3

theorem scores_real (i : S16x4096x4096.Idx) :
    scores x0 x1 x2 x3 i = ((attnOf x0 x1 x2 x3 x4).score (i 0) (i 1) (i 2) : EReal) :=
  Cert.ReferenceIdeal.Hand.v8_real f0 f1 f2 f3 i

/-- The maxima, some real for each head and query. -/
theorem maxima_real : ∃ M : Fin 16 → Fin 4096 → ℝ, ∀ i, maxima x0 x1 x2 x3 i = (M (i 0) (i 1) : EReal) := by
  have h : ∀ (a : Fin 16) (b : Fin 4096), ∃ r : ℝ, maxima x0 x1 x2 x3 (ix3 a b 0) = r := by
    intro a b
    unfold maxima
    pointwise
    obtain ⟨k, -, hk⟩ := Finset.exists_mem_eq_sup (Finset.univ : Finset (Fin 4096)) Finset.univ_nonempty
      (fun x => scores x0 x1 x2 x3 (ix3 a b x))
    refine ⟨_, Eq.trans ?_ (hk.trans (scores_real (x4 := x0) f0 f1 f2 f3 _))⟩
    rw [ofBits_neg_inf]
    rfl
  choose M hM using h
  refine ⟨M, fun i => (congrArg (maxima x0 x1 x2 x3) ?_).trans (hM (i 0) (i 1))⟩
  funext a
  match a with
  | 0 => rfl
  | 1 => rfl
  | 2 => exact Fin.ext (show (i 2).val = 0 from Nat.lt_one_iff.1 (i 2).isLt)

variable {M : Fin 16 → Fin 4096 → ℝ} (hM : ∀ i, maxima x0 x1 x2 x3 i = (M (i 0) (i 1) : EReal))

include hM

theorem exps_real (i : S16x4096x4096.Idx) :
    exps x0 x1 x2 x3 i = (Real.exp ((attnOf x0 x1 x2 x3 x4).score (i 0) (i 1) (i 2) - M (i 0) (i 1)) : EReal) := by
  unfold exps
  pointwise
  rw [hM, scores_real (x4 := x4) f0 f1 f2 f3, ← EReal.coe_sub]
  rfl

theorem sums_real (i : S16x4096x1.Idx) : sums x0 x1 x2 x3 i
    = ((∑ k, Real.exp ((attnOf x0 x1 x2 x3 x4).score (i 0) (i 1) k - M (i 0) (i 1)) : ℝ) : EReal) := by
  unfold sums
  pointwise
  exact sum_real fun k => exps_real f0 f1 f2 f3 hM _

theorem olat_real (i : S4096x16x128.Idx) : olat x0 x1 x2 x3 i = ((attnOf x0 x1 x2 x3 x4).out (i 0) (i 1) (i 2) : EReal) := by
  unfold olat
  pointwise
  refine sum_mul_real (fun k => f2.at2 _) fun k => ?_
  rw [exps_real (x4 := x4) f0 f1 f2 f3 hM, sums_real (x4 := x4) f0 f1 f2 f3 hM]
  refine (div_real _ _ (Attn.total_lowered_pos (attnOf x0 x1 x2 x3 x4) (M (i 1) (i 0)) (i 1) (i 0)).ne').trans ?_
  exact congrArg Real.toEReal (Attn.prob_lowered (attnOf x0 x1 x2 x3 x4) (M (i 1) (i 0)) (i 1) (i 0) k)

include f4 in
theorem deltas_real (i : S16x4096.Idx) : deltas x0 x4 x1 x2 x3 i = ((attnOf x0 x1 x2 x3 x4).delta (i 0) (i 1) : EReal) := by
  unfold deltas
  pointwise
  refine (sum_mul_real (fun k => f4.at3 _) fun k => olat_real (x4 := x4) f0 f1 f2 f3 hM _).trans ?_
  exact congrArg Real.toEReal (Attn.delta_eq (attnOf x0 x1 x2 x3 x4) (i 0) (i 1))

end Saved

/-- A masked value: the mask compares a head's place in its group with a column block. -/
theorem select_eq (a b : Nat) (ha : a < 4) (hb : b < 4) (x y : EReal) :
    Scalar.select (IntOp.cmpi CmpIPredicate.eq (BitVec.ofNat 32 a) (BitVec.ofNat 32 b)) x y = if a = b then x else y := by
  interval_cases a <;> interval_cases b <;> rfl

theorem packK_real (f2 : AllReal x2) (f3 : AllReal x3) (i : S4096x256.Idx) :
    packK x2 x3 i = ((attnOf x0 x1 x2 x3 x4).pk (i 0) (i 1) : EReal) := by
  unfold packK Attn.pk
  pointwise
  by_cases h : (i 1).val < 128
  · rw [dif_pos h, dif_pos h]
    exact f2.at2 _
  · rw [dif_neg h, dif_neg h]
    exact f3.at2 _

theorem packQ_real (f0 : AllReal x0) (f1 : AllReal x1) (i : S16x4096x256.Idx) :
    packQ x0 x1 i = ((attnOf x0 x1 x2 x3 x4).pq (i 1) (i 0) (i 2) : EReal) := by
  unfold packQ Attn.pq
  pointwise
  by_cases h : (i 2).val < 128
  · rw [dif_pos h, dif_pos h]
    exact sql_real f0 _
  · rw [dif_neg h, dif_neg h]
    have hi : (i 2).val < 256 := (i 2).isLt
    unfold spread own
    pointwise
    rw [select_eq _ _ (Nat.mod_lt _ (by decide)) (by omega), apply_ite Real.toEReal]
    exact ite_congr rfl (fun _ => sqr_real f1 _) fun _ => rfl

end Cert.KernelIdeal.Hand

end
-- ==== Proof.RegionReal.lean ====
/- What the region writes, as real numbers: the packed gradients and the latent gradient through the values. -/
module

public import proofs.«01_k».proof.Proof.HostReal
public import proofs.«01_k».proof.Proof.HostIn

@[expose] public section

noncomputable section

namespace Cert.KernelIdeal.Hand

open Cert.KernelIdeal Cert.KernelIdeal.Gen Idealize.ShloMosaic Idealize.ShloMosaic.TcCoe Idealize.SL.Sem Idealize.ShloMosaic.StableHlo
open Cert.Proof

variable (m : (ℓ : Loc nD τ sig) → Buf (Elt Ideal) ℓ) (c : Dev nD)

/-- The attention of a device's arguments. -/
def attn : Attn (Fin 16) (Fin 4096) (Fin 4096) (Fin 128) (Fin 32) :=
  attnOf (a0 m c) (a1 m c) (a2 m c) (a3 m c) (a4 m c)

/-- Every argument holds reals. -/
structure Finite : Prop where
  f0 : AllReal (a0 m c)
  f1 : AllReal (a1 m c)
  f2 : AllReal (a2 m c)
  f3 : AllReal (a3 m c)
  f4 : AllReal (a4 m c)

variable {m c} (f : Finite m c)

include f

theorem kcat_real (k : Fin 4096) (j : Fin 256) : kcat m c (ix2 k j) = ((attn m c).pk k j : EReal) := by
  rw [kcat_eq]
  exact packK_real f.f2 f.f3 (ix2 k j)

theorem kcatT_real (j : Fin 256) (k : Fin 4096) : kcatT m c (ix2 j k) = ((attn m c).pk k j : EReal) := by
  rw [kcatT_eq]
  pointwise
  exact packK_real f.f2 f.f3 (ix2 k j)

theorem qcat_real (h : Fin 16) (q : Fin 4096) (j : Fin 256) : qcat m c (ix3 h q j) = ((attn m c).pq q h j : EReal) := by
  rw [qcat_eq]
  exact packQ_real f.f0 f.f1 (ix3 h q j)

omit f in
theorem flat_at (A : FVec Ideal S4096x16x128 .f32) (h : Fin 16) (q : Fin 4096) (e : Fin 128) :
    shapeCast S4096x2048 A shapeCasts_S4096x16x128_S4096x2048 (ix2 q (colOf h e)) = A (ix3 q h e) := by
  unfold colOf
  pointwise

theorem dout2_real (h : Fin 16) (q : Fin 4096) (e : Fin 128) : dout2 m c (ix2 q (colOf h e)) = ((attn m c).dout q h e : EReal) :=
  (congrFun (dout2_eq m c) _).trans ((flat_at (a4 m c) h q e).trans (f.f4 _))

omit f in
theorem logs_at (A B : FVec Ideal S16x4096x1 .f32) (h : Fin 16) (q : Fin 4096) :
    shapeCast S16x1x4096 (addf A (Host.log B)) shapeCasts_S16x4096x1_S16x1x4096 (ix3 h 0 q)
      = A (ix3 h q 0) + Ideal.log (B (ix3 h q 0)) := by
  pointwise

omit f in
theorem deltas_at (A : FVec Ideal S16x4096 .f32) (h : Fin 16) (q : Fin 4096) :
    broadcastInDim S16x1x4096 ![0, 2] bcast_S16x4096_S16x1x4096_0_2 A (ix3 h 0 q) = A (ix2 h q) := by
  pointwise

omit f in
theorem exp_sub_real (a b : ℝ) : Ideal.exp ((a : EReal) - (b : EReal)) = ((Real.exp (a - b) : ℝ) : EReal) := by
  rw [← EReal.coe_sub]
  rfl

/-- The saved log-sums, from whatever the maxima are. -/
theorem lse_real {M : Fin 16 → Fin 4096 → ℝ} (hM : ∀ i, maxima (a0 m c) (a1 m c) (a2 m c) (a3 m c) i = (M (i 0) (i 1) : EReal))
    (h : Fin 16) (q : Fin 4096) :
    lse3 m c (ix3 h 0 q) = ((M h q + Real.log (∑ j, Real.exp ((attn m c).score h q j - M h q)) : ℝ) : EReal) := by
  rw [EReal.coe_add]
  refine (congrFun (lse3_eq m c) _).trans ((logs_at _ _ h q).trans (congrArg₂ (· + ·) (hM _) ?_))
  exact (congrArg Ideal.log (sums_real (x4 := a4 m c) f.f0 f.f1 f.f2 f.f3 hM (ix3 h q 0))).trans
    (log_real _ (Attn.total_lowered_pos (attn m c) (M h q) h q))

theorem dot_real (h : Fin 16) (q k : Fin 4096) :
    ∑ j, kcat m c (ix2 k j) * qcat m c (ix3 h q j) = ((attn m c).score h q k : EReal) :=
  (sum_mul_real (fun j => kcat_real f k j) fun j => qcat_real f h q j).trans (congrArg Real.toEReal (Attn.packed_score (attn m c) h q k))

theorem weight_real (h : Fin 16) (q k : Fin 4096) : arrWeight m c h q k = ((attn m c).prob h q k : EReal) := by
  obtain ⟨M, hM⟩ := maxima_real f.f0 f.f1 f.f2 f.f3
  have e : arrWeight m c h q k = Ideal.exp (∑ j, kcat m c (ix2 k j) * qcat m c (ix3 h q j) - lse3 m c (ix3 h 0 q)) := rfl
  rw [e, dot_real f, lse_real f hM, exp_sub_real, Attn.prob_log]

theorem delta_real (h : Fin 16) (q : Fin 4096) : delta3 m c (ix3 h 0 q) = ((attn m c).delta h q : EReal) := by
  obtain ⟨M, hM⟩ := maxima_real f.f0 f.f1 f.f2 f.f3
  exact (congrFun (delta3_eq m c) _).trans ((deltas_at _ h q).trans (deltas_real f.f0 f.f1 f.f2 f.f3 f.f4 hM (ix2 h q)))

theorem dprob_real (h : Fin 16) (q k : Fin 4096) :
    ∑ e : Fin 128, kcat m c (ix2 k (e.castLE (by decide))) * dout2 m c (ix2 q (colOf h e)) = ((attn m c).dprob h q k : EReal) := by
  refine (sum_mul_real (fun e => kcat_real f k _) fun e => dout2_real f h q e).trans (congrArg Real.toEReal ?_)
  exact Finset.sum_congr rfl fun e _ => (congrArg (· * _) (Attn.pk_lat (attn m c) k e)).trans (mul_comm _ _)

theorem slope_real (h : Fin 16) (q k : Fin 4096) : arrSlope m c h q k = ((attn m c).dscore h q k : EReal) := by
  have e : arrSlope m c h q k = arrWeight m c h q k * (∑ e : Fin 128, kcat m c (ix2 k (e.castLE (by decide))) * dout2 m c (ix2 q (colOf h e))
    - delta3 m c (ix3 h 0 q)) := rfl
  rw [e, weight_real f, dprob_real f, delta_real f, ← EReal.coe_sub, ← EReal.coe_mul, Attn.dscore]

theorem dk_real (y : S4096x256.Idx) : dkArr m c y = ((attn m c).dpk (y 0) (y 1) : EReal) :=
  sum_real fun h => sum_mul_real (fun q => slope_real f h q _) fun q => qcat_real f h q _

theorem dv_real (y : S4096x128.Idx) : dvArr m c y
    = ((∑ h, ∑ q, (attn m c).dout q h (y 1) * (attn m c).prob h q (y 0) : ℝ) : EReal) :=
  (sum_real fun h => sum_mul_real (fun q => weight_real f h q _) fun q => dout2_real f h q _).trans
    (congrArg Real.toEReal (Finset.sum_congr rfl fun _ _ => Finset.sum_congr rfl fun _ _ => mul_comm _ _))

theorem dq_real (y : S16x4096x256.Idx) : dqArr m c y = ((attn m c).dpq (y 1) (y 0) (y 2) : EReal) := by
  refine Eq.trans ?_ (EReal.coe_mul _ _).symm
  exact congrArg₂ (· * ·) (sum_mul_real (fun k => kcatT_real f _ k) fun k => slope_real f _ _ k) attnScale_eq

end Cert.KernelIdeal.Hand

end
-- ==== Proof.Tail.lean ====
/- The results, as the host lines after the region make them from what it writes. -/
module

public import proofs.«01_k».proof.Proof.HostIn
public import proofs.«01_k».proof.Proof.HostReal
public import Idealize.ShloMosaic.Lib.Pipeline.FrameSuffix

@[expose] public section

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

open Cert.Proof.Attn (col)

/-- The packed query gradients, a query a row. -/
def unT (A : FVec Ideal S16x4096x256 .bf16) : FVec Ideal S4096x16x256 .f32 :=
  transpose S4096x16x256 [1, 0, 2] (extf .f32 A bitsLt_bf16_f32) transposes_S16x4096x256_S4096x16x256_1_0_2

/-- The rotary query gradients: of the four blocks of the rotary half, those the mask keeps, summed. -/
def dqrOf (o : IVec S1x1x4x4x1 1) (A : FVec Ideal S16x4096x256 .bf16) : FVec Ideal S4096x16x32 .f32 :=
  shapeCast S4096x16x32 (Host.reduceAdd (select
      (broadcastInDim S4096x4x4x4x32 ![0, 1, 2, 3, 4] bcast_S1x1x4x4x1_S4096x4x4x4x32_0_1_2_3_4 o)
      (shapeCast S4096x4x4x4x32 (extractStridedSlice S4096x16x128 ![0, 0, 128] (unT A)
        slices_S4096x16x256_S4096x16x128_0_0_128) shapeCasts_S4096x16x128_S4096x4x4x4x32)
      (broadcastInDim S4096x4x4x4x32 ![] bcast_S_S4096x4x4x4x32 (constant (F := Ideal) S_ .f32 0x00000000#32)))
    (constant (F := Ideal) S_ .f32 0x00000000#32) reducesTo_S4096x4x4x4x32_S4096x4x4x32_d3 h_S_) shapeCasts_S4096x4x4x32_S4096x16x32

/-- The key latents' gradient: the latent half of the packed one and what comes through the values. -/
def dckvOf (B : FVec Ideal S4096x256 .f32) (C : FVec Ideal S4096x128 .f32) : FVec Ideal S4096x128 .f32 :=
  addf (extractStridedSlice S4096x128 ![0, 0] B slices_S4096x256_S4096x128_0_0) C

variable (W : Valuation τ sig (Elt Ideal))

theorem tail_dql : StableHlo.after (List.flatten [hostOps1, hostOps1_1, hostOps1_2]) W (Proc.devRef .tc main_v64)
    = extractStridedSlice S4096x16x128 ![0, 0, 0] (unT (W (Proc.devRef .tc main_v53_0))) slices_S4096x16x256_S4096x16x128_0_0_0 := by
  simp only [List.flatten_cons, List.flatten_nil, List.append_nil, hostOps1, hostOps1_1, hostOps1_2, List.cons_append, List.nil_append]
  after_results_simp
  rfl

theorem tail_dqr : StableHlo.after (List.flatten [hostOps1, hostOps1_1, hostOps1_2]) W (Proc.devRef .tc main_v60)
    = dqrOf (W (Proc.devRef .tc main_v32)) (W (Proc.devRef .tc main_v53_0)) := by
  simp only [List.flatten_cons, List.flatten_nil, List.append_nil, hostOps1, hostOps1_1, hostOps1_2, List.cons_append, List.nil_append]
  after_results_simp
  rfl

theorem tail_dckv : StableHlo.after (List.flatten [hostOps1, hostOps1_1, hostOps1_2]) W (Proc.devRef .tc main_v66)
    = dckvOf (W (Proc.devRef .tc main_v53_1)) (W (Proc.devRef .tc main_v53_2)) := by
  simp only [List.flatten_cons, List.flatten_nil, List.append_nil, hostOps1, hostOps1_1, hostOps1_2, List.cons_append, List.nil_append]
  after_results_simp
  rfl

theorem tail_dkr : StableHlo.after (List.flatten [hostOps1, hostOps1_1, hostOps1_2]) W (Proc.devRef .tc main_v63)
    = Host.reduceAdd (F := Ideal) (shapeCast S4096x4x32 (extractStridedSlice S4096x128 ![0, 128] (W (Proc.devRef .tc main_v53_1))
        slices_S4096x256_S4096x128_0_128) shapeCasts_S4096x128_S4096x4x32)
      (constant (F := Ideal) S_ .f32 0x00000000#32) reducesTo_S4096x4x32_S4096x32_d1 h_S_ := by
  simp only [List.flatten_cons, List.flatten_nil, List.append_nil, hostOps1, hostOps1_1, hostOps1_2, List.cons_append, List.nil_append]
  after_results_simp
  rfl

/-! ## The lines at an index -/

theorem dql_at (A : FVec Ideal S16x4096x256 .bf16) (i : S4096x16x128.Idx) :
    extractStridedSlice S4096x16x128 ![0, 0, 0] (unT A) slices_S4096x16x256_S4096x16x128_0_0_0 i
      = A (ix3 (i 1) (i 0) ((i 2).castLE (by decide : 128 ≤ 256))) := by
  unfold unT
  pointwise
  rfl

theorem dqr_at (A : FVec Ideal S16x4096x256 .bf16) (i : S4096x16x32.Idx) : dqrOf own A i
      = ∑ s : Fin 4, if (i 1).val % 4 = s.val then A (ix3 (i 1) (i 0) (col s (i 2))) else 0 := by
  unfold dqrOf unT own
  pointwise
  exact Finset.sum_congr rfl fun s _ => select_eq _ _ (Nat.mod_lt _ (by decide)) s.isLt _ _

theorem dckv_at (B : FVec Ideal S4096x256 .f32) (C : FVec Ideal S4096x128 .f32) (i : S4096x128.Idx) : dckvOf B C i
      = B (ix2 (i 0) ((i 1).castLE (by decide : 128 ≤ 256))) + C (ix2 (i 0) (i 1)) := by
  unfold dckvOf
  pointwise
  rfl

theorem dkr_at (B : FVec Ideal S4096x256 .f32) (i : S4096x32.Idx) :
    Host.reduceAdd (F := Ideal) (shapeCast S4096x4x32 (extractStridedSlice S4096x128 ![0, 128] B
        slices_S4096x256_S4096x128_0_128) shapeCasts_S4096x128_S4096x4x32)
      (constant (F := Ideal) S_ .f32 0x00000000#32) reducesTo_S4096x4x32_S4096x32_d1 h_S_ i
      = ∑ s : Fin 4, B (ix2 (i 0) (col s (i 1))) := by
  pointwise
  rfl

end Cert.KernelIdeal.Hand

end
-- ==== Proof.Results.lean ====
/- The kernel's four results are the gradients. -/
module

public import proofs.«01_k».proof.Proof.RegionReal
public import proofs.«01_k».proof.Proof.Tail

@[expose] public section

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo
open Cert.Proof

variable (m : (ℓ : Loc nD τ sig) → Buf (Elt Ideal) ℓ) (c : Dev nD)

/-- The gradients as arrays. -/
def gradQl (a : Attn (Fin 16) (Fin 4096) (Fin 4096) (Fin 128) (Fin 32)) (i : S4096x16x128.Idx) : EReal := (a.dql (i 0) (i 1) (i 2) : EReal)
def gradQr (a : Attn (Fin 16) (Fin 4096) (Fin 4096) (Fin 128) (Fin 32)) (i : S4096x16x32.Idx) : EReal := (a.dqr (i 0) (i 1) (i 2) : EReal)
def gradCkv (a : Attn (Fin 16) (Fin 4096) (Fin 4096) (Fin 128) (Fin 32)) (i : S4096x128.Idx) : EReal := (a.dckv (i 0) (i 1) : EReal)
def gradKr (a : Attn (Fin 16) (Fin 4096) (Fin 4096) (Fin 128) (Fin 32)) (i : S4096x32.Idx) : EReal := (a.dkr (i 0) (i 1) : EReal)

/-- The contents the lines after the region start from. -/
def exitV : Valuation τ sig (Elt Ideal) :=
  Pipeline.withArrays cfg0.spec c (V0 m c) fun w => (dats (F := Ideal) m 0 c).arrAt w cfg0.N

theorem exitV_dq : exitV m c (Proc.devRef .tc main_v53_0) = dqArr m c :=
  (Pipeline.withArrays_arr spec0 launch0.win.arr_inj c (V0 m c) _ 6).trans arr_dq
theorem exitV_dk : exitV m c (Proc.devRef .tc main_v53_1) = dkArr m c :=
  (Pipeline.withArrays_arr spec0 launch0.win.arr_inj c (V0 m c) _ 7).trans arr_dk
theorem exitV_dv : exitV m c (Proc.devRef .tc main_v53_2) = dvArr m c :=
  (Pipeline.withArrays_arr spec0 launch0.win.arr_inj c (V0 m c) _ 8).trans arr_dv
theorem exitV_own : exitV m c (Proc.devRef .tc main_v32) = own :=
  (Pipeline.withArrays_of_ne spec0 c (V0 m c) _ main_v32 (by exact (by decide : ∀ w, Pipeline.arrRef spec0 w ≠ main_v32))).trans (own_eq m c)

variable {m c} (f : Finite m c)

include f

theorem res_dql : StableHlo.after (List.flatten [hostOps1, hostOps1_1, hostOps1_2]) (exitV m c) (Proc.devRef .tc main_v64)
    = gradQl (attn m c) := by
  rw [tail_dql, exitV_dq]
  funext i
  refine (dql_at _ i).trans ((dq_real f _).trans (congrArg Real.toEReal ?_))
  exact Attn.dpq_lat (attn m c) (i 0) (i 1) (i 2)

/-- A block of the packed query gradients where it is the head's own, as a real. -/
theorem dq_own (q : Fin 4096) (h : Fin 16) (r : Fin 32) (s : Fin 4) :
    (if h.val % 4 = s.val then dqArr m c (ix3 h q (Attn.col s r)) else 0)
      = ((if h.val % 4 = s.val then (attn m c).dpq q h (Attn.col s r) else 0 : ℝ) : EReal) := by
  split
  · exact dq_real f (ix3 h q (Attn.col s r))
  · exact EReal.coe_zero.symm

theorem sum_dq_own (q : Fin 4096) (h : Fin 16) (r : Fin 32) :
    ∑ s : Fin 4, (if h.val % 4 = s.val then dqArr m c (ix3 h q (Attn.col s r)) else 0) = ((attn m c).dqr q h r : EReal) :=
  (sum_real fun s => dq_own f q h r s).trans (congrArg Real.toEReal (Attn.dpq_rot (attn m c) q h r))

theorem res_dqr : StableHlo.after (List.flatten [hostOps1, hostOps1_1, hostOps1_2]) (exitV m c) (Proc.devRef .tc main_v60)
    = gradQr (attn m c) := by
  refine (tail_dqr _).trans ((congrArg₂ dqrOf (exitV_own m c) (exitV_dq m c)).trans ?_)
  exact funext fun i => (dqr_at (dqArr m c) i).trans (sum_dq_own f (i 0) (i 1) (i 2))

theorem sum_dckv (k : Fin 4096) (e : Fin 128) :
    dkArr m c (ix2 k (e.castLE (by decide : 128 ≤ 256))) + dvArr m c (ix2 k e) = ((attn m c).dckv k e : EReal) := by
  have h1 : dkArr m c (ix2 k (e.castLE (by decide : 128 ≤ 256))) = ((attn m c).dpk k (e.castLE (by decide)) : EReal) := dk_real f _
  have h2 : dvArr m c (ix2 k e) = ((∑ h, ∑ q, (attn m c).dout q h e * (attn m c).prob h q k : ℝ) : EReal) := dv_real f _
  rw [h1, h2, Attn.dpk_lat, ← EReal.coe_add, add_comm, Attn.dckv]

theorem res_dckv : StableHlo.after (List.flatten [hostOps1, hostOps1_1, hostOps1_2]) (exitV m c) (Proc.devRef .tc main_v66)
    = gradCkv (attn m c) := by
  refine (tail_dckv _).trans ((congrArg₂ dckvOf (exitV_dk m c) (exitV_dv m c)).trans ?_)
  exact funext fun i => (dckv_at (dkArr m c) (dvArr m c) i).trans (sum_dckv f (i 0) (i 1))

theorem res_dkr : StableHlo.after (List.flatten [hostOps1, hostOps1_1, hostOps1_2]) (exitV m c) (Proc.devRef .tc main_v63)
    = gradKr (attn m c) := by
  rw [tail_dkr, exitV_dk]
  funext i
  exact (dkr_at _ i).trans ((sum_real fun s => dk_real f _).trans (congrArg Real.toEReal (Attn.dpk_rot (attn m c) (i 0) (i 1))))

end Cert.KernelIdeal.Hand

end
-- ==== Proof.PostRows.lean ====
/- One row of the gradient through the norm and the gate that follow the attention, and through the two products before them. -/
module

public import proofs.«01_k».proof.Proof.Inputs

@[expose] public section

noncomputable section

namespace Cert.Proof.Post

open Idealize.ShloMosaic Idealize.ShloMosaic.ValueIdx

section Rows

variable (x u g gate : Fin 1024 → EReal)

/-- The reciprocal root mean square of a row. -/
def rinv : EReal :=
  Ideal.rsqrt (Ideal.div (∑ k, u k * u k) (Ideal.ofBits .f32 0x44800000#32) + Ideal.ofBits .f32 0x358637BD#32)

/-- The normalized row. -/
def uhat (k : Fin 1024) : EReal := u k * rinv u

/-- The cotangent of the norm's result: the row's cotangent by one plus the gate. -/
def dgated (k : Fin 1024) : EReal := x k * (1 + gate k)

/-- The cotangent of the normalized row. -/
def dnorm (k : Fin 1024) : EReal := dgated x gate k * g k

/-- The gradient by the row before the norm. -/
def duRow (k : Fin 1024) : EReal :=
  rinv u * (dnorm x g gate k - uhat u k * Ideal.div (∑ j, dnorm x g gate j * uhat u j) (Ideal.ofBits .f32 0x44800000#32))

/-- What a row adds to the gradient by the gate. -/
def dgateRow (k : Fin 1024) : EReal := x k * (uhat u k * g k)

/-- What a row adds to the gradient by the norm's weight. -/
def dpostRow (k : Fin 1024) : EReal := dgated x gate k * uhat u k

/-- The gradient by the heads' outputs of the row. -/
def docatRow (d : Fin 1024 → EReal) (wo : (⟨2, ![1024, 1024]⟩ : Shape).Idx → EReal) (n : Fin 1024) : EReal := ∑ k, d k * wo (ix2 n k)

/-- The gradient by the latent outputs of the row: of the pair of heads `j`, the value maps on a diagonal of blocks. -/
def dolRow (dc : Fin 1024 → EReal) (bd : (⟨3, ![8, 256, 128]⟩ : Shape).Idx → EReal) (e : Fin 2048) : EReal :=
  ∑ n : Fin 128, dc ⟨128 * (e.val / 256) + n.val, by omega⟩ * bd (ix3 ⟨e.val / 256, by omega⟩ ⟨e.val % 256, by omega⟩ n)

/-- The sum of gradient by output over one head's latents. -/
def deltaRow (dl o : Fin 2048 → EReal) (h : Fin 16) : EReal :=
  ∑ c : Fin 128, dl ⟨128 * h.val + c.val, by omega⟩ * o ⟨128 * h.val + c.val, by omega⟩

end Rows

/-- The gradient at latent `z` of the pair `j`. -/
theorem dolRow_eq (dc : Fin 1024 → EReal) (bd : (⟨3, ![8, 256, 128]⟩ : Shape).Idx → EReal) (e : Fin 2048) (j : Fin 8) (z : Fin 256)
    (h : e.val = 256 * j.val + z.val) :
    dolRow dc bd e = ∑ n : Fin 128, dc ⟨128 * j.val + n.val, by omega⟩ * bd (ix3 j z n) := by
  have hj : (⟨e.val / 256, by omega⟩ : Fin 8) = j := Fin.ext (by show e.val / 256 = j.val; omega)
  have hz : (⟨e.val % 256, by omega⟩ : Fin 256) = z := Fin.ext (by show e.val % 256 = z.val; omega)
  refine Finset.sum_congr rfl fun n _ => ?_
  exact congrArg₂ (· * ·) (congrArg dc (Fin.ext (by show 128 * (e.val / 256) + n.val = 128 * j.val + n.val; omega)))
    (congrArg₂ (fun a b => bd (ix3 a b n)) hj hz)

theorem entry_congr {p q r : Nat} (A : (⟨3, ![p, q, r]⟩ : Shape).Idx → EReal) {a a' : Fin p} {b b' : Fin q} {c c' : Fin r}
    (ha : a = a') (hb : b = b') (hc : c = c') : A (ix3 a b c) = A (ix3 a' b' c') := by
  rw [ha, hb, hc]

/-- A product with a diagonal of blocks is one with the block of the index's own head. -/
theorem dolRow_diag (dc : Fin 1024 → EReal) (bd : (⟨3, ![8, 256, 128]⟩ : Shape).Idx → EReal) (uv : (⟨3, ![128, 16, 64]⟩ : Shape).Idx → EReal)
    (hbd : ∀ (j : Fin 8) (z : Fin 256) (n : Fin 128), bd (ix3 j z n) =
      uv (ix3 ⟨z.val % 128, by omega⟩ ⟨2 * j.val + z.val / 128, by omega⟩ ⟨n.val % 64, by omega⟩) * if z.val / 128 = n.val / 64 then 1 else 0)
    (e : Fin 2048) (h : Fin 16) (c : Fin 128) (he : e.val = 128 * h.val + c.val) :
    dolRow dc bd e = ∑ v : Fin 64, dc ⟨64 * h.val + v.val, by omega⟩ * uv (ix3 c h v) := by
  rw [dolRow_eq dc bd e ⟨h.val / 2, by omega⟩ ⟨128 * (h.val % 2) + c.val, by omega⟩ (by show e.val = 256 * (h.val / 2) + (128 * (h.val % 2) + c.val); omega)]
  rw [← (finProdFinEquiv (m := 2) (n := 64)).sum_comp, Fintype.sum_prod_type]
  have key : ∀ (b : Fin 2) (v : Fin 64), (finProdFinEquiv (b, v) : Fin (2 * 64)).val = v.val + 64 * b.val := fun b v => rfl
  rw [Finset.sum_eq_single (⟨h.val % 2, by omega⟩ : Fin 2)]
  · refine Finset.sum_congr rfl fun v _ => ?_
    rw [hbd, if_pos, mul_one]
    · refine congrArg₂ (· * ·) (congrArg dc (Fin.ext ?_)) (entry_congr uv (Fin.ext ?_) (Fin.ext ?_) (Fin.ext ?_))
      · show 128 * (h.val / 2) + (v.val + 64 * (h.val % 2)) = 64 * h.val + v.val
        omega
      · show (128 * (h.val % 2) + c.val) % 128 = c.val
        omega
      · show 2 * (h.val / 2) + (128 * (h.val % 2) + c.val) / 128 = h.val
        omega
      · show (v.val + 64 * (h.val % 2)) % 64 = v.val
        omega
    · show (128 * (h.val % 2) + c.val) / 128 = (v.val + 64 * (h.val % 2)) / 64
      omega
  · intro b _ hb
    refine Finset.sum_eq_zero fun v _ => ?_
    rw [hbd, if_neg, mul_zero, mul_zero]
    intro hz
    refine hb (Fin.ext ?_)
    have hz : (128 * (h.val % 2) + c.val) / 128 = (v.val + 64 * b.val) / 64 := hz
    show b.val = h.val % 2
    omega
  · exact fun hn => absurd (Finset.mem_univ _) hn

/-! ## The results, from the arguments -/

section Results

variable (ol : (⟨3, ![4096, 16, 128]⟩ : Shape).Idx → EReal) (uv : (⟨3, ![128, 16, 64]⟩ : Shape).Idx → EReal)
  (wo : (⟨2, ![1024, 1024]⟩ : Shape).Idx → EReal) (g gate : (⟨1, ![1024]⟩ : Shape).Idx → EReal) (dout : (⟨2, ![4096, 1024]⟩ : Shape).Idx → EReal)

/-- The heads' outputs of a row, side by side. -/
def oAt (i : Fin 4096) (n : Fin 1024) : EReal :=
  ∑ c : Fin 128, uv (ix3 c ⟨n.val / 64, by omega⟩ ⟨n.val % 64, by omega⟩) * ol (ix3 i ⟨n.val / 64, by omega⟩ c)

/-- The projected outputs. -/
def uAt (i : Fin 4096) (k : Fin 1024) : EReal := ∑ n, oAt ol uv i n * wo (ix2 n k)

/-- Their gradient. -/
def duAt (i : Fin 4096) (k : Fin 1024) : EReal :=
  duRow (fun k => dout (ix2 i k)) (uAt ol uv wo i) (fun k => g (ix1 k)) (fun k => gate (ix1 k)) k

/-- The gradient by the heads' outputs. -/
def docAt (i : Fin 4096) (n : Fin 1024) : EReal := docatRow (duAt ol uv wo g gate dout i) wo n

/-- The gradient by the latent outputs. -/
def dolAt (i : Fin 4096) (h : Fin 16) (c : Fin 128) : EReal :=
  ∑ v : Fin 64, docAt ol uv wo g gate dout i ⟨64 * h.val + v.val, by omega⟩ * uv (ix3 c h v)

/-- The sums of gradient by output over a head's latents. -/
def deltaAt (h : Fin 16) (i : Fin 4096) : EReal := ∑ c : Fin 128, dolAt ol uv wo g gate dout i h c * ol (ix3 i h c)

/-- The gradient by the gate. -/
def dgateAt (k : Fin 1024) : EReal :=
  ∑ i : Fin 4096, dgateRow (fun k => dout (ix2 i k)) (uAt ol uv wo i) (fun k => g (ix1 k)) k

/-- The gradient by the norm's weight. -/
def dpostAt (k : Fin 1024) : EReal :=
  ∑ i : Fin 4096, dpostRow (fun k => dout (ix2 i k)) (uAt ol uv wo i) (fun k => gate (ix1 k)) k

end Results

end Cert.Proof.Post

end
-- ==== Proof.PostBlock.lean ====
/- One point of the grid of the gradient through the output projection: what it leaves in its blocks, row by row. -/
module

public import proofs.«01_k».proof.Proof.PostRows
public import proofs.«01_k».proof.Proof.Gen.Kernel2Ideal.Frame
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel2Ideal.Hand

open Cert.Kernel2Ideal Cert.Kernel2Ideal.Gen Idealize.ShloMosaic Idealize.ShloMosaic.TcCoe Idealize.SL.Sem Idealize.ShloMosaic.StableHlo
open Cert.Proof.Post

section Payloads

variable (b0 b1 : S512x1024.Idx → EReal) (b3 : S8x1024.Idx → EReal) (b5 : S1024x1024.Idx → EReal)

/-- Row `q` of a block. -/
abbrev row {n w : Nat} (b : (⟨2, ![n, w]⟩ : Shape).Idx → EReal) (q : Fin n) : Fin w → EReal := fun k => b (ix2 q k)

theorem pay3_at (i : S512x1.Idx) : k0_pay3 (F := Ideal) b1 i = rinv (row b1 (i 0)) := by
  unfold k0_pay3 k0_pay2
  pointwise
  rfl

theorem pay4_at (i : S512x1024.Idx) : k0_pay4 (F := Ideal) b1 i = uhat (row b1 (i 0)) (i 1) := by
  unfold k0_pay4 k0_pay2
  pointwise
  rw [pay3_at]
  exact congrArg (fun j => b1 j * _) (ValueIdx.eq_ix2 i)

theorem pay5_at (h) (i : S512x1024.Idx) :
    k0_pay5 (F := Ideal) b0 (View.ld b3 (Rect.unit (s := S8x1024) ![4, 0] ![1, 1024] h)) i =
      dgated (row b0 (i 0)) (row b3 4) (i 1) := by
  unfold k0_pay5
  pointwise
  unfold dgated
  refine congrArg₂ (· * ·) (congrArg b0 (ValueIdx.eq_ix2 i)) ?_
  rfl

theorem pay6_at (h) (i : S512x1024.Idx) :
    k0_pay6 (F := Ideal) b0 b1 (View.ld b3 (Rect.unit (s := S8x1024) ![1, 0] ![1, 1024] h)) i =
      dgateRow (row b0 (i 0)) (row b1 (i 0)) (row b3 1) (i 1) := by
  unfold k0_pay6
  pointwise
  rw [pay4_at]
  unfold dgateRow
  refine congrArg₂ (· * ·) (congrArg b0 (ValueIdx.eq_ix2 i)) ?_
  rfl

theorem pay7_at (h) (i : S512x1024.Idx) :
    k0_pay7 (F := Ideal) b0 b1 (View.ld b3 (Rect.unit (s := S8x1024) ![4, 0] ![1, 1024] h)) i =
      dpostRow (row b0 (i 0)) (row b1 (i 0)) (row b3 4) (i 1) := by
  unfold k0_pay7
  pointwise
  rw [pay4_at, pay5_at]
  rfl

theorem pay8_at (h h') (i : S512x1024.Idx) :
    k0_pay8 (F := Ideal) b0 (View.ld b3 (Rect.unit (s := S8x1024) ![4, 0] ![1, 1024] h))
      (View.ld b3 (Rect.unit (s := S8x1024) ![1, 0] ![1, 1024] h')) i =
      dnorm (row b0 (i 0)) (row b3 1) (row b3 4) (i 1) := by
  unfold k0_pay8
  pointwise
  rw [pay5_at]
  rfl

theorem pay9_at (h h') (i : S512x1.Idx) :
    k0_pay9 (F := Ideal) b0 b1 (View.ld b3 (Rect.unit (s := S8x1024) ![4, 0] ![1, 1024] h))
      (View.ld b3 (Rect.unit (s := S8x1024) ![1, 0] ![1, 1024] h')) i =
      ∑ j, dnorm (row b0 (i 0)) (row b3 1) (row b3 4) j * uhat (row b1 (i 0)) j := by
  unfold k0_pay9
  pointwise
  refine Finset.sum_congr rfl fun j _ => ?_
  rw [pay8_at, pay4_at]
  rfl

/-- A row of the gradient before the norm. -/
theorem pay12_at (h h') (i : S512x1024.Idx) :
    k0_pay12 (F := Ideal) (k0_pay3 b1) (k0_pay4 b1)
      (k0_pay8 b0 (View.ld b3 (Rect.unit (s := S8x1024) ![4, 0] ![1, 1024] h)) (View.ld b3 (Rect.unit (s := S8x1024) ![1, 0] ![1, 1024] h')))
      (k0_pay9 b0 b1 (View.ld b3 (Rect.unit (s := S8x1024) ![4, 0] ![1, 1024] h)) (View.ld b3 (Rect.unit (s := S8x1024) ![1, 0] ![1, 1024] h'))) i =
      duRow (row b0 (i 0)) (row b1 (i 0)) (row b3 1) (row b3 4) (i 1) := by
  unfold k0_pay12
  pointwise
  rw [pay3_at, pay4_at, pay8_at, pay9_at]
  rfl

/-- A row of the gradient by the heads' outputs. -/
theorem pay13_at (h h') (i : S512x1024.Idx) :
    k0_pay13 (F := Ideal) (k0_pay3 b1) (k0_pay4 b1)
      (k0_pay8 b0 (View.ld b3 (Rect.unit (s := S8x1024) ![4, 0] ![1, 1024] h)) (View.ld b3 (Rect.unit (s := S8x1024) ![1, 0] ![1, 1024] h')))
      (k0_pay9 b0 b1 (View.ld b3 (Rect.unit (s := S8x1024) ![4, 0] ![1, 1024] h)) (View.ld b3 (Rect.unit (s := S8x1024) ![1, 0] ![1, 1024] h'))) b5 i =
      docatRow (duRow (row b0 (i 0)) (row b1 (i 0)) (row b3 1) (row b3 4)) b5 (i 1) := by
  unfold k0_pay13
  pointwise
  refine Finset.sum_congr rfl fun j _ => ?_
  rw [pay12_at]
  rfl

variable (D : S512x1024.Idx → EReal) (b2 : S512x2048.Idx → EReal) (b4 : S8x256x128.Idx → EReal)

/-- A pair's columns of the gradient by the latent outputs. -/
theorem dol_piece {j a e : Nat} (ha : a = 128 * j) (he : e = 256 * j) (hj : j < 8) (h h' h'') (x : S512x256.Idx) :
    k0_pay14 (F := Ideal) (View.ld (Val := Elt Ideal) (e' := .bf16) D (Rect.unit (s := S512x1024) ![0, a] ![512, 128] h))
        (View.ld (Val := Elt Ideal) (e' := .bf16) b4 (Rect.unit (s := S8x256x128) ![j, 0, 0] ![1, 256, 128] h')) x =
      (fun y : S512x2048.Idx => dolRow (row D (y 0)) b4 (y 1)) ((Rect.unit (s := S512x2048) ![0, e] ![512, 256] h'').emb x) := by
  subst ha he
  unfold k0_pay14
  pointwise
  have h0 : (Rect.unit (s := S512x2048) ![0, 256 * j] ![512, 256] h'').emb x 0 = x 0 := Fin.ext (by show 0 + 1 * (x 0).val = (x 0).val; omega)
  refine Eq.symm ((dolRow_eq _ b4 _ ⟨j, hj⟩ (x 1) ?_).trans ?_)
  · show 256 * j + 1 * (x 1).val = 256 * j + (x 1).val
    omega
  · refine Finset.sum_congr rfl fun n _ => ?_
    exact congrArg (fun q => D (ix2 q _) * _) h0

theorem pay14_at {j a : Nat} (ha : a = 128 * j) (hj : j < 8) (h h') (q : Fin 512) (z : Fin 256) (e : Fin 2048) (he : e.val = 256 * j + z.val) :
    k0_pay14 (F := Ideal) (View.ld (Val := Elt Ideal) (e' := .bf16) D (Rect.unit (s := S512x1024) ![0, a] ![512, 128] h))
        (View.ld (Val := Elt Ideal) (e' := .bf16) b4 (Rect.unit (s := S8x256x128) ![j, 0, 0] ![1, 256, 128] h')) (ix2 q z) =
      dolRow (row D q) b4 e := by
  subst ha
  refine Eq.trans ?_ (dolRow_eq _ b4 e ⟨j, hj⟩ z he).symm
  unfold k0_pay14
  pointwise
  exact Finset.sum_congr rfl fun _ _ => rfl

/-- The first head's half of a pair's sums of gradient by output. -/
theorem delta_even {j a e : Nat} (ha : a = 128 * j) (he : e = 256 * j) (hj : j < 8) (h h' h'') {o : Nat} (ho : o = 2 * j) (hr)
    (x : S1x1x512.Idx) :
    k0_pay16 (F := Ideal) (k0_pay14 (F := Ideal) (View.ld (Val := Elt Ideal) (e' := .bf16) D (Rect.unit (s := S512x1024) ![0, a] ![512, 128] h))
        (View.ld (Val := Elt Ideal) (e' := .bf16) b4 (Rect.unit (s := S8x256x128) ![j, 0, 0] ![1, 256, 128] h')))
        (View.ld (Val := Elt Ideal) (e' := .bf16) b2 (Rect.unit (s := S512x2048) ![0, e] ![512, 256] h'')) x =
      (fun y : S16x1x512.Idx => deltaRow (dolRow (row D (y 2)) b4) (row b2 (y 2)) (y 0))
        ((Rect.unit (s := S16x1x512) ![o, 0, 0] ![1, 1, 512] hr).emb x) := by
  unfold k0_pay16 k0_pay15
  pointwise
  have h2 : (Rect.unit (s := S16x1x512) ![o, 0, 0] ![1, 1, 512] hr).emb x 2 = x 2 := Fin.ext (by show 0 + 1 * (x 2).val = (x 2).val; omega)
  have h0 : ((Rect.unit (s := S16x1x512) ![o, 0, 0] ![1, 1, 512] hr).emb x 0).val = o := by
    have : (x 0).val < 1 := (x 0).isLt
    show o + 1 * (x 0).val = o
    omega
  unfold deltaRow
  refine Finset.sum_congr rfl fun n _ => ?_
  rw [h2]
  refine congrArg₂ (· * ·) (pay14_at D b4 ha hj h h' (x 2) _ _ ?_) (congrArg (row b2 (x 2)) (Fin.ext ?_))
  · show 128 * ((Rect.unit (s := S16x1x512) ![o, 0, 0] ![1, 1, 512] hr).emb x 0).val + n.val = 256 * j + n.val
    omega
  · show e + n.val = 128 * ((Rect.unit (s := S16x1x512) ![o, 0, 0] ![1, 1, 512] hr).emb x 0).val + n.val
    omega

/-- The second head's. -/
theorem delta_odd {j a e : Nat} (ha : a = 128 * j) (he : e = 256 * j) (hj : j < 8) (h h' h'') {o : Nat} (ho : o = 2 * j + 1) (hr)
    (x : S1x1x512.Idx) :
    k0_pay17 (F := Ideal) (k0_pay14 (F := Ideal) (View.ld (Val := Elt Ideal) (e' := .bf16) D (Rect.unit (s := S512x1024) ![0, a] ![512, 128] h))
        (View.ld (Val := Elt Ideal) (e' := .bf16) b4 (Rect.unit (s := S8x256x128) ![j, 0, 0] ![1, 256, 128] h')))
        (View.ld (Val := Elt Ideal) (e' := .bf16) b2 (Rect.unit (s := S512x2048) ![0, e] ![512, 256] h'')) x =
      (fun y : S16x1x512.Idx => deltaRow (dolRow (row D (y 2)) b4) (row b2 (y 2)) (y 0))
        ((Rect.unit (s := S16x1x512) ![o, 0, 0] ![1, 1, 512] hr).emb x) := by
  unfold k0_pay17 k0_pay15
  pointwise
  have h2 : (Rect.unit (s := S16x1x512) ![o, 0, 0] ![1, 1, 512] hr).emb x 2 = x 2 := Fin.ext (by show 0 + 1 * (x 2).val = (x 2).val; omega)
  have h0 : ((Rect.unit (s := S16x1x512) ![o, 0, 0] ![1, 1, 512] hr).emb x 0).val = o := by
    have : (x 0).val < 1 := (x 0).isLt
    show o + 1 * (x 0).val = o
    omega
  unfold deltaRow
  refine Finset.sum_congr rfl fun n _ => ?_
  rw [h2]
  refine congrArg₂ (· * ·) (pay14_at D b4 ha hj h h' (x 2) _ _ ?_) (congrArg (row b2 (x 2)) (Fin.ext ?_))
  · show 128 * ((Rect.unit (s := S16x1x512) ![o, 0, 0] ![1, 1, 512] hr).emb x 0).val + n.val = 256 * j + (128 + n.val)
    omega
  · show e + (128 + n.val) = 128 * ((Rect.unit (s := S16x1x512) ![o, 0, 0] ![1, 1, 512] hr).emb x 0).val + n.val
    omega

end Payloads

variable (m : (ℓ : Loc nD τ sig) → Buf (Elt Ideal) ℓ) (c : Dev nD) (t : Fin cfg0.N)

/-- The gradient by the heads' outputs in the point's block. -/
def docatBlock (y : S512x1024.Idx) : EReal :=
  docatRow (duRow (row (iblk m c 0 t) (y 0)) (row (iblk m c 1 t) (y 0)) (row (iblk m c 3 t) 1) (row (iblk m c 3 t) 4)) (iblk m c 5 t) (y 1)

/-- What a point leaves in its block of the gradient before the norm. -/
theorem outs_du (y : S512x1024.Idx) :
    (outsAt0 (F := Ideal) m c t.val t.isLt).1 y =
      duRow (row (iblk m c 0 t) (y 0)) (row (iblk m c 1 t) (y 0)) (row (iblk m c 3 t) 1) (row (iblk m c 3 t) 4) (y 1) := by
  by_cases h : t.val % 8 = 0
  · rw [outsAt0_A m c t h]
    frame_open
    simp (disch := decide) only [↓ View.readCov_skip, ↓ View.readCov_cons_toLoadRect, ↓ View.readCov_fill]
    frame_out
    exact pay12_at _ _ _ _ _ y
  · rw [outsAt0_B m c t h]
    frame_open
    simp (disch := decide) only [↓ View.readCov_skip, ↓ View.readCov_cons_toLoadRect, ↓ View.readCov_fill]
    frame_out
    exact pay12_at _ _ _ _ _ y

/-- What a point leaves in its block of the gradient by the heads' outputs. -/
theorem outs_docat (y : S512x1024.Idx) : (outsAt0 (F := Ideal) m c t.val t.isLt).2.1 y = docatBlock m c t y := by
  by_cases h : t.val % 8 = 0
  · rw [outsAt0_A m c t h]
    frame_open
    simp (disch := decide) only [↓ View.readCov_skip, ↓ View.readCov_cons_toLoadRect, ↓ View.readCov_fill]
    frame_out
    exact pay13_at _ _ _ _ _ _ y
  · rw [outsAt0_B m c t h]
    frame_open
    simp (disch := decide) only [↓ View.readCov_skip, ↓ View.readCov_cons_toLoadRect, ↓ View.readCov_fill]
    frame_out
    exact pay13_at _ _ _ _ _ _ y

/-- The pairs' products are one payload. -/
theorem dol_pays :
    k0_pay18 (F := Ideal) = k0_pay14 ∧ k0_pay23 (F := Ideal) = k0_pay14 ∧ k0_pay28 (F := Ideal) = k0_pay14 ∧ k0_pay33 (F := Ideal) = k0_pay14 ∧
      k0_pay38 (F := Ideal) = k0_pay14 ∧ k0_pay43 (F := Ideal) = k0_pay14 ∧ k0_pay47 (F := Ideal) = k0_pay14 :=
  ⟨rfl, rfl, rfl, rfl, rfl, rfl, rfl⟩

/-- So are the first heads' sums … -/
theorem even_pays (v : Vec Ideal S512x128 .bf16) (w : Vec Ideal S1x256x128 .bf16) (o : Vec Ideal S512x256 .bf16) :
    k0_pay21 (k0_pay19 v w) o = k0_pay16 (k0_pay14 v w) o ∧ k0_pay26 (k0_pay25 v w o) = k0_pay16 (k0_pay14 v w) o ∧
      k0_pay31 (k0_pay30 v w o) = k0_pay16 (k0_pay14 v w) o ∧ k0_pay35 v w o = k0_pay16 (k0_pay14 v w) o ∧
      k0_pay40 v w o = k0_pay16 (k0_pay14 v w) o ∧ k0_pay45 v w o = k0_pay16 (k0_pay14 v w) o ∧
      k0_pay49 v w o = k0_pay16 (k0_pay14 v w) o :=
  ⟨rfl, rfl, rfl, rfl, rfl, rfl, rfl⟩

/-- … and the second heads'. -/
theorem odd_pays (v : Vec Ideal S512x128 .bf16) (w : Vec Ideal S1x256x128 .bf16) (o : Vec Ideal S512x256 .bf16) :
    k0_pay22 (k0_pay19 v w) o = k0_pay17 (k0_pay14 v w) o ∧ k0_pay27 (k0_pay24 v w o) = k0_pay17 (k0_pay14 v w) o ∧
      k0_pay32 (k0_pay29 v w o) = k0_pay17 (k0_pay14 v w) o ∧ k0_pay37 (k0_pay36 v w o) = k0_pay17 (k0_pay14 v w) o ∧
      k0_pay42 (k0_pay41 v w o) = k0_pay17 (k0_pay14 v w) o ∧ k0_pay46 v w o = k0_pay17 (k0_pay14 v w) o ∧
      k0_pay50 v w o = k0_pay17 (k0_pay14 v w) o :=
  ⟨rfl, rfl, rfl, rfl, rfl, rfl, rfl⟩

/-- What a point leaves in its block of the gradient by the latent outputs. -/
theorem outs_dol (y : S512x2048.Idx) :
    (outsAt0 (F := Ideal) m c t.val t.isLt).2.2.1 y = dolRow (row (docatBlock m c t) (y 0)) (iblk m c 4 t) (y 1) := by
  by_cases h : t.val % 8 = 0
  all_goals
    first | rw [outsAt0_A m c t h] | rw [outsAt0_B m c t h]
    frame_open
    simp (disch := decide) only [↓ View.readCov_skip, ↓ View.readCov_cons_toLoadRect, ↓ View.readCov_fill]
    frame_out
    rw [show k0_pay13 (F := Ideal) _ _ _ _ _ = docatBlock m c t from funext (pay13_at (iblk m c 0 t) (iblk m c 1 t) (iblk m c 3 t) (iblk m c 5 t) _ _)]
    obtain ⟨e1, e2, e3, e4, e5, e6, e7⟩ := dol_pays
    rw [e1, e2, e3, e4, e5, e6, e7]
    generalize docatBlock m c t = D
    refine View.canon_append_of_piecesOf (Val := Elt Ideal) (e := .bf16) (fun y => dolRow (row D (y 0)) (iblk m c 4 t) (y 1)) []
      (_ :: _ :: _ :: _ :: _ :: _ :: _ :: _ :: []) ?_ y ?_
    swap
    · exact View.cover_of_tiledL (s := S512x2048) _ S512x256.size (by sl_kernel_rfl) y
    exact ⟨dol_piece D (iblk m c 4 t) (j := 7) rfl rfl (by decide) inb_S512x1024_S512x128_0_896 inb_S8x256x128_S1x256x128_7_0_0 inb_S512x2048_S512x256_0_1792,
      dol_piece D (iblk m c 4 t) (j := 6) rfl rfl (by decide) inb_S512x1024_S512x128_0_768 inb_S8x256x128_S1x256x128_6_0_0 inb_S512x2048_S512x256_0_1536,
      dol_piece D (iblk m c 4 t) (j := 5) rfl rfl (by decide) inb_S512x1024_S512x128_0_640 inb_S8x256x128_S1x256x128_5_0_0 inb_S512x2048_S512x256_0_1280,
      dol_piece D (iblk m c 4 t) (j := 4) rfl rfl (by decide) inb_S512x1024_S512x128_0_512 inb_S8x256x128_S1x256x128_4_0_0 inb_S512x2048_S512x256_0_1024,
      dol_piece D (iblk m c 4 t) (j := 3) rfl rfl (by decide) inb_S512x1024_S512x128_0_384 inb_S8x256x128_S1x256x128_3_0_0 inb_S512x2048_S512x256_0_768,
      dol_piece D (iblk m c 4 t) (j := 2) rfl rfl (by decide) inb_S512x1024_S512x128_0_256 inb_S8x256x128_S1x256x128_2_0_0 inb_S512x2048_S512x256_0_512,
      dol_piece D (iblk m c 4 t) (j := 1) rfl rfl (by decide) inb_S512x1024_S512x128_0_128 inb_S8x256x128_S1x256x128_1_0_0 inb_S512x2048_S512x256_0_256,
      dol_piece D (iblk m c 4 t) (j := 0) rfl rfl (by decide) inb_S512x1024_S512x128_0_0 inb_S8x256x128_S1x256x128_0_0_0 inb_S512x2048_S512x256_0_0,
      trivial⟩

set_option maxHeartbeats 2000000 in
/-- What a point leaves in its block of the sums of gradient by output. -/
theorem outs_delta (y : S16x1x512.Idx) :
    (outsAt0 (F := Ideal) m c t.val t.isLt).2.2.2.1 y =
      deltaRow (dolRow (row (docatBlock m c t) (y 2)) (iblk m c 4 t)) (row (iblk m c 2 t) (y 2)) (y 0) := by
  by_cases h : t.val % 8 = 0
  all_goals
    first | rw [outsAt0_A m c t h] | rw [outsAt0_B m c t h]
    frame_open
    simp (disch := decide) only [↓ View.readCov_skip, ↓ View.readCov_cons_toLoadRect, ↓ View.readCov_fill]
    frame_out
    rw [show k0_pay13 (F := Ideal) _ _ _ _ _ = docatBlock m c t from funext (pay13_at (iblk m c 0 t) (iblk m c 1 t) (iblk m c 3 t) (iblk m c 5 t) _ _)]
    simp only [even_pays, odd_pays]
    generalize docatBlock m c t = D
    refine View.canon_append_of_piecesOf (Val := Elt Ideal) (e := .f32)
      (fun y => deltaRow (dolRow (row D (y 2)) (iblk m c 4 t)) (row (iblk m c 2 t) (y 2)) (y 0)) []
      (_ :: _ :: _ :: _ :: _ :: _ :: _ :: _ :: _ :: _ :: _ :: _ :: _ :: _ :: _ :: _ :: []) ?_ y ?_
    swap
    · exact View.cover_of_tiledL (s := S16x1x512) _ S1x1x512.size (by sl_kernel_rfl) y
    exact ⟨delta_odd D (iblk m c 2 t) (iblk m c 4 t) (j := 7) rfl rfl (by decide) inb_S512x1024_S512x128_0_896 inb_S8x256x128_S1x256x128_7_0_0 inb_S512x2048_S512x256_0_1792 rfl inb_S16x1x512_S1x1x512_15_0_0,
       delta_even D (iblk m c 2 t) (iblk m c 4 t) (j := 7) rfl rfl (by decide) inb_S512x1024_S512x128_0_896 inb_S8x256x128_S1x256x128_7_0_0 inb_S512x2048_S512x256_0_1792 rfl inb_S16x1x512_S1x1x512_14_0_0,

       delta_odd D (iblk m c 2 t) (iblk m c 4 t) (j := 6) rfl rfl (by decide) inb_S512x1024_S512x128_0_768 inb_S8x256x128_S1x256x128_6_0_0 inb_S512x2048_S512x256_0_1536 rfl inb_S16x1x512_S1x1x512_13_0_0,
       delta_even D (iblk m c 2 t) (iblk m c 4 t) (j := 6) rfl rfl (by decide) inb_S512x1024_S512x128_0_768 inb_S8x256x128_S1x256x128_6_0_0 inb_S512x2048_S512x256_0_1536 rfl inb_S16x1x512_S1x1x512_12_0_0,

       delta_odd D (iblk m c 2 t) (iblk m c 4 t) (j := 5) rfl rfl (by decide) inb_S512x1024_S512x128_0_640 inb_S8x256x128_S1x256x128_5_0_0 inb_S512x2048_S512x256_0_1280 rfl inb_S16x1x512_S1x1x512_11_0_0,
       delta_even D (iblk m c 2 t) (iblk m c 4 t) (j := 5) rfl rfl (by decide) inb_S512x1024_S512x128_0_640 inb_S8x256x128_S1x256x128_5_0_0 inb_S512x2048_S512x256_0_1280 rfl inb_S16x1x512_S1x1x512_10_0_0,

       delta_odd D (iblk m c 2 t) (iblk m c 4 t) (j := 4) rfl rfl (by decide) inb_S512x1024_S512x128_0_512 inb_S8x256x128_S1x256x128_4_0_0 inb_S512x2048_S512x256_0_1024 rfl inb_S16x1x512_S1x1x512_9_0_0,
       delta_even D (iblk m c 2 t) (iblk m c 4 t) (j := 4) rfl rfl (by decide) inb_S512x1024_S512x128_0_512 inb_S8x256x128_S1x256x128_4_0_0 inb_S512x2048_S512x256_0_1024 rfl inb_S16x1x512_S1x1x512_8_0_0,

       delta_odd D (iblk m c 2 t) (iblk m c 4 t) (j := 3) rfl rfl (by decide) inb_S512x1024_S512x128_0_384 inb_S8x256x128_S1x256x128_3_0_0 inb_S512x2048_S512x256_0_768 rfl inb_S16x1x512_S1x1x512_7_0_0,
       delta_even D (iblk m c 2 t) (iblk m c 4 t) (j := 3) rfl rfl (by decide) inb_S512x1024_S512x128_0_384 inb_S8x256x128_S1x256x128_3_0_0 inb_S512x2048_S512x256_0_768 rfl inb_S16x1x512_S1x1x512_6_0_0,

       delta_odd D (iblk m c 2 t) (iblk m c 4 t) (j := 2) rfl rfl (by decide) inb_S512x1024_S512x128_0_256 inb_S8x256x128_S1x256x128_2_0_0 inb_S512x2048_S512x256_0_512 rfl inb_S16x1x512_S1x1x512_5_0_0,
       delta_even D (iblk m c 2 t) (iblk m c 4 t) (j := 2) rfl rfl (by decide) inb_S512x1024_S512x128_0_256 inb_S8x256x128_S1x256x128_2_0_0 inb_S512x2048_S512x256_0_512 rfl inb_S16x1x512_S1x1x512_4_0_0,

       delta_odd D (iblk m c 2 t) (iblk m c 4 t) (j := 1) rfl rfl (by decide) inb_S512x1024_S512x128_0_128 inb_S8x256x128_S1x256x128_1_0_0 inb_S512x2048_S512x256_0_256 rfl inb_S16x1x512_S1x1x512_3_0_0,
       delta_even D (iblk m c 2 t) (iblk m c 4 t) (j := 1) rfl rfl (by decide) inb_S512x1024_S512x128_0_128 inb_S8x256x128_S1x256x128_1_0_0 inb_S512x2048_S512x256_0_256 rfl inb_S16x1x512_S1x1x512_2_0_0,

       delta_odd D (iblk m c 2 t) (iblk m c 4 t) (j := 0) rfl rfl (by decide) inb_S512x1024_S512x128_0_0 inb_S8x256x128_S1x256x128_0_0_0 inb_S512x2048_S512x256_0_0 rfl inb_S16x1x512_S1x1x512_1_0_0,
       delta_even D (iblk m c 2 t) (iblk m c 4 t) (j := 0) rfl rfl (by decide) inb_S512x1024_S512x128_0_0 inb_S8x256x128_S1x256x128_0_0_0 inb_S512x2048_S512x256_0_0 rfl inb_S16x1x512_S1x1x512_0_0_0,
       trivial⟩

end Cert.Kernel2Ideal.Hand

end
-- ==== Proof.PostVec.lean ====
/- The two rows that the grid of the gradient through the output projection accumulates. -/
module

public import proofs.«01_k».proof.Proof.PostBlock
public import Idealize.ShloMosaic.Lib.WritesUnit

@[expose] public section

set_option maxRecDepth 16384

noncomputable section

namespace Cert.Kernel2Ideal.Hand

open Cert.Kernel2Ideal Cert.Kernel2Ideal.Gen Idealize.ShloMosaic Idealize.ShloMosaic.TcCoe Idealize.SL.Sem Idealize.ShloMosaic.StableHlo
open Cert.Proof.Post

section Payloads

variable (p : S512x1024.Idx → EReal) (v : S8x1024.Idx → EReal)

theorem pay10_at (h) (i : S1x1024.Idx) :
    k0_pay10 (F := Ideal) p (View.ld (Val := Elt Ideal) (e' := .f32) v (Rect.unit (s := S8x1024) ![2, 0] ![1, 1024] h)) i =
      v (ix2 2 (i 1)) + ∑ q, p (ix2 q (i 1)) := by
  unfold k0_pay10
  pointwise

theorem pay11_at (h) (i : S1x1024.Idx) :
    k0_pay11 (F := Ideal) p (View.ld (Val := Elt Ideal) (e' := .f32) v (Rect.unit (s := S8x1024) ![4, 0] ![1, 1024] h)) i =
      v (ix2 4 (i 1)) + ∑ q, p (ix2 q (i 1)) := by
  unfold k0_pay11
  pointwise

theorem pay1_at (i : S8x1024.Idx) : k0_pay1 (F := Ideal) i = 0 := by
  unfold k0_pay1
  pointwise

end Payloads

variable (m : (ℓ : Loc nD τ sig) → Buf (Elt Ideal) ℓ) (c : Dev nD) (t : Fin cfg0.N)

/-- What a point adds to the gradient by the gate. -/
def dgateStep (j : Fin 1024) : EReal :=
  ∑ q, dgateRow (row (iblk m c 0 t) q) (row (iblk m c 1 t) q) (row (iblk m c 3 t) 1) j

/-- What a point adds to the gradient by the norm's weight. -/
def dpostStep (j : Fin 1024) : EReal :=
  ∑ q, dpostRow (row (iblk m c 0 t) q) (row (iblk m c 1 t) q) (row (iblk m c 3 t) 4) j

theorem emb_row {o : Nat} (ho : o < 8) (h : ∀ a, (![o, 0] : Fin 2 → Nat) a + (![1, 1024] : Fin 2 → Nat) a ≤ S8x1024.size a) (j : Fin 1024) :
    (Rect.unit (s := S8x1024) ![o, 0] ![1, 1024] h).emb (ix2 0 j) = ix2 ⟨o, ho⟩ j := by
  funext a
  refine Fin.ext ?_
  match a with
  | 0 => rfl
  | 1 => show 0 + 1 * j.val = j.val; omega

theorem outs_dgate_first (h : t.val % 8 = 0) (j : Fin 1024) :
    (outsAt0 (F := Ideal) m c t.val t.isLt).2.2.2.2 (ix2 2 j) = 0 + dgateStep m c t j := by
  rw [outsAt0_A m c t h]
  frame_open
  simp (disch := decide) only [↓ View.readCov_skip, ↓ View.readCov_cons_toLoadRect, ↓ View.readCov_fill]
  frame_out
  refine (View.canon_cons_of_not_mem _ _ fun hm => ?_).trans ?_
  · rw [Rect.mem_set_unit] at hm
    exact absurd (hm 0).1 (show ¬ 4 ≤ 2 by decide)
  refine (congrArg _ (emb_row (o := 2) (by decide) inb_S8x1024_S1x1024_2_0 j).symm).trans ((View.canon_cons_emb _ _ _ _).trans ?_)
  refine (pay10_at _ _ _ _).trans (congrArg₂ (· + ·) (pay1_at _) (Finset.sum_congr rfl fun q _ => ?_))
  exact pay6_at _ _ _ _ _

/-- Row 2 after the two rows of a point are written. -/
theorem read_dgate (f : (ms0_10 t).view.ty.Contents (Elt Ideal)) (w4 w2 : S1x1024.Idx → Elt Ideal .f32) (j : Fin 1024) :
    View.read (Elt Ideal) (ms0_10 t).view ((ms0_10 t).view.writes (Elt Ideal) f
      [⟨Rect.unit (s := S8x1024) ![4, 0] ![1, 1024] inb_S8x1024_S1x1024_4_0, w4⟩,
        ⟨Rect.unit (s := S8x1024) ![2, 0] ![1, 1024] inb_S8x1024_S1x1024_2_0, w2⟩]) (ix2 2 j) = w2 (ix2 0 j) :=
  (View.read_writes_cons_rows_of_not_mem _ _ _ _ _ _ rfl rfl (Or.inl (show 2 < 4 by decide))).trans
    (View.read_writes_cons_rows_of_mem (o := 2) _ _ _ _ _ _ (ix2 0 j) rfl rfl rfl)

/-- Row 4. -/
theorem read_dpost (f : (ms0_10 t).view.ty.Contents (Elt Ideal)) (w4 : S1x1024.Idx → Elt Ideal .f32) (L) (j : Fin 1024) :
    View.read (Elt Ideal) (ms0_10 t).view ((ms0_10 t).view.writes (Elt Ideal) f
      (⟨Rect.unit (s := S8x1024) ![4, 0] ![1, 1024] inb_S8x1024_S1x1024_4_0, w4⟩ :: L)) (ix2 4 j) = w4 (ix2 0 j) :=
  View.read_writes_cons_rows_of_mem (o := 4) _ _ _ _ _ _ (ix2 0 j) rfl rfl rfl

theorem outs_dgate_next (h : ¬t.val % 8 = 0) (j : Fin 1024) :
    (outsAt0 (F := Ideal) m c t.val t.isLt).2.2.2.2 (ix2 2 j) =
      (outsAt0 (F := Ideal) m c (t.val - 1) (by omega)).2.2.2.2 (ix2 2 j) + dgateStep m c t j := by
  rw [outsAt0_B m c t h]
  frame_open
  simp (disch := decide) only [↓ View.readCov_skip, ↓ View.readCov_cons_toLoadRect, ↓ View.readCov_fill]
  frame_out
  generalize (outsAt0 (F := Ideal) m c (t.val - 1) (by omega)).2.2.2.2 = prev
  rw [read_dgate]
  rw [pay10_at]
  exact congrArg (prev (ix2 2 j) + ·) (Finset.sum_congr rfl fun q _ => pay6_at _ _ _ _ _)

theorem outs_dpost_first (h : t.val % 8 = 0) (j : Fin 1024) :
    (outsAt0 (F := Ideal) m c t.val t.isLt).2.2.2.2 (ix2 4 j) = 0 + dpostStep m c t j := by
  rw [outsAt0_A m c t h]
  frame_open
  simp (disch := decide) only [↓ View.readCov_skip, ↓ View.readCov_cons_toLoadRect, ↓ View.readCov_fill]
  frame_out
  refine (congrArg _ (emb_row (o := 4) (by decide) inb_S8x1024_S1x1024_4_0 j).symm).trans ((View.canon_cons_emb _ _ _ _).trans ?_)
  refine (pay11_at _ _ _ _).trans (congrArg₂ (· + ·) (pay1_at _) (Finset.sum_congr rfl fun q _ => ?_))
  exact pay7_at _ _ _ _ _

theorem outs_dpost_next (h : ¬t.val % 8 = 0) (j : Fin 1024) :
    (outsAt0 (F := Ideal) m c t.val t.isLt).2.2.2.2 (ix2 4 j) =
      (outsAt0 (F := Ideal) m c (t.val - 1) (by omega)).2.2.2.2 (ix2 4 j) + dpostStep m c t j := by
  rw [outsAt0_B m c t h]
  frame_open
  simp (disch := decide) only [↓ View.readCov_skip, ↓ View.readCov_cons_toLoadRect, ↓ View.readCov_fill]
  frame_out
  generalize (outsAt0 (F := Ideal) m c (t.val - 1) (by omega)).2.2.2.2 = prev
  rw [read_dpost]
  rw [pay11_at]
  exact congrArg (prev (ix2 4 j) + ·) (Finset.sum_congr rfl fun q _ => pay7_at _ _ _ _ _)

end Cert.Kernel2Ideal.Hand

end
-- ==== Proof.PostArrays.lean ====
/- The arrays that the grid of the gradient through the output projection leaves, from the arrays it reads. -/
module

public import proofs.«01_k».proof.Proof.PostVec

@[expose] public section

set_option maxRecDepth 16384

noncomputable section

namespace Cert.Kernel2Ideal.Hand

open Cert.Kernel2Ideal Cert.Kernel2Ideal.Gen Idealize.ShloMosaic Idealize.ShloMosaic.TcCoe Idealize.SL.Sem Idealize.ShloMosaic.StableHlo
open Cert.Proof.Post

variable (m : (ℓ : Loc nD τ sig) → Buf (Elt Ideal) ℓ) (c : Dev nD)

/-- The row of the array that is row `q` of a grid point's block. -/
def rowOf (t : Fin cfg0.N) (q : Fin 512) : Fin 4096 := ⟨t.val * 512 + q.val, by have := t.isLt; have : cfg0.N = 8 := N_0; omega⟩

theorem index_0 : ∀ t : Fin cfg0.N, (cfg0.win 0).index t = ![t.val, 0] := by decide +kernel
theorem index_1 : ∀ t : Fin cfg0.N, (cfg0.win 1).index t = ![t.val, 0] := by decide +kernel
theorem index_2 : ∀ t : Fin cfg0.N, (cfg0.win 2).index t = ![t.val, 0] := by decide +kernel
theorem index_3 : ∀ t : Fin cfg0.N, (cfg0.win 3).index t = ![0, 0] := by decide +kernel
theorem index_4 : ∀ t : Fin cfg0.N, (cfg0.win 4).index t = ![0, 0, 0] := by decide +kernel
theorem index_5 : ∀ t : Fin cfg0.N, (cfg0.win 5).index t = ![0, 0] := by decide +kernel
theorem index_6 : ∀ t : Fin cfg0.N, (cfg0.win 6).index t = ![t.val, 0] := by decide +kernel
theorem index_7 : ∀ t : Fin cfg0.N, (cfg0.win 7).index t = ![t.val, 0] := by decide +kernel
theorem index_8 : ∀ t : Fin cfg0.N, (cfg0.win 8).index t = ![t.val, 0] := by decide +kernel
theorem index_9 : ∀ t : Fin cfg0.N, (cfg0.win 9).index t = ![0, 0, t.val] := by decide +kernel

variable {m c}

theorem emb_0 (A : S4096x1024.Idx → EReal) (t : Fin cfg0.N) (q : Fin 512) (k : Fin 1024) :
    ((cfg0.win 0).blk t).view.read (Elt Ideal) A (ix2 q k) = A (ix2 (rowOf t q) k) := by
  refine congrArg A (funext fun a => Fin.ext ?_)
  match a with
  | 0 => blk_simp [index_0 t]; rfl
  | 1 => blk_simp [index_0 t]

theorem emb_1 (A : S4096x1024.Idx → EReal) (t : Fin cfg0.N) (q : Fin 512) (k : Fin 1024) :
    ((cfg0.win 1).blk t).view.read (Elt Ideal) A (ix2 q k) = A (ix2 (rowOf t q) k) := by
  refine congrArg A (funext fun a => Fin.ext ?_)
  match a with
  | 0 => blk_simp [index_1 t]; rfl
  | 1 => blk_simp [index_1 t]

theorem emb_2 (A : S4096x2048.Idx → EReal) (t : Fin cfg0.N) (q : Fin 512) (k : Fin 2048) :
    ((cfg0.win 2).blk t).view.read (Elt Ideal) A (ix2 q k) = A (ix2 (rowOf t q) k) := by
  refine congrArg A (funext fun a => Fin.ext ?_)
  match a with
  | 0 => blk_simp [index_2 t]; rfl
  | 1 => blk_simp [index_2 t]

theorem emb_3 (A : S8x1024.Idx → EReal) (t : Fin cfg0.N) : ((cfg0.win 3).blk t).view.read (Elt Ideal) A = A := by
  refine funext fun y => congrArg A (funext fun a => Fin.ext ?_)
  match a with
  | 0 => blk_simp [index_3 t]
  | 1 => blk_simp [index_3 t]

theorem emb_4 (A : S8x256x128.Idx → EReal) (t : Fin cfg0.N) : ((cfg0.win 4).blk t).view.read (Elt Ideal) A = A := by
  refine funext fun y => congrArg A (funext fun a => Fin.ext ?_)
  match a with
  | 0 => blk_simp [index_4 t]
  | 1 => blk_simp [index_4 t]
  | 2 => blk_simp [index_4 t]

theorem emb_5 (A : S1024x1024.Idx → EReal) (t : Fin cfg0.N) : ((cfg0.win 5).blk t).view.read (Elt Ideal) A = A := by
  refine funext fun y => congrArg A (funext fun a => Fin.ext ?_)
  match a with
  | 0 => blk_simp [index_5 t]
  | 1 => blk_simp [index_5 t]

/-! ## The arrays the region reads -/

variable (m c)

/-- The cotangent. -/
def doutArr : S4096x1024.Idx → EReal := V m c main_arg5
/-- The projected outputs. -/
def uArr : S4096x1024.Idx → EReal := V m c main_v28
/-- The latent outputs, the heads side by side. -/
def olArr : S4096x2048.Idx → EReal := V m c main_v30
/-- The vectors, a row each. -/
def vecArr : S8x1024.Idx → EReal := V m c main_v9
/-- The value maps, two heads on a diagonal of blocks. -/
def bdArr : S8x256x128.Idx → EReal := V m c main_v24
/-- The output projection. -/
def woArr : S1024x1024.Idx → EReal := V m c main_v31

/-! ## What the region leaves -/

/-- The gradient before the norm. -/
def duArr (y : S4096x1024.Idx) : EReal :=
  duRow (row (doutArr m c) (y 0)) (row (uArr m c) (y 0)) (row (vecArr m c) 1) (row (vecArr m c) 4) (y 1)

/-- The gradient by the heads' outputs. -/
def docArr (y : S4096x1024.Idx) : EReal := docatRow (row (duArr m c) (y 0)) (woArr m c) (y 1)

/-- The gradient by the latent outputs. -/
def dolArr (y : S4096x2048.Idx) : EReal := dolRow (row (docArr m c) (y 0)) (bdArr m c) (y 1)

/-- The sums of gradient by output. -/
def deltaArr (y : S16x1x4096.Idx) : EReal := deltaRow (row (dolArr m c) (y 2)) (row (olArr m c) (y 2)) (y 0)

/-- The gradient by the gate. -/
def dgateArr (j : Fin 1024) : EReal :=
  ∑ i : Fin 4096, dgateRow (row (doutArr m c) i) (row (uArr m c) i) (row (vecArr m c) 1) j

/-- The gradient by the norm's weight. -/
def dpostArr (j : Fin 1024) : EReal :=
  ∑ i : Fin 4096, dpostRow (row (doutArr m c) i) (row (uArr m c) i) (row (vecArr m c) 4) j

variable {m c}

theorem row_0 (t : Fin cfg0.N) (q : Fin 512) : row (iblk m c 0 t) q = row (doutArr m c) (rowOf t q) :=
  funext fun k => emb_0 (V m c main_arg5) t q k

theorem row_1 (t : Fin cfg0.N) (q : Fin 512) : row (iblk m c 1 t) q = row (uArr m c) (rowOf t q) :=
  funext fun k => emb_1 (V m c main_v28) t q k

theorem row_2 (t : Fin cfg0.N) (q : Fin 512) : row (iblk m c 2 t) q = row (olArr m c) (rowOf t q) :=
  funext fun k => emb_2 (V m c main_v30) t q k

theorem blk_3 (t : Fin cfg0.N) : (iblk m c 3 t : S8x1024.Idx → EReal) = vecArr m c := emb_3 (V m c main_v9) t
theorem blk_4 (t : Fin cfg0.N) : (iblk m c 4 t : S8x256x128.Idx → EReal) = bdArr m c := emb_4 (V m c main_v24) t
theorem blk_5 (t : Fin cfg0.N) : (iblk m c 5 t : S1024x1024.Idx → EReal) = woArr m c := emb_5 (V m c main_v31) t

/-- A block's row of the gradient before the norm is the array's. -/
theorem du_eq (t : Fin cfg0.N) (q : Fin 512) (k : Fin 1024) :
    duRow (row (iblk m c 0 t) q) (row (iblk m c 1 t) q) (row (iblk m c 3 t) 1) (row (iblk m c 3 t) 4) k = duArr m c (ix2 (rowOf t q) k) := by
  rw [row_0, row_1, blk_3]
  rfl

theorem doc_eq (t : Fin cfg0.N) (q : Fin 512) (k : Fin 1024) : docatBlock m c t (ix2 q k) = docArr m c (ix2 (rowOf t q) k) := by
  refine congrArg₂ (fun d w => docatRow d w k) (funext fun j => ?_) (blk_5 t)
  exact du_eq t q j

theorem dol_eq (t : Fin cfg0.N) (q : Fin 512) (e : Fin 2048) :
    dolRow (row (docatBlock m c t) q) (iblk m c 4 t) e = dolArr m c (ix2 (rowOf t q) e) :=
  congrArg₂ (fun d w => dolRow d w e) (funext fun j => doc_eq t q j) (blk_4 t)

theorem delta_eq (t : Fin cfg0.N) (q : Fin 512) (h : Fin 16) :
    deltaRow (dolRow (row (docatBlock m c t) q) (iblk m c 4 t)) (row (iblk m c 2 t) q) h = deltaArr m c (ix3 h 0 (rowOf t q)) :=
  congrArg₂ (fun d w => deltaRow d w h) (funext fun e => dol_eq t q e) (row_2 t q)

/-- A sum over the points and the rows of their blocks is one over the rows. -/
theorem sum_points (f : Fin 4096 → EReal) : ∑ t : Fin cfg0.N, ∑ q : Fin 512, f (rowOf t q) = ∑ i, f i := by
  have e : ∑ i : Fin 4096, f i = ∑ b : Fin 8, ∑ q : Fin 512, f ⟨b.val * 512 + q.val, by omega⟩ := by
    rw [← (finProdFinEquiv (m := 8) (n := 512)).sum_comp f, Fintype.sum_prod_type]
    refine Finset.sum_congr rfl fun b _ => Finset.sum_congr rfl fun q _ => congrArg f (Fin.ext ?_)
    exact (Nat.add_comm _ _).trans (congrArg (· + _) (Nat.mul_comm _ _))
  rw [e]
  exact (finCongr N_0).sum_comp fun b : Fin 8 => ∑ q : Fin 512, f ⟨b.val * 512 + q.val, by omega⟩

/-- The last point. -/
def lastPt : Fin cfg0.N := ⟨7, Nat.lt_of_lt_of_eq (by decide : 7 < 8) N_0.symm⟩

theorem outs_dgate_last (j : Fin 1024) :
    (outsAt0 (F := Ideal) m c lastPt.val lastPt.isLt).2.2.2.2 (ix2 2 j) = dgateArr m c j := by
  refine (Pipeline.eq_sum_fin_of_reset_step_apply_last (fun n hn j => (outsAt0 (F := Ideal) m c n hn).2.2.2.2 (ix2 2 j)) 8 (fun _ => (0 : EReal))
    (fun t j => dgateStep m c t j) (fun t h i => outs_dgate_first m c t h i) (fun t h i => outs_dgate_next m c t h i) N_0.le lastPt
    N_0.symm j).trans ?_
  rw [zero_add]
  refine Eq.trans ?_ (sum_points fun i => dgateRow (row (doutArr m c) i) (row (uArr m c) i) (row (vecArr m c) 1) j)
  refine Finset.sum_congr rfl fun t _ => Finset.sum_congr rfl fun q _ => ?_
  rw [row_0, row_1, blk_3]

theorem outs_dpost_last (j : Fin 1024) :
    (outsAt0 (F := Ideal) m c lastPt.val lastPt.isLt).2.2.2.2 (ix2 4 j) = dpostArr m c j := by
  refine (Pipeline.eq_sum_fin_of_reset_step_apply_last (fun n hn j => (outsAt0 (F := Ideal) m c n hn).2.2.2.2 (ix2 4 j)) 8 (fun _ => (0 : EReal))
    (fun t j => dpostStep m c t j) (fun t h i => outs_dpost_first m c t h i) (fun t h i => outs_dpost_next m c t h i) N_0.le lastPt
    N_0.symm j).trans ?_
  rw [zero_add]
  refine Eq.trans ?_ (sum_points fun i => dpostRow (row (doutArr m c) i) (row (uArr m c) i) (row (vecArr m c) 4) j)
  refine Finset.sum_congr rfl fun t _ => Finset.sum_congr rfl fun q _ => ?_
  rw [row_0, row_1, blk_3]

theorem arr_du : (dats (F := Ideal) m 0 c).arrAt 6 cfg0.N = duArr m c := by
  refine (dats m 0 c).arrAt_eq_of_covers 6 _ (by decide +kernel) fun t hf y => ?_
  blk_simp
  rw [after0_6]
  refine (outs_du m c t y).trans ((du_eq t (y 0) (y 1)).trans (congrArg (duArr m c) (funext fun a => Fin.ext ?_)))
  match a with
  | 0 => blk_simp [index_6 t]; rfl
  | 1 => blk_simp [index_6 t]

theorem arr_doc : (dats (F := Ideal) m 0 c).arrAt 7 cfg0.N = docArr m c := by
  refine (dats m 0 c).arrAt_eq_of_covers 7 _ (by decide +kernel) fun t hf y => ?_
  blk_simp
  rw [after0_7]
  refine (outs_docat m c t y).trans ((congrArg _ (ValueIdx.eq_ix2 y)).trans ((doc_eq t (y 0) (y 1)).trans (congrArg (docArr m c) (funext fun a => Fin.ext ?_))))
  match a with
  | 0 => blk_simp [index_7 t]; rfl
  | 1 => blk_simp [index_7 t]

theorem arr_dol : (dats (F := Ideal) m 0 c).arrAt 8 cfg0.N = dolArr m c := by
  refine (dats m 0 c).arrAt_eq_of_covers 8 _ (by decide +kernel) fun t hf y => ?_
  blk_simp
  rw [after0_8]
  refine (outs_dol m c t y).trans ((dol_eq t (y 0) (y 1)).trans (congrArg (dolArr m c) (funext fun a => Fin.ext ?_)))
  match a with
  | 0 => blk_simp [index_8 t]; rfl
  | 1 => blk_simp [index_8 t]

theorem arr_delta : (dats (F := Ideal) m 0 c).arrAt 9 cfg0.N = deltaArr m c := by
  refine (dats m 0 c).arrAt_eq_of_covers 9 _ (by decide +kernel) fun t hf y => ?_
  blk_simp
  rw [after0_9]
  refine (outs_delta m c t y).trans ((delta_eq t (y 2) (y 0)).trans (congrArg (deltaArr m c) (funext fun a => Fin.ext ?_)))
  match a with
  | 0 => blk_simp [index_9 t]
  | 1 => blk_simp [index_9 t]; have : (y 1).val < 1 := (y 1).isLt; omega
  | 2 => blk_simp [index_9 t]; rfl

/-- The accumulated rows are those of the last point. -/
theorem arr_vec : (dats (F := Ideal) m 0 c).arrAt 10 cfg0.N = (outsAt0 (F := Ideal) m c lastPt.val lastPt.isLt).2.2.2.2 := by
  refine (dats m 0 c).arrAt_eq_of_after_last 10 lastPt (by decide +kernel) _ fun j => ?_
  blk_simp
  rw [after0_10]

end Cert.Kernel2Ideal.Hand

end
-- ==== Proof.PostHost.lean ====
/- The arrays that the grid of the gradient through the output projection reads, from the arguments. -/
module

public import proofs.«01_k».proof.Proof.PostArrays
public import Idealize.ShloMosaic.Lib.StableHlo.RunRead

@[expose] public section

set_option maxRecDepth 16384

noncomputable section

namespace Cert.Kernel2Ideal.Hand

open Cert.Kernel2Ideal Cert.Kernel2Ideal.Gen Idealize.ShloMosaic Idealize.ShloMosaic.TcCoe Idealize.SL.Sem Idealize.ShloMosaic.StableHlo
open Cert.Proof.Post

section Ops

variable (x0 : FVec Ideal S4096x16x128 .f32) (x1 : FVec Ideal S128x16x64 .f32) (x2 : FVec Ideal S1024x1024 .f32)
  (x3 x4 : FVec Ideal S1024 .f32)

/-- A vector as a row. -/
def asRow (x : FVec Ideal S1024 .f32) : FVec Ideal S1x1024 .f32 := broadcastInDim S1x1024 ![1] bcast_S1024_S1x1024_1 x

/-- The vector of zeros. -/
def noVec : FVec Ideal S1024 .f32 := broadcastInDim S1024 ![] bcast_S_S1024 (constant (F := Ideal) S_ .f32 0x00000000#32)

/-- The vectors, a row each. -/
def vecs : FVec Ideal S8x1024 .f32 :=
  concatenate S8x1024 0 [⟨S1x1024, asRow noVec⟩, ⟨S1x1024, asRow x3⟩, ⟨S1x1024, asRow noVec⟩, ⟨S1x1024, asRow noVec⟩, ⟨S1x1024, asRow x4⟩,
    ⟨S1x1024, asRow noVec⟩, ⟨S1x1024, asRow noVec⟩, ⟨S1x1024, asRow noVec⟩]
    concatenates_S1x1024_S1x1024_S1x1024_S1x1024_S1x1024_S1x1024_S1x1024_S1x1024_S8x1024_d0

/-- The heads' outputs side by side, projected. -/
def projected : FVec Ideal S4096x1024 .f32 :=
  Host.dotGeneral dot_S4096x1024_S1024x1024_S4096x1024_1_0_0_1_n_n none
    (shapeCast S4096x1024 (transpose S4096x16x64 [2, 0, 1]
      (Host.dotGeneral dot_S128x16x64_S4096x16x128_S16x64x4096_0_2_2_0_1_1 none x1 x0) transposes_S16x64x4096_S4096x16x64_2_0_1)
      shapeCasts_S4096x16x64_S4096x1024) x2

/-- The latent outputs, the heads side by side. -/
def flatLat : FVec Ideal S4096x2048 .bf16 := truncf .bf16 (shapeCast S4096x2048 x0 shapeCasts_S4096x16x128_S4096x2048) bitsLt_bf16_f32

/-- One where two of a pair's heads are the same, else zero. -/
def same : FVec Ideal S2x2 .bf16 :=
  uitofp .bf16 (cmpi .eq (addi (iotaInDim S2x2 32 0) (broadcastInDim S2x2 ![] bcast_S_S2x2 (constantI S_ 32 0#32))) (iotaInDim S2x2 32 1))

/-- The value maps, two heads on a diagonal of blocks. -/
def diag : FVec Ideal S8x256x128 .bf16 :=
  shapeCast S8x256x128 (mulf (broadcastInDim S8x2x128x2x64 ![0, 1, 2, 3, 4] bcast_S8x2x128x1x64_S8x2x128x2x64_0_1_2_3_4
      (broadcastInDim S8x2x128x1x64 ![0, 1, 2, 4] bcast_S8x2x128x64_S8x2x128x1x64_0_1_2_4
        (shapeCast S8x2x128x64 (transpose S16x128x64 [1, 0, 2] (truncf .bf16 x1 bitsLt_bf16_f32) transposes_S128x16x64_S16x128x64_1_0_2)
          shapeCasts_S16x128x64_S8x2x128x64)))
    (broadcastInDim S8x2x128x2x64 ![0, 1, 2, 3, 4] bcast_S1x2x1x2x1_S8x2x128x2x64_0_1_2_3_4
      (broadcastInDim S1x2x1x2x1 ![1, 3] bcast_S2x2_S1x2x1x2x1_1_3 same))) shapeCasts_S8x2x128x2x64_S8x256x128

end Ops

variable (m : (ℓ : Loc nD τ sig) → Buf (Elt Ideal) ℓ) (c : Dev nD)

theorem V_vec : V m c main_v9 = vecs (m ((c.tc : Thread nD τ).loc main_arg3)) (m ((c.tc : Thread nD τ).loc main_arg4)) := by
  show StableHlo.after (List.flatten [hostOps0]) _ (Proc.devRef .tc main_v9) = _
  simp only [List.flatten_cons, List.flatten_nil, List.append_nil, hostOps0, List.cons_append, List.nil_append]
  after_results_simp
  rfl

theorem V_u : V m c main_v28 = projected (m ((c.tc : Thread nD τ).loc main_arg0)) (m ((c.tc : Thread nD τ).loc main_arg1))
    (m ((c.tc : Thread nD τ).loc main_arg2)) := by
  show StableHlo.after (List.flatten [hostOps0]) _ (Proc.devRef .tc main_v28) = _
  simp only [List.flatten_cons, List.flatten_nil, List.append_nil, hostOps0, List.cons_append, List.nil_append]
  after_results_simp
  rfl

theorem V_ol : V m c main_v30 = flatLat (m ((c.tc : Thread nD τ).loc main_arg0)) := by
  show StableHlo.after (List.flatten [hostOps0]) _ (Proc.devRef .tc main_v30) = _
  simp only [List.flatten_cons, List.flatten_nil, List.append_nil, hostOps0, List.cons_append, List.nil_append]
  after_results_simp
  rfl

theorem V_bd : V m c main_v24 = diag (m ((c.tc : Thread nD τ).loc main_arg1)) := by
  show StableHlo.after (List.flatten [hostOps0]) _ (Proc.devRef .tc main_v24) = _
  simp only [List.flatten_cons, List.flatten_nil, List.append_nil, hostOps0, List.cons_append, List.nil_append]
  after_results_simp
  rfl

theorem V_wo : V m c main_v31 = (m ((c.tc : Thread nD τ).loc main_arg2) : S1024x1024.Idx → EReal) := by
  show StableHlo.after (List.flatten [hostOps0]) _ (Proc.devRef .tc main_v31) = _
  simp only [List.flatten_cons, List.flatten_nil, List.append_nil, hostOps0, List.cons_append, List.nil_append]
  after_results_simp
  rfl

theorem V_dout : V m c main_arg5 = m ((c.tc : Thread nD τ).loc main_arg5) := by
  show StableHlo.after (List.flatten [hostOps0]) _ (Proc.devRef .tc main_arg5) = _
  simp only [List.flatten_cons, List.flatten_nil, List.append_nil, hostOps0, List.cons_append, List.nil_append]
  after_results_simp

/-! ## Their entries -/

variable (x0 : S4096x16x128.Idx → EReal) (x1 : S128x16x64.Idx → EReal) (x2 : S1024x1024.Idx → EReal) (x3 x4 : S1024.Idx → EReal)

theorem vecs_g (k : Fin 1024) : vecs x3 x4 (ix2 1 k) = x3 (ix1 k) := by
  unfold vecs asRow noVec
  pointwise

theorem vecs_gate (k : Fin 1024) : vecs x3 x4 (ix2 4 k) = x4 (ix1 k) := by
  unfold vecs asRow noVec
  pointwise

theorem projected_at (i : Fin 4096) (k : Fin 1024) : projected x0 x1 x2 (ix2 i k) = uAt x0 x1 x2 i k := by
  unfold projected
  pointwise
  rfl

theorem flatLat_at (i : Fin 4096) (h : Fin 16) (e : Fin 128) :
    flatLat x0 (ix2 i ⟨128 * h.val + e.val, by omega⟩) = x0 (ix3 i h e) := by
  unfold flatLat
  pointwise

/-- The comparison of two small numbers, as a number. -/
theorem same_eq (a b : Nat) (ha : a < 2) (hb : b < 2) :
    FloatOps.uitofp (F := Ideal) FTy.bf16 (IntOp.cmpi CmpIPredicate.eq (IntOp.addi (BitVec.ofNat 32 a) 0#32) (BitVec.ofNat 32 b))
      = if a = b then 1 else 0 := by
  have h : IntOp.cmpi CmpIPredicate.eq (IntOp.addi (BitVec.ofNat 32 a) 0#32) (BitVec.ofNat 32 b) = if a = b then 1#1 else 0#1 := by
    interval_cases a <;> interval_cases b <;> decide
  rw [h]
  split <;> simp [FloatOps.uitofp]

theorem diag_at (j : Fin 8) (z : Fin 256) (n : Fin 128) :
    diag x1 (ix3 j z n) = x1 (ix3 ⟨z.val % 128, by omega⟩ ⟨2 * j.val + z.val / 128, by omega⟩ ⟨n.val % 64, by omega⟩) *
      if z.val / 128 = n.val / 64 then 1 else 0 := by
  unfold diag same
  pointwise
  rw [same_eq _ _ (by omega) (by omega)]
  exact congrArg (· * _) (congrArg (fun h => x1 (ix3 _ h _)) (Fin.ext (congrArg (· + _) (Nat.mul_comm _ _))))

end Cert.Kernel2Ideal.Hand

end
-- ==== Proof.PostResults.lean ====
/- The results of the gradient through the output projection, from the arguments. -/
module

public import proofs.«01_k».proof.Proof.PostHost
public import Idealize.ShloMosaic.Lib.Pipeline.FrameSuffix

@[expose] public section

set_option maxRecDepth 16384

noncomputable section

namespace Cert.Kernel2Ideal.Hand

open Cert.Kernel2Ideal Cert.Kernel2Ideal.Gen Idealize.ShloMosaic Idealize.ShloMosaic.TcCoe Idealize.SL.Sem Idealize.ShloMosaic.StableHlo
open Cert.Proof.Post

variable (m : (ℓ : Loc nD τ sig) → Buf (Elt Ideal) ℓ) (c : Dev nD)

/-- The arguments. -/
abbrev a0 : S4096x16x128.Idx → EReal := m ((c.tc : Thread nD τ).loc main_arg0)
abbrev a1 : S128x16x64.Idx → EReal := m ((c.tc : Thread nD τ).loc main_arg1)
abbrev a2 : S1024x1024.Idx → EReal := m ((c.tc : Thread nD τ).loc main_arg2)
abbrev a3 : S1024.Idx → EReal := m ((c.tc : Thread nD τ).loc main_arg3)
abbrev a4 : S1024.Idx → EReal := m ((c.tc : Thread nD τ).loc main_arg4)
abbrev a5 : S4096x1024.Idx → EReal := m ((c.tc : Thread nD τ).loc main_arg5)

theorem row_dout (i : Fin 4096) : row (doutArr m c) i = fun k => a5 m c (ix2 i k) := congrArg (row · i) (V_dout m c)

theorem row_u (i : Fin 4096) : row (uArr m c) i = uAt (a0 m c) (a1 m c) (a2 m c) i :=
  (congrArg (row · i) (V_u m c)).trans (funext fun k => projected_at _ _ _ i k)

theorem row_g : row (vecArr m c) 1 = fun k => a3 m c (ix1 k) :=
  (congrArg (row · 1) (V_vec m c)).trans (funext fun k => vecs_g _ _ k)

theorem row_gate : row (vecArr m c) 4 = fun k => a4 m c (ix1 k) :=
  (congrArg (row · 4) (V_vec m c)).trans (funext fun k => vecs_gate _ _ k)

theorem du_args (i : Fin 4096) (k : Fin 1024) :
    duArr m c (ix2 i k) = duAt (a0 m c) (a1 m c) (a2 m c) (a3 m c) (a4 m c) (a5 m c) i k := by
  show duRow (row (doutArr m c) i) (row (uArr m c) i) (row (vecArr m c) 1) (row (vecArr m c) 4) k = _
  rw [row_dout, row_u, row_g, row_gate]
  rfl

theorem doc_args (i : Fin 4096) (n : Fin 1024) :
    docArr m c (ix2 i n) = docAt (a0 m c) (a1 m c) (a2 m c) (a3 m c) (a4 m c) (a5 m c) i n :=
  congrArg₂ (fun d w => docatRow d w n) (funext fun k => du_args m c i k) (V_wo m c)

theorem dol_args (i : Fin 4096) (h : Fin 16) (e : Fin 128) (x : Fin 2048) (hx : x.val = 128 * h.val + e.val) :
    dolArr m c (ix2 i x) = dolAt (a0 m c) (a1 m c) (a2 m c) (a3 m c) (a4 m c) (a5 m c) i h e := by
  refine (dolRow_diag _ _ (a1 m c) (fun j z n => ?_) x h e hx).trans (Finset.sum_congr rfl fun v _ => congrArg (· * _) (doc_args m c i _))
  exact (congrFun (V_bd m c) _).trans (diag_at _ j z n)

theorem delta_args (h : Fin 16) (i : Fin 4096) :
    deltaArr m c (ix3 h 0 i) = deltaAt (a0 m c) (a1 m c) (a2 m c) (a3 m c) (a4 m c) (a5 m c) h i := by
  change ∑ e : Fin 128, dolArr m c (ix2 i ⟨128 * h.val + e.val, by omega⟩) * olArr m c (ix2 i ⟨128 * h.val + e.val, by omega⟩) = _
  refine Finset.sum_congr rfl fun e _ => congrArg₂ (· * ·) (dol_args m c i h e ⟨128 * h.val + e.val, by omega⟩ rfl) ?_
  exact (congrFun (V_ol m c) _).trans (flatLat_at _ i h e)

/-! The same at an index of the result. -/

theorem du_res (y : S4096x1024.Idx) : duArr m c y = duAt (a0 m c) (a1 m c) (a2 m c) (a3 m c) (a4 m c) (a5 m c) (y 0) (y 1) :=
  (congrArg (duArr m c) (ValueIdx.eq_ix2 y)).trans (du_args m c (y 0) (y 1))

theorem doc_res (y : S4096x1024.Idx) : docArr m c y = docAt (a0 m c) (a1 m c) (a2 m c) (a3 m c) (a4 m c) (a5 m c) (y 0) (y 1) :=
  (congrArg (docArr m c) (ValueIdx.eq_ix2 y)).trans (doc_args m c (y 0) (y 1))

theorem dol_res (y : S4096x2048.Idx) : dolArr m c y = dolAt (a0 m c) (a1 m c) (a2 m c) (a3 m c) (a4 m c) (a5 m c) (y 0)
    ⟨(y 1).val / 128, by have : (y 1).val < 2048 := (y 1).isLt; omega⟩ ⟨(y 1).val % 128, by omega⟩ :=
  (congrArg (dolArr m c) (ValueIdx.eq_ix2 y)).trans (dol_args m c (y 0) _ _ (y 1) (by dsimp only; omega))

theorem delta_res (y : S16x1x4096.Idx) : deltaArr m c y = deltaAt (a0 m c) (a1 m c) (a2 m c) (a3 m c) (a4 m c) (a5 m c) (y 0) (y 2) := by
  refine Eq.trans (congrArg (deltaArr m c) ?_) (delta_args m c (y 0) (y 2))
  exact (ValueIdx.eq_ix3 y).trans (congrArg (fun z => ValueIdx.ix3 (y 0) z (y 2)) (Subsingleton.elim (α := Fin 1) _ _))

theorem dgate_args (k : Fin 1024) :
    dgateArr m c k = dgateAt (a0 m c) (a1 m c) (a2 m c) (a3 m c) (a5 m c) k := by
  refine Finset.sum_congr rfl fun i _ => ?_
  rw [row_dout, row_u, row_g]
  rfl

theorem dpost_args (k : Fin 1024) :
    dpostArr m c k = dpostAt (a0 m c) (a1 m c) (a2 m c) (a4 m c) (a5 m c) k := by
  refine Finset.sum_congr rfl fun i _ => ?_
  rw [row_dout, row_u, row_gate]
  rfl

/-! ## After the host lines that follow the region -/

section Tail

variable (W : Valuation τ sig (Elt Ideal))

theorem tail_dgate : StableHlo.after (List.flatten [hostOps1]) W (Proc.devRef .tc main_v34)
    = (shapeCast S1024 (extractStridedSlice S1x1024 ![2, 0] (W (Proc.devRef .tc main_v32_4) : S8x1024.Idx → EReal) slices_S8x1024_S1x1024_2_0)
        shapeCasts_S1x1024_S1024 : S1024.Idx → EReal) := by
  simp only [List.flatten_cons, List.flatten_nil, List.append_nil, hostOps1, List.cons_append, List.nil_append]
  after_results_simp
  rfl

theorem tail_dpost : StableHlo.after (List.flatten [hostOps1]) W (Proc.devRef .tc main_v36)
    = (shapeCast S1024 (extractStridedSlice S1x1024 ![4, 0] (W (Proc.devRef .tc main_v32_4) : S8x1024.Idx → EReal) slices_S8x1024_S1x1024_4_0)
        shapeCasts_S1x1024_S1024 : S1024.Idx → EReal) := by
  simp only [List.flatten_cons, List.flatten_nil, List.append_nil, hostOps1, List.cons_append, List.nil_append]
  after_results_simp
  rfl

end Tail

theorem slice_dgate (A : S8x1024.Idx → EReal) (i : S1024.Idx) :
    shapeCast S1024 (extractStridedSlice S1x1024 ![2, 0] A slices_S8x1024_S1x1024_2_0) shapeCasts_S1x1024_S1024 i = A (ix2 2 (i 0)) := by
  pointwise

theorem slice_dpost (A : S8x1024.Idx → EReal) (i : S1024.Idx) :
    shapeCast S1024 (extractStridedSlice S1x1024 ![4, 0] A slices_S8x1024_S1x1024_4_0) shapeCasts_S1x1024_S1024 i = A (ix2 4 (i 0)) := by
  pointwise

/-- What the region leaves. -/
def exitV : Valuation τ sig (Elt Ideal) :=
  Pipeline.withArrays cfg0.spec c (V0 m c) fun w => (dats (F := Ideal) m 0 c).arrAt w cfg0.N

theorem exitV_vec : exitV m c (Proc.devRef .tc main_v32_4) = (outsAt0 (F := Ideal) m c lastPt.val lastPt.isLt).2.2.2.2 :=
  (Pipeline.withArrays_arr spec0 launch0.win.arr_inj c (V0 m c) _ 10).trans arr_vec

theorem res_dgate : StableHlo.after (List.flatten [hostOps1]) (exitV m c) (Proc.devRef .tc main_v34)
    = fun i : S1024.Idx => dgateAt (a0 m c) (a1 m c) (a2 m c) (a3 m c) (a5 m c) (i 0) := by
  rw [tail_dgate, exitV_vec]
  funext i
  exact (slice_dgate _ i).trans ((outs_dgate_last (i 0)).trans (dgate_args m c (i 0)))

theorem res_dpost : StableHlo.after (List.flatten [hostOps1]) (exitV m c) (Proc.devRef .tc main_v36)
    = fun i : S1024.Idx => dpostAt (a0 m c) (a1 m c) (a2 m c) (a4 m c) (a5 m c) (i 0) := by
  rw [tail_dpost, exitV_vec]
  funext i
  exact (slice_dpost _ i).trans ((outs_dpost_last (i 0)).trans (dpost_args m c (i 0)))

end Cert.Kernel2Ideal.Hand

end
-- ==== Proof.PostReal.lean ====
/- The derivative of the norm as a library writes it, equal to the gradient by hand where the values are finite. -/
module

public import proofs.«01_k».proof.Proof.PostRows
public import proofs.«01_k».proof.Proof.Reals

@[expose] public section

noncomputable section

namespace Cert.Proof.Post

open Idealize.ShloMosaic Idealize.ShloMosaic.ValueIdx

theorem ofBits_1024 : Ideal.ofBits .f32 0x44800000#32 = ((1024 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem ofBits_eps : ∃ e : ℝ, 0 < e ∧ Ideal.ofBits .f32 0x358637BD#32 = (e : EReal) := by
  refine ⟨_, ?_, by simp [Ideal.ofBits, Ideal.ieee, -EReal.coe_mul]; rfl⟩
  norm_num

variable (x u g gate : Fin 1024 → EReal)

/-- The mean of the squares, and the small number. -/
def ms : EReal := Ideal.div (∑ k, u k * u k) (Ideal.ofBits .f32 0x44800000#32) + Ideal.ofBits .f32 0x358637BD#32

/-- The cotangent of the normalized row, the factors in the other order. -/
def dnormRef (k : Fin 1024) : EReal := (1 + gate k) * x k * g k

/-- The part of the gradient that comes through the mean, by a unit of the row. -/
def throughMean : EReal :=
  Ideal.div ((∑ k, u k * dnormRef x g gate k) * (Ideal.ofBits .f32 0xBF000000#32 * Ideal.div (Ideal.rsqrt (ms u)) (ms u)))
    (Ideal.ofBits .f32 0x44800000#32)

/-- The gradient by the row before the norm, one summand a path. -/
def duRef (k : Fin 1024) : EReal :=
  dnormRef x g gate k * Ideal.rsqrt (ms u) + u k * throughMean x u g gate + throughMean x u g gate * u k

variable {x u g gate}

theorem duRow_eq (hx : ∀ k, ∃ r : ℝ, x k = r) (hu : ∀ k, ∃ r : ℝ, u k = r) (hg : ∀ k, ∃ r : ℝ, g k = r) (ht : ∀ k, ∃ r : ℝ, gate k = r)
    (k : Fin 1024) : duRef x u g gate k = duRow x u g gate k := by
  choose x' hx using hx
  choose u' hu using hu
  choose g' hg using hg
  choose t' ht using ht
  obtain ⟨e, he, hE⟩ := ofBits_eps
  set M : ℝ := (∑ k, u' k * u' k) / 1024 + e with hM
  have hMpos : 0 < M := by
    have : 0 ≤ ∑ k, u' k * u' k := Finset.sum_nonneg fun k _ => mul_self_nonneg _
    positivity
  have hms : ms u = (M : EReal) := by
    unfold ms
    simp only [hu, hE, ofBits_1024, ← EReal.coe_mul, ← coe_sum]
    rw [div_real _ _ (by norm_num), ← EReal.coe_add]
  have hr : rinv u = (((Real.sqrt M)⁻¹ : ℝ) : EReal) := (congrArg Ideal.rsqrt hms).trans (rsqrt_real M hMpos)
  set R : ℝ := (Real.sqrt M)⁻¹ with hR
  have hRR : R * R = M⁻¹ := by
    rw [hR, ← mul_inv, Real.mul_self_sqrt hMpos.le]
  have hd : ∀ k, dnorm x g gate k = ((x' k * (1 + t' k) * g' k : ℝ) : EReal) := fun k => by
    unfold dnorm dgated
    rw [hx, ht, hg]
    norm_cast
  have hdr : ∀ k, dnormRef x g gate k = ((x' k * (1 + t' k) * g' k : ℝ) : EReal) := fun k => by
    unfold dnormRef
    rw [hx, ht, hg, mul_comm (x' k)]
    norm_cast
  set d : Fin 1024 → ℝ := fun k => x' k * (1 + t' k) * g' k with hdef
  have hh : ∀ k, uhat u k = ((u' k * R : ℝ) : EReal) := fun k => by
    unfold uhat
    rw [hr, hu]
    norm_cast
  have ht : throughMean x u g gate = (((∑ k, u' k * d k) * (-(1 / 2) * (R / M)) / 1024 : ℝ) : EReal) := by
    unfold throughMean
    rw [hms, rsqrt_real M hMpos, div_real _ _ hMpos.ne', ofBits_1024, ofBits_neg_half]
    simp only [hu, hdr, ← EReal.coe_mul, ← coe_sum]
    rw [div_real _ _ (by norm_num)]
  have e1 : duRef x u g gate k = ((d k * R + u' k * ((∑ k, u' k * d k) * (-(1 / 2) * (R / M)) / 1024) +
      (∑ k, u' k * d k) * (-(1 / 2) * (R / M)) / 1024 * u' k : ℝ) : EReal) := by
    unfold duRef
    rw [ht, hms, rsqrt_real M hMpos, hdr, hu]
    norm_cast
  have e2 : duRow x u g gate k = ((R * (d k - u' k * R * ((∑ j, d j * (u' j * R)) / 1024)) : ℝ) : EReal) := by
    unfold duRow
    simp only [hd, hh, hr, ofBits_1024, ← EReal.coe_mul, ← coe_sum]
    rw [div_real _ _ (by norm_num)]
    norm_cast
  rw [e1, e2]
  refine congrArg Real.toEReal ?_
  have hs : ∑ j, d j * (u' j * R) = (∑ j, u' j * d j) * R := by
    rw [Finset.sum_mul]
    exact Finset.sum_congr rfl fun j _ => by ring
  rw [hs, div_eq_mul_inv R M, ← hRR]
  ring

end Cert.Proof.Post

end
-- ==== Proof.PostReference.lean ====
/- The reference's six results of the gradient through the output projection, read at an index. -/
module

public import proofs.«01_k».proof.Proof.PostReal
public import proofs.«01_k».proof.Proof.Gen.Reference2Ideal.Read
public import Idealize.ShloMosaic.Lib.Pointwise

@[expose] public section

noncomputable section

namespace Cert.Reference2Ideal.Hand

open Cert.Reference2Ideal Cert.Reference2Ideal.Gen Cert.Reference2Ideal.Read Cert.Proof Cert.Proof.Post
open Idealize.ShloMosaic Idealize.ShloMosaic.TcCoe Idealize.ShloMosaic.StableHlo

variable (x0 : (⟨S4096x16x128, .f32⟩ : BufTy).Contents (Elt Ideal)) (x1 : (⟨S128x16x64, .f32⟩ : BufTy).Contents (Elt Ideal))
  (x2 : (⟨S1024x1024, .f32⟩ : BufTy).Contents (Elt Ideal)) (x3 x4 : (⟨S1024, .f32⟩ : BufTy).Contents (Elt Ideal))
  (x5 : (⟨S4096x1024, .f32⟩ : BufTy).Contents (Elt Ideal))

/-- The projected outputs. -/
theorem v3_at (y : S4096x1024.Idx) : val_main_v3 (F := Ideal) x0 x1 x2 y = uAt x0 x1 x2 (y 0) (y 1) := by
  unfold val_main_v3 val_main_v2 val_main_v1 val_main_v0
  pointwise
  rfl

theorem v12_at (y : S4096x1.Idx) : val_main_v12 (F := Ideal) x0 x1 x2 y = ms (uAt x0 x1 x2 (y 0)) := by
  unfold val_main_v12 val_main_v11 val_main_cst_2 val_main_v10 val_main_v9 val_main_cst_1 val_main_v8 val_main_v7 val_main_v6 val_main_cst_0
  pointwise
  simp only [v3_at]
  rfl

theorem v13_at (y : S4096x1.Idx) : val_main_v13 (F := Ideal) x0 x1 x2 y = Ideal.rsqrt (ms (uAt x0 x1 x2 (y 0))) := by
  unfold val_main_v13
  pointwise
  rw [v12_at]

theorem v35_at (y : S4096x1024.Idx) : val_main_v35 (F := Ideal) x3 x4 x5 y
    = dnormRef (fun k => x5 (ValueIdx.ix2 (y 0) k)) (fun k => x3 (ValueIdx.ix1 k)) (fun k => x4 (ValueIdx.ix1 k)) (y 1) := by
  unfold val_main_v35 val_main_v34 val_main_v19 val_main_v26 val_main_v25 val_main_v22 val_main_v5 val_main_v4 val_main_cst
  pointwise
  rw [show x5 y = x5 (ValueIdx.ix2 (y 0) (y 1)) from congrArg x5 (ValueIdx.eq_ix2 y)]
  rfl

theorem v46_at (y : S4096x1024.Idx) : val_main_v46 (F := Ideal) x0 x1 x2 x3 x4 x5 y
    = throughMean (fun k => x5 (ValueIdx.ix2 (y 0) k)) (uAt x0 x1 x2 (y 0)) (fun k => x3 (ValueIdx.ix1 k)) (fun k => x4 (ValueIdx.ix1 k)) := by
  unfold val_main_v46 val_main_v45 val_main_cst_10 val_main_v44 val_main_v43 val_main_cst_9 val_main_v42 val_main_v39 val_main_v38
    val_main_cst_8 val_main_v37 val_main_v16 val_main_v15 val_main_cst_3 val_main_v14
  pointwise
  simp only [v3_at, v12_at, v13_at, v35_at]
  exact Fin.sum_univ_one _

theorem v50_at (y : S4096x1024.Idx) : val_main_v50 (F := Ideal) x0 x1 x2 x3 x4 x5 y
    = duRef (fun k => x5 (ValueIdx.ix2 (y 0) k)) (uAt x0 x1 x2 (y 0)) (fun k => x3 (ValueIdx.ix1 k)) (fun k => x4 (ValueIdx.ix1 k)) (y 1) := by
  unfold val_main_v50 val_main_v49 val_main_v48 val_main_v47 val_main_v41 val_main_v40
  pointwise
  simp only [v3_at, v13_at, v35_at, v46_at]
  rfl

theorem v30_at (i : S1024.Idx) : val_main_v30 (F := Ideal) x0 x1 x2 x3 x5 i = dgateAt x0 x1 x2 x3 x5 (i 0) := by
  unfold val_main_v30 val_main_cst_5 val_main_v29 val_main_v28 val_main_cst_4 val_main_v27 val_main_v21 val_main_v20 val_main_v19 val_main_v18
    val_main_v17
  pointwise
  simp only [v3_at, v13_at]
  refine (Fin.sum_univ_one _).trans ?_
  rw [show x3 i = x3 (ValueIdx.ix1 (i 0)) from congrArg x3 (ValueIdx.eq_ix1 i)]
  rfl

theorem v36_at (i : S1024.Idx) : val_main_v36 (F := Ideal) x0 x1 x2 x4 x5 i = dpostAt x0 x1 x2 x4 x5 (i 0) := by
  unfold val_main_v36 val_main_cst_7 val_main_v33 val_main_v32 val_main_cst_6 val_main_v31 val_main_v26 val_main_v25 val_main_v22 val_main_v5
    val_main_v4 val_main_cst val_main_v18 val_main_v17
  pointwise
  simp only [v3_at, v13_at]
  refine (Fin.sum_univ_one _).trans (Finset.sum_congr rfl fun j _ => ?_)
  rw [show x4 i = x4 (ValueIdx.ix1 (i 0)) from congrArg x4 (ValueIdx.eq_ix1 i)]
  refine (mul_comm (uAt x0 x1 x2 j (i 0) * Ideal.rsqrt (ms (uAt x0 x1 x2 j))) ((1 + x4 (ValueIdx.ix1 (i 0))) * x5 (ValueIdx.ix2 j (i 0)))).trans ?_
  exact congrArg (· * _) (mul_comm (1 + x4 (ValueIdx.ix1 (i 0))) (x5 (ValueIdx.ix2 j (i 0))))

/-- The gradient by the projected outputs, of real arguments. -/
theorem v50_real (f0 : AllReal x0) (f1 : AllReal x1) (f2 : AllReal x2) (f3 : AllReal x3) (f4 : AllReal x4) (f5 : AllReal x5)
    (y : S4096x1024.Idx) : val_main_v50 (F := Ideal) x0 x1 x2 x3 x4 x5 y = duAt x0 x1 x2 x3 x4 x5 (y 0) (y 1) := by
  rw [v50_at]
  refine duRow_eq (fun k => ⟨_, f5 _⟩) (fun k => ?_) (fun k => ⟨_, f3 _⟩) (fun k => ⟨_, f4 _⟩) (y 1)
  exact ⟨_, sum_mul_real (fun n => sum_mul_real (fun e => f1 _) fun e => f0 _) fun n => f2 _⟩

section FromGradient

variable {x0 x1 x2 x3 x4 x5}
variable (hdu : ∀ y, val_main_v50 (F := Ideal) x0 x1 x2 x3 x4 x5 y = duAt x0 x1 x2 x3 x4 x5 (y 0) (y 1))

include hdu

theorem v59_at (y : S4096x1024.Idx) : val_main_v59 (F := Ideal) x0 x1 x2 x3 x4 x5 y = duAt x0 x1 x2 x3 x4 x5 (y 0) (y 1) := by
  unfold val_main_v59
  pointwise
  exact hdu y

theorem v51_at (y : S4096x1024.Idx) : val_main_v51 (F := Ideal) x0 x1 x2 x3 x4 x5 y = docAt x0 x1 x2 x3 x4 x5 (y 0) (y 1) := by
  unfold val_main_v51
  pointwise
  simp only [hdu]
  rfl

theorem v60_at (y : S4096x1024.Idx) : val_main_v60 (F := Ideal) x0 x1 x2 x3 x4 x5 y = docAt x0 x1 x2 x3 x4 x5 (y 0) (y 1) := by
  unfold val_main_v60
  pointwise
  exact v51_at hdu y

theorem v55_at (y : S4096x16x128.Idx) :
    val_main_v55 (F := Ideal) x0 x1 x2 x3 x4 x5 y = dolAt x0 x1 x2 x3 x4 x5 (y 0) (y 1) (y 2) := by
  unfold val_main_v55 val_main_v54 val_main_v53 val_main_v52
  pointwise
  simp only [v51_at hdu]
  refine Finset.sum_congr rfl fun v _ => ?_
  exact congrArg (fun n => docAt x0 x1 x2 x3 x4 x5 (y 0) n * x1 (ValueIdx.ix3 (y 2) (y 1) v)) (Fin.ext (Nat.add_left_inj.2 (Nat.mul_comm _ _)))

theorem v62_at (y : S4096x2048.Idx) : val_main_v62 (F := Ideal) x0 x1 x2 x3 x4 x5 y
    = dolAt x0 x1 x2 x3 x4 x5 (y 0) ⟨(y 1).val / 128, by have : (y 1).val < 2048 := (y 1).isLt; omega⟩ ⟨(y 1).val % 128, by omega⟩ := by
  unfold val_main_v62 val_main_v61
  pointwise
  exact v55_at hdu _

theorem v63_at (y : S16x1x4096.Idx) : val_main_v63 (F := Ideal) x0 x1 x2 x3 x4 x5 y = deltaAt x0 x1 x2 x3 x4 x5 (y 0) (y 2) := by
  unfold val_main_v63 val_main_v58 val_main_v57 val_main_cst_11 val_main_v56
  pointwise
  simp only [v55_at hdu]
  rfl

end FromGradient

end Cert.Reference2Ideal.Hand

end
-- ==== Proof.Finite.lean ====
/- What the precondition says: every argument holds reals. -/
module

public import proofs.«01_k».proof.Proof.Inputs
public import proofs.«01_k».proof.Proof.Gen.Pre_finite
public import Idealize.ShloMosaic.Lib.ReduceAll

@[expose] public section

noncomputable section

namespace Cert.Pre_finite.Hand

open Cert.Pre_finite Idealize.ShloMosaic Cert.Proof

instance : Subsingleton S_.Idx := ⟨fun _ _ => funext fun a => a.elim0⟩

/-- An array all of whose absolute values compare below infinity holds reals. -/
theorem allReal_of {s : Shape} {axes : List (Fin s.rank)} (x : FVec Ideal s .f32) (hb : S_.BroadcastsInDim s (![] : Fin 0 → Fin s.rank))
    (h : s.ReducesTo axes S_) (hu : 0 < S_.numel) (init : IVec S_ 1) (j : S_.Idx)
    (e : Host.reduce IntOp.andi (cmpf .olt (Host.absf x) (broadcastInDim s ![] hb (constant S_ .f32 0x7F800000#32))) init h hu j = 1#1) :
    AllReal x := fun i => by
  have hi := Host.reduce_andi_all _ _ h hu j e i
  refine coe_toReal_of_lt (x i) ?_
  rw [← ofBits_inf]
  exact hi

theorem finite_of (x0 : FVec Ideal S4096x16x128 .f32) (x1 : FVec Ideal S4096x16x32 .f32) (x2 : FVec Ideal S4096x128 .f32)
    (x3 : FVec Ideal S4096x32 .f32) (x4 : FVec Ideal S4096x16x128 .f32) (j : S_.Idx) (h : fn (F := Ideal) x0 x1 x2 x3 x4 j = 1#1) :
    AllReal x0 ∧ AllReal x1 ∧ AllReal x2 ∧ AllReal x3 ∧ AllReal x4 := by
  obtain ⟨h, h4⟩ := andi_split h
  obtain ⟨h, h3⟩ := andi_split h
  obtain ⟨h, h2⟩ := andi_split h
  obtain ⟨h0, h1⟩ := andi_split h
  exact ⟨allReal_of x0 _ _ _ _ j h0, allReal_of x1 _ _ _ _ j h1, allReal_of x2 _ _ _ _ j h2, allReal_of x3 _ _ _ _ j h3, allReal_of x4 _ _ _ _ j h4⟩

end Cert.Pre_finite.Hand

end
-- ==== Proof.PostFinite.lean ====
/- What the second precondition says: every argument holds reals. -/
module

public import proofs.«01_k».proof.Proof.Finite
public import proofs.«01_k».proof.Proof.Gen.Pre_finite2

@[expose] public section

noncomputable section

namespace Cert.Pre_finite2.Hand

open Cert.Pre_finite2 Idealize.ShloMosaic Cert.Proof Cert.Pre_finite.Hand

theorem finite_of (x0 : FVec Ideal S4096x16x128 .f32) (x1 : FVec Ideal S128x16x64 .f32) (x2 : FVec Ideal S1024x1024 .f32)
    (x3 x4 : FVec Ideal S1024 .f32) (x5 : FVec Ideal S4096x1024 .f32) (j : S_.Idx) (h : fn (F := Ideal) x0 x1 x2 x3 x4 x5 j = 1#1) :
    AllReal x0 ∧ AllReal x1 ∧ AllReal x2 ∧ AllReal x3 ∧ AllReal x4 ∧ AllReal x5 := by
  obtain ⟨h, h5⟩ := andi_split h
  obtain ⟨h, h4⟩ := andi_split h
  obtain ⟨h, h3⟩ := andi_split h
  obtain ⟨h, h2⟩ := andi_split h
  obtain ⟨h0, h1⟩ := andi_split h
  exact ⟨allReal_of x0 _ _ _ _ j h0, allReal_of x1 _ _ _ _ j h1, allReal_of x2 _ _ _ _ j h2, allReal_of x3 _ _ _ _ j h3,
    allReal_of x4 _ _ _ _ j h4, allReal_of x5 _ _ _ _ j h5⟩

end Cert.Pre_finite2.Hand

end
-- ==== Proof.FwdRows.lean ====
/- A softmax-weighted sum gathered chunk by chunk: a running maximum, and sums of exponentials lowered by it. -/
module

public import proofs.«01_k».proof.Proof.RegionReal

@[expose] public section

noncomputable section

namespace Cert.Proof

open Idealize.ShloMosaic

variable {ι : Type} {s : ℕ → ℝ} {v : ℕ → ι → ℝ}

/-- After `n` keys with scores `s` and values `v`: `a` sums the values weighted by the exponentials of the scores less `m`,
    which is some real once there is a key. -/
def Gathered (s : ℕ → ℝ) (v : ℕ → ι → ℝ) (n : ℕ) (m : EReal) (a : ι → EReal) : Prop :=
  (n = 0 ∧ m = ⊥ ∧ ∀ j, a j = 0) ∨
    ∃ M : ℝ, m = M ∧ ∀ j, a j = ((∑ k ∈ Finset.range n, Real.exp (s k - M) * v k j : ℝ) : EReal)

/-- The sum over a chunk of keys. -/
theorem chunk_real {n w : ℕ} {M : ℝ} {S : Fin w → EReal} {V : Fin w → ι → EReal}
    (hS : ∀ x, S x = (s (n + x) : EReal)) (hV : ∀ x j, V x j = (v (n + x) j : EReal)) (j : ι) :
    ∑ x, Ideal.exp (S x - (M : EReal)) * V x j
      = ((∑ x ∈ Finset.range w, Real.exp (s (n + x) - M) * v (n + x) j : ℝ) : EReal) := by
  rw [← Fin.sum_univ_eq_sum_range (fun x => Real.exp (s (n + x) - M) * v (n + x) j) w]
  exact sum_mul_real (fun x => by rw [hS, KernelIdeal.Hand.exp_sub_real]) fun x => hV x j

/-- One more chunk: the sums so far are scaled to the new maximum. -/
theorem Gathered.step {n w : ℕ} {m c : EReal} {a a' : ι → EReal} {S : Fin w → EReal} {V : Fin w → ι → EReal}
    (h : Gathered s v n m a) (hc : ∃ C : ℝ, c = C)
    (hS : ∀ x, S x = (s (n + x) : EReal)) (hV : ∀ x j, V x j = (v (n + x) j : EReal))
    (ha : ∀ j, a' j = a j * Ideal.exp (m - max m c) + ∑ x, Ideal.exp (S x - max m c) * V x j) :
    Gathered s v (n + w) (max m c) a' := by
  obtain ⟨C, rfl⟩ := hc
  rcases h with ⟨rfl, rfl, h0⟩ | ⟨M, rfl, hM⟩
  · refine .inr ⟨C, max_eq_right bot_le, fun j => ?_⟩
    rw [ha, h0, zero_mul, zero_add, max_eq_right bot_le, chunk_real hS hV, zero_add]
    simp only [zero_add]
  · have e : max (M : EReal) (C : EReal) = ((max M C : ℝ) : EReal) := (EReal.coe_strictMono.monotone.map_max).symm
    refine .inr ⟨max M C, e, fun j => ?_⟩
    rw [ha, hM, e, chunk_real hS hV, KernelIdeal.Hand.exp_sub_real, ← EReal.coe_mul, ← EReal.coe_add, Finset.sum_range_add, Finset.sum_mul]
    refine congrArg Real.toEReal (congrArg (· + _) (Finset.sum_congr rfl fun k _ => ?_))
    rw [mul_right_comm, ← Real.exp_add, sub_add_sub_cancel]

/-- What is gathered once there is a key. -/
theorem Gathered.real {n : ℕ} {m : EReal} {a : ι → EReal} (h : Gathered s v n m a) (hn : n ≠ 0) :
    ∃ M : ℝ, m = M ∧ ∀ j, a j = ((∑ k : Fin n, Real.exp (s k - M) * v k j : ℝ) : EReal) := by
  rcases h with ⟨h0, -⟩ | ⟨M, h1, h2⟩
  · exact absurd h0 hn
  · exact ⟨M, h1, fun j => by rw [h2, ← Fin.sum_univ_eq_sum_range (fun k => Real.exp (s k - M) * v k j) n]⟩

end Cert.Proof

end
-- ==== Proof.FwdBlock.lean ====
/- One point of the forward attention's grid: its eight chunks of keys as eight steps of one kind, and what they gather. -/
module

public import proofs.«01_k».proof.Proof.FwdRows
public import proofs.«01_k».proof.Proof.Gen.Kernel3Ideal.Frame
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel3Ideal.Hand

open Cert.Kernel3Ideal Cert.Kernel3Ideal.Gen Idealize.ShloMosaic Idealize.ShloMosaic.TcCoe Idealize.SL.Sem Idealize.ShloMosaic.StableHlo
open Cert.Proof

/-! ## The steps -/

section Steps

variable (q : FVec Ideal S1024x256 .bf16) (k v : Vec Ideal S512x256 .bf16)

/-- The running maximum and the running sums. -/
structure Run where
  top : FVec Ideal S1024x1 .f32
  sums : FVec Ideal S1024x256 .f32

/-- Nothing gathered. -/
def Run.start : Run := ⟨k0_pay8, broadcast S1024x256 (Scalar.ofBits (F := Ideal) .f32 0x00000000#32)⟩

/-- A chunk's exponentials weigh its values. -/
def gain (m' : FVec Ideal S1024x1 .f32) : FVec Ideal S1024x256 .f32 :=
  matmul dot_S1024x512_S512x256_S1024x256_1_0_0_1_n_n none
    (truncf .bf16 (exp (subf (k0_pay1 q k) (broadcastTo S1024x512 m' broadcasts_S1024x1_S1024x512))) bitsLt_bf16_f32)
    (shapeCast S512x256 v shapeCasts_S512x256_S512x256 : FVec Ideal S512x256 .bf16) (constant S1024x256 .f32 0x00000000#32)

/-- The sums so far, scaled to a new maximum. -/
def kept (r : Run) (m' : FVec Ideal S1024x1 .f32) : FVec Ideal S1024x256 .f32 :=
  mulf r.sums (broadcastTo S1024x256 (exp (subf r.top m')) broadcasts_S1024x1_S1024x256)

/-- One chunk of keys. -/
def Run.next (r : Run) : Run := ⟨k0_pay2 q r.top k, addf (kept r (k0_pay2 q r.top k)) (gain q k v (k0_pay2 q r.top k))⟩

variable (k0 k1 k2 k3 k4 k5 k6 k7 v0 v1 v2 v3 v4 v5 v6 v7 : Vec Ideal S512x256 .bf16) (b : Vec Ideal S1x1024x256 .bf16) (r : Run)

/-- Two chunks of the first part. -/
theorem first_top : k0_pay12 (F := Ideal) b k0 k1 = ((Run.start.next (k0_pay7 b) k0 v0).next (k0_pay7 b) k1 v1).top := rfl

theorem first_sums : addf (k0_pay13 (F := Ideal) b k0 v0 k1) (k0_pay14 b k0 k1 v1)
    = ((Run.start.next (k0_pay7 b) k0 v0).next (k0_pay7 b) k1 v1).sums := rfl

/-- Two chunks of the second part. -/
theorem second_top : k0_pay18 (F := Ideal) q r.top k2 k3 = ((r.next q k2 v2).next q k3 v3).top := rfl

theorem second_sums {x y : FVec Ideal S1024x256 .f32} (h : addf x y = r.sums) :
    k0_pay19 (F := Ideal) q r.top x y k2 v2 k3 v3 = ((r.next q k2 v2).next q k3 v3).sums := by
  unfold Run.next kept
  dsimp only
  rw [← h]
  rfl

/-- Three chunks of the third part. -/
theorem third_top : k0_pay26 (F := Ideal) q r.top (k0_pay21 q k4) k5 k6 = (((r.next q k4 v4).next q k5 v5).next q k6 v6).top := rfl

theorem third_gain : matmul dot_S1024x512_S512x256_S1024x256_1_0_0_1_n_n none (k0_pay27 (F := Ideal) q r.top (k0_pay21 q k4) k5 k6)
    (shapeCast S512x256 v6 shapeCasts_S512x256_S512x256 : FVec Ideal S512x256 .bf16) (constant S1024x256 .f32 0x00000000#32)
      = gain q k6 v6 (((r.next q k4 v4).next q k5 v5).next q k6 v6).top := rfl

theorem third_kept : k0_pay28 (F := Ideal) q r.top r.sums (k0_pay20 q k4) (k0_pay21 q k4) v4 k5 v5 k6
    = kept ((r.next q k4 v4).next q k5 v5) (((r.next q k4 v4).next q k5 v5).next q k6 v6).top := rfl

/-- The last chunk. -/
theorem last_sums {m : FVec Ideal S1024x1 .f32} {p : FVec Ideal S1024x512 .bf16} {o : FVec Ideal S1024x256 .f32} (hm : m = r.top)
    (h : addf o (matmul dot_S1024x512_S512x256_S1024x256_1_0_0_1_n_n none p
      (shapeCast S512x256 v6 shapeCasts_S512x256_S512x256 : FVec Ideal S512x256 .bf16) (constant S1024x256 .f32 0x00000000#32)) = r.sums) :
    k0_pay3 (F := Ideal) q m p o v6 k7 v7 = (r.next q k7 v7).sums := by
  subst hm
  unfold Run.next kept
  dsimp only
  rw [← h]
  rfl

end Steps

/-! ## A step at an index -/

section At

variable {q : FVec Ideal S1024x256 .bf16} {b1 b2 : S4096x256.Idx → EReal}

theorem pay1_at {o : Nat} (h) (i : S1024x512.Idx) (k : Fin 4096) (hk : k.val = o + (i 1).val) :
    k0_pay1 (F := Ideal) q (View.ld b1 (Rect.unit (s := S4096x256) ![o, 0] ![512, 256] h)) i
      = ∑ j : Fin 256, q (ix2 (i 0) j) * b1 (ix2 k j) := by
  unfold k0_pay1
  pointwise
  refine Finset.sum_congr rfl fun j _ => ?_
  congr 1
  exact congrArg (fun k => b1 (ix2 k j)) (Fin.ext hk.symm)

theorem pay2_at (m : FVec Ideal S1024x1 .f32) (k : Vec Ideal S512x256 .bf16) (i : Fin 1024) :
    k0_pay2 (F := Ideal) q m k (ix2 i 0) = max (m (ix2 i 0)) (Finset.univ.sup fun x : Fin 512 => k0_pay1 (F := Ideal) q k (ix2 i x)) := by
  unfold k0_pay2
  pointwise
  rw [ofBits_neg_inf]
  rfl

theorem kept_at (r : Run) (m' : FVec Ideal S1024x1 .f32) (i : Fin 1024) (j : Fin 256) :
    kept r m' (ix2 i j) = r.sums (ix2 i j) * Ideal.exp (r.top (ix2 i 0) - m' (ix2 i 0)) := by
  unfold kept
  pointwise

theorem gain_at {o : Nat} (h) (k : Vec Ideal S512x256 .bf16) (m' : FVec Ideal S1024x1 .f32) (i : Fin 1024) (j : Fin 256) (ho : o + 512 ≤ 4096) :
    gain q k (View.ld b2 (Rect.unit (s := S4096x256) ![o, 0] ![512, 256] h)) m' (ix2 i j)
      = ∑ x : Fin 512, Ideal.exp (k0_pay1 (F := Ideal) q k (ix2 i x) - m' (ix2 i 0)) * b2 (ix2 ⟨o + x, by omega⟩ j) := by
  unfold gain
  pointwise

variable {s : Fin 1024 → ℕ → ℝ} {v : ℕ → Fin 256 → ℝ}

/-- One chunk gathers its keys for every query of the block. -/
theorem next_gathered {o : Nat} (h h') (ho : o + 512 ≤ 4096) (r : Run)
    (hs : ∀ i (k : Fin 4096), ∑ j, q (ix2 i j) * b1 (ix2 k j) = (s i k : EReal))
    (hv : ∀ (k : Fin 4096) j, b2 (ix2 k j) = (v k j : EReal))
    (hr : ∀ i, Gathered (s i) v o (r.top (ix2 i 0)) fun j => r.sums (ix2 i j)) (i : Fin 1024) :
    Gathered (s i) v (o + 512)
      ((r.next q (View.ld b1 (Rect.unit (s := S4096x256) ![o, 0] ![512, 256] h))
        (View.ld b2 (Rect.unit (s := S4096x256) ![o, 0] ![512, 256] h'))).top (ix2 i 0))
      fun j => (r.next q (View.ld b1 (Rect.unit (s := S4096x256) ![o, 0] ![512, 256] h))
        (View.ld b2 (Rect.unit (s := S4096x256) ![o, 0] ![512, 256] h'))).sums (ix2 i j) := by
  unfold Run.next
  dsimp only
  have hS : ∀ x : Fin 512, k0_pay1 (F := Ideal) q (View.ld b1 (Rect.unit (s := S4096x256) ![o, 0] ![512, 256] h)) (ix2 i x)
      = (s i (o + x) : EReal) := fun x => (pay1_at h (ix2 i x) ⟨o + x, by omega⟩ rfl).trans (hs i ⟨o + x, by omega⟩)
  rw [pay2_at]
  refine Gathered.step (hr i) ?_ hS (fun x j => hv ⟨o + x, by omega⟩ j) fun j => ?_
  · obtain ⟨x, -, hx⟩ := Finset.exists_mem_eq_sup (Finset.univ : Finset (Fin 512)) Finset.univ_nonempty
      fun x => k0_pay1 (F := Ideal) q (View.ld b1 (Rect.unit (s := S4096x256) ![o, 0] ![512, 256] h)) (ix2 i x)
    exact ⟨_, hx.trans (hS x)⟩
  · refine congrArg₂ (· + ·) ((kept_at r _ i j).trans ?_) ((gain_at h' _ _ i j ho).trans ?_)
    · rw [pay2_at]
    · rw [pay2_at]

theorem start_gathered (i : Fin 1024) : Gathered (s i) v 0 (Run.start.top (ix2 i 0)) fun j => Run.start.sums (ix2 i j) := by
  refine .inl ⟨rfl, ofBits_neg_inf, fun j => ?_⟩
  exact Ideal.ofBits_zero .f32

end At

/-! ## The whole point -/

section Point

variable (x0 : Vec Ideal S1x1024x256 .bf16) (x1 x2 : Vec Ideal S4096x256 .bf16)

/-- The point's queries. -/
def queries : FVec Ideal S1024x256 .bf16 := k0_pay7 (F := Ideal) (View.ld x0 r0_0)

/-- After two, four, six and seven chunks, and all eight. -/
def two : Run := (Run.start.next (queries x0) (View.ld x1 r0_1) (View.ld x2 r0_1)).next (queries x0) (View.ld x1 r0_2) (View.ld x2 r0_2)
def four : Run := ((two x0 x1 x2).next (queries x0) (View.ld x1 r0_3) (View.ld x2 r0_3)).next (queries x0) (View.ld x1 r0_4) (View.ld x2 r0_4)
def six : Run := ((four x0 x1 x2).next (queries x0) (View.ld x1 r0_5) (View.ld x2 r0_5)).next (queries x0) (View.ld x1 r0_6) (View.ld x2 r0_6)
def seven : Run := (six x0 x1 x2).next (queries x0) (View.ld x1 r0_7) (View.ld x2 r0_7)
def eight : Run := (seven x0 x1 x2).next (queries x0) (View.ld x1 r0_8) (View.ld x2 r0_8)

theorem two_top : k0_pay30 (F := Ideal) x0 x1 x2 = (two x0 x1 x2).top := by
  unfold k0_pay30 two queries
  exact first_top _ _ _ _ _

theorem four_top : k0_pay31 (F := Ideal) x0 x1 x2 = (four x0 x1 x2).top := by
  unfold k0_pay31
  rw [two_top]
  unfold four queries k0_pay29
  exact second_top _ _ _ _ _ _

theorem four_sums : k0_pay19 (F := Ideal) (queries x0) (two x0 x1 x2).top
    (k0_pay13 (View.ld x0 r0_0) (View.ld x1 r0_1) (View.ld x2 r0_1) (View.ld x1 r0_2))
    (k0_pay14 (View.ld x0 r0_0) (View.ld x1 r0_1) (View.ld x1 r0_2) (View.ld x2 r0_2))
    (View.ld x1 r0_3) (View.ld x2 r0_3) (View.ld x1 r0_4) (View.ld x2 r0_4) = (four x0 x1 x2).sums := by
  unfold four
  refine second_sums _ _ _ _ _ _ ?_
  unfold two queries
  exact first_sums _ _ _ _ _

theorem seven_top : k0_pay33 (F := Ideal) x0 x1 x2 = (seven x0 x1 x2).top := by
  unfold k0_pay33 k0_pay32
  rw [four_top]
  unfold seven six queries k0_pay29
  exact third_top _ _ _ _ _ _ _ _

theorem six_kept : k0_pay35 (F := Ideal) x0 x1 x2 = kept (six x0 x1 x2) (seven x0 x1 x2).top := by
  unfold k0_pay35 k0_pay32
  rw [four_top, two_top, show k0_pay29 (F := Ideal) x0 x1 x2 = queries x0 from rfl, four_sums]
  unfold seven six
  exact third_kept _ _ _ _ _ _ _ _

theorem seven_gain : matmul dot_S1024x512_S512x256_S1024x256_1_0_0_1_n_n none (k0_pay34 (F := Ideal) x0 x1 x2)
    (shapeCast S512x256 (View.ld x2 r0_7) shapeCasts_S512x256_S512x256 : FVec Ideal S512x256 .bf16)
      (constant S1024x256 .f32 0x00000000#32) = gain (queries x0) (View.ld x1 r0_7) (View.ld x2 r0_7) (seven x0 x1 x2).top := by
  unfold k0_pay34 k0_pay32
  rw [four_top]
  unfold seven six queries k0_pay29
  exact third_gain _ _ _ _ _ _ _ _

theorem eight_sums : k0_pay3 (F := Ideal) (k0_pay29 x0 x1 x2) (k0_pay33 x0 x1 x2) (k0_pay34 x0 x1 x2) (k0_pay35 x0 x1 x2)
    (View.ld x2 r0_7) (View.ld x1 r0_8) (View.ld x2 r0_8) = (eight x0 x1 x2).sums := by
  rw [six_kept, show k0_pay29 (F := Ideal) x0 x1 x2 = queries x0 from rfl]
  unfold eight
  refine last_sums _ _ _ _ _ (seven_top x0 x1 x2) ?_
  rw [seven_gain]
  unfold seven
  rfl

theorem eight_top : k0_pay2 (F := Ideal) (k0_pay29 x0 x1 x2) (k0_pay33 x0 x1 x2) (View.ld x1 r0_8) = (eight x0 x1 x2).top := by
  rw [seven_top]
  unfold eight
  rfl

/-- What the point leaves in the output block: the sums over the column of ones. -/
theorem out_at (y : S1024x128.Idx) : out0_3 (F := Ideal) x0 x1 x2 y =
    (eight x0 x1 x2).sums (ix2 (y 0) ((y 1).castLE (by decide))) *
      Ideal.div (Ideal.ofBits .f32 0x3F800000#32) ((eight x0 x1 x2).sums (ix2 (y 0) 128)) := by
  unfold out0_3
  rw [View.canon_unit_zero (by funext a; match a with | 0 => rfl | 1 => rfl)]
  unfold k0_pay5 k0_pay4
  rw [eight_sums]
  pointwise
  rfl

theorem log_at (y : S1x1x1024.Idx) : out0_4 (F := Ideal) x0 x1 x2 y =
    (eight x0 x1 x2).top (ix2 (y 2) 0) + Ideal.log ((eight x0 x1 x2).sums (ix2 (y 2) 128)) := by
  unfold out0_4
  rw [View.canon_unit_zero (by funext a; match a with | 0 => rfl | 1 => rfl | 2 => rfl)]
  unfold k0_pay6 k0_pay4
  rw [eight_sums, eight_top]
  pointwise

variable {x0 x1 x2}
variable {s : Fin 1024 → ℕ → ℝ} {v : ℕ → Fin 256 → ℝ}
  (hs : ∀ i (k : Fin 4096), ∑ j : Fin 256, (x0 : S1x1024x256.Idx → EReal) (ix3 0 i j) * (x1 : S4096x256.Idx → EReal) (ix2 k j) = (s i k : EReal))
  (hv : ∀ (k : Fin 4096) j, (x2 : S4096x256.Idx → EReal) (ix2 k j) = (v k j : EReal))

theorem queries_at (i : Fin 1024) (j : Fin 256) : queries x0 (ix2 i j) = x0 (ix3 0 i j) := by
  unfold queries k0_pay7
  pointwise

include hs hv

theorem eight_gathered (i : Fin 1024) : Gathered (s i) v 4096 ((eight x0 x1 x2).top (ix2 i 0)) fun j => (eight x0 x1 x2).sums (ix2 i j) := by
  have hs' : ∀ i (k : Fin 4096), ∑ j : Fin 256, queries x0 (ix2 i j) * (x1 : S4096x256.Idx → EReal) (ix2 k j) = (s i k : EReal) := fun i k =>
    (Finset.sum_congr rfl fun j _ => congrArg (· * _) (queries_at i j)).trans (hs i k)
  unfold eight seven six four two
  refine next_gathered (b1 := x1) (b2 := x2) (o := 3584) _ _ (by decide) _ hs' hv (fun i => ?_) i
  refine next_gathered (b1 := x1) (b2 := x2) (o := 3072) _ _ (by decide) _ hs' hv (fun i => ?_) i
  refine next_gathered (b1 := x1) (b2 := x2) (o := 2560) _ _ (by decide) _ hs' hv (fun i => ?_) i
  refine next_gathered (b1 := x1) (b2 := x2) (o := 2048) _ _ (by decide) _ hs' hv (fun i => ?_) i
  refine next_gathered (b1 := x1) (b2 := x2) (o := 1536) _ _ (by decide) _ hs' hv (fun i => ?_) i
  refine next_gathered (b1 := x1) (b2 := x2) (o := 1024) _ _ (by decide) _ hs' hv (fun i => ?_) i
  refine next_gathered (b1 := x1) (b2 := x2) (o := 512) _ _ (by decide) _ hs' hv (fun i => ?_) i
  exact next_gathered (b1 := x1) (b2 := x2) (o := 0) _ _ (by decide) _ hs' hv (start_gathered) i

end Point

end Cert.Kernel3Ideal.Hand

end
-- ==== Proof.FwdArrays.lean ====
/- What the forward attention's grid leaves, as real numbers: the weighted values and the logarithms of the sums of exponentials. -/
module

public import proofs.«01_k».proof.Proof.FwdBlock
public import proofs.«01_k».proof.Proof.HostReal
public import Idealize.ShloMosaic.Lib.StableHlo.RunRead

@[expose] public section

set_option maxRecDepth 16384

noncomputable section

namespace Cert.Proof.Attn

variable {H Q K C R : Type} [Fintype H] [Fintype Q] [Fintype K] [Fintype C] [Fintype R] [Nonempty K] (a : Attn H Q K C R)

/-- The weighted values from exponentials of lowered scores and their sum. -/
theorem out_lowered (M : ℝ) (q : Q) (h : H) (c : C) :
    (∑ k, Real.exp (a.score h q k - M) * a.ckv k c) * (1 / ∑ k, Real.exp (a.score h q k - M)) = a.out q h c := by
  rw [mul_one_div, Finset.sum_div, out]
  exact Finset.sum_congr rfl fun k _ => by rw [← prob_lowered a M, mul_comm (Real.exp _), mul_div_assoc]

/-- The logarithm of the sum from that of the lowered exponentials. -/
theorem log_lowered (M : ℝ) (h : H) (q : Q) : M + Real.log (∑ k, Real.exp (a.score h q k - M)) = Real.log (a.total h q) := by
  rw [total_lowered, Real.log_mul (a.total_pos h q).ne' (Real.exp_pos _).ne', Real.log_exp, add_neg_cancel_comm_assoc]

end Cert.Proof.Attn

namespace Cert.Kernel3Ideal.Hand

open Cert.Kernel3Ideal Cert.Kernel3Ideal.Gen Idealize.ShloMosaic Idealize.ShloMosaic.TcCoe Idealize.SL.Sem Idealize.ShloMosaic.StableHlo
open Cert.Proof

/-! ## The arrays the region reads -/

/-- The values, with a column of ones and columns of zeros behind them. -/
def packV (x2 : FVec Ideal S4096x128 .f32) : FVec Ideal S4096x256 .f32 :=
  concatenate S4096x256 1 [⟨S4096x128, x2⟩, ⟨S4096x128, select
    (cmpi .eq (iotaInDim S4096x128 32 1) (broadcastInDim S4096x128 ![] bcast_S_S4096x128 (constantI S_ 32 0#32)))
    (broadcastInDim S4096x128 ![] bcast_S_S4096x128 (constant (F := Ideal) S_ .f32 0x3F800000#32))
    (broadcastInDim S4096x128 ![] bcast_S_S4096x128 (constant (F := Ideal) S_ .f32 0x00000000#32))⟩]
    concatenates_S4096x128_S4096x128_S4096x256_d1

variable (m : (ℓ : Loc nD τ sig) → Buf (Elt Ideal) ℓ) (c : Dev nD)

/-- The arguments. -/
def a0 : FVec Ideal S4096x16x128 .f32 := m (c.tc.loc main_arg0)
def a1 : FVec Ideal S4096x16x32 .f32 := m (c.tc.loc main_arg1)
def a2 : FVec Ideal S4096x128 .f32 := m (c.tc.loc main_arg2)
def a3 : FVec Ideal S4096x32 .f32 := m (c.tc.loc main_arg3)

theorem qcat_eq : V m c main_v17 = truncf .bf16 (KernelIdeal.Hand.packQ (a0 m c) (a1 m c)) bitsLt_bf16_f32 := by
  show StableHlo.after (List.flatten [hostOps0, hostOps0_1, hostOps0_2, hostOps0_3, hostOps0_4]) (fun b => m (c, b)) (Proc.devRef .tc main_v17) = _
  simp only [List.flatten_cons, List.flatten_nil, List.append_nil, hostOps0, hostOps0_1, hostOps0_2, hostOps0_3, hostOps0_4,
    List.cons_append, List.nil_append]
  after_results_simp
  rfl

theorem kcat_eq : V m c main_v22 = truncf .bf16 (KernelIdeal.Hand.packK (a2 m c) (a3 m c)) bitsLt_bf16_f32 := by
  show StableHlo.after (List.flatten [hostOps0, hostOps0_1, hostOps0_2, hostOps0_3, hostOps0_4]) (fun b => m (c, b)) (Proc.devRef .tc main_v22) = _
  simp only [List.flatten_cons, List.flatten_nil, List.append_nil, hostOps0, hostOps0_1, hostOps0_2, hostOps0_3, hostOps0_4,
    List.cons_append, List.nil_append]
  after_results_simp
  rfl

theorem vcat_eq : V m c main_v29 = truncf .bf16 (packV (a2 m c)) bitsLt_bf16_f32 := by
  show StableHlo.after (List.flatten [hostOps0, hostOps0_1, hostOps0_2, hostOps0_3, hostOps0_4]) (fun b => m (c, b)) (Proc.devRef .tc main_v29) = _
  simp only [List.flatten_cons, List.flatten_nil, List.append_nil, hostOps0, hostOps0_1, hostOps0_2, hostOps0_3, hostOps0_4,
    List.cons_append, List.nil_append]
  after_results_simp
  rfl

/-- The attention of a device's arguments. -/
def attn : Attn (Fin 16) (Fin 4096) (Fin 4096) (Fin 128) (Fin 32) := attnOf (a0 m c) (a1 m c) (a2 m c) (a3 m c) (a0 m c)

/-- Every argument holds reals. -/
structure Finite : Prop where
  f0 : AllReal (a0 m c)
  f1 : AllReal (a1 m c)
  f2 : AllReal (a2 m c)
  f3 : AllReal (a3 m c)

variable {m c}

/-- A packed value. -/
def pv (a : Attn (Fin 16) (Fin 4096) (Fin 4096) (Fin 128) (Fin 32)) (k : Fin 4096) (j : Fin 256) : ℝ :=
  if h : j.val < 128 then a.ckv k ⟨j.val, h⟩ else if j.val = 128 then 1 else 0

/-- A column is the first of its half where its number is zero. -/
theorem select_zero (n : Nat) (hn : n < 128) (x y : EReal) :
    Scalar.select (IntOp.cmpi CmpIPredicate.eq (BitVec.ofNat 32 n) 0#32) x y = if n = 0 then x else y := by
  by_cases h : n = 0
  · subst h
    rfl
  · have e : (BitVec.ofNat 32 n == 0#32) = false := beq_eq_false_iff_ne.2 fun e => h (by
      have e' := congrArg BitVec.toNat e
      rw [BitVec.toNat_ofNat, Nat.mod_eq_of_lt (show n < 2 ^ 32 by omega)] at e'
      exact e')
    simp [IntOp.cmpi, e, Scalar.select, h]

section Real

variable (f : Finite m c)

include f

theorem qcat_real (y : S16x4096x256.Idx) : (V m c main_v17 : S16x4096x256.Idx → EReal) y = ((attn m c).pq (y 1) (y 0) (y 2) : EReal) :=
  (congrFun (qcat_eq m c) y).trans (KernelIdeal.Hand.packQ_real f.f0 f.f1 y)

theorem kcat_real (y : S4096x256.Idx) : (V m c main_v22 : S4096x256.Idx → EReal) y = ((attn m c).pk (y 0) (y 1) : EReal) :=
  (congrFun (kcat_eq m c) y).trans (KernelIdeal.Hand.packK_real f.f2 f.f3 y)

theorem vcat_real (y : S4096x256.Idx) : (V m c main_v29 : S4096x256.Idx → EReal) y = (pv (attn m c) (y 0) (y 1) : EReal) := by
  refine (congrFun (vcat_eq m c) y).trans ?_
  unfold packV pv
  pointwise
  by_cases h : (y 1).val < 128
  · rw [dif_pos h, dif_pos h]
    exact f.f2.at2 _
  · have hy : (y 1).val < 256 := (y 1).isLt
    rw [dif_neg h, dif_neg h]
    rw [select_zero _ (by omega)]
    by_cases e : (y 1).val = 128
    · rw [if_pos e, if_pos (by omega)]
      rfl
    · rw [if_neg e, if_neg (by omega)]
      rfl

end Real

/-! ## Blocks -/

/-- The head of a grid point. -/
def headOf (t : Fin cfg0.N) : Fin 16 := ⟨t.val / 4, by have := t.isLt; have : cfg0.N = 64 := N_0; omega⟩

/-- The row of the array that is row `q` of a grid point's block. -/
def rowOf (t : Fin cfg0.N) (q : Fin 1024) : Fin 4096 := ⟨t.val % 4 * 1024 + q.val, by omega⟩

theorem index_0 : ∀ t : Fin cfg0.N, (cfg0.win 0).index t = ![t.val / 4, t.val % 4, 0] := by decide +kernel
theorem index_1 : ∀ t : Fin cfg0.N, (cfg0.win 1).index t = ![0, 0] := by decide +kernel
theorem index_2 : ∀ t : Fin cfg0.N, (cfg0.win 2).index t = ![0, 0] := by decide +kernel
theorem index_3 : ∀ t : Fin cfg0.N, (cfg0.win 3).index t = ![t.val % 4, t.val / 4] := by decide +kernel
theorem index_4 : ∀ t : Fin cfg0.N, (cfg0.win 4).index t = ![t.val / 4, 0, t.val % 4] := by decide +kernel

theorem emb_0 (A : S16x4096x256.Idx → EReal) (t : Fin cfg0.N) (q : Fin 1024) (j : Fin 256) :
    ((cfg0.win 0).blk t).view.read (Elt Ideal) A (ix3 0 q j) = A (ix3 (headOf t) (rowOf t q) j) := by
  refine congrArg A (funext fun a => Fin.ext ?_)
  match a with
  | 0 => blk_simp [index_0 t]; exact Nat.add_zero _
  | 1 => blk_simp [index_0 t]; rfl
  | 2 => blk_simp [index_0 t]

theorem emb_1 (A : S4096x256.Idx → EReal) (t : Fin cfg0.N) (k : Fin 4096) (j : Fin 256) :
    ((cfg0.win 1).blk t).view.read (Elt Ideal) A (ix2 k j) = A (ix2 k j) := by
  refine congrArg A (funext fun a => Fin.ext ?_)
  match a with
  | 0 => blk_simp [index_1 t]
  | 1 => blk_simp [index_1 t]

theorem emb_2 (A : S4096x256.Idx → EReal) (t : Fin cfg0.N) (k : Fin 4096) (j : Fin 256) :
    ((cfg0.win 2).blk t).view.read (Elt Ideal) A (ix2 k j) = A (ix2 k j) := by
  refine congrArg A (funext fun a => Fin.ext ?_)
  match a with
  | 0 => blk_simp [index_2 t]
  | 1 => blk_simp [index_2 t]

/-- The score of a row of a block and a key given by its number. -/
def scoreAt (a : Attn (Fin 16) (Fin 4096) (Fin 4096) (Fin 128) (Fin 32)) (t : Fin cfg0.N) (i : Fin 1024) (k : Nat) : ℝ :=
  if h : k < 4096 then a.score (headOf t) (rowOf t i) ⟨k, h⟩ else 0

/-- The packed value of a key given by its number. -/
def valueAt (a : Attn (Fin 16) (Fin 4096) (Fin 4096) (Fin 128) (Fin 32)) (k : Nat) (j : Fin 256) : ℝ :=
  if h : k < 4096 then pv a ⟨k, h⟩ j else 0

variable (m c) in
/-- A point's block of queries. -/
def qBlock (t : Fin cfg0.N) : S1x1024x256.Idx → EReal := iblk m c 0 t

variable (m c) in
/-- The keys, as a point reads them. -/
def kBlock (t : Fin cfg0.N) : S4096x256.Idx → EReal := iblk m c 1 t

variable (m c) in
/-- The values, as a point reads them. -/
def vBlock (t : Fin cfg0.N) : S4096x256.Idx → EReal := iblk m c 2 t

/-- What the chunks leave in a row of a block: sums of lowered exponentials, weighted by the packed values. -/
theorem block_real (f : Finite m c) (t : Fin cfg0.N) (i : Fin 1024) :
    ∃ M : ℝ, (eight (iblk m c 0 t) (iblk m c 1 t) (iblk m c 2 t)).top (ix2 i 0) = M ∧
      ∀ j : Fin 256, (eight (iblk m c 0 t) (iblk m c 1 t) (iblk m c 2 t)).sums (ix2 i j) =
        ((∑ k, Real.exp ((attn m c).score (headOf t) (rowOf t i) k - M) * pv (attn m c) k j : ℝ) : EReal) := by
  have ht : ∀ (i : Fin 1024) (k : Fin 4096), ∑ j : Fin 256, qBlock m c t (ix3 0 i j) *
      kBlock m c t (ix2 k j) = (scoreAt (attn m c) t i k : EReal) := by
    intro i k
    refine (sum_mul_real (fun j => (emb_0 (V m c main_v17) t i j).trans (qcat_real f _))
      (fun j => (emb_1 (V m c main_v22) t k j).trans (kcat_real f _))).trans (congrArg _ ?_)
    unfold scoreAt
    rw [dif_pos k.isLt, ← (attn m c).packed_score]
    exact Finset.sum_congr rfl fun j _ => mul_comm ((attn m c).pq _ _ _) _
  have hv : ∀ (k : Fin 4096) (j : Fin 256), vBlock m c t (ix2 k j) = (valueAt (attn m c) k j : EReal) := by
    intro k j
    refine ((emb_2 (V m c main_v29) t k j).trans (vcat_real f _)).trans (congrArg _ ?_)
    unfold valueAt
    rw [dif_pos k.isLt]
    rfl
  obtain ⟨M, hM, hs⟩ := (eight_gathered ht hv i).real (by decide)
  refine ⟨M, hM, fun j => (hs j).trans (congrArg _ (Finset.sum_congr rfl fun k _ => ?_))⟩
  exact (congrArg (fun x => Real.exp (x - M) * _) (dif_pos k.isLt)).trans (congrArg (_ * ·) (dif_pos k.isLt))

/-- A packed value in the latent half. -/
theorem pv_lat (a : Attn (Fin 16) (Fin 4096) (Fin 4096) (Fin 128) (Fin 32)) (k : Fin 4096) (e : Fin 128) :
    pv a k (e.castLE (by decide)) = a.ckv k e := by
  unfold pv
  exact dif_pos e.isLt

/-- The column of ones. -/
theorem pv_one (a : Attn (Fin 16) (Fin 4096) (Fin 4096) (Fin 128) (Fin 32)) (k : Fin 4096) : pv a k 128 = 1 := rfl

/-- A block of weighted values. -/
theorem out_real (f : Finite m c) (t : Fin cfg0.N) (y : S1024x128.Idx) :
    out0_3 (iblk m c 0 t) (iblk m c 1 t) (iblk m c 2 t) y = ((attn m c).out (rowOf t (y 0)) (headOf t) (y 1) : EReal) := by
  obtain ⟨M, -, hs⟩ := block_real f t (y 0)
  refine (out_at _ _ _ y).trans ?_
  refine (congrArg₂ (fun a b => a * Ideal.div (Ideal.ofBits .f32 0x3F800000#32) b) ((hs _).trans (congrArg _ (Finset.sum_congr rfl
    fun k _ => congrArg (_ * ·) (pv_lat (attn m c) k (y 1))))) ((hs 128).trans (congrArg _ (Finset.sum_congr rfl
    fun k _ => (congrArg (_ * ·) (pv_one (attn m c) k)).trans (mul_one _))))).trans ?_
  refine (congrArg (_ * ·) ((congrArg (Ideal.div · _) ofBits_one).trans
    (div_real _ _ ((attn m c).total_lowered_pos M _ _).ne'))).trans ?_
  exact (EReal.coe_mul _ _).symm.trans (congrArg _ ((attn m c).out_lowered M (rowOf t (y 0)) (headOf t) (y 1)))

/-- A block of logarithms of sums. -/
theorem lse_real (f : Finite m c) (t : Fin cfg0.N) (y : S1x1x1024.Idx) :
    out0_4 (iblk m c 0 t) (iblk m c 1 t) (iblk m c 2 t) y = (Real.log ((attn m c).total (headOf t) (rowOf t (y 2))) : EReal) := by
  obtain ⟨M, hM, hs⟩ := block_real f t (y 2)
  refine (log_at _ _ _ y).trans ?_
  rw [hs, hM]
  simp only [pv_one, mul_one]
  rw [log_real _ ((attn m c).total_lowered_pos M _ _), ← EReal.coe_add, (attn m c).log_lowered]

/-! ## What the region leaves -/

variable (m c)

/-- The weighted values, a row a query, the heads side by side. -/
def outArr (y : S4096x2048.Idx) : EReal :=
  ((attn m c).out (y 0) ⟨(y 1).val / 128, Nat.div_lt_of_lt_mul (y 1).isLt⟩ ⟨(y 1).val % 128, Nat.mod_lt _ (by decide)⟩ : ℝ)

/-- The logarithms of the sums. -/
def lseArr (y : S16x1x4096.Idx) : EReal := (Real.log ((attn m c).total (y 0) (y 2)) : ℝ)

variable {m c}

theorem arr_out (f : Finite m c) : (dats (F := Ideal) m 0 c).arrAt 3 cfg0.N = outArr m c := by
  refine (dats m 0 c).arrAt_eq_of_covers 3 _ (by decide +kernel) fun t hf y => ?_
  blk_simp
  rw [after0_3]
  refine (out_real f t y).trans ?_
  have hy : (y 1).val < 128 := (y 1).isLt
  have e0 : ((cfg0.win 3).blk t).view.emb y 0 = rowOf t (y 0) := by
    refine Fin.ext ?_
    blk_simp [index_3 t]
    rfl
  have e1 : (((cfg0.win 3).blk t).view.emb y 1).val = t.val / 4 * 128 + (y 1).val := by
    blk_simp [index_3 t]
  unfold outArr
  refine congrArg (fun r : ℝ => (r : EReal)) ?_
  refine (congrFun (congrArg₂ (attn m c).out e0 (Fin.ext ?_)) _).trans (congrArg _ (Fin.ext ?_)) |>.symm
  · show (((cfg0.win 3).blk t).view.emb y 1).val / 128 = t.val / 4
    omega
  · show (((cfg0.win 3).blk t).view.emb y 1).val % 128 = (y 1).val
    omega

theorem arr_lse (f : Finite m c) : (dats (F := Ideal) m 0 c).arrAt 4 cfg0.N = lseArr m c := by
  refine (dats m 0 c).arrAt_eq_of_covers 4 _ (by decide +kernel) fun t hf y => ?_
  blk_simp
  rw [after0_4]
  refine (lse_real f t y).trans ?_
  have e0 : ((cfg0.win 4).blk t).view.emb y 0 = headOf t := by
    refine Fin.ext ?_
    blk_simp [index_4 t]
    rfl
  have e2 : ((cfg0.win 4).blk t).view.emb y 2 = rowOf t (y 2) := by
    refine Fin.ext ?_
    blk_simp [index_4 t]
    rfl
  unfold lseArr
  exact congrArg (fun r : ℝ => ((Real.log r : ℝ) : EReal)) (congrArg₂ (attn m c).total e0 e2).symm

end Cert.Kernel3Ideal.Hand

end
-- ==== Proof.FwdReference.lean ====
/- The forward reference's two results, read as the real attention's weighted values and the logarithms of its sums. -/
module

public import proofs.«01_k».proof.Proof.Reference
public import proofs.«01_k».proof.Proof.Gen.Reference3Ideal.Read

@[expose] public section

noncomputable section

namespace Cert.Reference3Ideal.Hand

open Cert.Reference3Ideal Cert.Reference3Ideal.Gen Cert.Reference3Ideal.Read Cert.Proof
open Idealize.ShloMosaic Idealize.ShloMosaic.TcCoe Idealize.ShloMosaic.StableHlo

variable {x0 : (⟨S4096x16x128, .f32⟩ : BufTy).Contents (Elt Ideal)} {x1 : (⟨S4096x16x32, .f32⟩ : BufTy).Contents (Elt Ideal)}
  {x2 : (⟨S4096x128, .f32⟩ : BufTy).Contents (Elt Ideal)} {x3 : (⟨S4096x32, .f32⟩ : BufTy).Contents (Elt Ideal)}

variable (f0 : AllReal x0) (f1 : AllReal x1) (f2 : AllReal x2) (f3 : AllReal x3)

include f0 f1 f2 f3

/-- The scores whose exponentials are summed without lowering; they are the backward attention's. -/
theorem v30_real (i : S16x4096x4096.Idx) :
    val_main_v30 (F := Ideal) x0 x1 x2 x3 i = ((attnOf x0 x1 x2 x3 x0).score (i 0) (i 1) (i 2) : EReal) :=
  ReferenceIdeal.Hand.v8_real f0 f1 f2 f3 i

/-- The weights are those of the backward attention's forward lines. -/
theorem v19_real (i : S16x4096x4096.Idx) :
    val_main_v19 (F := Ideal) x0 x1 x2 x3 i = ((attnOf x0 x1 x2 x3 x0).prob (i 0) (i 1) (i 2) : EReal) := by
  obtain ⟨M, hM⟩ := ReferenceIdeal.Hand.v16_real f0 f1 f2 f3
  exact ReferenceIdeal.Hand.v33_real f0 f1 f2 f3 hM i

/-- The weighted values. -/
theorem v21_real (i : S4096x16x128.Idx) :
    val_main_v21 (F := Ideal) x0 x1 x2 x3 i = ((attnOf x0 x1 x2 x3 x0).out (i 0) (i 1) (i 2) : EReal) := by
  rw [val_main_v21_apply, val_main_v20_apply]
  exact sum_mul_real (fun k => f2.at2 _) fun k => v19_real f0 f1 f2 f3 _

/-- The first result: the weighted values, the heads side by side. -/
theorem v35_real (i : S4096x2048.Idx) : val_main_v35 (F := Ideal) x0 x1 x2 x3 i = ((attnOf x0 x1 x2 x3 x0).out (i 0)
    ⟨(i 1).val / 128, Nat.div_lt_of_lt_mul (i 1).isLt⟩ ⟨(i 1).val % 128, Nat.mod_lt _ (by decide)⟩ : EReal) := by
  have h := v21_real f0 f1 f2 f3
  unfold val_main_v35 val_main_v34
  generalize val_main_v21 (F := Ideal) x0 x1 x2 x3 = y at *
  pointwise
  exact h _

/-- The sums of exponentials. -/
theorem v32_real (i : S16x4096.Idx) :
    val_main_v32 (F := Ideal) x0 x1 x2 x3 i = ((attnOf x0 x1 x2 x3 x0).total (i 0) (i 1) : EReal) := by
  rw [val_main_v32_apply, val_main_cst_6_apply, Ideal.ofBits_def, Ideal.ofBits_zero_f32, zero_add]
  refine sum_real fun k => ?_
  rw [val_main_v31_apply, v30_real f0 f1 f2 f3]
  rfl

/-- The second result: their logarithms. -/
theorem v36_real (i : S16x1x4096.Idx) :
    val_main_v36 (F := Ideal) x0 x1 x2 x3 i = (Real.log ((attnOf x0 x1 x2 x3 x0).total (i 0) (i 2)) : EReal) := by
  rw [val_main_v36_apply, val_main_v33_apply, v32_real f0 f1 f2 f3]
  exact log_real _ ((attnOf x0 x1 x2 x3 x0).total_pos (i 0) (i 2))

end Cert.Reference3Ideal.Hand

end
-- ==== Proof.FwdFinite.lean ====
/- What the third precondition says: every argument holds reals. -/
module

public import proofs.«01_k».proof.Proof.Finite
public import proofs.«01_k».proof.Proof.Gen.Pre_finite3

@[expose] public section

noncomputable section

namespace Cert.Pre_finite3.Hand

open Cert.Pre_finite3 Idealize.ShloMosaic Cert.Proof Cert.Pre_finite.Hand

theorem finite_of (x0 : FVec Ideal S4096x16x128 .f32) (x1 : FVec Ideal S4096x16x32 .f32) (x2 : FVec Ideal S4096x128 .f32)
    (x3 : FVec Ideal S4096x32 .f32) (j : S_.Idx) (h : fn (F := Ideal) x0 x1 x2 x3 j = 1#1) :
    AllReal x0 ∧ AllReal x1 ∧ AllReal x2 ∧ AllReal x3 := by
  obtain ⟨h, h3⟩ := andi_split h
  obtain ⟨h, h2⟩ := andi_split h
  obtain ⟨h0, h1⟩ := andi_split h
  exact ⟨allReal_of x0 _ _ _ _ j h0, allReal_of x1 _ _ _ _ j h1, allReal_of x2 _ _ _ _ j h2, allReal_of x3 _ _ _ _ j h3⟩

end Cert.Pre_finite3.Hand

end
-- ==== Proof.LossRows.lean ====
/- One row of the hidden layer that the loss is taken of: its products, what they add to the output, the output's norm and gate,
the error and its square. -/
module

public import proofs.«01_k».proof.Proof.PostRows

@[expose] public section

noncomputable section

namespace Cert.Proof.Loss

open Idealize.ShloMosaic

/-- A hidden unit's value by its two products. -/
def unit (g u : EReal) : EReal := g * Ideal.logistic g * u

/-- What hidden units add to one entry of a row: of the units' products `g` and `u`, by the weights `w`. -/
def hidden {n : Nat} (g u w : Fin n → EReal) : EReal := ∑ k, unit (g k) (u k) * w k

section Rows

variable (x u g gate t : Fin 1024 → EReal)

/-- The layer's result: the row's input and half the normalized row by one plus the gate. -/
def result (j : Fin 1024) : EReal :=
  x j + Ideal.ofBits .f32 0x3F000000#32 * (1 + gate j) * (Post.uhat u j * g j)

/-- The error. -/
def err (j : Fin 1024) : EReal := result x u g gate j - t j

/-- The gradient of the loss by the result. -/
def grad (j : Fin 1024) : EReal := err x u g gate t j * Ideal.ofBits .f32 0x3A800000#32

/-- The row's mean of squared errors. -/
def meanSq : EReal := Ideal.div (∑ j, err x u g gate t j * err x u g gate t j) (Ideal.ofBits .f32 0x44800000#32)

end Rows

/-- The hidden units in two halves. -/
theorem hidden_halves (g u w : Fin 2816 → EReal) :
    hidden g u w = hidden (fun k : Fin 1408 => g ⟨k.val, by omega⟩) (fun k => u ⟨k.val, by omega⟩) (fun k => w ⟨k.val, by omega⟩) +
      hidden (fun k : Fin 1408 => g ⟨1408 + k.val, by omega⟩) (fun k => u ⟨1408 + k.val, by omega⟩) (fun k => w ⟨1408 + k.val, by omega⟩) :=
  Fin.sum_univ_add (a := 1408) (b := 1408) fun k => unit (g k) (u k) * w k

end Cert.Proof.Loss

end
-- ==== Proof.LossBlock.lean ====
/- One point of the grid that ends in the loss: what it leaves in its blocks, row by row. -/
module

public import proofs.«01_k».proof.Proof.LossRows
public import proofs.«01_k».proof.Proof.Gen.Kernel4Ideal.Frame
public import Idealize.ShloMosaic.Lib.Pointwise
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.Kernel4Ideal.Hand

open Cert.Kernel4Ideal Cert.Kernel4Ideal.Gen Idealize.ShloMosaic Idealize.ShloMosaic.TcCoe Idealize.SL.Sem Idealize.ShloMosaic.StableHlo
open Cert.Proof.Loss

/-- Row `q` of a block. -/
abbrev row {n w : Nat} (b : (⟨2, ![n, w]⟩ : Shape).Idx → EReal) (q : Fin n) : Fin w → EReal := fun k => b (ix2 q k)

section Payloads

variable (hb : S512x1024.Idx → EReal) (wg wu : S1x1024x1408.Idx → EReal) (wo : S1x1408x1024.Idx → EReal) (ub : S512x1024.Idx → EReal)

/-- A row's product with one column of a half of the gates' weights. -/
def proj (h : Fin 1024 → EReal) (w : S1x1024x1408.Idx → EReal) (k : Fin 1408) : EReal := ∑ d, h d * w (ix3 0 d k)

/-- A row of the layer before the norm: what the first half of the hidden units added, and what the second adds. -/
def both (h u : Fin 1024 → EReal) (j : Fin 1024) : EReal := u j + hidden (proj h wg) (proj h wu) fun k => wo (ix3 0 k j)

theorem pay4_at (i : S512x1408.Idx) : k0_pay4 (F := Ideal) hb wg i = proj (row hb (i 0)) wg (i 1) := by
  unfold k0_pay4 k0_pay3
  pointwise
  rfl

theorem pay5_at (i : S512x1408.Idx) : k0_pay5 (F := Ideal) hb wu i = proj (row hb (i 0)) wu (i 1) := pay4_at hb wu i

theorem pay6_at (i : S1x512x1408.Idx) : k0_pay6 (F := Ideal) hb wg i = proj (row hb (i 1)) wg (i 2) := by
  unfold k0_pay6
  pointwise
  exact pay4_at hb wg _

theorem pay7_at (i : S1x512x1408.Idx) : k0_pay7 (F := Ideal) hb wu i = proj (row hb (i 1)) wu (i 2) := pay6_at hb wu i

theorem pay8_at (i : S512x1024.Idx) :
    k0_pay8 (F := Ideal) ub hb wg wu wo i = both wg wu wo (row hb (i 0)) (row ub (i 0)) (i 1) := by
  unfold k0_pay8
  pointwise
  refine congrArg₂ (· + ·) (congrArg ub (ValueIdx.eq_ix2 i)) (Finset.sum_congr rfl fun k _ => ?_)
  rw [pay4_at, pay5_at]
  rfl

variable (xb tb : S512x1024.Idx → EReal) (vb : S8x1024.Idx → EReal)

theorem pay9_at (h h') (i : S512x1024.Idx) :
    k0_pay9 (F := Ideal) ub xb (View.ld vb (Rect.unit (s := S8x1024) ![4, 0] ![1, 1024] h))
      (View.ld vb (Rect.unit (s := S8x1024) ![1, 0] ![1, 1024] h')) i =
      result (row xb (i 0)) (row ub (i 0)) (row vb 1) (row vb 4) (i 1) := by
  unfold k0_pay9
  pointwise
  unfold result Cert.Proof.Post.uhat
  refine congrArg₂ (· + ·) (congrArg xb (ValueIdx.eq_ix2 i)) (congrArg₂ (· * ·) rfl (congrArg₂ (· * ·) (congrArg₂ (· * ·) (congrArg ub (ValueIdx.eq_ix2 i)) ?_) rfl))
  rfl

theorem pay10_at (h h') (i : S512x1024.Idx) :
    k0_pay10 (F := Ideal) (k0_pay9 (F := Ideal) ub xb (View.ld vb (Rect.unit (s := S8x1024) ![4, 0] ![1, 1024] h))
      (View.ld vb (Rect.unit (s := S8x1024) ![1, 0] ![1, 1024] h'))) tb i =
      err (row xb (i 0)) (row ub (i 0)) (row vb 1) (row vb 4) (row tb (i 0)) (i 1) := by
  unfold k0_pay10
  pointwise
  rw [pay9_at]
  exact congrArg (_ - tb ·) (ValueIdx.eq_ix2 i)

theorem pay11_at (h h') (i : S512x1024.Idx) :
    k0_pay11 (F := Ideal) (k0_pay9 (F := Ideal) ub xb (View.ld vb (Rect.unit (s := S8x1024) ![4, 0] ![1, 1024] h))
      (View.ld vb (Rect.unit (s := S8x1024) ![1, 0] ![1, 1024] h'))) tb i =
      grad (row xb (i 0)) (row ub (i 0)) (row vb 1) (row vb 4) (row tb (i 0)) (i 1) := by
  unfold k0_pay11
  pointwise
  rw [pay10_at]
  rfl

theorem pay1_at (l : S1x1.Idx → EReal) (h h') (i : S1x1.Idx) :
    k0_pay1 (F := Ideal) (k0_pay12 l) (k0_pay13 (k0_pay9 (F := Ideal) ub xb (View.ld vb (Rect.unit (s := S8x1024) ![4, 0] ![1, 1024] h))
      (View.ld vb (Rect.unit (s := S8x1024) ![1, 0] ![1, 1024] h'))) tb) i =
      l i + Ideal.ofBits .f32 0x3F000000#32 * ∑ q, meanSq (row xb q) (row ub q) (row vb 1) (row vb 4) (row tb q) := by
  unfold k0_pay1 k0_pay12 k0_pay13
  pointwise
  refine congrArg (l i + _ * ·) (Finset.sum_congr rfl fun q _ => ?_)
  refine congrArg (Ideal.div · _) (Finset.sum_congr rfl fun j _ => ?_)
  rw [pay10_at]
  rfl

theorem pay2_at (i : S1x1.Idx) : k0_pay2 (F := Ideal) i = 0 := by
  unfold k0_pay2
  pointwise

end Payloads

variable (m : (ℓ : Loc nD τ sig) → Buf (Elt Ideal) ℓ) (c : Dev nD) (t : Fin cfg0.N)

/-- A row of the layer before the norm, of the point's blocks. -/
def uRow (q : Fin 512) : Fin 1024 → EReal :=
  both (iblk m c 4 t) (iblk m c 5 t) (iblk m c 6 t) (row (iblk m c 1 t) q) (row (iblk m c 2 t) q)

/-- What a point leaves in its block of the gradient by the result. -/
theorem outs_dy (y : S512x1024.Idx) :
    (outsAt0 (F := Ideal) m c t.val t.isLt).1 y =
      grad (row (iblk m c 0 t) (y 0)) (uRow m c t (y 0)) (row (iblk m c 3 t) 1) (row (iblk m c 3 t) 4) (row (iblk m c 7 t) (y 0)) (y 1) := by
  have k (h h') := pay11_at (k0_pay8 (iblk m c 2 t) (iblk m c 1 t) (iblk m c 4 t) (iblk m c 5 t) (iblk m c 6 t)) (iblk m c 0 t) (iblk m c 7 t)
    (iblk m c 3 t) h h' y
  rw [show row (k0_pay8 (F := Ideal) (iblk m c 2 t) (iblk m c 1 t) (iblk m c 4 t) (iblk m c 5 t) (iblk m c 6 t)) (y 0) = uRow m c t (y 0) from
    funext fun j => pay8_at _ _ _ _ _ _] at k
  by_cases h : t.val % 8 = 0
  · rw [outsAt0_A m c t h]
    frame_open
    simp (disch := decide) only [↓ View.readCov_skip, ↓ View.readCov_cons_toLoadRect, ↓ View.readCov_fill]
    frame_out
    exact k _ _
  · rw [outsAt0_B m c t h]
    frame_open
    simp (disch := decide) only [↓ View.readCov_skip, ↓ View.readCov_cons_toLoadRect, ↓ View.readCov_fill]
    frame_out
    exact k _ _

/-- What a point leaves in its block of the layer before the norm. -/
theorem outs_u (y : S512x1024.Idx) : (outsAt0 (F := Ideal) m c t.val t.isLt).2.2.1 y = uRow m c t (y 0) (y 1) := by
  by_cases h : t.val % 8 = 0
  · rw [outsAt0_A m c t h]
    frame_open
    simp (disch := decide) only [↓ View.readCov_skip, ↓ View.readCov_cons_toLoadRect, ↓ View.readCov_fill]
    frame_out
    exact pay8_at _ _ _ _ _ y
  · rw [outsAt0_B m c t h]
    frame_open
    simp (disch := decide) only [↓ View.readCov_skip, ↓ View.readCov_cons_toLoadRect, ↓ View.readCov_fill]
    frame_out
    exact pay8_at _ _ _ _ _ y

/-- What a point adds to the loss. -/
def lossStep : EReal := Ideal.ofBits .f32 0x3F000000#32 * ∑ q, meanSq (row (iblk m c 0 t) q) (uRow m c t q) (row (iblk m c 3 t) 1)
  (row (iblk m c 3 t) 4) (row (iblk m c 7 t) q)

theorem pay1_blk (l : S1x1.Idx → EReal) (h h') (i : S1x1.Idx) :
    k0_pay1 (F := Ideal) (k0_pay12 l) (k0_pay13 (k0_pay9 (F := Ideal)
      (k0_pay8 (iblk m c 2 t) (iblk m c 1 t) (iblk m c 4 t) (iblk m c 5 t) (iblk m c 6 t)) (iblk m c 0 t)
      (View.ld (iblk m c 3 t : S8x1024.Idx → EReal) (Rect.unit (s := S8x1024) ![4, 0] ![1, 1024] h))
      (View.ld (iblk m c 3 t : S8x1024.Idx → EReal) (Rect.unit (s := S8x1024) ![1, 0] ![1, 1024] h'))) (iblk m c 7 t)) i = l i + lossStep m c t := by
  refine (pay1_at _ _ _ _ _ _ _ _).trans (congrArg (l i + _ * ·) (Finset.sum_congr rfl fun q _ => ?_))
  exact congrArg (fun u => meanSq _ u _ _ _) (funext fun j => pay8_at _ _ _ _ _ _)

theorem outs_loss_first (h : t.val % 8 = 0) (j : S1x1.Idx) :
    (outsAt0 (F := Ideal) m c t.val t.isLt).2.2.2 j = 0 + lossStep m c t := by
  rw [outsAt0_A m c t h]
  frame_open
  simp (disch := decide) only [↓ View.readCov_skip, ↓ View.readCov_cons_toLoadRect, ↓ View.readCov_fill]
  frame_out
  exact (pay1_blk _ _ _ _ _ _ _).trans (congrArg (· + _) (pay2_at _))

theorem outs_loss_next (h : ¬t.val % 8 = 0) (j : S1x1.Idx) :
    (outsAt0 (F := Ideal) m c t.val t.isLt).2.2.2 j = (outsAt0 (F := Ideal) m c (t.val - 1) (by omega)).2.2.2 j + lossStep m c t := by
  rw [outsAt0_B m c t h]
  frame_open
  simp (disch := decide) only [↓ View.readCov_skip, ↓ View.readCov_cons_toLoadRect, ↓ View.readCov_fill]
  frame_out
  exact pay1_blk _ _ _ _ _ _ _

theorem emb_half {o : Nat} (ho : o < 2) (h : ∀ a, (![o, 0, 0] : Fin 3 → Nat) a + (![1, 512, 1408] : Fin 3 → Nat) a ≤ S2x512x1408.size a)
    (q : Fin 512) (k : Fin 1408) : (Rect.unit (s := S2x512x1408) ![o, 0, 0] ![1, 512, 1408] h).emb (ix3 0 q k) = ix3 ⟨o, ho⟩ q k := by
  funext a
  refine Fin.ext ?_
  match a with
  | 0 => rfl
  | 1 => show 0 + 1 * q.val = q.val; omega
  | 2 => show 0 + 1 * k.val = k.val; omega

/-- A block written in two halves, read. -/
theorem canon_halves (f0 f1 : S1x512x1408.Idx → EReal) (y : S2x512x1408.Idx) :
    View.canon (Val := Elt Ideal) (e := .bf16)
      [⟨Rect.unit (s := S2x512x1408) ![1, 0, 0] ![1, 512, 1408] inb_S2x512x1408_S1x512x1408_1_0_0, f1⟩,
        ⟨Rect.unit (s := S2x512x1408) ![0, 0, 0] ![1, 512, 1408] inb_S2x512x1408_S1x512x1408_0_0_0, f0⟩] y =
      if (y 0).val = 0 then f0 (ix3 0 (y 1) (y 2)) else f1 (ix3 0 (y 1) (y 2)) := by
  have hy : (y 0).val < 2 := (y 0).isLt
  have key (o : Nat) (ho : o < 2) (h) (e : (y 0).val = o) :
      y = (Rect.unit (s := S2x512x1408) ![o, 0, 0] ![1, 512, 1408] h).emb (ix3 0 (y 1) (y 2)) :=
    ((ValueIdx.eq_ix3 y).trans (congrArg (fun z => ix3 z (y 1) (y 2)) (Fin.ext e))).trans (emb_half ho _ _ _).symm
  split
  · rename_i e
    refine (View.canon_cons_of_not_mem _ _ fun hm => ?_).trans ?_
    · rw [Rect.mem_set_unit] at hm
      exact absurd (hm 0).1 (by show ¬1 ≤ (y 0).val; omega)
    exact (congrArg _ (key 0 (by decide) inb_S2x512x1408_S1x512x1408_0_0_0 e)).trans (View.canon_cons_emb _ _ _ _)
  · exact (congrArg _ (key 1 (by decide) inb_S2x512x1408_S1x512x1408_1_0_0 (by omega))).trans (View.canon_cons_emb _ _ _ _)

/-- What a point leaves in its block of the hidden units' products: the gates' and the others'. -/
theorem outs_a (y : S2x512x1408.Idx) :
    (outsAt0 (F := Ideal) m c t.val t.isLt).2.1 y =
      if (y 0).val = 0 then proj (row (iblk m c 1 t) (y 1)) (iblk m c 4 t) (y 2) else proj (row (iblk m c 1 t) (y 1)) (iblk m c 5 t) (y 2) := by
  by_cases h : t.val % 8 = 0
  · rw [outsAt0_A m c t h]
    frame_open
    simp (disch := decide) only [↓ View.readCov_skip, ↓ View.readCov_cons_toLoadRect, ↓ View.readCov_fill]
    frame_out
    exact (canon_halves _ _ y).trans (if_congr Iff.rfl (pay6_at _ _ _) (pay7_at _ _ _))
  · rw [outsAt0_B m c t h]
    frame_open
    simp (disch := decide) only [↓ View.readCov_skip, ↓ View.readCov_cons_toLoadRect, ↓ View.readCov_fill]
    frame_out
    exact (canon_halves _ _ y).trans (if_congr Iff.rfl (pay6_at _ _ _) (pay7_at _ _ _))

end Cert.Kernel4Ideal.Hand

end
-- ==== Proof.LossHost.lean ====
/- The arrays that the grid which ends in the loss reads, from the arguments. -/
module

public import proofs.«01_k».proof.Proof.LossBlock
public import proofs.«01_k».proof.Proof.PostHost
public import proofs.«01_k».proof.Proof.Gen.Reference4Ideal.Read
public import Idealize.ShloMosaic.Lib.StableHlo.RunRead

@[expose] public section

set_option maxRecDepth 16384

noncomputable section

namespace Cert.Kernel4Ideal.Hand

open Cert.Kernel4Ideal Cert.Kernel4Ideal.Gen Idealize.ShloMosaic Idealize.ShloMosaic.TcCoe Idealize.SL.Sem Idealize.ShloMosaic.StableHlo
open Cert.Proof.Loss

section Ops

variable (h : FVec Ideal S4096x1024 .f32) (x4 : FVec Ideal S1024x5632 .f32) (x5 : FVec Ideal S2816x1024 .f32)

/-- The first half of the gates' products. -/
def gateHalf : FVec Ideal S4096x1408 .f32 :=
  Host.dotGeneral dot_S4096x1024_S1024x1408_S4096x1408_1_0_0_1_n_n none h (extractStridedSlice S1024x1408 ![0, 0] x4 slices_S1024x5632_S1024x1408_0_0)

/-- The first half of the other products. -/
def upHalf : FVec Ideal S4096x1408 .f32 :=
  Host.dotGeneral dot_S4096x1024_S1024x1408_S4096x1408_1_0_0_1_n_n none h (extractStridedSlice S1024x1408 ![0, 2816] x4 slices_S1024x5632_S1024x1408_0_2816)

/-- Ones. -/
def ones : FVec Ideal S4096x1408 .f32 := broadcastInDim S4096x1408 ![] bcast_S_S4096x1408 (constant (F := Ideal) S_ .f32 0x3F800000#32)

/-- What the first half of the hidden units adds to the output. -/
def outHalf : FVec Ideal S4096x1024 .f32 :=
  Host.dotGeneral dot_S4096x1408_S1408x1024_S4096x1024_1_0_0_1_n_n none
    (mulf (mulf (gateHalf h x4) (Host.divf ones (addf ones (Host.exp (Host.negf (gateHalf h x4)))))) (upHalf h x4))
    (extractStridedSlice S1408x1024 ![0, 0] x5 slices_S2816x1024_S1408x1024_0_0)

/-- The first half of both products, the place of the second half behind. -/
def padHalf : FVec Ideal S2x4096x2816 .bf16 :=
  pad S2x4096x2816 ![0, 0, 0] ![0, 0, 1408] ![0, 0, 0] (truncf .bf16 (concatenate S2x4096x1408 0
      [⟨S1x4096x1408, broadcastInDim S1x4096x1408 ![1, 2] bcast_S4096x1408_S1x4096x1408_1_2 (gateHalf h x4)⟩,
        ⟨S1x4096x1408, broadcastInDim S1x4096x1408 ![1, 2] bcast_S4096x1408_S1x4096x1408_1_2 (upHalf h x4)⟩]
      concatenates_S1x4096x1408_S1x4096x1408_S2x4096x1408_d0) bitsLt_bf16_f32)
    (sitofp .bf16 (constantI S_ 32 0#32)) pads_S2x4096x1408_S2x4096x2816_000_000_014080 h_S_

/-- The hidden layer's first weights, in four parts. -/
def inParts : FVec Ideal S4x1024x1408 .bf16 :=
  truncf .bf16 (transpose S4x1024x1408 [1, 0, 2] (shapeCast S1024x4x1408 x4 shapeCasts_S1024x5632_S1024x4x1408)
    transposes_S1024x4x1408_S4x1024x1408_1_0_2) bitsLt_bf16_f32

/-- Its second weights, in two. -/
def outParts : FVec Ideal S2x1408x1024 .bf16 := truncf .bf16 (shapeCast S2x1408x1024 x5 shapeCasts_S2816x1024_S2x1408x1024) bitsLt_bf16_f32

/-- A row's product with a column of the first weights. -/
def pre (i : Fin 4096) (s : Fin 5632) : EReal := ∑ d, h (ix2 i d) * x4 (ix2 d s)

/-- A unit's product with the gates' weights. -/
def gateAt (i : Fin 4096) (k : Fin 2816) : EReal := pre h x4 i ⟨k.val, by omega⟩

/-- A unit's other product. -/
def upAt (i : Fin 4096) (k : Fin 2816) : EReal := pre h x4 i ⟨2816 + k.val, by omega⟩

theorem gateHalf_at (y : S4096x1408.Idx) : gateHalf h x4 y = gateAt h x4 (y 0) ⟨(y 1).val, Nat.lt_trans (y 1).isLt (by decide)⟩ := by
  unfold gateHalf
  pointwise
  rfl

theorem upHalf_at (y : S4096x1408.Idx) : upHalf h x4 y = upAt h x4 (y 0) ⟨(y 1).val, Nat.lt_trans (y 1).isLt (by decide)⟩ := by
  unfold upHalf
  pointwise
  rfl

theorem outHalf_at (y : S4096x1024.Idx) :
    outHalf h x4 x5 y = hidden (fun k : Fin 1408 => gateAt h x4 (y 0) ⟨k.val, by omega⟩) (fun k => upAt h x4 (y 0) ⟨k.val, by omega⟩)
      (fun k => x5 (ix2 ⟨k.val, by omega⟩ (y 1))) := by
  unfold outHalf
  have eg := gateHalf_at h x4
  have eu := upHalf_at h x4
  generalize gateHalf h x4 = g at *
  generalize upHalf h x4 = u at *
  unfold ones
  pointwise
  refine Finset.sum_congr rfl fun k _ => ?_
  rw [eg, eu]
  rfl

theorem padHalf_at (y : S2x4096x2816.Idx) (hy : (y 2).val < 1408) :
    padHalf h x4 y = if (y 0).val = 0 then gateAt h x4 (y 1) (y 2) else upAt h x4 (y 1) (y 2) := by
  unfold padHalf
  have eg := gateHalf_at h x4
  have eu := upHalf_at h x4
  generalize gateHalf h x4 = g at *
  generalize upHalf h x4 = u at *
  pointwise
  refine (dif_pos hy).trans ?_
  by_cases e : (y 0).val < 1
  · exact (dif_pos e).trans ((eg _).trans (if_pos (Nat.lt_one_iff.1 e)).symm)
  · exact (dif_neg e).trans ((eu _).trans (if_neg fun h => e (Nat.lt_one_iff.2 h)).symm)

theorem inParts_at (y : S4x1024x1408.Idx) :
    inParts x4 y = x4 (ix2 (y 1) ⟨(y 0).val * 1408 + (y 2).val, by
      have h0 : (y 0).val < 4 := (y 0).isLt
      have h2 : (y 2).val < 1408 := (y 2).isLt
      omega⟩) := by
  unfold inParts
  pointwise

theorem outParts_at (y : S2x1408x1024.Idx) :
    outParts x5 y = x5 (ix2 ⟨(y 0).val * 1408 + (y 1).val, by
      have h0 : (y 0).val < 2 := (y 0).isLt
      have h2 : (y 1).val < 1408 := (y 1).isLt
      omega⟩ (y 2)) := by
  unfold outParts
  pointwise

end Ops

variable (m : (ℓ : Loc nD τ sig) → Buf (Elt Ideal) ℓ) (c : Dev nD)

/-- The arguments. -/
def a0 : FVec Ideal S4096x1024 .f32 := m (c.tc.loc main_arg0)
def a1 : FVec Ideal S1024 .f32 := m (c.tc.loc main_arg1)
def a2 : FVec Ideal S1024 .f32 := m (c.tc.loc main_arg2)
def a3 : FVec Ideal S1024 .f32 := m (c.tc.loc main_arg3)
def a4 : FVec Ideal S1024x5632 .f32 := m (c.tc.loc main_arg4)
def a5 : FVec Ideal S2816x1024 .f32 := m (c.tc.loc main_arg5)
def a6 : FVec Ideal S1024 .f32 := m (c.tc.loc main_arg6)
def a7 : FVec Ideal S1024 .f32 := m (c.tc.loc main_arg7)
def a8 : FVec Ideal S4096x1024 .f32 := m (c.tc.loc main_arg8)

/-- The normalized input, modulated. -/
def hArr : FVec Ideal S4096x1024 .f32 := Cert.Reference4Ideal.Read.val_main_v20 (F := Ideal) (a0 m c) (a1 m c) (a2 m c) (a3 m c)

theorem v47_eq : V m c main_v47 = truncf .bf16 (hArr m c) bitsLt_bf16_f32 := by
  show StableHlo.after (List.flatten [hostOps0, hostOps0_1, hostOps0_2, hostOps0_3, hostOps0_4]) (fun b => m (c, b)) (Proc.devRef .tc main_v47) = _
  simp only [List.flatten_cons, List.flatten_nil, List.append_nil, hostOps0, hostOps0_1, hostOps0_2, hostOps0_3, hostOps0_4,
    List.cons_append, List.nil_append]
  after_results_simp
  rfl

theorem v28_eq : V m c main_v28 = outHalf (hArr m c) (a4 m c) (a5 m c) := by
  show StableHlo.after (List.flatten [hostOps0, hostOps0_1, hostOps0_2, hostOps0_3, hostOps0_4]) (fun b => m (c, b)) (Proc.devRef .tc main_v28) = _
  simp only [List.flatten_cons, List.flatten_nil, List.append_nil, hostOps0, hostOps0_1, hostOps0_2, hostOps0_3, hostOps0_4,
    List.cons_append, List.nil_append]
  after_results_simp
  rfl

theorem v43_eq : V m c main_v43 = Cert.Kernel2Ideal.Hand.vecs (a6 m c) (a7 m c) := by
  show StableHlo.after (List.flatten [hostOps0, hostOps0_1, hostOps0_2, hostOps0_3, hostOps0_4]) (fun b => m (c, b)) (Proc.devRef .tc main_v43) = _
  simp only [List.flatten_cons, List.flatten_nil, List.append_nil, hostOps0, hostOps0_1, hostOps0_2, hostOps0_3, hostOps0_4,
    List.cons_append, List.nil_append]
  after_results_simp
  rfl

theorem v46_eq : V m c main_v46 = inParts (a4 m c) := by
  show StableHlo.after (List.flatten [hostOps0, hostOps0_1, hostOps0_2, hostOps0_3, hostOps0_4]) (fun b => m (c, b)) (Proc.devRef .tc main_v46) = _
  simp only [List.flatten_cons, List.flatten_nil, List.append_nil, hostOps0, hostOps0_1, hostOps0_2, hostOps0_3, hostOps0_4,
    List.cons_append, List.nil_append]
  after_results_simp
  rfl

theorem v49_eq : V m c main_v49 = outParts (a5 m c) := by
  show StableHlo.after (List.flatten [hostOps0, hostOps0_1, hostOps0_2, hostOps0_3, hostOps0_4]) (fun b => m (c, b)) (Proc.devRef .tc main_v49) = _
  simp only [List.flatten_cons, List.flatten_nil, List.append_nil, hostOps0, hostOps0_1, hostOps0_2, hostOps0_3, hostOps0_4,
    List.cons_append, List.nil_append]
  after_results_simp
  rfl

theorem v50_1_eq : V m c main_v50_1 = padHalf (hArr m c) (a4 m c) := by
  show StableHlo.after (List.flatten [hostOps0, hostOps0_1, hostOps0_2, hostOps0_3, hostOps0_4]) (fun b => m (c, b)) (Proc.devRef .tc main_v50_1) = _
  simp only [List.flatten_cons, List.flatten_nil, List.append_nil, hostOps0, hostOps0_1, hostOps0_2, hostOps0_3, hostOps0_4,
    List.cons_append, List.nil_append]
  after_results_simp
  rfl

end Cert.Kernel4Ideal.Hand

end
-- ==== Proof.LossArrays.lean ====
/- The arrays that the grid which ends in the loss leaves, from the arguments. -/
module

public import proofs.«01_k».proof.Proof.LossHost
public import Idealize.ShloMosaic.Lib.Pipeline.ValueKit.Partial

@[expose] public section

set_option maxRecDepth 16384

noncomputable section

namespace Cert.Kernel4Ideal.Hand

open Cert.Kernel4Ideal Cert.Kernel4Ideal.Gen Idealize.ShloMosaic Idealize.ShloMosaic.TcCoe Idealize.SL.Sem Idealize.ShloMosaic.StableHlo
open Cert.Proof.Loss

variable (m : (ℓ : Loc nD τ sig) → Buf (Elt Ideal) ℓ) (c : Dev nD)

/-- The row of the array that is row `q` of a grid point's block. -/
def rowOf (t : Fin cfg0.N) (q : Fin 512) : Fin 4096 := ⟨t.val * 512 + q.val, by have := t.isLt; have : cfg0.N = 8 := N_0; omega⟩

theorem index_0 : ∀ t : Fin cfg0.N, (cfg0.win 0).index t = ![t.val, 0] := by decide +kernel
theorem index_1 : ∀ t : Fin cfg0.N, (cfg0.win 1).index t = ![t.val, 0] := by decide +kernel
theorem index_2 : ∀ t : Fin cfg0.N, (cfg0.win 2).index t = ![t.val, 0] := by decide +kernel
theorem index_3 : ∀ t : Fin cfg0.N, (cfg0.win 3).index t = ![0, 0] := by decide +kernel
theorem index_4 : ∀ t : Fin cfg0.N, (cfg0.win 4).index t = ![1, 0, 0] := by decide +kernel
theorem index_5 : ∀ t : Fin cfg0.N, (cfg0.win 5).index t = ![3, 0, 0] := by decide +kernel
theorem index_6 : ∀ t : Fin cfg0.N, (cfg0.win 6).index t = ![1, 0, 0] := by decide +kernel
theorem index_7 : ∀ t : Fin cfg0.N, (cfg0.win 7).index t = ![t.val, 0] := by decide +kernel
theorem index_8 : ∀ t : Fin cfg0.N, (cfg0.win 8).index t = ![t.val, 0] := by decide +kernel
theorem index_9 : ∀ t : Fin cfg0.N, (cfg0.win 9).index t = ![0, t.val, 1] := by decide +kernel
theorem index_10 : ∀ t : Fin cfg0.N, (cfg0.win 10).index t = ![t.val, 0] := by decide +kernel

variable {m c}

theorem emb_0 (A : S4096x1024.Idx → EReal) (t : Fin cfg0.N) (q : Fin 512) (k : Fin 1024) :
    ((cfg0.win 0).blk t).view.read (Elt Ideal) A (ix2 q k) = A (ix2 (rowOf t q) k) := by
  refine congrArg A (funext fun a => Fin.ext ?_)
  match a with
  | 0 => blk_simp [index_0 t]; rfl
  | 1 => blk_simp [index_0 t]

theorem emb_1 (A : S4096x1024.Idx → EReal) (t : Fin cfg0.N) (q : Fin 512) (k : Fin 1024) :
    ((cfg0.win 1).blk t).view.read (Elt Ideal) A (ix2 q k) = A (ix2 (rowOf t q) k) := by
  refine congrArg A (funext fun a => Fin.ext ?_)
  match a with
  | 0 => blk_simp [index_1 t]; rfl
  | 1 => blk_simp [index_1 t]

theorem emb_2 (A : S4096x1024.Idx → EReal) (t : Fin cfg0.N) (q : Fin 512) (k : Fin 1024) :
    ((cfg0.win 2).blk t).view.read (Elt Ideal) A (ix2 q k) = A (ix2 (rowOf t q) k) := by
  refine congrArg A (funext fun a => Fin.ext ?_)
  match a with
  | 0 => blk_simp [index_2 t]; rfl
  | 1 => blk_simp [index_2 t]

theorem emb_3 (A : S8x1024.Idx → EReal) (t : Fin cfg0.N) : ((cfg0.win 3).blk t).view.read (Elt Ideal) A = A := by
  refine funext fun y => congrArg A (funext fun a => Fin.ext ?_)
  match a with
  | 0 => blk_simp [index_3 t]
  | 1 => blk_simp [index_3 t]

theorem emb_4 (A : S4x1024x1408.Idx → EReal) (t : Fin cfg0.N) (d : Fin 1024) (k : Fin 1408) :
    ((cfg0.win 4).blk t).view.read (Elt Ideal) A (ix3 0 d k) = A (ix3 1 d k) := by
  refine congrArg A (funext fun a => Fin.ext ?_)
  match a with
  | 0 => blk_simp [index_4 t]; rfl
  | 1 => blk_simp [index_4 t]
  | 2 => blk_simp [index_4 t]

theorem emb_5 (A : S4x1024x1408.Idx → EReal) (t : Fin cfg0.N) (d : Fin 1024) (k : Fin 1408) :
    ((cfg0.win 5).blk t).view.read (Elt Ideal) A (ix3 0 d k) = A (ix3 3 d k) := by
  refine congrArg A (funext fun a => Fin.ext ?_)
  match a with
  | 0 => blk_simp [index_5 t]; rfl
  | 1 => blk_simp [index_5 t]
  | 2 => blk_simp [index_5 t]

theorem emb_6 (A : S2x1408x1024.Idx → EReal) (t : Fin cfg0.N) (k : Fin 1408) (j : Fin 1024) :
    ((cfg0.win 6).blk t).view.read (Elt Ideal) A (ix3 0 k j) = A (ix3 1 k j) := by
  refine congrArg A (funext fun a => Fin.ext ?_)
  match a with
  | 0 => blk_simp [index_6 t]; rfl
  | 1 => blk_simp [index_6 t]
  | 2 => blk_simp [index_6 t]

theorem emb_7 (A : S4096x1024.Idx → EReal) (t : Fin cfg0.N) (q : Fin 512) (k : Fin 1024) :
    ((cfg0.win 7).blk t).view.read (Elt Ideal) A (ix2 q k) = A (ix2 (rowOf t q) k) := by
  refine congrArg A (funext fun a => Fin.ext ?_)
  match a with
  | 0 => blk_simp [index_7 t]; rfl
  | 1 => blk_simp [index_7 t]

/-! ## What the region leaves -/

variable (m c)

/-- The layer's output before the norm. -/
def uArr (y : S4096x1024.Idx) : EReal :=
  hidden (gateAt (hArr m c) (a4 m c) (y 0)) (upAt (hArr m c) (a4 m c) (y 0)) fun k => a5 m c (ix2 k (y 1))

/-- The hidden units' products: the gates', then the others'. -/
def aArr (y : S2x4096x2816.Idx) : EReal :=
  if (y 0).val = 0 then gateAt (hArr m c) (a4 m c) (y 1) (y 2) else upAt (hArr m c) (a4 m c) (y 1) (y 2)

/-- The gradient of the loss by the layer's result. -/
def dyArr (y : S4096x1024.Idx) : EReal :=
  grad (row (a0 m c) (y 0)) (row (uArr m c) (y 0)) (fun k => a6 m c (ix1 k)) (fun k => a7 m c (ix1 k)) (row (a8 m c) (y 0)) (y 1)

/-- A row's mean of squared errors. -/
def rowLoss (i : Fin 4096) : EReal :=
  meanSq (row (a0 m c) i) (row (uArr m c) i) (fun k => a6 m c (ix1 k)) (fun k => a7 m c (ix1 k)) (row (a8 m c) i)

/-- The loss. -/
def lossArr (_ : S1x1.Idx) : EReal := Ideal.ofBits .f32 0x3F000000#32 * ∑ i, rowLoss m c i

variable {m c}

theorem row_0 (t : Fin cfg0.N) (q : Fin 512) : row (iblk m c 0 t) q = row (a0 m c) (rowOf t q) :=
  funext fun k => (emb_0 (V m c main_arg0) t q k).trans (congrFun (V_main_arg0 m c) _)

theorem row_1 (t : Fin cfg0.N) (q : Fin 512) : row (iblk m c 1 t) q = row (hArr m c) (rowOf t q) :=
  funext fun k => (emb_1 (V m c main_v47) t q k).trans (congrFun (v47_eq m c) _)

theorem row_2 (t : Fin cfg0.N) (q : Fin 512) : row (iblk m c 2 t) q = row (outHalf (hArr m c) (a4 m c) (a5 m c)) (rowOf t q) :=
  funext fun k => (emb_2 (V m c main_v28) t q k).trans (congrFun (v28_eq m c) _)

theorem row_7 (t : Fin cfg0.N) (q : Fin 512) : row (iblk m c 7 t) q = row (a8 m c) (rowOf t q) :=
  funext fun k => (emb_7 (V m c main_arg8) t q k).trans (congrFun (V_main_arg8 m c) _)

theorem row_g (t : Fin cfg0.N) : row (iblk m c 3 t) 1 = fun k => a6 m c (ix1 k) :=
  funext fun k => (congrFun ((emb_3 (V m c main_v43) t).trans (v43_eq m c)) _).trans (Cert.Kernel2Ideal.Hand.vecs_g _ _ k)

theorem row_gate (t : Fin cfg0.N) : row (iblk m c 3 t) 4 = fun k => a7 m c (ix1 k) :=
  funext fun k => (congrFun ((emb_3 (V m c main_v43) t).trans (v43_eq m c)) _).trans (Cert.Kernel2Ideal.Hand.vecs_gate _ _ k)

theorem proj_gate (t : Fin cfg0.N) (q : Fin 512) (k : Fin 1408) :
    proj (row (iblk m c 1 t) q) (iblk m c 4 t) k = gateAt (hArr m c) (a4 m c) (rowOf t q) ⟨1408 + k.val, by omega⟩ := by
  unfold proj gateAt pre
  refine Finset.sum_congr rfl fun d _ => congrArg₂ (· * ·) (congrFun (row_1 t q) d) ?_
  refine ((emb_4 (V m c main_v46) t d k).trans (congrFun (v46_eq m c) _)).trans ((inParts_at _ _).trans (congrArg (a4 m c) ?_))
  exact congrArg (ix2 d) (Fin.ext rfl)

theorem proj_up (t : Fin cfg0.N) (q : Fin 512) (k : Fin 1408) :
    proj (row (iblk m c 1 t) q) (iblk m c 5 t) k = upAt (hArr m c) (a4 m c) (rowOf t q) ⟨1408 + k.val, by omega⟩ := by
  unfold proj upAt pre
  refine Finset.sum_congr rfl fun d _ => congrArg₂ (· * ·) (congrFun (row_1 t q) d) ?_
  refine ((emb_5 (V m c main_v46) t d k).trans (congrFun (v46_eq m c) _)).trans ((inParts_at _ _).trans (congrArg (a4 m c) ?_))
  exact congrArg (ix2 d) (Fin.ext (by show 3 * 1408 + k.val = 2816 + (1408 + k.val); omega))

theorem out_blk (t : Fin cfg0.N) (k : Fin 1408) (j : Fin 1024) :
    (iblk m c 6 t : S1x1408x1024.Idx → EReal) (ix3 0 k j) = a5 m c (ix2 ⟨1408 + k.val, by omega⟩ j) := by
  refine ((emb_6 (V m c main_v49) t k j).trans (congrFun (v49_eq m c) _)).trans ((outParts_at _ _).trans (congrArg (a5 m c) ?_))
  exact congrArg (ix2 · j) (Fin.ext rfl)

/-- A row of the layer before the norm, of a point's blocks, is the array's. -/
theorem u_eq (t : Fin cfg0.N) (q : Fin 512) : uRow m c t q = row (uArr m c) (rowOf t q) := by
  refine funext fun j => ?_
  refine Eq.trans ?_ (hidden_halves _ _ _).symm
  refine congrArg₂ (· + ·) ((congrFun (row_2 t q) j).trans (outHalf_at _ _ _ _)) ?_
  refine Finset.sum_congr rfl fun k _ => ?_
  exact congrArg₂ (· * ·) (congrArg₂ unit (proj_gate t q k) (proj_up t q k)) (out_blk t k j)

/-- A block's row of the gradient is the array's. -/
theorem dy_eq (t : Fin cfg0.N) (q : Fin 512) (k : Fin 1024) :
    grad (row (iblk m c 0 t) q) (uRow m c t q) (row (iblk m c 3 t) 1) (row (iblk m c 3 t) 4) (row (iblk m c 7 t) q) k =
      dyArr m c (ix2 (rowOf t q) k) := by
  rw [row_0, row_7, row_g, row_gate, u_eq]
  rfl

/-- So are its hidden units' products. -/
theorem a_eq (t : Fin cfg0.N) (n : Fin 2) (q : Fin 512) (k : Fin 1408) :
    (if n.val = 0 then proj (row (iblk m c 1 t) q) (iblk m c 4 t) k else proj (row (iblk m c 1 t) q) (iblk m c 5 t) k) =
      aArr m c (ix3 n (rowOf t q) ⟨1408 + k.val, by omega⟩) :=
  if_congr Iff.rfl (proj_gate t q k) (proj_up t q k)

theorem sum_points (f : Fin 4096 → EReal) : ∑ t : Fin cfg0.N, ∑ q : Fin 512, f (rowOf t q) = ∑ i, f i :=
  Cert.Kernel2Ideal.Hand.sum_points f

/-- Half a sum is the sum of the halves. -/
theorem half_sum {n : Nat} (f : Fin n → EReal) :
    ∑ i, Ideal.ofBits .f32 0x3F000000#32 * f i = Ideal.ofBits .f32 0x3F000000#32 * ∑ i, f i := by
  have e : Ideal.ofBits .f32 0x3F000000#32 = ((1 / 2 : ℝ) : EReal) := by
    simp [Ideal.ofBits, Ideal.ieee, -EReal.coe_mul]
    norm_num
  have d (x y : EReal) : ((1 / 2 : ℝ) : EReal) * (x + y) = ((1 / 2 : ℝ) : EReal) * x + ((1 / 2 : ℝ) : EReal) * y :=
    EReal.left_distrib_of_nonneg_of_ne_top (EReal.coe_nonneg.2 (by norm_num)) (EReal.coe_ne_top _) x y
  rw [e]
  exact (map_sum ({ toFun := fun x => ((1 / 2 : ℝ) : EReal) * x, map_zero' := mul_zero _, map_add' := d } : EReal →+ EReal) f Finset.univ).symm

/-- The last point. -/
def lastPt : Fin cfg0.N := ⟨7, Nat.lt_of_lt_of_eq (by decide : 7 < 8) N_0.symm⟩

theorem outs_loss_last (j : S1x1.Idx) : (outsAt0 (F := Ideal) m c lastPt.val lastPt.isLt).2.2.2 j = lossArr m c j := by
  refine (Pipeline.eq_sum_fin_of_reset_step_apply_last (fun n hn j => (outsAt0 (F := Ideal) m c n hn).2.2.2 j) 8 (fun _ => (0 : EReal))
    (fun t _ => lossStep m c t) (fun t h i => outs_loss_first m c t h i) (fun t h i => outs_loss_next m c t h i) N_0.le lastPt
    N_0.symm j).trans ?_
  rw [zero_add]
  unfold lossStep lossArr
  rw [half_sum, ← sum_points]
  refine congrArg _ (Finset.sum_congr rfl fun t _ => Finset.sum_congr rfl fun q _ => ?_)
  rw [row_0, row_7, row_g, row_gate, u_eq]
  rfl

theorem arr_dy : (dats (F := Ideal) m 0 c).arrAt 8 cfg0.N = dyArr m c := by
  refine (dats m 0 c).arrAt_eq_of_covers 8 _ (by decide +kernel) fun t hf y => ?_
  blk_simp
  rw [after0_8]
  refine (outs_dy m c t y).trans ((dy_eq t (y 0) (y 1)).trans (congrArg (dyArr m c) (funext fun a => Fin.ext ?_)))
  match a with
  | 0 => blk_simp [index_8 t]; rfl
  | 1 => blk_simp [index_8 t]

theorem arr_u : (dats (F := Ideal) m 0 c).arrAt 10 cfg0.N = uArr m c := by
  refine (dats m 0 c).arrAt_eq_of_covers 10 _ (by decide +kernel) fun t hf y => ?_
  blk_simp
  rw [after0_10]
  refine (outs_u m c t y).trans ((congrFun (u_eq t (y 0)) (y 1)).trans (congrArg (uArr m c) (funext fun a => Fin.ext ?_)))
  match a with
  | 0 => blk_simp [index_10 t]; rfl
  | 1 => blk_simp [index_10 t]

theorem arr_a : (dats (F := Ideal) m 0 c).arrAt 9 cfg0.N = aArr m c := by
  refine (dats m 0 c).arrAt_eq_of_coversWhere_of_agree 9 _ (fun β => 1 ≤ β 2) (by decide +kernel) (fun t hf y => ?_) (fun j hj => ?_)
  · blk_simp
    rw [after0_9]
    refine (outs_a m c t y).trans ((a_eq t (y 0) (y 1) (y 2)).trans (congrArg (aArr m c) (funext fun a => Fin.ext ?_)))
    match a with
    | 0 => blk_simp [index_9 t]
    | 1 => blk_simp [index_9 t]; rfl
    | 2 => blk_simp [index_9 t]
  · blk_simp [Pipeline.Window.cell_apply] at hj
    have h : (j 2).val < 1408 := by omega
    exact (congrFun (v50_1_eq m c) _).trans (padHalf_at _ _ _ h)

theorem arr_loss : (dats (F := Ideal) m 0 c).arrAt 11 cfg0.N = lossArr m c := by
  refine (dats m 0 c).arrAt_eq_of_after_last 11 lastPt (by decide +kernel) _ fun j => ?_
  blk_simp
  rw [after0_11]
  exact outs_loss_last j

end Cert.Kernel4Ideal.Hand

end
-- ==== Proof.LossReference.lean ====
/- The results of the reference that ends in the loss, read as the same layer's. -/
module

public import proofs.«01_k».proof.Proof.LossArrays
public import proofs.«01_k».proof.Proof.PostReal
public import proofs.«01_k».proof.Proof.Gen.Reference4Ideal.Run

@[expose] public section

set_option maxRecDepth 16384

noncomputable section

namespace Cert.Reference4Ideal.Hand

open Cert.Reference4Ideal Cert.Reference4Ideal.Gen Cert.Reference4Ideal.Read Cert.Proof.Loss Cert.Kernel4Ideal.Hand
open Idealize.ShloMosaic Idealize.ShloMosaic.TcCoe Idealize.ShloMosaic.StableHlo

variable (x0 : (⟨S4096x1024, .f32⟩ : BufTy).Contents (Elt Ideal)) (x1 x2 x3 : (⟨S1024, .f32⟩ : BufTy).Contents (Elt Ideal))
  (x4 : (⟨S1024x5632, .f32⟩ : BufTy).Contents (Elt Ideal)) (x5 : (⟨S2816x1024, .f32⟩ : BufTy).Contents (Elt Ideal))
  (x6 x7 : (⟨S1024, .f32⟩ : BufTy).Contents (Elt Ideal)) (x8 : (⟨S4096x1024, .f32⟩ : BufTy).Contents (Elt Ideal))

/-- The gates' products. -/
theorem v22_at (y : S4096x2816.Idx) : val_main_v22 (F := Ideal) x0 x1 x2 x3 x4 y = gateAt (val_main_v20 (F := Ideal) x0 x1 x2 x3) x4 (y 0) (y 1) := by
  unfold val_main_v22 val_main_v21
  generalize val_main_v20 (F := Ideal) x0 x1 x2 x3 = h
  pointwise
  rfl

/-- The other products. -/
theorem v23_at (y : S4096x2816.Idx) : val_main_v23 (F := Ideal) x0 x1 x2 x3 x4 y = upAt (val_main_v20 (F := Ideal) x0 x1 x2 x3) x4 (y 0) (y 1) := by
  unfold val_main_v23 val_main_v21
  generalize val_main_v20 (F := Ideal) x0 x1 x2 x3 = h
  pointwise
  rfl

/-- The second result: both products. -/
theorem v66_at (y : S2x4096x2816.Idx) : val_main_v66 (F := Ideal) x0 x1 x2 x3 x4 y =
    if (y 0).val = 0 then gateAt (val_main_v20 (F := Ideal) x0 x1 x2 x3) x4 (y 1) (y 2)
      else upAt (val_main_v20 (F := Ideal) x0 x1 x2 x3) x4 (y 1) (y 2) := by
  have eg := v22_at x0 x1 x2 x3 x4
  have eu := v23_at x0 x1 x2 x3 x4
  unfold val_main_v66 val_main_v65 val_main_v63 val_main_v64
  generalize val_main_v22 (F := Ideal) x0 x1 x2 x3 x4 = g at *
  generalize val_main_v23 (F := Ideal) x0 x1 x2 x3 x4 = u at *
  pointwise
  by_cases e : (y 0).val < 1
  · exact (dif_pos e).trans ((eg _).trans (if_pos (Nat.lt_one_iff.1 e)).symm)
  · exact (dif_neg e).trans ((eu _).trans (if_neg fun h => e (Nat.lt_one_iff.2 h)).symm)

/-- The third result: the layer's output before the norm. -/
theorem v26_at (y : S4096x1024.Idx) : val_main_v26 (F := Ideal) x0 x1 x2 x3 x4 x5 y =
    hidden (gateAt (val_main_v20 (F := Ideal) x0 x1 x2 x3) x4 (y 0)) (upAt (val_main_v20 (F := Ideal) x0 x1 x2 x3) x4 (y 0))
      fun k => x5 (ValueIdx.ix2 k (y 1)) := by
  have eg := v22_at x0 x1 x2 x3 x4
  have eu := v23_at x0 x1 x2 x3 x4
  unfold val_main_v26 val_main_v25 val_main_v24 val_main_call0_v5 val_main_call0_v4 val_main_call0_cst_0 val_main_call0_v3 val_main_call0_v2
    val_main_call0_cst val_main_call0_v1 val_main_call0_v0
  generalize val_main_v22 (F := Ideal) x0 x1 x2 x3 x4 = g at *
  generalize val_main_v23 (F := Ideal) x0 x1 x2 x3 x4 = u at *
  pointwise
  refine Finset.sum_congr rfl fun k _ => ?_
  rw [eg, eu]
  rfl

/-- A row of that output. -/
abbrev uRow (i : Fin 4096) (j : Fin 1024) : EReal := val_main_v26 (F := Ideal) x0 x1 x2 x3 x4 x5 (ValueIdx.ix2 i j)

/-- The error. -/
theorem v48_at (y : S4096x1024.Idx) : val_main_v48 (F := Ideal) x0 x1 x2 x3 x4 x5 x6 x7 x8 y =
    err (row x0 (y 0)) (uRow x0 x1 x2 x3 x4 x5 (y 0)) (fun k => x6 (ValueIdx.ix1 k)) (fun k => x7 (ValueIdx.ix1 k)) (row x8 (y 0)) (y 1) := by
  unfold val_main_v48 val_main_v47 val_main_v46 val_main_v45 val_main_v44 val_main_v43 val_main_v42 val_main_v41 val_main_v40 val_main_v39
    val_main_v38 val_main_v37 val_main_v36 val_main_cst_7 val_main_v35 val_main_v34 val_main_cst_6 val_main_v33 val_main_v32 val_main_cst_5
    val_main_v31 val_main_v30 val_main_v29 val_main_cst_4 val_main_v28 val_main_v27 val_main_cst_3 uRow
  generalize val_main_v26 (F := Ideal) x0 x1 x2 x3 x4 x5 = u
  pointwise
  have e (f : S4096x1024.Idx → EReal) : f y = f (ValueIdx.ix2 (y 0) (y 1)) := congrArg f (ValueIdx.eq_ix2 y)
  rw [e x0, e x8, e u]
  rfl

/-- Twice half of a part in 1024 is that part. -/
theorem step_eq : Ideal.div (Ideal.ofBits .f32 0x3F000000#32) (Ideal.ofBits .f32 0x44800000#32) * Ideal.ofBits .f32 0x40000000#32 =
    Ideal.ofBits .f32 0x3A800000#32 := by
  have half : Ideal.ofBits .f32 0x3F000000#32 = ((1 / 2 : ℝ) : EReal) := by
    simp [Ideal.ofBits, Ideal.ieee, -EReal.coe_mul]
    norm_num
  have two : Ideal.ofBits .f32 0x40000000#32 = ((2 : ℝ) : EReal) := by
    simp [Ideal.ofBits, Ideal.ieee, -EReal.coe_mul]
    norm_num
  have part : Ideal.ofBits .f32 0x3A800000#32 = ((1 / 1024 : ℝ) : EReal) := by
    simp [Ideal.ofBits, Ideal.ieee, -EReal.coe_mul]
    norm_num
  rw [half, two, part, Cert.Proof.Post.ofBits_1024, Cert.Proof.div_real _ _ (by norm_num), ← EReal.coe_mul]
  norm_num

/-- The first result: the gradient of the loss by the layer's result. -/
theorem v62_at (y : S4096x1024.Idx) : val_main_v62 (F := Ideal) x0 x1 x2 x3 x4 x5 x6 x7 x8 y =
    grad (row x0 (y 0)) (uRow x0 x1 x2 x3 x4 x5 (y 0)) (fun k => x6 (ValueIdx.ix1 k)) (fun k => x7 (ValueIdx.ix1 k)) (row x8 (y 0)) (y 1) := by
  have e := v48_at x0 x1 x2 x3 x4 x5 x6 x7 x8
  unfold val_main_v62 val_main_v61 val_main_v60 val_main_v59 val_main_cst_15 val_main_v58 val_main_v57 val_main_cst_13 val_main_cst_14
    val_main_v51 val_main_v50 val_main_cst_8 uRow
  generalize val_main_v48 (F := Ideal) x0 x1 x2 x3 x4 x5 x6 x7 x8 = d at *
  pointwise
  rw [e]
  refine (mul_assoc _ _ _).symm.trans ((mul_comm _ _).trans (congrArg (_ * ·) step_eq))

/-- The fourth result: the loss. -/
theorem v67_at (y : S1x1.Idx) : val_main_v67 (F := Ideal) x0 x1 x2 x3 x4 x5 x6 x7 x8 y =
    Ideal.ofBits .f32 0x3F000000#32 * ∑ i, meanSq (row x0 i) (uRow x0 x1 x2 x3 x4 x5 i) (fun k => x6 (ValueIdx.ix1 k))
      (fun k => x7 (ValueIdx.ix1 k)) (row x8 i) := by
  have e := v48_at x0 x1 x2 x3 x4 x5 x6 x7 x8
  unfold val_main_v67 val_main_v56 val_main_cst_12 val_main_v55 val_main_cst_11 val_main_v54 val_main_v53 val_main_cst_10 val_main_v52
    val_main_cst_9 val_main_v49 uRow
  generalize val_main_v48 (F := Ideal) x0 x1 x2 x3 x4 x5 x6 x7 x8 = d at *
  pointwise
  refine congrArg (_ * ·) (Finset.sum_congr rfl fun i _ => congrArg (Ideal.div · _) (Finset.sum_congr rfl fun j _ => ?_))
  rw [e]
  rfl

/-! ## The kernel's arrays are the reference's results of the same arguments -/

variable (m : (ℓ : Loc Cert.Kernel4Ideal.nD Cert.Kernel4Ideal.τ Cert.Kernel4Ideal.sig) → Buf (Elt Ideal) ℓ) (c : Dev Cert.Kernel4Ideal.nD)

/-- The reference's arguments are the kernel's. -/
structure Same (m' : (ℓ : Loc nD τ sig) → Buf (Elt Ideal) ℓ) (c' : Dev nD) : Prop where
  e0 : m' (c'.tc.loc main_arg0) = a0 m c
  e1 : m' (c'.tc.loc main_arg1) = a1 m c
  e2 : m' (c'.tc.loc main_arg2) = a2 m c
  e3 : m' (c'.tc.loc main_arg3) = a3 m c
  e4 : m' (c'.tc.loc main_arg4) = a4 m c
  e5 : m' (c'.tc.loc main_arg5) = a5 m c
  e6 : m' (c'.tc.loc main_arg6) = a6 m c
  e7 : m' (c'.tc.loc main_arg7) = a7 m c
  e8 : m' (c'.tc.loc main_arg8) = a8 m c

theorem res_a : val_main_v66 (F := Ideal) (a0 m c) (a1 m c) (a2 m c) (a3 m c) (a4 m c) = aArr m c := funext (v66_at _ _ _ _ _)

theorem res_u : val_main_v26 (F := Ideal) (a0 m c) (a1 m c) (a2 m c) (a3 m c) (a4 m c) (a5 m c) = uArr m c := funext (v26_at _ _ _ _ _ _)

theorem res_row (i : Fin 4096) : uRow (a0 m c) (a1 m c) (a2 m c) (a3 m c) (a4 m c) (a5 m c) i = row (uArr m c) i :=
  funext fun _ => congrFun (res_u m c) _

variable {m c} {m' : (ℓ : Loc nD τ sig) → Buf (Elt Ideal) ℓ} {c' : Dev nD} (s : Same m c m' c')

include s

theorem res_dy : Cert.Reference4Ideal.Value.res_main_v62 m' c' = dyArr m c := by
  rw [val_main_v62_eq, s.e0, s.e1, s.e2, s.e3, s.e4, s.e5, s.e6, s.e7, s.e8]
  exact funext fun y => (v62_at _ _ _ _ _ _ _ _ _ y).trans (congrArg (fun r => grad _ r _ _ _ (y 1)) (res_row m c (y 0)))

theorem res_loss : Cert.Reference4Ideal.Value.res_main_v67 m' c' = lossArr m c := by
  rw [val_main_v67_eq, s.e0, s.e1, s.e2, s.e3, s.e4, s.e5, s.e6, s.e7, s.e8]
  exact funext fun y => (v67_at _ _ _ _ _ _ _ _ _ y).trans
    (congrArg (_ * ·) (Finset.sum_congr rfl fun i _ => congrArg (fun r => meanSq _ r _ _ _) (res_row m c i)))

end Cert.Reference4Ideal.Hand

end
-- ==== Proof.HiddenRows.lean ====
/- The gradient of a gated layer's hidden units, row by row. -/
module

public import proofs.«01_k».proof.Proof.PostReal
public import proofs.«01_k».proof.Proof.LossRows

@[expose] public section

noncomputable section

namespace Cert.Proof.Hidden

open Idealize.ShloMosaic Idealize.ShloMosaic.ValueIdx Cert.Proof.Post Cert.Proof.Loss

/-- Half of a row. -/
def halved (x : Fin 1024 → EReal) (k : Fin 1024) : EReal := Ideal.ofBits .f32 0x3F000000#32 * x k

/-- A unit's gradient by its gate's product, of its value's gradient `e`. -/
def gateGrad (e g u : EReal) : EReal := e * u * (Ideal.logistic g * (1 + g * (1 - Ideal.logistic g)))

/-- A unit's gradient by its other product. -/
def upGrad (e g : EReal) : EReal := e * (g * Ideal.logistic g)

/-- The gradient by the gate's product, one summand a factor. -/
def gateGradRef (e g u : EReal) : EReal := e * u * Ideal.logistic g + g * (e * u) * (Ideal.logistic g * (1 - Ideal.logistic g))

/-- The logistic function of a real is a real. -/
theorem logistic_real (a : ℝ) : ∃ r : ℝ, Ideal.logistic (a : EReal) = r := by
  refine ⟨1 / (1 + Real.exp (-a)), ?_⟩
  unfold Ideal.logistic
  rw [← EReal.coe_neg, Ideal.exp_coe, ← EReal.coe_one, ← EReal.coe_add, div_real _ _ (by positivity)]

theorem gateGrad_eq {e g u : EReal} (he : ∃ r : ℝ, e = r) (hg : ∃ r : ℝ, g = r) (hu : ∃ r : ℝ, u = r) :
    gateGradRef e g u = gateGrad e g u := by
  obtain ⟨e, rfl⟩ := he
  obtain ⟨g, rfl⟩ := hg
  obtain ⟨u, rfl⟩ := hu
  obtain ⟨s, hs⟩ := logistic_real g
  unfold gateGradRef gateGrad
  rw [hs, ← EReal.coe_one]
  norm_cast
  ring

/-- The reciprocal root mean square of a real row is real. -/
theorem rinv_real {u : Fin 1024 → EReal} (hu : ∀ k, ∃ r : ℝ, u k = r) : ∃ r : ℝ, rinv u = r := by
  choose u' hu using hu
  obtain ⟨e, he, hE⟩ := ofBits_eps
  have hpos : 0 < (∑ k, u' k * u' k) / 1024 + e := by
    have : 0 ≤ ∑ k, u' k * u' k := Finset.sum_nonneg fun k _ => mul_self_nonneg _
    positivity
  refine ⟨_, Eq.trans ?_ (rsqrt_real _ hpos)⟩
  unfold rinv
  simp only [hu, hE, ofBits_1024, ← EReal.coe_mul, ← coe_sum]
  rw [div_real _ _ (by norm_num), ← EReal.coe_add]

/-- The gradient by a row before the norm, of real rows, is real. -/
theorem duRow_real {x u g gate : Fin 1024 → EReal} (hx : ∀ k, ∃ r : ℝ, x k = r) (hu : ∀ k, ∃ r : ℝ, u k = r) (hg : ∀ k, ∃ r : ℝ, g k = r)
    (ht : ∀ k, ∃ r : ℝ, gate k = r) (k : Fin 1024) : ∃ r : ℝ, duRow x u g gate k = r := by
  obtain ⟨R, hR⟩ := rinv_real hu
  choose x' hx using hx
  choose u' hu using hu
  choose g' hg using hg
  choose t' ht using ht
  have hd : ∀ k, dnorm x g gate k = ((x' k * (1 + t' k) * g' k : ℝ) : EReal) := fun k => by
    unfold dnorm dgated
    rw [hx, ht, hg]
    norm_cast
  have hh : ∀ k, uhat u k = ((u' k * R : ℝ) : EReal) := fun k => by
    unfold uhat
    rw [hR, hu]
    norm_cast
  unfold duRow
  simp only [hd, hh, hR, ofBits_1024, ← EReal.coe_mul, ← coe_sum]
  rw [div_real _ _ (by norm_num)]
  norm_cast
  exact ⟨_, rfl⟩

theorem halved_real {x : Fin 1024 → EReal} (hx : ∀ k, ∃ r : ℝ, x k = r) (k : Fin 1024) : ∃ r : ℝ, halved x k = r := by
  obtain ⟨r, hr⟩ := hx k
  obtain ⟨h, hh⟩ : ∃ h : ℝ, Ideal.ofBits .f32 0x3F000000#32 = h := ⟨1 / 2, by
    simp [Ideal.ofBits, Ideal.ieee, -EReal.coe_mul]
    norm_num⟩
  refine ⟨h * r, ?_⟩
  unfold halved
  rw [hr, hh, EReal.coe_mul]

/-! ## The results: of the input `h`, the layer's output before the norm `u`, the weights and the cotangent -/

section Results

variable (h u dout : (⟨2, ![4096, 1024]⟩ : Shape).Idx → EReal) (win : (⟨2, ![1024, 5632]⟩ : Shape).Idx → EReal)
  (wout : (⟨2, ![2816, 1024]⟩ : Shape).Idx → EReal) (g gate : (⟨1, ![1024]⟩ : Shape).Idx → EReal)

/-- The gradient by the layer's output before the norm. -/
def duAt (i : Fin 4096) (k : Fin 1024) : EReal :=
  duRow (halved fun k => dout (ix2 i k)) (fun k => u (ix2 i k)) (fun k => g (ix1 k)) (fun k => gate (ix1 k)) k

/-- The gradient by a hidden unit's value. -/
def dactAt (i : Fin 4096) (k : Fin 1408) : EReal := ∑ j, duAt u dout g gate i j * wout (ix2 ⟨k.val, by omega⟩ j)

/-- A unit's product with the gates' weights, and its other product. -/
def gAt (i : Fin 4096) (k : Fin 1408) : EReal := ∑ d, h (ix2 i d) * win (ix2 d ⟨k.val, by omega⟩)
def upAt (i : Fin 4096) (k : Fin 1408) : EReal := ∑ d, h (ix2 i d) * win (ix2 d ⟨2816 + k.val, by omega⟩)

/-- Their gradients. -/
def dgAt (i : Fin 4096) (k : Fin 1408) : EReal := gateGrad (dactAt u dout wout g gate i k) (gAt h win i k) (upAt h win i k)
def dupAt (i : Fin 4096) (k : Fin 1408) : EReal := upGrad (dactAt u dout wout g gate i k) (gAt h win i k)

/-- What these units add to the gradient by the input. -/
def dhAt (i : Fin 4096) (d : Fin 1024) : EReal :=
  ∑ k, dgAt h u dout win wout g gate i k * win (ix2 d ⟨k.val, by omega⟩) +
    ∑ k, dupAt h u dout win wout g gate i k * win (ix2 d ⟨2816 + k.val, by omega⟩)

/-- The gradient by the gate of the norm. -/
def dgateAt (k : Fin 1024) : EReal :=
  ∑ i : Fin 4096, dgateRow (halved fun k => dout (ix2 i k)) (fun k => u (ix2 i k)) (fun k => g (ix1 k)) k

/-- The gradient by its weight. -/
def dpostAt (k : Fin 1024) : EReal :=
  ∑ i : Fin 4096, dpostRow (halved fun k => dout (ix2 i k)) (fun k => u (ix2 i k)) (fun k => gate (ix1 k)) k

end Results

end Cert.Proof.Hidden

end
-- ==== Proof.HiddenBlock.lean ====
/- One point of the grid of the gradient through a gated layer's first hidden units: what it leaves in its blocks, row by row. -/
module

public import proofs.«01_k».proof.Proof.HiddenRows
public import proofs.«01_k».proof.Proof.PostBlock
public import proofs.«01_k».proof.Proof.LossBlock
public import proofs.«01_k».proof.Proof.Gen.Kernel5Ideal.Frame

@[expose] public section

set_option maxRecDepth 16384

noncomputable section

namespace Cert.Kernel5Ideal.Hand

open Cert.Kernel5Ideal Cert.Kernel5Ideal.Gen Idealize.ShloMosaic Idealize.ShloMosaic.TcCoe Idealize.SL.Sem Idealize.ShloMosaic.StableHlo
open Cert.Proof.Post Cert.Proof.Loss Cert.Proof.Hidden
open Cert.Kernel2Ideal.Hand (row)

section Payloads

variable (b0 b1 : S512x1024.Idx → EReal) (b2 : S2x512x1408.Idx → EReal) (b3 : S8x1024.Idx → EReal) (b4 b5 : S1x1024x1408.Idx → EReal)
  (b6 : S1x1408x1024.Idx → EReal)

/-- Half of a block. -/
def halfBlk (i : S512x1024.Idx) : EReal := Ideal.ofBits .f32 0x3F000000#32 * b0 i

theorem row_half (q : Fin 512) : row (halfBlk b0) q = halved (row b0 q) := rfl

/-- The weight one half may be taken on the cotangent's side. -/
theorem pay10_eq (v : S1x1024.Idx → EReal) : k0_pay10 (F := Ideal) b0 v = Cert.Kernel2Ideal.Gen.k0_pay5 (F := Ideal) (halfBlk b0) v := by
  funext i
  unfold k0_pay10 Cert.Kernel2Ideal.Gen.k0_pay5
  pointwise
  unfold halfBlk
  rw [← mul_assoc, mul_comm (b0 i)]

theorem pay11_eq (v : S1x1024.Idx → EReal) :
    k0_pay11 (F := Ideal) b0 b1 v = Cert.Kernel2Ideal.Gen.k0_pay6 (F := Ideal) (halfBlk b0) b1 v := by
  funext i
  unfold k0_pay11 Cert.Kernel2Ideal.Gen.k0_pay6
  pointwise
  rfl

theorem pay12_eq (v : S1x1024.Idx → EReal) :
    k0_pay12 (F := Ideal) b0 b1 v = Cert.Kernel2Ideal.Gen.k0_pay7 (F := Ideal) (halfBlk b0) b1 v := by
  unfold k0_pay12
  rw [pay10_eq]
  rfl

theorem pay13_eq (v w : S1x1024.Idx → EReal) :
    k0_pay13 (F := Ideal) b0 v w = Cert.Kernel2Ideal.Gen.k0_pay8 (F := Ideal) (halfBlk b0) v w := by
  unfold k0_pay13
  rw [pay10_eq]
  rfl

theorem pay14_eq (v w : S1x1024.Idx → EReal) :
    k0_pay14 (F := Ideal) b0 b1 v w = Cert.Kernel2Ideal.Gen.k0_pay9 (F := Ideal) (halfBlk b0) b1 v w := by
  unfold k0_pay14
  rw [pay13_eq]
  rfl

/-- A row of the gradient before the norm. -/
def duOf (q : Fin 512) : Fin 1024 → EReal := duRow (halved (row b0 q)) (row b1 q) (row b3 1) (row b3 4)

theorem pay17_at (h h') (i : S512x1024.Idx) :
    k0_pay17 (F := Ideal) (k0_pay8 b1) (k0_pay9 b1)
      (k0_pay13 b0 (View.ld b3 (Rect.unit (s := S8x1024) ![4, 0] ![1, 1024] h)) (View.ld b3 (Rect.unit (s := S8x1024) ![1, 0] ![1, 1024] h')))
      (k0_pay14 b0 b1 (View.ld b3 (Rect.unit (s := S8x1024) ![4, 0] ![1, 1024] h)) (View.ld b3 (Rect.unit (s := S8x1024) ![1, 0] ![1, 1024] h'))) i =
      duOf b0 b1 b3 (i 0) (i 1) := by
  rw [pay13_eq, pay14_eq]
  exact Cert.Kernel2Ideal.Hand.pay12_at (halfBlk b0) b1 b3 h h' i

/-- The gradient by a unit's value. -/
def dactOf (q : Fin 512) (k : Fin 1408) : EReal := ∑ j, duOf b0 b1 b3 q j * b6 (ix3 0 k j)

theorem pay18_at (h h') (i : S512x1408.Idx) :
    k0_pay18 (F := Ideal) (k0_pay8 b1) (k0_pay9 b1)
      (k0_pay13 b0 (View.ld b3 (Rect.unit (s := S8x1024) ![4, 0] ![1, 1024] h)) (View.ld b3 (Rect.unit (s := S8x1024) ![1, 0] ![1, 1024] h')))
      (k0_pay14 b0 b1 (View.ld b3 (Rect.unit (s := S8x1024) ![4, 0] ![1, 1024] h)) (View.ld b3 (Rect.unit (s := S8x1024) ![1, 0] ![1, 1024] h'))) b6 i =
      dactOf b0 b1 b3 b6 (i 0) (i 1) := by
  unfold k0_pay18
  have e := pay17_at b0 b1 b3 h h'
  generalize k0_pay17 (F := Ideal) _ _ _ _ = d at *
  pointwise
  refine Finset.sum_congr rfl fun j _ => ?_
  rw [e]
  rfl

theorem pay19_at (h) (i : S512x1408.Idx) :
    k0_pay19 (F := Ideal) (View.ld (Val := Elt Ideal) (e' := .bf16) b2 (Rect.unit (s := S2x512x1408) ![0, 0, 0] ![1, 512, 1408] h)) i =
      b2 (ix3 0 (i 0) (i 1)) := by
  unfold k0_pay19
  pointwise

theorem pay20_at (h) (i : S512x1408.Idx) :
    k0_pay20 (F := Ideal) (View.ld (Val := Elt Ideal) (e' := .bf16) b2 (Rect.unit (s := S2x512x1408) ![1, 0, 0] ![1, 512, 1408] h)) i =
      b2 (ix3 1 (i 0) (i 1)) := by
  unfold k0_pay20
  pointwise

theorem pay23_at (h h') (i : S512x1408.Idx) :
    k0_pay23 (F := Ideal) (View.ld (Val := Elt Ideal) (e' := .bf16) b2 (Rect.unit (s := S2x512x1408) ![0, 0, 0] ![1, 512, 1408] h))
      (View.ld (Val := Elt Ideal) (e' := .bf16) b2 (Rect.unit (s := S2x512x1408) ![1, 0, 0] ![1, 512, 1408] h')) i =
      unit (b2 (ix3 0 (i 0) (i 1))) (b2 (ix3 1 (i 0) (i 1))) := by
  have e := pay19_at b2 h
  have e' := pay20_at b2 h'
  unfold k0_pay23 k0_pay22 k0_pay21
  generalize k0_pay19 (F := Ideal) _ = g at *
  generalize k0_pay20 (F := Ideal) _ = u at *
  pointwise
  rw [e, e']
  rfl

variable (d : S512x1408.Idx → EReal)

theorem pay1_at (h h') (i : S512x1408.Idx) :
    k0_pay1 (F := Ideal) d
      (k0_pay19 (View.ld (Val := Elt Ideal) (e' := .bf16) b2 (Rect.unit (s := S2x512x1408) ![0, 0, 0] ![1, 512, 1408] h)))
      (k0_pay20 (View.ld (Val := Elt Ideal) (e' := .bf16) b2 (Rect.unit (s := S2x512x1408) ![1, 0, 0] ![1, 512, 1408] h')))
      (k0_pay21 (View.ld (Val := Elt Ideal) (e' := .bf16) b2 (Rect.unit (s := S2x512x1408) ![0, 0, 0] ![1, 512, 1408] h))) i =
      gateGrad (d i) (b2 (ix3 0 (i 0) (i 1))) (b2 (ix3 1 (i 0) (i 1))) := by
  have e := pay19_at b2 h
  have e' := pay20_at b2 h'
  unfold k0_pay1 k0_pay21
  generalize k0_pay19 (F := Ideal) _ = g at *
  generalize k0_pay20 (F := Ideal) _ = u at *
  pointwise
  rw [e, e']
  rfl

theorem pay2_at (h) (i : S512x1408.Idx) :
    k0_pay2 (F := Ideal) d
      (k0_pay22 (View.ld (Val := Elt Ideal) (e' := .bf16) b2 (Rect.unit (s := S2x512x1408) ![0, 0, 0] ![1, 512, 1408] h))) i =
      upGrad (d i) (b2 (ix3 0 (i 0) (i 1))) := by
  have e := pay19_at b2 h
  unfold k0_pay2 k0_pay22 k0_pay21
  generalize k0_pay19 (F := Ideal) _ = g at *
  pointwise
  rw [e]
  rfl

theorem pay3_at (g u s : S512x1408.Idx → EReal) (q : Fin 512) (k : Fin 1408) :
    k0_pay3 (F := Ideal) d g u s (ix3 0 q k) = k0_pay1 (F := Ideal) d g u s (ix2 q k) := by
  unfold k0_pay3
  generalize k0_pay1 (F := Ideal) d g u s = f
  pointwise

theorem pay4_at (s : S512x1408.Idx → EReal) (q : Fin 512) (k : Fin 1408) :
    k0_pay4 (F := Ideal) d s (ix3 0 q k) = k0_pay2 (F := Ideal) d s (ix2 q k) := by
  unfold k0_pay4
  generalize k0_pay2 (F := Ideal) d s = f
  pointwise

/-- What the units add to the gradient by the input. -/
def dhOf (q : Fin 512) (j : Fin 1024) : EReal :=
  ∑ k : Fin 1408, gateGrad (d (ix2 q k)) (b2 (ix3 0 q k)) (b2 (ix3 1 q k)) * b4 (ix3 0 j k) +
    ∑ k : Fin 1408, upGrad (d (ix2 q k)) (b2 (ix3 0 q k)) * b5 (ix3 0 j k)

theorem pay5_at (h h') (i : S512x1024.Idx) :
    k0_pay5 (F := Ideal) d
      (k0_pay19 (View.ld (Val := Elt Ideal) (e' := .bf16) b2 (Rect.unit (s := S2x512x1408) ![0, 0, 0] ![1, 512, 1408] h)))
      (k0_pay20 (View.ld (Val := Elt Ideal) (e' := .bf16) b2 (Rect.unit (s := S2x512x1408) ![1, 0, 0] ![1, 512, 1408] h')))
      (k0_pay21 (View.ld (Val := Elt Ideal) (e' := .bf16) b2 (Rect.unit (s := S2x512x1408) ![0, 0, 0] ![1, 512, 1408] h)))
      (k0_pay22 (View.ld (Val := Elt Ideal) (e' := .bf16) b2 (Rect.unit (s := S2x512x1408) ![0, 0, 0] ![1, 512, 1408] h))) b4 b5 i =
      dhOf b2 b4 b5 d (i 0) (i 1) := by
  have e := pay1_at b2 d h h'
  have e' := pay2_at b2 d h
  unfold k0_pay5
  generalize k0_pay1 (F := Ideal) _ _ _ _ = f at *
  generalize k0_pay2 (F := Ideal) _ _ = f' at *
  pointwise
  simp only [e, e']
  rfl

end Payloads

variable (m : (ℓ : Loc nD τ sig) → Buf (Elt Ideal) ℓ) (c : Dev nD) (t : Fin cfg0.N)

/-- The gradient by the units' values in the point's block. -/
def dactBlk (y : S512x1408.Idx) : EReal := dactOf (iblk m c 0 t) (iblk m c 1 t) (iblk m c 3 t) (iblk m c 6 t) (y 0) (y 1)

theorem outs_du (y : S512x1024.Idx) :
    (outsAt0 (F := Ideal) m c t.val t.isLt).1 y = duOf (iblk m c 0 t) (iblk m c 1 t) (iblk m c 3 t) (y 0) (y 1) := by
  by_cases h : t.val % 8 = 0
  all_goals
    first | rw [outsAt0_A m c t h] | rw [outsAt0_B m c t h]
    frame_open
    simp (disch := decide) only [↓ View.readCov_skip, ↓ View.readCov_cons_toLoadRect, ↓ View.readCov_fill]
    frame_out
    exact pay17_at _ _ _ _ _ y

theorem outs_dh (y : S512x1024.Idx) :
    (outsAt0 (F := Ideal) m c t.val t.isLt).2.1 y =
      dhOf (iblk m c 2 t) (iblk m c 4 t) (iblk m c 5 t) (dactBlk m c t) (y 0) (y 1) := by
  by_cases h : t.val % 8 = 0
  all_goals
    first | rw [outsAt0_A m c t h] | rw [outsAt0_B m c t h]
    frame_open
    simp (disch := decide) only [↓ View.readCov_skip, ↓ View.readCov_cons_toLoadRect, ↓ View.readCov_fill]
    frame_out
    rw [show k0_pay18 (F := Ideal) _ _ _ _ _ = dactBlk m c t from
      funext (pay18_at (iblk m c 0 t) (iblk m c 1 t) (iblk m c 3 t) (iblk m c 6 t) _ _)]
    exact pay5_at _ _ _ _ _ _ y

theorem outs_act (y : S512x1408.Idx) :
    (outsAt0 (F := Ideal) m c t.val t.isLt).2.2.1 y =
      unit ((iblk m c 2 t : S2x512x1408.Idx → EReal) (ix3 0 (y 0) (y 1))) ((iblk m c 2 t : S2x512x1408.Idx → EReal) (ix3 1 (y 0) (y 1))) := by
  by_cases h : t.val % 8 = 0
  all_goals
    first | rw [outsAt0_A m c t h] | rw [outsAt0_B m c t h]
    frame_open
    simp (disch := decide) only [↓ View.readCov_skip, ↓ View.readCov_cons_toLoadRect, ↓ View.readCov_fill]
    frame_out
    exact pay23_at _ _ _ y

theorem outs_da (y : S2x512x1408.Idx) :
    (outsAt0 (F := Ideal) m c t.val t.isLt).2.2.2.1 y =
      if (y 0).val = 0 then gateGrad (dactBlk m c t (ix2 (y 1) (y 2))) ((iblk m c 2 t : S2x512x1408.Idx → EReal) (ix3 0 (y 1) (y 2)))
        ((iblk m c 2 t : S2x512x1408.Idx → EReal) (ix3 1 (y 1) (y 2)))
      else upGrad (dactBlk m c t (ix2 (y 1) (y 2))) ((iblk m c 2 t : S2x512x1408.Idx → EReal) (ix3 0 (y 1) (y 2))) := by
  by_cases h : t.val % 8 = 0
  all_goals
    first | rw [outsAt0_A m c t h] | rw [outsAt0_B m c t h]
    frame_open
    simp (disch := decide) only [↓ View.readCov_skip, ↓ View.readCov_cons_toLoadRect, ↓ View.readCov_fill]
    frame_out
    rw [show k0_pay18 (F := Ideal) _ _ _ _ _ = dactBlk m c t from
      funext (pay18_at (iblk m c 0 t) (iblk m c 1 t) (iblk m c 3 t) (iblk m c 6 t) _ _)]
    refine (Cert.Kernel4Ideal.Hand.canon_halves _ _ y).trans (if_congr Iff.rfl ?_ ?_)
    · exact (pay3_at _ _ _ _ _ _).trans (pay1_at _ _ _ _ _)
    · exact (pay4_at _ _ _ _).trans (pay2_at _ _ _ _)

end Cert.Kernel5Ideal.Hand

end
-- ==== Proof.HiddenVec.lean ====
/- The two rows the points of the gradient's grid accumulate: by the gate and by the norm's weight. -/
module

public import proofs.«01_k».proof.Proof.HiddenBlock
public import proofs.«01_k».proof.Proof.PostVec

@[expose] public section

set_option maxRecDepth 16384

noncomputable section

namespace Cert.Kernel5Ideal.Hand

open Cert.Kernel5Ideal Cert.Kernel5Ideal.Gen Idealize.ShloMosaic Idealize.ShloMosaic.TcCoe Idealize.SL.Sem Idealize.ShloMosaic.StableHlo
open Cert.Proof.Post Cert.Proof.Hidden
open Cert.Kernel2Ideal.Hand (row emb_row)

section Payloads

variable (p b0 b1 : S512x1024.Idx → EReal) (v b3 : S8x1024.Idx → EReal)

theorem pay15_at (h) (i : S1x1024.Idx) :
    k0_pay15 (F := Ideal) p (View.ld (Val := Elt Ideal) (e' := .f32) v (Rect.unit (s := S8x1024) ![2, 0] ![1, 1024] h)) i =
      v (ix2 2 (i 1)) + ∑ q, p (ix2 q (i 1)) :=
  Cert.Kernel2Ideal.Hand.pay10_at p v h i

theorem pay16_at (h) (i : S1x1024.Idx) :
    k0_pay16 (F := Ideal) p (View.ld (Val := Elt Ideal) (e' := .f32) v (Rect.unit (s := S8x1024) ![4, 0] ![1, 1024] h)) i =
      v (ix2 4 (i 1)) + ∑ q, p (ix2 q (i 1)) :=
  Cert.Kernel2Ideal.Hand.pay11_at p v h i

theorem pay6_at (i : S8x1024.Idx) : k0_pay6 (F := Ideal) i = 0 := Cert.Kernel2Ideal.Hand.pay1_at i

theorem pay11_at (h) (i : S512x1024.Idx) :
    k0_pay11 (F := Ideal) b0 b1 (View.ld b3 (Rect.unit (s := S8x1024) ![1, 0] ![1, 1024] h)) i =
      dgateRow (halved (row b0 (i 0))) (row b1 (i 0)) (row b3 1) (i 1) := by
  rw [pay11_eq]
  exact Cert.Kernel2Ideal.Hand.pay6_at (halfBlk b0) b1 b3 h i

theorem pay12_at (h) (i : S512x1024.Idx) :
    k0_pay12 (F := Ideal) b0 b1 (View.ld b3 (Rect.unit (s := S8x1024) ![4, 0] ![1, 1024] h)) i =
      dpostRow (halved (row b0 (i 0))) (row b1 (i 0)) (row b3 4) (i 1) := by
  rw [pay12_eq]
  exact Cert.Kernel2Ideal.Hand.pay7_at (halfBlk b0) b1 b3 h i

end Payloads

variable (m : (ℓ : Loc nD τ sig) → Buf (Elt Ideal) ℓ) (c : Dev nD) (t : Fin cfg0.N)

/-- What a point adds to the gradient by the gate. -/
def dgateStep (j : Fin 1024) : EReal :=
  ∑ q, dgateRow (halved (row (iblk m c 0 t) q)) (row (iblk m c 1 t) q) (row (iblk m c 3 t) 1) j

/-- What a point adds to the gradient by the norm's weight. -/
def dpostStep (j : Fin 1024) : EReal :=
  ∑ q, dpostRow (halved (row (iblk m c 0 t) q)) (row (iblk m c 1 t) q) (row (iblk m c 3 t) 4) j

/-- A block whose rows 2 and 4 were written after the whole, read at row 2. -/
theorem canon_two (w4 w2 : S1x1024.Idx → EReal) (L) (j : Fin 1024) :
    View.canon (Val := Elt Ideal) (e := .f32) (s := S8x1024)
      (⟨Rect.unit (s := S8x1024) ![4, 0] ![1, 1024] inb_S8x1024_S1x1024_4_0, w4⟩ ::
        ⟨Rect.unit (s := S8x1024) ![2, 0] ![1, 1024] inb_S8x1024_S1x1024_2_0, w2⟩ :: L) (ix2 2 j) = w2 (ix2 0 j) := by
  refine (View.canon_cons_of_not_mem _ _ fun hm => ?_).trans ?_
  · rw [Rect.mem_set_unit] at hm
    exact absurd (hm 0).1 (show ¬ 4 ≤ 2 by decide)
  exact (congrArg _ (emb_row (o := 2) (by decide) inb_S8x1024_S1x1024_2_0 j).symm).trans (View.canon_cons_emb _ _ _ _)

/-- At row 4. -/
theorem canon_four (w4 : S1x1024.Idx → EReal) (L) (j : Fin 1024) :
    View.canon (Val := Elt Ideal) (e := .f32) (s := S8x1024)
      (⟨Rect.unit (s := S8x1024) ![4, 0] ![1, 1024] inb_S8x1024_S1x1024_4_0, w4⟩ :: L) (ix2 4 j) = w4 (ix2 0 j) :=
  (congrArg _ (emb_row (o := 4) (by decide) inb_S8x1024_S1x1024_4_0 j).symm).trans (View.canon_cons_emb _ _ _ _)

theorem outs_dgate_first (h : t.val % 8 = 0) (j : Fin 1024) :
    (outsAt0 (F := Ideal) m c t.val t.isLt).2.2.2.2 (ix2 2 j) = 0 + dgateStep m c t j := by
  rw [outsAt0_A m c t h]
  frame_open
  simp (disch := decide) only [↓ View.readCov_skip, ↓ View.readCov_cons_toLoadRect, ↓ View.readCov_fill]
  frame_out
  refine (canon_two _ _ _ j).trans ?_
  refine (pay15_at _ _ _ _).trans (congrArg₂ (· + ·) (pay6_at _) (Finset.sum_congr rfl fun q _ => ?_))
  exact pay11_at _ _ _ _ _

theorem outs_dpost_first (h : t.val % 8 = 0) (j : Fin 1024) :
    (outsAt0 (F := Ideal) m c t.val t.isLt).2.2.2.2 (ix2 4 j) = 0 + dpostStep m c t j := by
  rw [outsAt0_A m c t h]
  frame_open
  simp (disch := decide) only [↓ View.readCov_skip, ↓ View.readCov_cons_toLoadRect, ↓ View.readCov_fill]
  frame_out
  refine (canon_four _ _ j).trans ?_
  refine (pay16_at _ _ _ _).trans (congrArg₂ (· + ·) (pay6_at _) (Finset.sum_congr rfl fun q _ => ?_))
  exact pay12_at _ _ _ _ _

/-- Row 2 after the two rows of a point are written over what was carried. -/
theorem read_two (f : (ms0_11 t).view.ty.Contents (Elt Ideal)) (w4 w2 : S1x1024.Idx → Elt Ideal .f32) (j : Fin 1024) :
    View.read (Elt Ideal) (ms0_11 t).view ((ms0_11 t).view.writes (Elt Ideal) f
      [⟨Rect.unit (s := S8x1024) ![4, 0] ![1, 1024] inb_S8x1024_S1x1024_4_0, w4⟩,
        ⟨Rect.unit (s := S8x1024) ![2, 0] ![1, 1024] inb_S8x1024_S1x1024_2_0, w2⟩]) (ix2 2 j) = w2 (ix2 0 j) :=
  (View.read_writes_cons_rows_of_not_mem _ _ _ _ _ _ rfl rfl (Or.inl (show 2 < 4 by decide))).trans
    (View.read_writes_cons_rows_of_mem (o := 2) _ _ _ _ _ _ (ix2 0 j) rfl rfl rfl)

/-- Row 4. -/
theorem read_four (f : (ms0_11 t).view.ty.Contents (Elt Ideal)) (w4 : S1x1024.Idx → Elt Ideal .f32) (L) (j : Fin 1024) :
    View.read (Elt Ideal) (ms0_11 t).view ((ms0_11 t).view.writes (Elt Ideal) f
      (⟨Rect.unit (s := S8x1024) ![4, 0] ![1, 1024] inb_S8x1024_S1x1024_4_0, w4⟩ :: L)) (ix2 4 j) = w4 (ix2 0 j) :=
  View.read_writes_cons_rows_of_mem (o := 4) _ _ _ _ _ _ (ix2 0 j) rfl rfl rfl

theorem outs_dgate_next (h : ¬t.val % 8 = 0) (j : Fin 1024) :
    (outsAt0 (F := Ideal) m c t.val t.isLt).2.2.2.2 (ix2 2 j) =
      (outsAt0 (F := Ideal) m c (t.val - 1) (by omega)).2.2.2.2 (ix2 2 j) + dgateStep m c t j := by
  rw [outsAt0_B m c t h]
  frame_open
  simp (disch := decide) only [↓ View.readCov_skip, ↓ View.readCov_cons_toLoadRect, ↓ View.readCov_fill]
  frame_out
  generalize (outsAt0 (F := Ideal) m c (t.val - 1) (by omega)).2.2.2.2 = prev
  rw [read_two, pay15_at]
  exact congrArg (prev (ix2 2 j) + ·) (Finset.sum_congr rfl fun q _ => pay11_at _ _ _ _ _)

theorem outs_dpost_next (h : ¬t.val % 8 = 0) (j : Fin 1024) :
    (outsAt0 (F := Ideal) m c t.val t.isLt).2.2.2.2 (ix2 4 j) =
      (outsAt0 (F := Ideal) m c (t.val - 1) (by omega)).2.2.2.2 (ix2 4 j) + dpostStep m c t j := by
  rw [outsAt0_B m c t h]
  frame_open
  simp (disch := decide) only [↓ View.readCov_skip, ↓ View.readCov_cons_toLoadRect, ↓ View.readCov_fill]
  frame_out
  generalize (outsAt0 (F := Ideal) m c (t.val - 1) (by omega)).2.2.2.2 = prev
  rw [read_four, pay16_at]
  exact congrArg (prev (ix2 4 j) + ·) (Finset.sum_congr rfl fun q _ => pay12_at _ _ _ _ _)

end Cert.Kernel5Ideal.Hand

end
-- ==== Proof.HiddenHost.lean ====
/- What the host prepares for the gradient through a gated layer's first hidden units. -/
module

public import proofs.«01_k».proof.Proof.HiddenBlock
public import proofs.«01_k».proof.Proof.PostHost
public import proofs.«01_k».proof.Proof.LossHost
public import proofs.«01_k».proof.Proof.Gen.Reference5Ideal.Read
public import Idealize.ShloMosaic.Lib.StableHlo

@[expose] public section

set_option maxRecDepth 16384

noncomputable section

namespace Cert.Kernel5Ideal.Hand

open Cert.Kernel5Ideal Cert.Kernel5Ideal.Gen Idealize.ShloMosaic Idealize.ShloMosaic.TcCoe Idealize.SL.Sem Idealize.ShloMosaic.StableHlo
open Cert.Proof.Hidden

section Ops

variable (x0 : FVec Ideal S4096x1024 .f32) (x1 : FVec Ideal S1024x5632 .f32)

/-- The hidden units' two products. -/
def both : FVec Ideal S2x4096x2816 .bf16 :=
  truncf .bf16 (concatenate S2x4096x2816 0
    [⟨S1x4096x2816, broadcastInDim S1x4096x2816 ![1, 2] bcast_S4096x2816_S1x4096x2816_1_2 (Cert.Reference5Ideal.Read.val_main_v1 (F := Ideal) x0 x1)⟩,
      ⟨S1x4096x2816, broadcastInDim S1x4096x2816 ![1, 2] bcast_S4096x2816_S1x4096x2816_1_2 (Cert.Reference5Ideal.Read.val_main_v2 (F := Ideal) x0 x1)⟩]
    concatenates_S1x4096x2816_S1x4096x2816_S2x4096x2816_d0) bitsLt_bf16_f32

theorem gates_at (i : Fin 4096) (k : Fin 1408) :
    Cert.Reference5Ideal.Read.val_main_v1 (F := Ideal) x0 x1 (ix2 i ⟨k.val, by omega⟩) = gAt x0 x1 i k := by
  unfold Cert.Reference5Ideal.Read.val_main_v1 Cert.Reference5Ideal.Read.val_main_v0
  pointwise
  rfl

theorem ups_at (i : Fin 4096) (k : Fin 1408) :
    Cert.Reference5Ideal.Read.val_main_v2 (F := Ideal) x0 x1 (ix2 i ⟨k.val, by omega⟩) = upAt x0 x1 i k := by
  unfold Cert.Reference5Ideal.Read.val_main_v2 Cert.Reference5Ideal.Read.val_main_v0
  pointwise
  rfl

theorem both_gate (i : Fin 4096) (k : Fin 1408) : both x0 x1 (ix3 0 i ⟨k.val, by omega⟩) = gAt x0 x1 i k := by
  refine Eq.trans ?_ (gates_at x0 x1 i k)
  unfold both
  generalize Cert.Reference5Ideal.Read.val_main_v1 (F := Ideal) x0 x1 = g
  generalize Cert.Reference5Ideal.Read.val_main_v2 (F := Ideal) x0 x1 = u
  pointwise

theorem both_up (i : Fin 4096) (k : Fin 1408) : both x0 x1 (ix3 1 i ⟨k.val, by omega⟩) = upAt x0 x1 i k := by
  refine Eq.trans ?_ (ups_at x0 x1 i k)
  unfold both
  generalize Cert.Reference5Ideal.Read.val_main_v1 (F := Ideal) x0 x1 = g
  generalize Cert.Reference5Ideal.Read.val_main_v2 (F := Ideal) x0 x1 = u
  pointwise

end Ops

variable (m : (ℓ : Loc nD τ sig) → Buf (Elt Ideal) ℓ) (c : Dev nD)

/-- The arguments. -/
def a0 : FVec Ideal S4096x1024 .f32 := m (c.tc.loc main_arg0)
def a1 : FVec Ideal S1024x5632 .f32 := m (c.tc.loc main_arg1)
def a2 : FVec Ideal S2816x1024 .f32 := m (c.tc.loc main_arg2)
def a3 : FVec Ideal S1024 .f32 := m (c.tc.loc main_arg3)
def a4 : FVec Ideal S1024 .f32 := m (c.tc.loc main_arg4)
def a5 : FVec Ideal S4096x1024 .f32 := m (c.tc.loc main_arg5)

/-- The layer's output before the norm. -/
def uArr : FVec Ideal S4096x1024 .f32 := Cert.Reference5Ideal.Read.val_main_v5 (F := Ideal) (a0 m c) (a1 m c) (a2 m c)

theorem V_vec : V m c main_v9 = Cert.Kernel2Ideal.Hand.vecs (a3 m c) (a4 m c) := by
  show StableHlo.after (List.flatten [hostOps0, hostOps0_1, hostOps0_2]) (fun b => m (c, b)) (Proc.devRef .tc main_v9) = _
  simp only [List.flatten_cons, List.flatten_nil, List.append_nil, hostOps0, hostOps0_1, hostOps0_2, List.cons_append, List.nil_append]
  after_results_simp
  rfl

theorem V_in : V m c main_v12 = Cert.Kernel4Ideal.Hand.inParts (a1 m c) := by
  show StableHlo.after (List.flatten [hostOps0, hostOps0_1, hostOps0_2]) (fun b => m (c, b)) (Proc.devRef .tc main_v12) = _
  simp only [List.flatten_cons, List.flatten_nil, List.append_nil, hostOps0, hostOps0_1, hostOps0_2, List.cons_append, List.nil_append]
  after_results_simp
  rfl

theorem V_u : V m c main_v18 = uArr m c := by
  show StableHlo.after (List.flatten [hostOps0, hostOps0_1, hostOps0_2]) (fun b => m (c, b)) (Proc.devRef .tc main_v18) = _
  simp only [List.flatten_cons, List.flatten_nil, List.append_nil, hostOps0, hostOps0_1, hostOps0_2, List.cons_append, List.nil_append]
  after_results_simp
  rfl

theorem V_both : V m c main_v22 = both (a0 m c) (a1 m c) := by
  show StableHlo.after (List.flatten [hostOps0, hostOps0_1, hostOps0_2]) (fun b => m (c, b)) (Proc.devRef .tc main_v22) = _
  simp only [List.flatten_cons, List.flatten_nil, List.append_nil, hostOps0, hostOps0_1, hostOps0_2, List.cons_append, List.nil_append]
  after_results_simp
  rfl

theorem V_out : V m c main_v24 = Cert.Kernel4Ideal.Hand.outParts (a2 m c) := by
  show StableHlo.after (List.flatten [hostOps0, hostOps0_1, hostOps0_2]) (fun b => m (c, b)) (Proc.devRef .tc main_v24) = _
  simp only [List.flatten_cons, List.flatten_nil, List.append_nil, hostOps0, hostOps0_1, hostOps0_2, List.cons_append, List.nil_append]
  after_results_simp
  rfl

end Cert.Kernel5Ideal.Hand

end
-- ==== Proof.HiddenArrays.lean ====
/- The arrays the gradient through a gated layer's first hidden units leaves. -/
module

public import proofs.«01_k».proof.Proof.HiddenVec
public import proofs.«01_k».proof.Proof.HiddenHost
public import proofs.«01_k».proof.Proof.PostArrays
public import Idealize.ShloMosaic.Lib.Pipeline.ValueKit.Partial

@[expose] public section

set_option maxRecDepth 16384

noncomputable section

namespace Cert.Kernel5Ideal.Hand

open Cert.Kernel5Ideal Cert.Kernel5Ideal.Gen Idealize.ShloMosaic Idealize.ShloMosaic.TcCoe Idealize.SL.Sem Idealize.ShloMosaic.StableHlo
open Cert.Proof.Hidden
open Cert.Proof.Post hiding duAt dgateAt dpostAt
open Cert.Proof.Loss (unit)
open Cert.Kernel2Ideal.Hand (row)

variable (m : (ℓ : Loc nD τ sig) → Buf (Elt Ideal) ℓ) (c : Dev nD)

/-- The row of the array that is row `q` of a grid point's block. -/
def rowOf (t : Fin cfg0.N) (q : Fin 512) : Fin 4096 := ⟨t.val * 512 + q.val, by have := t.isLt; have : cfg0.N = 8 := N_0; omega⟩

theorem index_0 : ∀ t : Fin cfg0.N, (cfg0.win 0).index t = ![t.val, 0] := by decide +kernel
theorem index_1 : ∀ t : Fin cfg0.N, (cfg0.win 1).index t = ![t.val, 0] := by decide +kernel
theorem index_2 : ∀ t : Fin cfg0.N, (cfg0.win 2).index t = ![0, t.val, 0] := by decide +kernel
theorem index_3 : ∀ t : Fin cfg0.N, (cfg0.win 3).index t = ![0, 0] := by decide +kernel
theorem index_4 : ∀ t : Fin cfg0.N, (cfg0.win 4).index t = ![0, 0, 0] := by decide +kernel
theorem index_5 : ∀ t : Fin cfg0.N, (cfg0.win 5).index t = ![2, 0, 0] := by decide +kernel
theorem index_6 : ∀ t : Fin cfg0.N, (cfg0.win 6).index t = ![0, 0, 0] := by decide +kernel
theorem index_7 : ∀ t : Fin cfg0.N, (cfg0.win 7).index t = ![t.val, 0] := by decide +kernel
theorem index_8 : ∀ t : Fin cfg0.N, (cfg0.win 8).index t = ![t.val, 0] := by decide +kernel
theorem index_9 : ∀ t : Fin cfg0.N, (cfg0.win 9).index t = ![t.val, 0] := by decide +kernel
theorem index_10 : ∀ t : Fin cfg0.N, (cfg0.win 10).index t = ![0, t.val, 0] := by decide +kernel

variable {m c}

theorem emb_0 (A : S4096x1024.Idx → EReal) (t : Fin cfg0.N) (q : Fin 512) (k : Fin 1024) :
    ((cfg0.win 0).blk t).view.read (Elt Ideal) A (ix2 q k) = A (ix2 (rowOf t q) k) := by
  refine congrArg A (funext fun a => Fin.ext ?_)
  match a with
  | 0 => blk_simp [index_0 t]; rfl
  | 1 => blk_simp [index_0 t]

theorem emb_1 (A : S4096x1024.Idx → EReal) (t : Fin cfg0.N) (q : Fin 512) (k : Fin 1024) :
    ((cfg0.win 1).blk t).view.read (Elt Ideal) A (ix2 q k) = A (ix2 (rowOf t q) k) := by
  refine congrArg A (funext fun a => Fin.ext ?_)
  match a with
  | 0 => blk_simp [index_1 t]; rfl
  | 1 => blk_simp [index_1 t]

theorem emb_2 (A : S2x4096x2816.Idx → EReal) (t : Fin cfg0.N) (n : Fin 2) (q : Fin 512) (k : Fin 1408) :
    ((cfg0.win 2).blk t).view.read (Elt Ideal) A (ix3 n q k) = A (ix3 n (rowOf t q) ⟨k.val, by omega⟩) := by
  refine congrArg A (funext fun a => Fin.ext ?_)
  match a with
  | 0 => blk_simp [index_2 t]
  | 1 => blk_simp [index_2 t]; rfl
  | 2 => blk_simp [index_2 t]

theorem emb_3 (A : S8x1024.Idx → EReal) (t : Fin cfg0.N) : ((cfg0.win 3).blk t).view.read (Elt Ideal) A = A := by
  refine funext fun y => congrArg A (funext fun a => Fin.ext ?_)
  match a with
  | 0 => blk_simp [index_3 t]
  | 1 => blk_simp [index_3 t]

theorem emb_4 (A : S4x1024x1408.Idx → EReal) (t : Fin cfg0.N) (d : Fin 1024) (k : Fin 1408) :
    ((cfg0.win 4).blk t).view.read (Elt Ideal) A (ix3 0 d k) = A (ix3 0 d k) := by
  refine congrArg A (funext fun a => Fin.ext ?_)
  match a with
  | 0 => blk_simp [index_4 t]; rfl
  | 1 => blk_simp [index_4 t]
  | 2 => blk_simp [index_4 t]

theorem emb_5 (A : S4x1024x1408.Idx → EReal) (t : Fin cfg0.N) (d : Fin 1024) (k : Fin 1408) :
    ((cfg0.win 5).blk t).view.read (Elt Ideal) A (ix3 0 d k) = A (ix3 2 d k) := by
  refine congrArg A (funext fun a => Fin.ext ?_)
  match a with
  | 0 => blk_simp [index_5 t]; rfl
  | 1 => blk_simp [index_5 t]
  | 2 => blk_simp [index_5 t]

theorem emb_6 (A : S2x1408x1024.Idx → EReal) (t : Fin cfg0.N) (k : Fin 1408) (j : Fin 1024) :
    ((cfg0.win 6).blk t).view.read (Elt Ideal) A (ix3 0 k j) = A (ix3 0 k j) := by
  refine congrArg A (funext fun a => Fin.ext ?_)
  match a with
  | 0 => blk_simp [index_6 t]; rfl
  | 1 => blk_simp [index_6 t]
  | 2 => blk_simp [index_6 t]

/-! ## What the region leaves -/

variable (m c)

/-- The gradient by the layer's output before the norm. -/
def duArr (y : S4096x1024.Idx) : EReal := duAt (uArr m c) (a5 m c) (a3 m c) (a4 m c) (y 0) (y 1)

/-- What the first hidden units add to the gradient by the input. -/
def dhArr (y : S4096x1024.Idx) : EReal := dhAt (a0 m c) (uArr m c) (a5 m c) (a1 m c) (a2 m c) (a3 m c) (a4 m c) (y 0) (y 1)

/-- The first hidden units' values. -/
def actArr (y : S4096x1408.Idx) : EReal := unit (gAt (a0 m c) (a1 m c) (y 0) (y 1)) (upAt (a0 m c) (a1 m c) (y 0) (y 1))

/-- The gradients by their products: the gates', then the others'. -/
def daArr (y : S2x4096x1408.Idx) : EReal :=
  if (y 0).val = 0 then dgAt (a0 m c) (uArr m c) (a5 m c) (a1 m c) (a2 m c) (a3 m c) (a4 m c) (y 1) (y 2)
    else dupAt (a0 m c) (uArr m c) (a5 m c) (a1 m c) (a2 m c) (a3 m c) (a4 m c) (y 1) (y 2)

variable {m c}

theorem row_0 (t : Fin cfg0.N) (q : Fin 512) : row (iblk m c 0 t) q = row (a5 m c) (rowOf t q) :=
  funext fun k => (emb_0 (V m c main_arg5) t q k).trans (congrFun (V_main_arg5 m c) _)

theorem row_1 (t : Fin cfg0.N) (q : Fin 512) : row (iblk m c 1 t) q = row (uArr m c) (rowOf t q) :=
  funext fun k => (emb_1 (V m c main_v18) t q k).trans (congrFun (V_u m c) _)

theorem row_g (t : Fin cfg0.N) : row (iblk m c 3 t) 1 = fun k => a3 m c (ix1 k) :=
  funext fun k => (congrFun ((emb_3 (V m c main_v9) t).trans (V_vec m c)) _).trans (Cert.Kernel2Ideal.Hand.vecs_g _ _ k)

theorem row_gate (t : Fin cfg0.N) : row (iblk m c 3 t) 4 = fun k => a4 m c (ix1 k) :=
  funext fun k => (congrFun ((emb_3 (V m c main_v9) t).trans (V_vec m c)) _).trans (Cert.Kernel2Ideal.Hand.vecs_gate _ _ k)

theorem gate_blk (t : Fin cfg0.N) (q : Fin 512) (k : Fin 1408) :
    (iblk m c 2 t : S2x512x1408.Idx → EReal) (ix3 0 q k) = gAt (a0 m c) (a1 m c) (rowOf t q) k :=
  ((emb_2 (V m c main_v22) t 0 q k).trans (congrFun (V_both m c) _)).trans (both_gate _ _ _ k)

theorem up_blk (t : Fin cfg0.N) (q : Fin 512) (k : Fin 1408) :
    (iblk m c 2 t : S2x512x1408.Idx → EReal) (ix3 1 q k) = upAt (a0 m c) (a1 m c) (rowOf t q) k :=
  ((emb_2 (V m c main_v22) t 1 q k).trans (congrFun (V_both m c) _)).trans (both_up _ _ _ k)

theorem in_gate (t : Fin cfg0.N) (d : Fin 1024) (k : Fin 1408) :
    (iblk m c 4 t : S1x1024x1408.Idx → EReal) (ix3 0 d k) = a1 m c (ix2 d ⟨k.val, by omega⟩) := by
  refine ((emb_4 (V m c main_v12) t d k).trans (congrFun (V_in m c) _)).trans
    ((Cert.Kernel4Ideal.Hand.inParts_at _ _).trans (congrArg (a1 m c) ?_))
  exact congrArg (ix2 d) (Fin.ext (by show 0 * 1408 + k.val = k.val; omega))

theorem in_up (t : Fin cfg0.N) (d : Fin 1024) (k : Fin 1408) :
    (iblk m c 5 t : S1x1024x1408.Idx → EReal) (ix3 0 d k) = a1 m c (ix2 d ⟨2816 + k.val, by omega⟩) := by
  refine ((emb_5 (V m c main_v12) t d k).trans (congrFun (V_in m c) _)).trans
    ((Cert.Kernel4Ideal.Hand.inParts_at _ _).trans (congrArg (a1 m c) ?_))
  exact congrArg (ix2 d) (Fin.ext rfl)

theorem out_blk (t : Fin cfg0.N) (k : Fin 1408) (j : Fin 1024) :
    (iblk m c 6 t : S1x1408x1024.Idx → EReal) (ix3 0 k j) = a2 m c (ix2 ⟨k.val, by omega⟩ j) := by
  refine ((emb_6 (V m c main_v24) t k j).trans (congrFun (V_out m c) _)).trans
    ((Cert.Kernel4Ideal.Hand.outParts_at _ _).trans (congrArg (a2 m c) ?_))
  exact congrArg (ix2 · j) (Fin.ext (by show 0 * 1408 + k.val = k.val; omega))

/-- A block's row of the gradient before the norm is the array's. -/
theorem du_eq (t : Fin cfg0.N) (q : Fin 512) (k : Fin 1024) :
    duOf (iblk m c 0 t) (iblk m c 1 t) (iblk m c 3 t) q k = duArr m c (ix2 (rowOf t q) k) := by
  unfold duOf
  rw [row_0, row_1, row_g, row_gate]
  rfl

theorem dact_eq (t : Fin cfg0.N) (q : Fin 512) (k : Fin 1408) :
    dactBlk m c t (ix2 q k) = dactAt (uArr m c) (a5 m c) (a2 m c) (a3 m c) (a4 m c) (rowOf t q) k := by
  show ∑ j, duOf (iblk m c 0 t) (iblk m c 1 t) (iblk m c 3 t) q j * (iblk m c 6 t : S1x1408x1024.Idx → EReal) (ix3 0 k j) = _
  refine Finset.sum_congr rfl fun j _ => ?_
  rw [du_eq, out_blk]
  rfl

theorem dg_eq (t : Fin cfg0.N) (q : Fin 512) (k : Fin 1408) :
    gateGrad (dactBlk m c t (ix2 q k)) ((iblk m c 2 t : S2x512x1408.Idx → EReal) (ix3 0 q k)) ((iblk m c 2 t : S2x512x1408.Idx → EReal) (ix3 1 q k)) =
      dgAt (a0 m c) (uArr m c) (a5 m c) (a1 m c) (a2 m c) (a3 m c) (a4 m c) (rowOf t q) k := by
  rw [dact_eq, gate_blk, up_blk]
  rfl

theorem dup_eq (t : Fin cfg0.N) (q : Fin 512) (k : Fin 1408) :
    upGrad (dactBlk m c t (ix2 q k)) ((iblk m c 2 t : S2x512x1408.Idx → EReal) (ix3 0 q k)) =
      dupAt (a0 m c) (uArr m c) (a5 m c) (a1 m c) (a2 m c) (a3 m c) (a4 m c) (rowOf t q) k := by
  rw [dact_eq, gate_blk]
  rfl

theorem dh_eq (t : Fin cfg0.N) (q : Fin 512) (j : Fin 1024) :
    dhOf (iblk m c 2 t) (iblk m c 4 t) (iblk m c 5 t) (dactBlk m c t) q j = dhArr m c (ix2 (rowOf t q) j) :=
  congrArg₂ (· + ·) (Finset.sum_congr rfl fun k _ => congrArg₂ (· * ·) (dg_eq t q k) (in_gate t j k))
    (Finset.sum_congr rfl fun k _ => congrArg₂ (· * ·) (dup_eq t q k) (in_up t j k))

theorem act_eq (t : Fin cfg0.N) (q : Fin 512) (k : Fin 1408) :
    unit ((iblk m c 2 t : S2x512x1408.Idx → EReal) (ix3 0 q k)) ((iblk m c 2 t : S2x512x1408.Idx → EReal) (ix3 1 q k)) =
      actArr m c (ix2 (rowOf t q) k) :=
  congrArg₂ unit (gate_blk t q k) (up_blk t q k)

theorem sum_points (f : Fin 4096 → EReal) : ∑ t : Fin cfg0.N, ∑ q : Fin 512, f (rowOf t q) = ∑ i, f i :=
  Cert.Kernel2Ideal.Hand.sum_points f

/-- The last point. -/
def lastPt : Fin cfg0.N := ⟨7, Nat.lt_of_lt_of_eq (by decide : 7 < 8) N_0.symm⟩

theorem outs_dgate_last (j : Fin 1024) :
    (outsAt0 (F := Ideal) m c lastPt.val lastPt.isLt).2.2.2.2 (ix2 2 j) = dgateAt (uArr m c) (a5 m c) (a3 m c) j := by
  refine (Pipeline.eq_sum_fin_of_reset_step_apply_last (fun n hn j => (outsAt0 (F := Ideal) m c n hn).2.2.2.2 (ix2 2 j)) 8 (fun _ => (0 : EReal))
    (fun t j => dgateStep m c t j) (fun t h i => outs_dgate_first m c t h i) (fun t h i => outs_dgate_next m c t h i) N_0.le lastPt
    N_0.symm j).trans ?_
  rw [zero_add]
  unfold dgateStep dgateAt
  rw [← sum_points]
  refine Finset.sum_congr rfl fun t _ => Finset.sum_congr rfl fun q _ => ?_
  rw [row_0, row_1, row_g]
  rfl

theorem outs_dpost_last (j : Fin 1024) :
    (outsAt0 (F := Ideal) m c lastPt.val lastPt.isLt).2.2.2.2 (ix2 4 j) = dpostAt (uArr m c) (a5 m c) (a4 m c) j := by
  refine (Pipeline.eq_sum_fin_of_reset_step_apply_last (fun n hn j => (outsAt0 (F := Ideal) m c n hn).2.2.2.2 (ix2 4 j)) 8 (fun _ => (0 : EReal))
    (fun t j => dpostStep m c t j) (fun t h i => outs_dpost_first m c t h i) (fun t h i => outs_dpost_next m c t h i) N_0.le lastPt
    N_0.symm j).trans ?_
  rw [zero_add]
  unfold dpostStep dpostAt
  rw [← sum_points]
  refine Finset.sum_congr rfl fun t _ => Finset.sum_congr rfl fun q _ => ?_
  rw [row_0, row_1, row_gate]
  rfl

theorem arr_du : (dats (F := Ideal) m 0 c).arrAt 7 cfg0.N = duArr m c := by
  refine (dats m 0 c).arrAt_eq_of_covers 7 _ (by decide +kernel) fun t hf y => ?_
  blk_simp
  rw [after0_7]
  refine (outs_du m c t y).trans ((du_eq t (y 0) (y 1)).trans (congrArg (duArr m c) (funext fun a => Fin.ext ?_)))
  match a with
  | 0 => blk_simp [index_7 t]; rfl
  | 1 => blk_simp [index_7 t]

theorem arr_dh : (dats (F := Ideal) m 0 c).arrAt 8 cfg0.N = dhArr m c := by
  refine (dats m 0 c).arrAt_eq_of_covers 8 _ (by decide +kernel) fun t hf y => ?_
  blk_simp
  rw [after0_8]
  refine (outs_dh m c t y).trans ((dh_eq t (y 0) (y 1)).trans (congrArg (dhArr m c) (funext fun a => Fin.ext ?_)))
  match a with
  | 0 => blk_simp [index_8 t]; rfl
  | 1 => blk_simp [index_8 t]

variable (m c) in
/-- The whole array: on the first half of the columns what the region writes, the rest as found. -/
def actFull (j : S4096x2816.Idx) : EReal := if h : (j 1).val < 1408 then actArr m c (ix2 (j 0) ⟨(j 1).val, h⟩) else (V m c main_v25_2 : S4096x2816.Idx → EReal) j

theorem actFull_rest {j : S4096x2816.Idx} (h : ¬(j 1).val < 1408) : actFull m c j = (V m c main_v25_2 : S4096x2816.Idx → EReal) j := dif_neg h

/-- The units' values on the first half of the columns, the rest as found. -/
theorem arr_act (y : S4096x1408.Idx) :
    ((dats (F := Ideal) m 0 c).arrAt 9 cfg0.N : S4096x2816.Idx → EReal) (ix2 (y 0) ⟨(y 1).val, Nat.lt_trans (y 1).isLt (by decide)⟩) = actArr m c y := by
  have e : (dats (F := Ideal) m 0 c).arrAt 9 cfg0.N = actFull m c := by
    refine (dats m 0 c).arrAt_eq_of_coversWhere_of_agree 9 _ (fun β => β 1 < 1) (by decide +kernel) (fun t hf y => ?_) (fun j hj => ?_)
    · blk_simp
      rw [after0_9]
      refine (outs_act m c t y).trans ((act_eq t (y 0) (y 1)).trans ?_)
      have hy : (y 1).val < 1408 := (y 1).isLt
      refine Eq.trans ?_ (dif_pos (by blk_simp [index_9 t]; exact hy)).symm
      refine congrArg (actArr m c) (funext fun a => Fin.ext ?_)
      match a with
      | 0 => blk_simp [index_9 t]; rfl
      | 1 => blk_simp [index_9 t]
    · blk_simp [Pipeline.Window.cell_apply] at hj
      have h : ¬(j 1).val < 1408 := by omega
      exact (actFull_rest h).symm
  rw [e]
  refine (dif_pos (y 1).isLt).trans (congrArg (actArr m c) (ValueIdx.eq_ix2 y).symm)

variable (m c) in
/-- The whole array: on the first half of the columns what the region writes, the rest as found. -/
def daFull (j : S2x4096x2816.Idx) : EReal := if h : (j 2).val < 1408 then daArr m c (ix3 (j 0) (j 1) ⟨(j 2).val, h⟩) else (V m c main_v25_3 : S2x4096x2816.Idx → EReal) j

theorem daFull_rest {j : S2x4096x2816.Idx} (h : ¬(j 2).val < 1408) : daFull m c j = (V m c main_v25_3 : S2x4096x2816.Idx → EReal) j := dif_neg h

/-- The gradients by their products on the first half of the columns. -/
theorem arr_da (y : S2x4096x1408.Idx) :
    ((dats (F := Ideal) m 0 c).arrAt 10 cfg0.N : S2x4096x2816.Idx → EReal)
      (ix3 (y 0) (y 1) ⟨(y 2).val, Nat.lt_trans (y 2).isLt (by decide)⟩) = daArr m c y := by
  have e : (dats (F := Ideal) m 0 c).arrAt 10 cfg0.N = daFull m c := by
    refine (dats m 0 c).arrAt_eq_of_coversWhere_of_agree 10 _ (fun β => β 2 < 1) (by decide +kernel) (fun t hf y => ?_) (fun j hj => ?_)
    · blk_simp
      rw [after0_10]
      refine (outs_da m c t y).trans ((if_congr Iff.rfl (dg_eq t (y 1) (y 2)) (dup_eq t (y 1) (y 2))).trans ?_)
      have hy : (y 2).val < 1408 := (y 2).isLt
      refine Eq.trans ?_ (dif_pos (by blk_simp [index_10 t]; exact hy)).symm
      refine congrArg (daArr m c) (a₁ := ix3 (y 0) (rowOf t (y 1)) (y 2)) (funext fun a => Fin.ext ?_)
      match a with
      | 0 => blk_simp [index_10 t]
      | 1 => blk_simp [index_10 t]; rfl
      | 2 => blk_simp [index_10 t]
    · blk_simp [Pipeline.Window.cell_apply] at hj
      have h : ¬(j 2).val < 1408 := by omega
      exact (daFull_rest h).symm
  rw [e]
  refine (dif_pos (y 2).isLt).trans (congrArg (daArr m c) (ValueIdx.eq_ix3 y).symm)

/-- The accumulated rows are those of the last point. -/
theorem arr_vec : (dats (F := Ideal) m 0 c).arrAt 11 cfg0.N = (outsAt0 (F := Ideal) m c lastPt.val lastPt.isLt).2.2.2.2 := by
  refine (dats m 0 c).arrAt_eq_of_after_last 11 lastPt (by decide +kernel) _ fun j => ?_
  blk_simp
  rw [after0_11]

end Cert.Kernel5Ideal.Hand

end
-- ==== Proof.HiddenResults.lean ====
/- The results of the gradient through a gated layer's first hidden units, from the arguments. -/
module

public import proofs.«01_k».proof.Proof.HiddenArrays
public import proofs.«01_k».proof.Proof.PostResults
public import Idealize.ShloMosaic.Lib.Pipeline.FrameSuffix

@[expose] public section

set_option maxRecDepth 16384

noncomputable section

namespace Cert.Kernel5Ideal.Hand

open Cert.Kernel5Ideal Cert.Kernel5Ideal.Gen Idealize.ShloMosaic Idealize.ShloMosaic.TcCoe Idealize.SL.Sem Idealize.ShloMosaic.StableHlo
open Cert.Proof.Hidden

section Tail

variable (W : Valuation τ sig (Elt Ideal))

theorem tail_act : StableHlo.after (List.flatten [hostOps1]) W (Proc.devRef .tc main_v26)
    = (extractStridedSlice S4096x1408 ![0, 0] (W (Proc.devRef .tc main_v25_2) : S4096x2816.Idx → EReal) slices_S4096x2816_S4096x1408_0_0 :
        S4096x1408.Idx → EReal) := by
  simp only [List.flatten_cons, List.flatten_nil, List.append_nil, hostOps1, List.cons_append, List.nil_append]
  after_results_simp

theorem tail_da : StableHlo.after (List.flatten [hostOps1]) W (Proc.devRef .tc main_v27)
    = (extractStridedSlice S2x4096x1408 ![0, 0, 0] (W (Proc.devRef .tc main_v25_3) : S2x4096x2816.Idx → EReal)
        slices_S2x4096x2816_S2x4096x1408_0_0_0 : S2x4096x1408.Idx → EReal) := by
  simp only [List.flatten_cons, List.flatten_nil, List.append_nil, hostOps1, List.cons_append, List.nil_append]
  after_results_simp

theorem tail_dgate : StableHlo.after (List.flatten [hostOps1]) W (Proc.devRef .tc main_v29)
    = (shapeCast S1024 (extractStridedSlice S1x1024 ![2, 0] (W (Proc.devRef .tc main_v25_4) : S8x1024.Idx → EReal) slices_S8x1024_S1x1024_2_0)
        shapeCasts_S1x1024_S1024 : S1024.Idx → EReal) := by
  simp only [List.flatten_cons, List.flatten_nil, List.append_nil, hostOps1, List.cons_append, List.nil_append]
  after_results_simp
  rfl

theorem tail_dpost : StableHlo.after (List.flatten [hostOps1]) W (Proc.devRef .tc main_v31)
    = (shapeCast S1024 (extractStridedSlice S1x1024 ![4, 0] (W (Proc.devRef .tc main_v25_4) : S8x1024.Idx → EReal) slices_S8x1024_S1x1024_4_0)
        shapeCasts_S1x1024_S1024 : S1024.Idx → EReal) := by
  simp only [List.flatten_cons, List.flatten_nil, List.append_nil, hostOps1, List.cons_append, List.nil_append]
  after_results_simp
  rfl

end Tail

theorem slice_act (A : S4096x2816.Idx → EReal) (y : S4096x1408.Idx) :
    extractStridedSlice S4096x1408 ![0, 0] A slices_S4096x2816_S4096x1408_0_0 y =
      A (ix2 (y 0) ⟨(y 1).val, Nat.lt_trans (y 1).isLt (by decide)⟩) := by
  pointwise

theorem slice_da (A : S2x4096x2816.Idx → EReal) (y : S2x4096x1408.Idx) :
    extractStridedSlice S2x4096x1408 ![0, 0, 0] A slices_S2x4096x2816_S2x4096x1408_0_0_0 y =
      A (ix3 (y 0) (y 1) ⟨(y 2).val, Nat.lt_trans (y 2).isLt (by decide)⟩) := by
  pointwise

variable (m : (ℓ : Loc nD τ sig) → Buf (Elt Ideal) ℓ) (c : Dev nD)

/-- What the region leaves. -/
def exitV : Valuation τ sig (Elt Ideal) :=
  Pipeline.withArrays cfg0.spec c (V0 m c) fun w => (dats (F := Ideal) m 0 c).arrAt w cfg0.N

theorem exitV_act : exitV m c (Proc.devRef .tc main_v25_2) = (dats (F := Ideal) m 0 c).arrAt 9 cfg0.N :=
  (dats (F := Ideal) m 0 c).withArrays_arrAt sharedIn0 (V0 m c) (A_eq m c) 9

theorem exitV_da : exitV m c (Proc.devRef .tc main_v25_3) = (dats (F := Ideal) m 0 c).arrAt 10 cfg0.N :=
  (dats (F := Ideal) m 0 c).withArrays_arrAt sharedIn0 (V0 m c) (A_eq m c) 10

theorem exitV_vec : exitV m c (Proc.devRef .tc main_v25_4) = (outsAt0 (F := Ideal) m c lastPt.val lastPt.isLt).2.2.2.2 :=
  ((dats (F := Ideal) m 0 c).withArrays_arrAt sharedIn0 (V0 m c) (A_eq m c) 11).trans arr_vec

theorem res_act : StableHlo.after (List.flatten [hostOps1]) (exitV m c) (Proc.devRef .tc main_v26) = actArr m c := by
  rw [tail_act, exitV_act]
  funext y
  exact (slice_act _ y).trans (arr_act y)

theorem res_da : StableHlo.after (List.flatten [hostOps1]) (exitV m c) (Proc.devRef .tc main_v27) = daArr m c := by
  rw [tail_da, exitV_da]
  funext y
  exact (slice_da _ y).trans (arr_da y)

/-- The gradients by the gate of the norm and by its weight. -/
def dgateRes (i : S1024.Idx) : EReal := dgateAt (uArr m c) (a5 m c) (a3 m c) (i 0)
def dpostRes (i : S1024.Idx) : EReal := dpostAt (uArr m c) (a5 m c) (a4 m c) (i 0)

theorem res_dgate : StableHlo.after (List.flatten [hostOps1]) (exitV m c) (Proc.devRef .tc main_v29) = dgateRes m c := by
  rw [tail_dgate, exitV_vec]
  funext i
  exact (Cert.Kernel2Ideal.Hand.slice_dgate _ i).trans (outs_dgate_last (i 0))

theorem res_dpost : StableHlo.after (List.flatten [hostOps1]) (exitV m c) (Proc.devRef .tc main_v31) = dpostRes m c := by
  rw [tail_dpost, exitV_vec]
  funext i
  exact (Cert.Kernel2Ideal.Hand.slice_dpost _ i).trans (outs_dpost_last (i 0))

end Cert.Kernel5Ideal.Hand

end
-- ==== Proof.HiddenReference.lean ====
/- The reference's six results of the gradient through a gated layer's first hidden units, read at an index. -/
module

public import proofs.«01_k».proof.Proof.HiddenRows
public import proofs.«01_k».proof.Proof.LossArrays
public import proofs.«01_k».proof.Proof.Gen.Reference5Ideal.Read
public import Idealize.ShloMosaic.Lib.Pointwise

@[expose] public section

noncomputable section

namespace Cert.Reference5Ideal.Hand

open Cert.Reference5Ideal Cert.Reference5Ideal.Gen Cert.Reference5Ideal.Read Cert.Proof Cert.Proof.Hidden
open Cert.Proof.Post (ms dnormRef throughMean duRef duRow duRow_eq)
open Cert.Proof.Loss (unit)
open Idealize.ShloMosaic hiding ix1 ix2 ix3 eq_ix1 eq_ix2
open Idealize.ShloMosaic.ValueIdx Idealize.ShloMosaic.TcCoe Idealize.ShloMosaic.StableHlo

variable (x0 : (⟨S4096x1024, .f32⟩ : BufTy).Contents (Elt Ideal)) (x1 : (⟨S1024x5632, .f32⟩ : BufTy).Contents (Elt Ideal))
  (x2 : (⟨S2816x1024, .f32⟩ : BufTy).Contents (Elt Ideal)) (x3 x4 : (⟨S1024, .f32⟩ : BufTy).Contents (Elt Ideal))
  (x5 : (⟨S4096x1024, .f32⟩ : BufTy).Contents (Elt Ideal))

/-- A row of the layer's output before the norm. -/
abbrev uRow (i : Fin 4096) (k : Fin 1024) : EReal := val_main_v5 (F := Ideal) x0 x1 x2 (ix2 i k)

theorem v16_at (y : S4096x1.Idx) : val_main_v16 (F := Ideal) x0 x1 x2 y = ms (uRow x0 x1 x2 (y 0)) := by
  unfold val_main_v16 val_main_v15 val_main_cst_3 val_main_v14 val_main_v13 val_main_cst_2 val_main_v12 val_main_v11 val_main_cst_1
    val_main_v10 uRow
  generalize val_main_v5 (F := Ideal) x0 x1 x2 = u
  pointwise
  rfl

theorem v17_at (y : S4096x1.Idx) : val_main_v17 (F := Ideal) x0 x1 x2 y = Ideal.rsqrt (ms (uRow x0 x1 x2 (y 0))) := by
  unfold val_main_v17
  pointwise
  rw [v16_at]

theorem v30_at (y : S4096x1024.Idx) : val_main_v30 (F := Ideal) x4 x5 y =
    (1 + x4 (ix1 (y 1))) * halved (fun k => x5 (ix2 (y 0) k)) (y 1) := by
  unfold val_main_v30 val_main_v29 val_main_v26 val_main_v9 val_main_v8 val_main_cst_0 val_main_v7 val_main_v6 val_main_cst
  pointwise
  rw [show x5 y = x5 (ix2 (y 0) (y 1)) from congrArg x5 (eq_ix2 y)]
  exact (congrArg (· * _) (mul_comm _ _)).trans (mul_assoc _ _ _)

theorem v39_at (y : S4096x1024.Idx) : val_main_v39 (F := Ideal) x3 x4 x5 y =
    dnormRef (halved fun k => x5 (ix2 (y 0) k)) (fun k => x3 (ix1 k)) (fun k => x4 (ix1 k)) (y 1) := by
  unfold val_main_v39 val_main_v38 val_main_v23
  pointwise
  rw [v30_at]
  rfl

theorem v49_at (y : S4096.Idx) : val_main_v49 (F := Ideal) x0 x1 x2 x3 x4 x5 y =
    throughMean (halved fun k => x5 (ix2 (y 0) k)) (uRow x0 x1 x2 (y 0)) (fun k => x3 (ix1 k)) (fun k => x4 (ix1 k)) := by
  unfold val_main_v49 val_main_cst_11 val_main_v48 val_main_v47 val_main_cst_10 val_main_v46 val_main_v43 val_main_v42 val_main_cst_9
    val_main_v41 val_main_v20 val_main_v19 val_main_cst_4 val_main_v18
  pointwise
  simp only [v16_at, v17_at, v39_at]
  exact Fin.sum_univ_one _

theorem v54_at (y : S4096x1024.Idx) : val_main_v54 (F := Ideal) x0 x1 x2 x3 x4 x5 y =
    duRef (halved fun k => x5 (ix2 (y 0) k)) (uRow x0 x1 x2 (y 0)) (fun k => x3 (ix1 k)) (fun k => x4 (ix1 k)) (y 1) := by
  unfold val_main_v54 val_main_v53 val_main_v52 val_main_v51 val_main_v50 val_main_v45 val_main_v44
  pointwise
  simp only [v17_at, v39_at, v49_at]
  rw [show val_main_v5 (F := Ideal) x0 x1 x2 y = uRow x0 x1 x2 (y 0) (y 1) from congrArg (val_main_v5 (F := Ideal) x0 x1 x2) (eq_ix2 y)]
  rfl

theorem v22_at (y : S4096x1024.Idx) :
    val_main_v22 (F := Ideal) x0 x1 x2 y = uRow x0 x1 x2 (y 0) (y 1) * Ideal.rsqrt (ms (uRow x0 x1 x2 (y 0))) := by
  unfold val_main_v22 val_main_v21
  pointwise
  rw [v17_at]
  exact congrArg (fun z => val_main_v5 (F := Ideal) x0 x1 x2 z * _) (eq_ix2 y)

theorem v56_at (y : S1024.Idx) :
    val_main_v56 (F := Ideal) x0 x1 x2 x3 x5 y = dgateAt (val_main_v5 (F := Ideal) x0 x1 x2) x5 x3 (y 0) := by
  unfold val_main_v56 val_main_v55 val_main_cst_12 val_main_v34 val_main_cst_6 val_main_v33 val_main_v32 val_main_cst_5 val_main_v31
    val_main_v25 val_main_v24 val_main_v23
  pointwise
  simp only [v22_at]
  rw [show x3 y = x3 (ix1 (y 0)) from congrArg x3 (eq_ix1 y)]
  refine (congrArg (_ * ·) (Fin.sum_univ_one _)).trans ((Cert.Kernel4Ideal.Hand.half_sum _).symm.trans ?_)
  exact Finset.sum_congr rfl fun i _ => (mul_assoc _ _ _).symm

theorem v40_at (y : S1024.Idx) :
    val_main_v40 (F := Ideal) x0 x1 x2 x4 x5 y = dpostAt (val_main_v5 (F := Ideal) x0 x1 x2) x5 x4 (y 0) := by
  unfold val_main_v40 val_main_cst_8 val_main_v37 val_main_v36 val_main_cst_7 val_main_v35
  pointwise
  simp only [v22_at, v30_at]
  refine (Fin.sum_univ_one _).trans (Finset.sum_congr rfl fun i _ => ?_)
  exact (mul_comm _ _).trans (congrArg (· * _) (mul_comm _ _))

theorem v60_at (y : S4096x1408.Idx) : val_main_v60 (F := Ideal) x0 x1 y = gAt x0 x1 (y 0) (y 1) := by
  unfold val_main_v60 val_main_v57
  pointwise
  rfl

theorem v61_at (y : S4096x1408.Idx) : val_main_v61 (F := Ideal) x0 x1 y = upAt x0 x1 (y 0) (y 1) := by
  unfold val_main_v61 val_main_v58
  pointwise
  rfl

theorem v62_2_at (y : S4096x1408.Idx) : val_main_v62_2 (F := Ideal) x0 x1 y = Ideal.logistic (gAt x0 x1 (y 0) (y 1)) := by
  unfold val_main_v62_2 val_main_call1_v4 val_main_call1_cst_0 val_main_call1_v3 val_main_call1_v2 val_main_call1_cst val_main_call1_v1
    val_main_call1_v0
  pointwise
  rw [v60_at]
  rfl

theorem v62_0_at (y : S4096x1408.Idx) :
    val_main_v62_0 (F := Ideal) x0 x1 y = gAt x0 x1 (y 0) (y 1) * Ideal.logistic (gAt x0 x1 (y 0) (y 1)) := by
  unfold val_main_v62_0
  pointwise
  rw [v60_at, v62_2_at]

theorem v73_at (y : S4096x1408.Idx) : val_main_v73 (F := Ideal) x0 x1 y = unit (gAt x0 x1 (y 0) (y 1)) (upAt x0 x1 (y 0) (y 1)) := by
  unfold val_main_v73 val_main_v63
  pointwise
  rw [v62_0_at, v61_at]
  rfl

/-! ## Of real arguments -/

section Real

variable {x0 x1 x2 x3 x4 x5}
variable (f0 : AllReal x0) (f1 : AllReal x1) (f2 : AllReal x2) (f3 : AllReal x3) (f4 : AllReal x4) (f5 : AllReal x5)

include f0 f1

theorem sum_real (i : Fin 4096) (s : Fin 5632) : ∃ r : ℝ, ∑ d, x0 (ix2 i d) * x1 (ix2 d s) = r :=
  ⟨_, sum_mul_real (fun d => f0 _) fun d => f1 _⟩

theorem g_real (i : Fin 4096) (k : Fin 1408) : ∃ r : ℝ, gAt x0 x1 i k = r := sum_real f0 f1 i _

theorem up_real (i : Fin 4096) (k : Fin 1408) : ∃ r : ℝ, upAt x0 x1 i k = r := sum_real f0 f1 i _

/-- A hidden unit's value is real. -/
theorem v4_real (y : S4096x2816.Idx) : ∃ r : ℝ, val_main_v4 (F := Ideal) x0 x1 y = r := by
  have b1 : (y 1).val < 2816 := (y 1).isLt
  obtain ⟨a, ha⟩ := sum_real f0 f1 (y 0) ⟨(y 1).val, by omega⟩
  obtain ⟨b, hb⟩ := sum_real f0 f1 (y 0) ⟨2816 + (y 1).val, by omega⟩
  have e1 : val_main_v1 (F := Ideal) x0 x1 y = a := by
    refine Eq.trans ?_ ha
    unfold val_main_v1 val_main_v0
    pointwise
    rfl
  have e2 : val_main_v2 (F := Ideal) x0 x1 y = b := by
    refine Eq.trans ?_ hb
    unfold val_main_v2 val_main_v0
    pointwise
    rfl
  obtain ⟨s, hs⟩ := logistic_real a
  refine ⟨a * s * b, ?_⟩
  have e : val_main_v4 (F := Ideal) x0 x1 y = unit (a : EReal) (b : EReal) := by
    unfold val_main_v4 val_main_v3 val_main_call0_v5 val_main_call0_v4 val_main_call0_cst_0 val_main_call0_v3 val_main_call0_v2
      val_main_call0_cst val_main_call0_v1 val_main_call0_v0
    pointwise
    rw [e1, e2]
    rfl
  rw [e]
  unfold unit
  rw [hs]
  norm_cast

include f2

theorem u_real (i : Fin 4096) (k : Fin 1024) : ∃ r : ℝ, uRow x0 x1 x2 i k = r := by
  choose a ha using v4_real f0 f1
  have e : uRow x0 x1 x2 i k = ∑ n, val_main_v4 (F := Ideal) x0 x1 (ix2 i n) * x2 (ix2 n k) := by
    unfold uRow val_main_v5
    generalize val_main_v4 (F := Ideal) x0 x1 = v
    pointwise
    rfl
  exact ⟨_, e.trans (sum_mul_real (fun n => ha _) fun n => f2 _)⟩

include f3 f4 f5

theorem du_real (i : Fin 4096) (k : Fin 1024) : ∃ r : ℝ, duAt (val_main_v5 (F := Ideal) x0 x1 x2) x5 x3 x4 i k = r :=
  duRow_real (halved_real fun k => ⟨_, f5 _⟩) (u_real f0 f1 f2 i) (fun k => ⟨_, f3 _⟩) (fun k => ⟨_, f4 _⟩) k

theorem du_at (y : S4096x1024.Idx) :
    val_main_v54 (F := Ideal) x0 x1 x2 x3 x4 x5 y = duAt (val_main_v5 (F := Ideal) x0 x1 x2) x5 x3 x4 (y 0) (y 1) :=
  (v54_at x0 x1 x2 x3 x4 x5 y).trans
    (duRow_eq (halved_real fun k => ⟨_, f5 _⟩) (u_real f0 f1 f2 (y 0)) (fun k => ⟨_, f3 _⟩) (fun k => ⟨_, f4 _⟩) (y 1))

theorem dact_real (i : Fin 4096) (k : Fin 1408) : ∃ r : ℝ, dactAt (val_main_v5 (F := Ideal) x0 x1 x2) x5 x2 x3 x4 i k = r := by
  choose d hd using du_real f0 f1 f2 f3 f4 f5 i
  exact ⟨_, sum_mul_real hd fun j => f2 _⟩

theorem v65_at (y : S4096x1408.Idx) :
    val_main_v65 (F := Ideal) x0 x1 x2 x3 x4 x5 y = dactAt (val_main_v5 (F := Ideal) x0 x1 x2) x5 x2 x3 x4 (y 0) (y 1) := by
  have e := du_at f0 f1 f2 f3 f4 f5
  unfold val_main_v65 val_main_v59
  generalize val_main_v54 (F := Ideal) x0 x1 x2 x3 x4 x5 = d at *
  pointwise
  simp only [e]
  rfl

theorem v66_at (y : S4096x1408.Idx) :
    val_main_v66 (F := Ideal) x0 x1 x2 x3 x4 x5 y = dupAt x0 (val_main_v5 (F := Ideal) x0 x1 x2) x5 x1 x2 x3 x4 (y 0) (y 1) := by
  unfold val_main_v66
  pointwise
  rw [v65_at f0 f1 f2 f3 f4 f5, v62_0_at]
  exact mul_comm _ _

theorem v67_at (y : S4096x1408.Idx) :
    val_main_v67 (F := Ideal) x0 x1 x2 x3 x4 x5 y =
      dactAt (val_main_v5 (F := Ideal) x0 x1 x2) x5 x2 x3 x4 (y 0) (y 1) * upAt x0 x1 (y 0) (y 1) := by
  unfold val_main_v67
  pointwise
  rw [v65_at f0 f1 f2 f3 f4 f5, v61_at]

theorem v68_at (y : S4096x1408.Idx) :
    val_main_v68 (F := Ideal) x0 x1 x2 x3 x4 x5 y = dgAt x0 (val_main_v5 (F := Ideal) x0 x1 x2) x5 x1 x2 x3 x4 (y 0) (y 1) := by
  refine Eq.trans ?_ (gateGrad_eq (dact_real f0 f1 f2 f3 f4 f5 (y 0) (y 1)) (g_real f0 f1 (y 0) (y 1)) (up_real f0 f1 (y 0) (y 1)))
  have e := v67_at f0 f1 f2 f3 f4 f5 y
  unfold val_main_v68 val_main_call2_v2 val_main_call2_v1 val_main_call2_v0 val_main_v62_1 val_main_call1_v7 val_main_call1_v6
    val_main_call1_cst_1
  generalize val_main_v67 (F := Ideal) x0 x1 x2 x3 x4 x5 = d at *
  pointwise
  rw [e, v60_at, v62_2_at]
  rfl

theorem v71_at (y : S4096x1024.Idx) :
    val_main_v71 (F := Ideal) x0 x1 x2 x3 x4 x5 y = dhAt x0 (val_main_v5 (F := Ideal) x0 x1 x2) x5 x1 x2 x3 x4 (y 0) (y 1) := by
  have e6 := v66_at f0 f1 f2 f3 f4 f5
  have e8 := v68_at f0 f1 f2 f3 f4 f5
  unfold val_main_v71 val_main_v70 val_main_v69 val_main_v58 val_main_v57
  generalize val_main_v66 (F := Ideal) x0 x1 x2 x3 x4 x5 = p at *
  generalize val_main_v68 (F := Ideal) x0 x1 x2 x3 x4 x5 = q at *
  pointwise
  simp only [e6, e8]
  exact add_comm _ _

theorem v77_at (y : S2x4096x1408.Idx) : val_main_v77 (F := Ideal) x0 x1 x2 x3 x4 x5 y =
    if (y 0).val = 0 then dgAt x0 (val_main_v5 (F := Ideal) x0 x1 x2) x5 x1 x2 x3 x4 (y 1) (y 2)
      else dupAt x0 (val_main_v5 (F := Ideal) x0 x1 x2) x5 x1 x2 x3 x4 (y 1) (y 2) := by
  have e6 := v66_at f0 f1 f2 f3 f4 f5
  have e8 := v68_at f0 f1 f2 f3 f4 f5
  unfold val_main_v77 val_main_v76 val_main_v75 val_main_v74
  generalize val_main_v66 (F := Ideal) x0 x1 x2 x3 x4 x5 = p at *
  generalize val_main_v68 (F := Ideal) x0 x1 x2 x3 x4 x5 = q at *
  pointwise
  by_cases e : (y 0).val < 1
  · exact (dif_pos e).trans ((e8 _).trans (if_pos (Nat.lt_one_iff.1 e)).symm)
  · exact (dif_neg e).trans ((e6 _).trans (if_neg fun h => e (Nat.lt_one_iff.2 h)).symm)

theorem v72_at (y : S4096x1024.Idx) :
    val_main_v72 (F := Ideal) x0 x1 x2 x3 x4 x5 y = duAt (val_main_v5 (F := Ideal) x0 x1 x2) x5 x3 x4 (y 0) (y 1) := by
  unfold val_main_v72
  pointwise
  exact du_at f0 f1 f2 f3 f4 f5 y

end Real

end Cert.Reference5Ideal.Hand

end
-- ==== Proof.HiddenFinite.lean ====
/- What the precondition of the gradient through the first hidden units says: every argument holds reals. -/
module

public import proofs.«01_k».proof.Proof.Finite
public import proofs.«01_k».proof.Proof.Gen.Pre_finite5

@[expose] public section

noncomputable section

namespace Cert.Pre_finite5.Hand

open Cert.Pre_finite5 Idealize.ShloMosaic Cert.Proof Cert.Pre_finite.Hand

theorem finite_of (x0 : FVec Ideal S4096x1024 .f32) (x1 : FVec Ideal S1024x5632 .f32) (x2 : FVec Ideal S2816x1024 .f32)
    (x3 x4 : FVec Ideal S1024 .f32) (x5 : FVec Ideal S4096x1024 .f32) (j : S_.Idx) (h : fn (F := Ideal) x0 x1 x2 x3 x4 x5 j = 1#1) :
    AllReal x0 ∧ AllReal x1 ∧ AllReal x2 ∧ AllReal x3 ∧ AllReal x4 ∧ AllReal x5 := by
  obtain ⟨h, h5⟩ := andi_split h
  obtain ⟨h, h4⟩ := andi_split h
  obtain ⟨h, h3⟩ := andi_split h
  obtain ⟨h, h2⟩ := andi_split h
  obtain ⟨h0, h1⟩ := andi_split h
  exact ⟨allReal_of x0 _ _ _ _ j h0, allReal_of x1 _ _ _ _ j h1, allReal_of x2 _ _ _ _ j h2, allReal_of x3 _ _ _ _ j h3,
    allReal_of x4 _ _ _ _ j h4, allReal_of x5 _ _ _ _ j h5⟩

end Cert.Pre_finite5.Hand

end
-- ==== Proof.HiddenEquation.lean ====
/- The arrays of the gradient through the first hidden units are the reference's results of the same arguments. -/
module

public import proofs.«01_k».proof.Proof.HiddenResults
public import proofs.«01_k».proof.Proof.HiddenReference
public import proofs.«01_k».proof.Proof.HiddenFinite

@[expose] public section

set_option maxRecDepth 16384

noncomputable section

namespace Cert.Reference5Ideal.Hand

open Cert.Reference5Ideal Cert.Reference5Ideal.Gen Cert.Reference5Ideal.Read Cert.Proof Cert.Kernel5Ideal.Hand
open Idealize.ShloMosaic Idealize.ShloMosaic.TcCoe

variable (m : (ℓ : Loc Cert.Kernel5Ideal.nD Cert.Kernel5Ideal.τ Cert.Kernel5Ideal.sig) → Buf (Elt Ideal) ℓ) (c : Dev Cert.Kernel5Ideal.nD)

/-- The reference's arguments are the kernel's, and real. -/
structure Same (m' : (ℓ : Loc nD τ sig) → Buf (Elt Ideal) ℓ) (c' : Dev nD) : Prop where
  e0 : m' (c'.tc.loc main_arg0) = a0 m c
  e1 : m' (c'.tc.loc main_arg1) = a1 m c
  e2 : m' (c'.tc.loc main_arg2) = a2 m c
  e3 : m' (c'.tc.loc main_arg3) = a3 m c
  e4 : m' (c'.tc.loc main_arg4) = a4 m c
  e5 : m' (c'.tc.loc main_arg5) = a5 m c
  f0 : AllReal (a0 m c)
  f1 : AllReal (a1 m c)
  f2 : AllReal (a2 m c)
  f3 : AllReal (a3 m c)
  f4 : AllReal (a4 m c)
  f5 : AllReal (a5 m c)

variable {m c} {m' : (ℓ : Loc nD τ sig) → Buf (Elt Ideal) ℓ} {c' : Dev nD} (s : Same m c m' c')

include s

theorem du_res : Cert.Reference5Ideal.Value.res_main_v72 m' c' = duArr m c := by
  rw [val_main_v72_eq, s.e0, s.e1, s.e2, s.e3, s.e4, s.e5]
  exact funext (v72_at s.f0 s.f1 s.f2 s.f3 s.f4 s.f5)

theorem dh_res : Cert.Reference5Ideal.Value.res_main_v71 m' c' = dhArr m c := by
  rw [val_main_v71_eq, s.e0, s.e1, s.e2, s.e3, s.e4, s.e5]
  exact funext (v71_at s.f0 s.f1 s.f2 s.f3 s.f4 s.f5)

theorem act_res : val_main_v73 (F := Ideal) (m' (c'.tc.loc main_arg0)) (m' (c'.tc.loc main_arg1)) = actArr m c := by
  rw [s.e0, s.e1]
  exact funext (v73_at _ _)

theorem da_res : Cert.Reference5Ideal.Value.res_main_v77 m' c' = daArr m c := by
  rw [val_main_v77_eq, s.e0, s.e1, s.e2, s.e3, s.e4, s.e5]
  exact funext (v77_at s.f0 s.f1 s.f2 s.f3 s.f4 s.f5)

theorem dgate_res : val_main_v56 (F := Ideal) (m' (c'.tc.loc main_arg0)) (m' (c'.tc.loc main_arg1)) (m' (c'.tc.loc main_arg2))
    (m' (c'.tc.loc main_arg3)) (m' (c'.tc.loc main_arg5)) = dgateRes m c := by
  rw [s.e0, s.e1, s.e2, s.e3, s.e5]
  exact funext (v56_at _ _ _ _ _)

theorem dpost_res : Cert.Reference5Ideal.Value.res_main_v40 m' c' = dpostRes m c := by
  rw [val_main_v40_eq, s.e0, s.e1, s.e2, s.e4, s.e5]
  exact funext (v40_at _ _ _ _ _)

end Cert.Reference5Ideal.Hand

end
-- ==== Proof.BackRows.lean ====
/- The gradient of a gated layer's remaining hidden units and of the norm before the layer, from the arguments. -/
module

public import proofs.«01_k».proof.Proof.HiddenRows

@[expose] public section

noncomputable section

namespace Cert.Proof.Back

open Idealize.ShloMosaic Idealize.ShloMosaic.ValueIdx Cert.Proof.Post Cert.Proof.Hidden

variable (h x dout du dh : (⟨2, ![4096, 1024]⟩ : Shape).Idx → EReal) (win : (⟨2, ![1024, 5632]⟩ : Shape).Idx → EReal)
  (wout : (⟨2, ![2816, 1024]⟩ : Shape).Idx → EReal) (g scale : (⟨1, ![1024]⟩ : Shape).Idx → EReal)

/-- The gradient by a hidden unit's value, of the gradient `du` by the layer's output. -/
def dactAt (i : Fin 4096) (k : Fin 1408) : EReal := ∑ j, du (ix2 i j) * wout (ix2 ⟨1408 + k.val, by omega⟩ j)

/-- A unit's product with the gates' weights, and its other product. -/
def gAt (i : Fin 4096) (k : Fin 1408) : EReal := ∑ d, h (ix2 i d) * win (ix2 d ⟨1408 + k.val, by omega⟩)
def upAt (i : Fin 4096) (k : Fin 1408) : EReal := ∑ d, h (ix2 i d) * win (ix2 d ⟨4224 + k.val, by omega⟩)

/-- Their gradients. -/
def dgAt (i : Fin 4096) (k : Fin 1408) : EReal := gateGrad (dactAt du wout i k) (gAt h win i k) (upAt h win i k)
def dupAt (i : Fin 4096) (k : Fin 1408) : EReal := upGrad (dactAt du wout i k) (gAt h win i k)

/-- The gradient by the layer's input: what the first units gave, and these. -/
def dhAt (i : Fin 4096) (d : Fin 1024) : EReal :=
  dh (ix2 i d) + (∑ k, dgAt h du win wout i k * win (ix2 d ⟨1408 + k.val, by omega⟩) +
    ∑ k, dupAt h du win wout i k * win (ix2 d ⟨4224 + k.val, by omega⟩))

/-- The gradient by the sublayer's input. -/
def dxAt (i : Fin 4096) (d : Fin 1024) : EReal :=
  dout (ix2 i d) + duRow (dhAt h du dh win wout i) (fun k => x (ix2 i k)) (fun k => g (ix1 k)) (fun k => scale (ix1 k)) d

/-- The gradients by the norm's shift, by its scale and by its weight. -/
def dshiftAt (d : Fin 1024) : EReal := ∑ i, dhAt h du dh win wout i d
def dscaleAt (d : Fin 1024) : EReal := ∑ i, dgateRow (dhAt h du dh win wout i) (fun k => x (ix2 i k)) (fun k => g (ix1 k)) d
def dpreAt (d : Fin 1024) : EReal := ∑ i, dpostRow (dhAt h du dh win wout i) (fun k => x (ix2 i k)) (fun k => scale (ix1 k)) d

end Cert.Proof.Back

end
-- ==== Proof.BackBlock.lean ====
/- One point of the grid of the gradient through a gated layer's remaining hidden units: what it leaves in its blocks, row by row. -/
module

public import proofs.«01_k».proof.Proof.BackRows
public import proofs.«01_k».proof.Proof.HiddenBlock
public import proofs.«01_k».proof.Proof.Gen.Kernel6Ideal.Frame

@[expose] public section

set_option maxRecDepth 16384

noncomputable section

namespace Cert.Kernel6Ideal.Hand

open Cert.Kernel6Ideal Cert.Kernel6Ideal.Gen Idealize.ShloMosaic Idealize.ShloMosaic.TcCoe Idealize.SL.Sem Idealize.ShloMosaic.StableHlo
open Cert.Proof.Post Cert.Proof.Hidden
open Cert.Proof.Loss (unit)
open Cert.Kernel2Ideal.Hand (row)
open Cert.Kernel5Ideal.Hand (dhOf)

section Payloads

variable (b0 b1 b2 b3 : S512x1024.Idx → EReal) (b4 : S2x512x1408.Idx → EReal) (b5 : S8x1024.Idx → EReal) (b6 b7 : S1x1024x1408.Idx → EReal)
  (b8 : S1x1408x1024.Idx → EReal)

/-- The gradient by a unit's value. -/
def dactOf (y : S512x1408.Idx) : EReal := ∑ j, b2 (ix2 (y 0) j) * b8 (ix3 0 (y 1) j)

theorem pay6_eq : k0_pay6 (F := Ideal) b2 b8 = dactOf b2 b8 := by
  funext i
  unfold k0_pay6
  pointwise
  rfl

theorem pay12_at (h h') (i : S512x1408.Idx) :
    k0_pay12 (F := Ideal) b2 b8 (View.ld (Val := Elt Ideal) (e' := .bf16) b4 (Rect.unit (s := S2x512x1408) ![0, 0, 0] ![1, 512, 1408] h))
      (View.ld (Val := Elt Ideal) (e' := .bf16) b4 (Rect.unit (s := S2x512x1408) ![1, 0, 0] ![1, 512, 1408] h')) i =
      gateGrad (dactOf b2 b8 i) (b4 (ix3 0 (i 0) (i 1))) (b4 (ix3 1 (i 0) (i 1))) := by
  rw [← pay6_eq]
  exact Cert.Kernel5Ideal.Hand.pay1_at b4 (k0_pay6 (F := Ideal) b2 b8) h h' i

theorem pay13_at (h) (i : S512x1408.Idx) :
    k0_pay13 (F := Ideal) b2 b8 (View.ld (Val := Elt Ideal) (e' := .bf16) b4 (Rect.unit (s := S2x512x1408) ![0, 0, 0] ![1, 512, 1408] h)) i =
      upGrad (dactOf b2 b8 i) (b4 (ix3 0 (i 0) (i 1))) := by
  rw [← pay6_eq]
  exact Cert.Kernel5Ideal.Hand.pay2_at b4 (k0_pay6 (F := Ideal) b2 b8) h i

theorem pay14_at (v w) (q : Fin 512) (k : Fin 1408) :
    k0_pay14 (F := Ideal) b2 b8 v w (ix3 0 q k) = k0_pay12 (F := Ideal) b2 b8 v w (ix2 q k) := by
  unfold k0_pay14
  generalize k0_pay12 (F := Ideal) b2 b8 v w = f
  pointwise

theorem pay15_at (f : S512x1408.Idx → EReal) (q : Fin 512) (k : Fin 1408) : k0_pay15 (F := Ideal) f (ix3 0 q k) = f (ix2 q k) := by
  unfold k0_pay15
  pointwise

/-- The gradient by the layer's input. -/
def dhTot (y : S512x1024.Idx) : EReal := b3 y + dhOf b4 b6 b7 (dactOf b2 b8) (y 0) (y 1)

theorem pay16_eq (h h') :
    k0_pay16 (F := Ideal) b3
      (k0_pay12 b2 b8 (View.ld (Val := Elt Ideal) (e' := .bf16) b4 (Rect.unit (s := S2x512x1408) ![0, 0, 0] ![1, 512, 1408] h))
        (View.ld (Val := Elt Ideal) (e' := .bf16) b4 (Rect.unit (s := S2x512x1408) ![1, 0, 0] ![1, 512, 1408] h')))
      (k0_pay13 b2 b8 (View.ld (Val := Elt Ideal) (e' := .bf16) b4 (Rect.unit (s := S2x512x1408) ![0, 0, 0] ![1, 512, 1408] h))) b6 b7 =
      dhTot b2 b3 b4 b6 b7 b8 := by
  funext i
  have e := pay12_at b2 b4 b8 h h'
  have e' := pay13_at b2 b4 b8 h
  unfold k0_pay16
  generalize k0_pay12 (F := Ideal) _ _ _ _ = f at *
  generalize k0_pay13 (F := Ideal) _ _ _ = f' at *
  pointwise
  simp only [e, e']
  rfl

variable (D : S512x1024.Idx → EReal)

theorem pay17_at (i : S512x1.Idx) : k0_pay17 (F := Ideal) b1 i = rinv (row b1 (i 0)) := by
  unfold k0_pay17
  pointwise
  rfl

theorem pay18_at (i : S512x1024.Idx) : k0_pay18 (F := Ideal) b1 i = uhat (row b1 (i 0)) (i 1) := by
  unfold k0_pay18
  pointwise
  rw [pay17_at]
  exact congrArg (fun j => b1 j * _) (ValueIdx.eq_ix2 i)

theorem pay19_at (h) (i : S1x1024.Idx) :
    k0_pay19 (F := Ideal) (View.ld (Val := Elt Ideal) (e' := .f32) b5 (Rect.unit (s := S8x1024) ![3, 0] ![1, 1024] h)) i = 1 + b5 (ix2 3 (i 1)) := by
  unfold k0_pay19
  pointwise

theorem pay20_at (h) (i : S1x1024.Idx) :
    k0_pay20 (F := Ideal) (View.ld (Val := Elt Ideal) (e' := .f32) b5 (Rect.unit (s := S8x1024) ![0, 0] ![1, 1024] h)) i = b5 (ix2 0 (i 1)) := by
  unfold k0_pay20
  pointwise

/-- A row of the gradient by the sublayer's input. -/
def dxOf (i : S512x1024.Idx) : EReal := b0 i + duRow (row D (i 0)) (row b1 (i 0)) (row b5 0) (row b5 3) (i 1)

theorem pay4_at (h h') (i : S512x1024.Idx) :
    k0_pay4 (F := Ideal) D b0 (k0_pay17 b1) (k0_pay18 b1)
      (k0_pay19 (View.ld (Val := Elt Ideal) (e' := .f32) b5 (Rect.unit (s := S8x1024) ![3, 0] ![1, 1024] h)))
      (k0_pay20 (View.ld (Val := Elt Ideal) (e' := .f32) b5 (Rect.unit (s := S8x1024) ![0, 0] ![1, 1024] h'))) i =
      dxOf b0 b1 b5 D i := by
  have e7 := pay17_at b1
  have e8 := pay18_at b1
  have e9 := pay19_at b5 h
  have e0 := pay20_at b5 h'
  unfold k0_pay4
  generalize k0_pay17 (F := Ideal) _ = r at *
  generalize k0_pay18 (F := Ideal) _ = u at *
  generalize k0_pay19 (F := Ideal) _ = s at *
  generalize k0_pay20 (F := Ideal) _ = g at *
  pointwise
  simp only [e7, e8, e9, e0]
  unfold dxOf duRow dnorm dgated
  have hz : i = ix2 (i 0) (i 1) := ValueIdx.eq_ix2 i
  refine congrArg (b0 i + rinv (row b1 (i 0)) * ·) (congrArg₂ (· - ·) ?_ (congrArg (uhat (row b1 (i 0)) (i 1) * Ideal.div · _) ?_))
  · exact (mul_right_comm _ _ _).trans (congrArg (fun z => D z * (1 + b5 (ix2 3 (i 1))) * b5 (ix2 0 (i 1))) hz)
  · exact Finset.sum_congr rfl fun j _ => congrArg (· * uhat (row b1 (i 0)) j) (mul_right_comm _ _ _)

end Payloads

variable (m : (ℓ : Loc nD τ sig) → Buf (Elt Ideal) ℓ) (c : Dev nD) (t : Fin cfg0.N)

/-- The gradient by the units' values in the point's block. -/
def dactBlk : S512x1408.Idx → EReal := dactOf (iblk m c 2 t) (iblk m c 8 t)

/-- The gradient by the layer's input. -/
def dhBlk : S512x1024.Idx → EReal := dhTot (iblk m c 2 t) (iblk m c 3 t) (iblk m c 4 t) (iblk m c 6 t) (iblk m c 7 t) (iblk m c 8 t)

/-- The gradient by the sublayer's input in the point's block. -/
def dxBlk (y : S512x1024.Idx) : EReal :=
  dxOf (iblk m c 0 t) (iblk m c 1 t) (iblk m c 5 t) (dhBlk m c t) y

theorem outs_dx (y : S512x1024.Idx) :
    (outsAt0 (F := Ideal) m c t.val t.isLt).1 y = dxBlk m c t y := by
  by_cases h : t.val % 8 = 0
  all_goals
    first | rw [outsAt0_A m c t h] | rw [outsAt0_B m c t h]
    frame_open
    simp (disch := decide) only [↓ View.readCov_skip, ↓ View.readCov_cons_toLoadRect, ↓ View.readCov_fill]
    frame_out
    rw [pay16_eq (iblk m c 2 t) (iblk m c 3 t) (iblk m c 4 t) (iblk m c 6 t) (iblk m c 7 t) (iblk m c 8 t)]
    exact pay4_at _ _ _ _ _ _ y

theorem outs_act (y : S512x1408.Idx) :
    (outsAt0 (F := Ideal) m c t.val t.isLt).2.1 y =
      unit ((iblk m c 4 t : S2x512x1408.Idx → EReal) (ix3 0 (y 0) (y 1))) ((iblk m c 4 t : S2x512x1408.Idx → EReal) (ix3 1 (y 0) (y 1))) := by
  by_cases h : t.val % 8 = 0
  all_goals
    first | rw [outsAt0_A m c t h] | rw [outsAt0_B m c t h]
    frame_open
    simp (disch := decide) only [↓ View.readCov_skip, ↓ View.readCov_cons_toLoadRect, ↓ View.readCov_fill]
    frame_out
    exact Cert.Kernel5Ideal.Hand.pay23_at _ _ _ y

theorem outs_da (y : S2x512x1408.Idx) :
    (outsAt0 (F := Ideal) m c t.val t.isLt).2.2.1 y =
      if (y 0).val = 0 then gateGrad (dactBlk m c t (ix2 (y 1) (y 2))) ((iblk m c 4 t : S2x512x1408.Idx → EReal) (ix3 0 (y 1) (y 2)))
        ((iblk m c 4 t : S2x512x1408.Idx → EReal) (ix3 1 (y 1) (y 2)))
      else upGrad (dactBlk m c t (ix2 (y 1) (y 2))) ((iblk m c 4 t : S2x512x1408.Idx → EReal) (ix3 0 (y 1) (y 2))) := by
  by_cases h : t.val % 8 = 0
  all_goals
    first | rw [outsAt0_A m c t h] | rw [outsAt0_B m c t h]
    frame_open
    simp (disch := decide) only [↓ View.readCov_skip, ↓ View.readCov_cons_toLoadRect, ↓ View.readCov_fill]
    frame_out
    refine (Cert.Kernel4Ideal.Hand.canon_halves _ _ y).trans (if_congr Iff.rfl ?_ ?_)
    · exact (pay14_at _ _ _ _ _ _).trans (pay12_at _ _ _ _ _ _)
    · exact (pay15_at _ _ _).trans (pay13_at _ _ _ _ _)

end Cert.Kernel6Ideal.Hand

end
-- ==== Proof.BackVec.lean ====
/- The three rows the points of the grid accumulate: by the norm's shift, by its scale and by its weight. -/
module

public import proofs.«01_k».proof.Proof.BackBlock
public import proofs.«01_k».proof.Proof.PostVec

@[expose] public section

set_option maxRecDepth 16384

noncomputable section

namespace Cert.Kernel6Ideal.Hand

open Cert.Kernel6Ideal Cert.Kernel6Ideal.Gen Idealize.ShloMosaic Idealize.ShloMosaic.TcCoe Idealize.SL.Sem Idealize.ShloMosaic.StableHlo
open Cert.Proof.Post Cert.Proof.Hidden
open Cert.Kernel2Ideal.Hand (row emb_row)

section Payloads

variable (b1 b3 D : S512x1024.Idx → EReal) (v b5 : S8x1024.Idx → EReal)

theorem pay5_at (i : S8x1024.Idx) : k0_pay5 (F := Ideal) i = 0 := by
  unfold k0_pay5
  pointwise

theorem pay1_at (f f' b6 b7 h) (i : S1x1024.Idx) :
    k0_pay1 (F := Ideal) (k0_pay21 (View.ld (Val := Elt Ideal) (e' := .f32) v (Rect.unit (s := S8x1024) ![0, 0] ![1, 1024] h)))
      (k0_pay22 b3 f f' b6 b7) i = v (ix2 0 (i 1)) + ∑ q, k0_pay16 (F := Ideal) b3 f f' b6 b7 (ix2 q (i 1)) := by
  unfold k0_pay1 k0_pay21 k0_pay22
  generalize k0_pay16 (F := Ideal) b3 f f' b6 b7 = p
  pointwise

theorem pay2_at (h h') (i : S1x1024.Idx) :
    k0_pay2 (F := Ideal) D (k0_pay18 b1) (k0_pay20 (View.ld (Val := Elt Ideal) (e' := .f32) b5 (Rect.unit (s := S8x1024) ![0, 0] ![1, 1024] h)))
      (View.ld (Val := Elt Ideal) (e' := .f32) v (Rect.unit (s := S8x1024) ![1, 0] ![1, 1024] h')) i =
      v (ix2 1 (i 1)) + ∑ q, dgateRow (row D q) (row b1 q) (row b5 0) (i 1) := by
  have e8 := pay18_at b1
  have e0 := pay20_at b5 h
  unfold k0_pay2
  generalize k0_pay18 (F := Ideal) _ = u at *
  generalize k0_pay20 (F := Ideal) _ = g at *
  pointwise
  simp only [e8, e0]
  rfl

theorem pay3_at (h h') (i : S1x1024.Idx) :
    k0_pay3 (F := Ideal) D (k0_pay18 b1) (k0_pay19 (View.ld (Val := Elt Ideal) (e' := .f32) b5 (Rect.unit (s := S8x1024) ![3, 0] ![1, 1024] h)))
      (View.ld (Val := Elt Ideal) (e' := .f32) v (Rect.unit (s := S8x1024) ![3, 0] ![1, 1024] h')) i =
      v (ix2 3 (i 1)) + ∑ q, dpostRow (row D q) (row b1 q) (row b5 3) (i 1) := by
  have e8 := pay18_at b1
  have e9 := pay19_at b5 h
  unfold k0_pay3
  generalize k0_pay18 (F := Ideal) _ = u at *
  generalize k0_pay19 (F := Ideal) _ = s at *
  pointwise
  simp only [e8, e9]
  rfl

end Payloads

/-- A block one of whose rows was written last: at that row, and at another. -/
theorem canon_row {o : Nat} (ho : o < 8) (h) (w : S1x1024.Idx → EReal) (L) (j : Fin 1024) :
    View.canon (Val := Elt Ideal) (e := .f32) (s := S8x1024) (⟨Rect.unit (s := S8x1024) ![o, 0] ![1, 1024] h, w⟩ :: L) (ix2 ⟨o, ho⟩ j) =
      w (ix2 0 j) :=
  (congrArg _ (emb_row ho h j).symm).trans (View.canon_cons_emb _ _ _ _)

theorem canon_other {o r : Nat} (hr : r < 8) (hlt : r < o) (h) (w : S1x1024.Idx → EReal) (L) (j : Fin 1024) :
    View.canon (Val := Elt Ideal) (e := .f32) (s := S8x1024) (⟨Rect.unit (s := S8x1024) ![o, 0] ![1, 1024] h, w⟩ :: L) (ix2 ⟨r, hr⟩ j) =
      View.canon (Val := Elt Ideal) (e := .f32) (s := S8x1024) L (ix2 ⟨r, hr⟩ j) :=
  View.canon_cons_of_not_mem _ _ fun hm => by
    rw [Rect.mem_set_unit] at hm
    exact absurd (hm 0).1 (show ¬ o ≤ r by omega)

variable (m : (ℓ : Loc nD τ sig) → Buf (Elt Ideal) ℓ) (c : Dev nD) (t : Fin cfg0.N)

/-- What a point adds to the gradients by the norm's shift, by its scale and by its weight. -/
def dshiftStep (j : Fin 1024) : EReal := ∑ q, dhBlk m c t (ix2 q j)
def dscaleStep (j : Fin 1024) : EReal := ∑ q, dgateRow (row (dhBlk m c t) q) (row (iblk m c 1 t) q) (row (iblk m c 5 t) 0) j
def dpreStep (j : Fin 1024) : EReal := ∑ q, dpostRow (row (dhBlk m c t) q) (row (iblk m c 1 t) q) (row (iblk m c 5 t) 3) j

/-- The row of a point is what a point before left, or zero, and what it adds. -/
theorem outs_dshift_first (h : t.val % 8 = 0) (j : Fin 1024) :
    (outsAt0 (F := Ideal) m c t.val t.isLt).2.2.2 (ix2 0 j) = 0 + dshiftStep m c t j := by
  rw [outsAt0_A m c t h]
  frame_open
  simp (disch := decide) only [↓ View.readCov_skip, ↓ View.readCov_cons_toLoadRect, ↓ View.readCov_fill]
  frame_out
  refine (canon_other (by decide) (by decide) _ _ _ j).trans ((canon_other (by decide) (by decide) _ _ _ j).trans
    ((canon_row (by decide) _ _ _ j).trans ((pay1_at _ _ _ _ _ _ _ _).trans (congrArg₂ (· + ·) (pay5_at _) ?_))))
  rw [pay16_eq (iblk m c 2 t) (iblk m c 3 t) (iblk m c 4 t) (iblk m c 6 t) (iblk m c 7 t) (iblk m c 8 t)]
  rfl

theorem outs_dscale_first (h : t.val % 8 = 0) (j : Fin 1024) :
    (outsAt0 (F := Ideal) m c t.val t.isLt).2.2.2 (ix2 1 j) = 0 + dscaleStep m c t j := by
  rw [outsAt0_A m c t h]
  frame_open
  simp (disch := decide) only [↓ View.readCov_skip, ↓ View.readCov_cons_toLoadRect, ↓ View.readCov_fill]
  frame_out
  rw [pay16_eq (iblk m c 2 t) (iblk m c 3 t) (iblk m c 4 t) (iblk m c 6 t) (iblk m c 7 t) (iblk m c 8 t)]
  refine (canon_other (by decide) (by decide) _ _ _ j).trans ((canon_row (by decide) _ _ _ j).trans ?_)
  exact (pay2_at _ _ _ _ _ _ _).trans (congrArg₂ (· + ·) (pay5_at _) rfl)

theorem outs_dpre_first (h : t.val % 8 = 0) (j : Fin 1024) :
    (outsAt0 (F := Ideal) m c t.val t.isLt).2.2.2 (ix2 3 j) = 0 + dpreStep m c t j := by
  rw [outsAt0_A m c t h]
  frame_open
  simp (disch := decide) only [↓ View.readCov_skip, ↓ View.readCov_cons_toLoadRect, ↓ View.readCov_fill]
  frame_out
  rw [pay16_eq (iblk m c 2 t) (iblk m c 3 t) (iblk m c 4 t) (iblk m c 6 t) (iblk m c 7 t) (iblk m c 8 t)]
  refine (canon_row (by decide) _ _ _ j).trans ?_
  exact (pay3_at _ _ _ _ _ _ _).trans (congrArg₂ (· + ·) (pay5_at _) rfl)

/-- The same of rows written over what was carried. -/
theorem read_row {o : Nat} (ho : o < 8) (h) (f : (ms0_12 t).view.ty.Contents (Elt Ideal)) (w : S1x1024.Idx → Elt Ideal .f32) (L) (j : Fin 1024) :
    View.read (Elt Ideal) (ms0_12 t).view ((ms0_12 t).view.writes (Elt Ideal) f (⟨Rect.unit (s := S8x1024) ![o, 0] ![1, 1024] h, w⟩ :: L))
      (ix2 ⟨o, ho⟩ j) = w (ix2 0 j) :=
  View.read_writes_cons_rows_of_mem (o := o) _ _ _ _ _ _ (ix2 0 j) rfl rfl rfl

theorem read_other {o r : Nat} (hr : r < 8) (hlt : r < o) (h) (f : (ms0_12 t).view.ty.Contents (Elt Ideal)) (w : S1x1024.Idx → Elt Ideal .f32) (L)
    (j : Fin 1024) :
    View.read (Elt Ideal) (ms0_12 t).view ((ms0_12 t).view.writes (Elt Ideal) f (⟨Rect.unit (s := S8x1024) ![o, 0] ![1, 1024] h, w⟩ :: L))
      (ix2 ⟨r, hr⟩ j) = View.read (Elt Ideal) (ms0_12 t).view ((ms0_12 t).view.writes (Elt Ideal) f L) (ix2 ⟨r, hr⟩ j) :=
  View.read_writes_cons_rows_of_not_mem _ _ _ _ _ _ rfl rfl (Or.inl hlt)

theorem outs_dshift_next (h : ¬t.val % 8 = 0) (j : Fin 1024) :
    (outsAt0 (F := Ideal) m c t.val t.isLt).2.2.2 (ix2 0 j) =
      (outsAt0 (F := Ideal) m c (t.val - 1) (by omega)).2.2.2 (ix2 0 j) + dshiftStep m c t j := by
  rw [outsAt0_B m c t h]
  frame_open
  simp (disch := decide) only [↓ View.readCov_skip, ↓ View.readCov_cons_toLoadRect, ↓ View.readCov_fill]
  frame_out
  generalize (outsAt0 (F := Ideal) m c (t.val - 1) (by omega)).2.2.2 = prev
  refine (read_other t (by decide) (by decide) _ _ _ _ j).trans ((read_other t (by decide) (by decide) _ _ _ _ j).trans
    ((read_row t (by decide) _ _ _ _ j).trans ((pay1_at _ _ _ _ _ _ _ _).trans (congrArg (prev (ix2 0 j) + ·) ?_))))
  rw [pay16_eq (iblk m c 2 t) (iblk m c 3 t) (iblk m c 4 t) (iblk m c 6 t) (iblk m c 7 t) (iblk m c 8 t)]
  rfl

theorem outs_dscale_next (h : ¬t.val % 8 = 0) (j : Fin 1024) :
    (outsAt0 (F := Ideal) m c t.val t.isLt).2.2.2 (ix2 1 j) =
      (outsAt0 (F := Ideal) m c (t.val - 1) (by omega)).2.2.2 (ix2 1 j) + dscaleStep m c t j := by
  rw [outsAt0_B m c t h]
  frame_open
  simp (disch := decide) only [↓ View.readCov_skip, ↓ View.readCov_cons_toLoadRect, ↓ View.readCov_fill]
  frame_out
  generalize (outsAt0 (F := Ideal) m c (t.val - 1) (by omega)).2.2.2 = prev
  rw [pay16_eq (iblk m c 2 t) (iblk m c 3 t) (iblk m c 4 t) (iblk m c 6 t) (iblk m c 7 t) (iblk m c 8 t)]
  exact (read_other t (by decide) (by decide) _ _ _ _ j).trans ((read_row t (by decide) _ _ _ _ j).trans (pay2_at _ _ _ _ _ _ _))

theorem outs_dpre_next (h : ¬t.val % 8 = 0) (j : Fin 1024) :
    (outsAt0 (F := Ideal) m c t.val t.isLt).2.2.2 (ix2 3 j) =
      (outsAt0 (F := Ideal) m c (t.val - 1) (by omega)).2.2.2 (ix2 3 j) + dpreStep m c t j := by
  rw [outsAt0_B m c t h]
  frame_open
  simp (disch := decide) only [↓ View.readCov_skip, ↓ View.readCov_cons_toLoadRect, ↓ View.readCov_fill]
  frame_out
  generalize (outsAt0 (F := Ideal) m c (t.val - 1) (by omega)).2.2.2 = prev
  rw [pay16_eq (iblk m c 2 t) (iblk m c 3 t) (iblk m c 4 t) (iblk m c 6 t) (iblk m c 7 t) (iblk m c 8 t)]
  exact (read_row t (by decide) _ _ _ _ j).trans (pay3_at _ _ _ _ _ _ _)

end Cert.Kernel6Ideal.Hand

end
-- ==== Proof.BackHost.lean ====
/- What the host prepares for the gradient through the remaining hidden units. -/
module

public import proofs.«01_k».proof.Proof.BackBlock
public import proofs.«01_k».proof.Proof.HiddenHost
public import proofs.«01_k».proof.Proof.Gen.Reference6Ideal.Read

@[expose] public section

set_option maxRecDepth 16384

noncomputable section

namespace Cert.Kernel6Ideal.Hand

open Cert.Kernel6Ideal Cert.Kernel6Ideal.Gen Idealize.ShloMosaic Idealize.ShloMosaic.TcCoe Idealize.SL.Sem Idealize.ShloMosaic.StableHlo
open Cert.Proof.Back
open Cert.Kernel5Ideal.Hand (both)

section Ops

variable (x0 : FVec Ideal S4096x1024 .f32) (x1 : FVec Ideal S1024x5632 .f32) (x3 x4 : FVec Ideal S1024 .f32)

/-- A vector as a row. -/
def asRow (x : FVec Ideal S1024 .f32) : FVec Ideal S1x1024 .f32 := broadcastInDim S1x1024 ![1] bcast_S1024_S1x1024_1 x

/-- The two vectors in a table whose other rows are zeros. -/
def vecs : FVec Ideal S8x1024 .f32 :=
  have z := asRow Cert.Kernel2Ideal.Hand.noVec
  concatenate S8x1024 0 [⟨S1x1024, asRow x3⟩, ⟨S1x1024, z⟩, ⟨S1x1024, z⟩, ⟨S1x1024, asRow x4⟩, ⟨S1x1024, z⟩, ⟨S1x1024, z⟩, ⟨S1x1024, z⟩, ⟨S1x1024, z⟩]
    concatenates_S1x1024_S1x1024_S1x1024_S1x1024_S1x1024_S1x1024_S1x1024_S1x1024_S8x1024_d0

theorem vecs_pre (k : Fin 1024) : vecs x3 x4 (ix2 0 k) = x3 (ix1 k) := by
  unfold vecs asRow
  pointwise

theorem vecs_scale (k : Fin 1024) : vecs x3 x4 (ix2 3 k) = x4 (ix1 k) := by
  unfold vecs asRow
  pointwise

theorem gates_at (i : Fin 4096) (k : Fin 1408) :
    Cert.Reference5Ideal.Read.val_main_v1 (F := Ideal) x0 x1 (ix2 i ⟨1408 + k.val, by omega⟩) = gAt x0 x1 i k := by
  unfold Cert.Reference5Ideal.Read.val_main_v1 Cert.Reference5Ideal.Read.val_main_v0
  pointwise
  rfl

theorem ups_at (i : Fin 4096) (k : Fin 1408) :
    Cert.Reference5Ideal.Read.val_main_v2 (F := Ideal) x0 x1 (ix2 i ⟨1408 + k.val, by omega⟩) = upAt x0 x1 i k := by
  unfold Cert.Reference5Ideal.Read.val_main_v2 Cert.Reference5Ideal.Read.val_main_v0
  pointwise
  exact Finset.sum_congr rfl fun d _ => congrArg (fun n => x0 (ix2 i d) * x1 (ix2 d n)) (Fin.ext (by show 2816 + (1408 + k.val) = 4224 + k.val; omega))

theorem both_gate (i : Fin 4096) (k : Fin 1408) : both x0 x1 (ix3 0 i ⟨1408 + k.val, by omega⟩) = gAt x0 x1 i k := by
  refine Eq.trans ?_ (gates_at x0 x1 i k)
  unfold both
  generalize Cert.Reference5Ideal.Read.val_main_v1 (F := Ideal) x0 x1 = g
  generalize Cert.Reference5Ideal.Read.val_main_v2 (F := Ideal) x0 x1 = u
  pointwise

theorem both_up (i : Fin 4096) (k : Fin 1408) : both x0 x1 (ix3 1 i ⟨1408 + k.val, by omega⟩) = upAt x0 x1 i k := by
  refine Eq.trans ?_ (ups_at x0 x1 i k)
  unfold both
  generalize Cert.Reference5Ideal.Read.val_main_v1 (F := Ideal) x0 x1 = g
  generalize Cert.Reference5Ideal.Read.val_main_v2 (F := Ideal) x0 x1 = u
  pointwise

end Ops

variable (m : (ℓ : Loc nD τ sig) → Buf (Elt Ideal) ℓ) (c : Dev nD)

/-- The arguments. -/
def a0 : FVec Ideal S4096x1024 .f32 := m (c.tc.loc main_arg0)
def a1 : FVec Ideal S1024 .f32 := m (c.tc.loc main_arg1)
def a2 : FVec Ideal S1024 .f32 := m (c.tc.loc main_arg2)
def a3 : FVec Ideal S1024 .f32 := m (c.tc.loc main_arg3)
def a4 : FVec Ideal S1024x5632 .f32 := m (c.tc.loc main_arg4)
def a5 : FVec Ideal S2816x1024 .f32 := m (c.tc.loc main_arg5)
def a6 : FVec Ideal S4096x1024 .f32 := m (c.tc.loc main_arg6)
def a7 : FVec Ideal S4096x1024 .f32 := m (c.tc.loc main_arg7)
def a8 : FVec Ideal S4096x1024 .f32 := m (c.tc.loc main_arg8)

/-- The layer's input: the sublayer's, normalized, scaled and shifted. -/
def hArr : FVec Ideal S4096x1024 .f32 := Cert.Reference6Ideal.Read.val_main_v26 (F := Ideal) (a0 m c) (a1 m c) (a2 m c) (a3 m c)

theorem V_vec : V m c main_v9 = vecs (a1 m c) (a3 m c) := by
  show StableHlo.after (List.flatten [hostOps0, hostOps0_1, hostOps0_2]) (fun b => m (c, b)) (Proc.devRef .tc main_v9) = _
  simp only [List.flatten_cons, List.flatten_nil, List.append_nil, hostOps0, hostOps0_1, hostOps0_2, List.cons_append, List.nil_append]
  after_results_simp
  rfl

theorem V_in : V m c main_v12 = Cert.Kernel4Ideal.Hand.inParts (a4 m c) := by
  show StableHlo.after (List.flatten [hostOps0, hostOps0_1, hostOps0_2]) (fun b => m (c, b)) (Proc.devRef .tc main_v12) = _
  simp only [List.flatten_cons, List.flatten_nil, List.append_nil, hostOps0, hostOps0_1, hostOps0_2, List.cons_append, List.nil_append]
  after_results_simp
  rfl

theorem V_both : V m c main_v20 = both (hArr m c) (a4 m c) := by
  show StableHlo.after (List.flatten [hostOps0, hostOps0_1, hostOps0_2]) (fun b => m (c, b)) (Proc.devRef .tc main_v20) = _
  simp only [List.flatten_cons, List.flatten_nil, List.append_nil, hostOps0, hostOps0_1, hostOps0_2, List.cons_append, List.nil_append]
  after_results_simp
  rfl

theorem V_du : V m c main_v23 = (a7 m c : S4096x1024.Idx → EReal) := by
  show StableHlo.after (List.flatten [hostOps0, hostOps0_1, hostOps0_2]) (fun b => m (c, b)) (Proc.devRef .tc main_v23) = _
  simp only [List.flatten_cons, List.flatten_nil, List.append_nil, hostOps0, hostOps0_1, hostOps0_2, List.cons_append, List.nil_append]
  after_results_simp
  rfl

theorem V_out : V m c main_v25 = Cert.Kernel4Ideal.Hand.outParts (a5 m c) := by
  show StableHlo.after (List.flatten [hostOps0, hostOps0_1, hostOps0_2]) (fun b => m (c, b)) (Proc.devRef .tc main_v25) = _
  simp only [List.flatten_cons, List.flatten_nil, List.append_nil, hostOps0, hostOps0_1, hostOps0_2, List.cons_append, List.nil_append]
  after_results_simp
  rfl

end Cert.Kernel6Ideal.Hand

end
-- ==== Proof.BackArrays.lean ====
/- The arrays the gradient through a gated layer's remaining hidden units leaves. -/
module

public import proofs.«01_k».proof.Proof.BackVec
public import proofs.«01_k».proof.Proof.BackHost
public import proofs.«01_k».proof.Proof.PostArrays
public import Idealize.ShloMosaic.Lib.Pipeline.ValueKit.Partial

@[expose] public section

set_option maxRecDepth 16384

noncomputable section

namespace Cert.Kernel6Ideal.Hand

open Cert.Kernel6Ideal Cert.Kernel6Ideal.Gen Idealize.ShloMosaic Idealize.ShloMosaic.TcCoe Idealize.SL.Sem Idealize.ShloMosaic.StableHlo
open Cert.Proof.Back
open Cert.Proof.Hidden (gateGrad upGrad)
open Cert.Proof.Post (duRow)
open Cert.Proof.Loss (unit)
open Cert.Kernel2Ideal.Hand (row)
open Cert.Kernel5Ideal.Hand (dhOf)

variable (m : (ℓ : Loc nD τ sig) → Buf (Elt Ideal) ℓ) (c : Dev nD)

/-- The row of the array that is row `q` of a grid point's block. -/
def rowOf (t : Fin cfg0.N) (q : Fin 512) : Fin 4096 := ⟨t.val * 512 + q.val, by have := t.isLt; have : cfg0.N = 8 := N_0; omega⟩

theorem index_rows : ∀ t : Fin cfg0.N, (cfg0.win 0).index t = ![t.val, 0] ∧ (cfg0.win 1).index t = ![t.val, 0] ∧
    (cfg0.win 2).index t = ![t.val, 0] ∧ (cfg0.win 3).index t = ![t.val, 0] ∧ (cfg0.win 9).index t = ![t.val, 0] := by decide +kernel
theorem index_4 : ∀ t : Fin cfg0.N, (cfg0.win 4).index t = ![0, t.val, 1] := by decide +kernel
theorem index_5 : ∀ t : Fin cfg0.N, (cfg0.win 5).index t = ![0, 0] := by decide +kernel
theorem index_weights : ∀ t : Fin cfg0.N, (cfg0.win 6).index t = ![1, 0, 0] ∧ (cfg0.win 7).index t = ![3, 0, 0] ∧
    (cfg0.win 8).index t = ![1, 0, 0] := by decide +kernel
theorem index_10 : ∀ t : Fin cfg0.N, (cfg0.win 10).index t = ![t.val, 1] := by decide +kernel
theorem index_11 : ∀ t : Fin cfg0.N, (cfg0.win 11).index t = ![0, t.val, 1] := by decide +kernel

variable {m c}

theorem emb_0 (A : S4096x1024.Idx → EReal) (t : Fin cfg0.N) (q : Fin 512) (k : Fin 1024) :
    ((cfg0.win 0).blk t).view.read (Elt Ideal) A (ix2 q k) = A (ix2 (rowOf t q) k) := by
  refine congrArg A (funext fun a => Fin.ext ?_)
  match a with
  | 0 => blk_simp [(index_rows t).1]; rfl
  | 1 => blk_simp [(index_rows t).1]

theorem emb_1 (A : S4096x1024.Idx → EReal) (t : Fin cfg0.N) (q : Fin 512) (k : Fin 1024) :
    ((cfg0.win 1).blk t).view.read (Elt Ideal) A (ix2 q k) = A (ix2 (rowOf t q) k) := by
  refine congrArg A (funext fun a => Fin.ext ?_)
  match a with
  | 0 => blk_simp [(index_rows t).2.1]; rfl
  | 1 => blk_simp [(index_rows t).2.1]

theorem emb_2 (A : S4096x1024.Idx → EReal) (t : Fin cfg0.N) (q : Fin 512) (k : Fin 1024) :
    ((cfg0.win 2).blk t).view.read (Elt Ideal) A (ix2 q k) = A (ix2 (rowOf t q) k) := by
  refine congrArg A (funext fun a => Fin.ext ?_)
  match a with
  | 0 => blk_simp [(index_rows t).2.2.1]; rfl
  | 1 => blk_simp [(index_rows t).2.2.1]

theorem emb_3 (A : S4096x1024.Idx → EReal) (t : Fin cfg0.N) (q : Fin 512) (k : Fin 1024) :
    ((cfg0.win 3).blk t).view.read (Elt Ideal) A (ix2 q k) = A (ix2 (rowOf t q) k) := by
  refine congrArg A (funext fun a => Fin.ext ?_)
  match a with
  | 0 => blk_simp [(index_rows t).2.2.2.1]; rfl
  | 1 => blk_simp [(index_rows t).2.2.2.1]

theorem emb_4 (A : S2x4096x2816.Idx → EReal) (t : Fin cfg0.N) (n : Fin 2) (q : Fin 512) (k : Fin 1408) :
    ((cfg0.win 4).blk t).view.read (Elt Ideal) A (ix3 n q k) = A (ix3 n (rowOf t q) ⟨1408 + k.val, by omega⟩) := by
  refine congrArg A (funext fun a => Fin.ext ?_)
  match a with
  | 0 => blk_simp [index_4 t]
  | 1 => blk_simp [index_4 t]; rfl
  | 2 => blk_simp [index_4 t]

theorem emb_5 (A : S8x1024.Idx → EReal) (t : Fin cfg0.N) : ((cfg0.win 5).blk t).view.read (Elt Ideal) A = A := by
  refine funext fun y => congrArg A (funext fun a => Fin.ext ?_)
  match a with
  | 0 => blk_simp [index_5 t]
  | 1 => blk_simp [index_5 t]

theorem emb_6 (A : S4x1024x1408.Idx → EReal) (t : Fin cfg0.N) (d : Fin 1024) (k : Fin 1408) :
    ((cfg0.win 6).blk t).view.read (Elt Ideal) A (ix3 0 d k) = A (ix3 1 d k) := by
  refine congrArg A (funext fun a => Fin.ext ?_)
  match a with
  | 0 => blk_simp [(index_weights t).1]; rfl
  | 1 => blk_simp [(index_weights t).1]
  | 2 => blk_simp [(index_weights t).1]

theorem emb_7 (A : S4x1024x1408.Idx → EReal) (t : Fin cfg0.N) (d : Fin 1024) (k : Fin 1408) :
    ((cfg0.win 7).blk t).view.read (Elt Ideal) A (ix3 0 d k) = A (ix3 3 d k) := by
  refine congrArg A (funext fun a => Fin.ext ?_)
  match a with
  | 0 => blk_simp [(index_weights t).2.1]; rfl
  | 1 => blk_simp [(index_weights t).2.1]
  | 2 => blk_simp [(index_weights t).2.1]

theorem emb_8 (A : S2x1408x1024.Idx → EReal) (t : Fin cfg0.N) (k : Fin 1408) (j : Fin 1024) :
    ((cfg0.win 8).blk t).view.read (Elt Ideal) A (ix3 0 k j) = A (ix3 1 k j) := by
  refine congrArg A (funext fun a => Fin.ext ?_)
  match a with
  | 0 => blk_simp [(index_weights t).2.2]; rfl
  | 1 => blk_simp [(index_weights t).2.2]
  | 2 => blk_simp [(index_weights t).2.2]

/-! ## What the region leaves -/

variable (m c)

/-- The gradient by the sublayer's input. -/
def dxArr (y : S4096x1024.Idx) : EReal :=
  dxAt (hArr m c) (a0 m c) (a6 m c) (a7 m c) (a8 m c) (a4 m c) (a5 m c) (a1 m c) (a3 m c) (y 0) (y 1)

/-- These hidden units' values. -/
def actArr (y : S4096x1408.Idx) : EReal := unit (gAt (hArr m c) (a4 m c) (y 0) (y 1)) (upAt (hArr m c) (a4 m c) (y 0) (y 1))

/-- The gradients by their products: the gates', then the others'. -/
def daArr (y : S2x4096x1408.Idx) : EReal :=
  if (y 0).val = 0 then dgAt (hArr m c) (a7 m c) (a4 m c) (a5 m c) (y 1) (y 2) else dupAt (hArr m c) (a7 m c) (a4 m c) (a5 m c) (y 1) (y 2)

variable {m c}

theorem row_0 (t : Fin cfg0.N) (q : Fin 512) : row (iblk m c 0 t) q = row (a6 m c) (rowOf t q) :=
  funext fun k => (emb_0 (V m c main_arg6) t q k).trans (congrFun (V_main_arg6 m c) _)

theorem row_1 (t : Fin cfg0.N) (q : Fin 512) : row (iblk m c 1 t) q = row (a0 m c) (rowOf t q) :=
  funext fun k => (emb_1 (V m c main_arg0) t q k).trans (congrFun (V_main_arg0 m c) _)

theorem row_2 (t : Fin cfg0.N) (q : Fin 512) : row (iblk m c 2 t) q = row (a7 m c) (rowOf t q) :=
  funext fun k => (emb_2 (V m c main_v23) t q k).trans (congrFun (V_du m c) _)

theorem row_3 (t : Fin cfg0.N) (q : Fin 512) : row (iblk m c 3 t) q = row (a8 m c) (rowOf t q) :=
  funext fun k => (emb_3 (V m c main_arg8) t q k).trans (congrFun (V_main_arg8 m c) _)

theorem row_g (t : Fin cfg0.N) : row (iblk m c 5 t) 0 = fun k => a1 m c (ix1 k) :=
  funext fun k => (congrFun ((emb_5 (V m c main_v9) t).trans (V_vec m c)) _).trans (vecs_pre _ _ k)

theorem row_scale (t : Fin cfg0.N) : row (iblk m c 5 t) 3 = fun k => a3 m c (ix1 k) :=
  funext fun k => (congrFun ((emb_5 (V m c main_v9) t).trans (V_vec m c)) _).trans (vecs_scale _ _ k)

theorem gate_blk (t : Fin cfg0.N) (q : Fin 512) (k : Fin 1408) :
    (iblk m c 4 t : S2x512x1408.Idx → EReal) (ix3 0 q k) = gAt (hArr m c) (a4 m c) (rowOf t q) k :=
  ((emb_4 (V m c main_v20) t 0 q k).trans (congrFun (V_both m c) _)).trans (both_gate _ _ _ k)

theorem up_blk (t : Fin cfg0.N) (q : Fin 512) (k : Fin 1408) :
    (iblk m c 4 t : S2x512x1408.Idx → EReal) (ix3 1 q k) = upAt (hArr m c) (a4 m c) (rowOf t q) k :=
  ((emb_4 (V m c main_v20) t 1 q k).trans (congrFun (V_both m c) _)).trans (both_up _ _ _ k)

theorem in_gate (t : Fin cfg0.N) (d : Fin 1024) (k : Fin 1408) :
    (iblk m c 6 t : S1x1024x1408.Idx → EReal) (ix3 0 d k) = a4 m c (ix2 d ⟨1408 + k.val, by omega⟩) := by
  refine ((emb_6 (V m c main_v12) t d k).trans (congrFun (V_in m c) _)).trans
    ((Cert.Kernel4Ideal.Hand.inParts_at _ _).trans (congrArg (a4 m c) ?_))
  exact congrArg (ix2 d) (Fin.ext rfl)

theorem in_up (t : Fin cfg0.N) (d : Fin 1024) (k : Fin 1408) :
    (iblk m c 7 t : S1x1024x1408.Idx → EReal) (ix3 0 d k) = a4 m c (ix2 d ⟨4224 + k.val, by omega⟩) := by
  refine ((emb_7 (V m c main_v12) t d k).trans (congrFun (V_in m c) _)).trans
    ((Cert.Kernel4Ideal.Hand.inParts_at _ _).trans (congrArg (a4 m c) ?_))
  exact congrArg (ix2 d) (Fin.ext rfl)

theorem out_blk (t : Fin cfg0.N) (k : Fin 1408) (j : Fin 1024) :
    (iblk m c 8 t : S1x1408x1024.Idx → EReal) (ix3 0 k j) = a5 m c (ix2 ⟨1408 + k.val, by omega⟩ j) := by
  refine ((emb_8 (V m c main_v25) t k j).trans (congrFun (V_out m c) _)).trans
    ((Cert.Kernel4Ideal.Hand.outParts_at _ _).trans (congrArg (a5 m c) ?_))
  exact congrArg (ix2 · j) (Fin.ext rfl)

theorem dact_eq (t : Fin cfg0.N) (q : Fin 512) (k : Fin 1408) : dactBlk m c t (ix2 q k) = dactAt (a7 m c) (a5 m c) (rowOf t q) k := by
  show ∑ j, row (iblk m c 2 t) q j * (iblk m c 8 t : S1x1408x1024.Idx → EReal) (ix3 0 k j) = _
  refine Finset.sum_congr rfl fun j _ => ?_
  rw [row_2, out_blk]
  rfl

theorem dg_eq (t : Fin cfg0.N) (q : Fin 512) (k : Fin 1408) :
    gateGrad (dactBlk m c t (ix2 q k)) ((iblk m c 4 t : S2x512x1408.Idx → EReal) (ix3 0 q k)) ((iblk m c 4 t : S2x512x1408.Idx → EReal) (ix3 1 q k)) =
      dgAt (hArr m c) (a7 m c) (a4 m c) (a5 m c) (rowOf t q) k := by
  rw [dact_eq, gate_blk, up_blk]
  rfl

theorem dup_eq (t : Fin cfg0.N) (q : Fin 512) (k : Fin 1408) :
    upGrad (dactBlk m c t (ix2 q k)) ((iblk m c 4 t : S2x512x1408.Idx → EReal) (ix3 0 q k)) =
      dupAt (hArr m c) (a7 m c) (a4 m c) (a5 m c) (rowOf t q) k := by
  rw [dact_eq, gate_blk]
  rfl

theorem dh_eq (t : Fin cfg0.N) (q : Fin 512) : row (dhBlk m c t) q = dhAt (hArr m c) (a7 m c) (a8 m c) (a4 m c) (a5 m c) (rowOf t q) :=
  funext fun j => congrArg₂ (· + ·) (congrFun (row_3 t q) j)
    (congrArg₂ (· + ·) (Finset.sum_congr rfl fun k _ => congrArg₂ (· * ·) (dg_eq t q k) (in_gate t j k))
      (Finset.sum_congr rfl fun k _ => congrArg₂ (· * ·) (dup_eq t q k) (in_up t j k)))

theorem dx_eq (t : Fin cfg0.N) (q : Fin 512) (k : Fin 1024) : dxBlk m c t (ix2 q k) = dxArr m c (ix2 (rowOf t q) k) := by
  refine congrArg₂ (· + ·) (congrFun (row_0 t q) k) ?_
  show duRow (row (dhBlk m c t) q) (row (iblk m c 1 t) q) (row (iblk m c 5 t) 0) (row (iblk m c 5 t) 3) k = _
  rw [dh_eq, row_1, row_g, row_scale]
  rfl

theorem act_eq (t : Fin cfg0.N) (q : Fin 512) (k : Fin 1408) :
    unit ((iblk m c 4 t : S2x512x1408.Idx → EReal) (ix3 0 q k)) ((iblk m c 4 t : S2x512x1408.Idx → EReal) (ix3 1 q k)) =
      actArr m c (ix2 (rowOf t q) k) :=
  congrArg₂ unit (gate_blk t q k) (up_blk t q k)

theorem sum_points (f : Fin 4096 → EReal) : ∑ t : Fin cfg0.N, ∑ q : Fin 512, f (rowOf t q) = ∑ i, f i :=
  Cert.Kernel2Ideal.Hand.sum_points f

/-- The last point. -/
def lastPt : Fin cfg0.N := ⟨7, Nat.lt_of_lt_of_eq (by decide : 7 < 8) N_0.symm⟩

/-- A row that starts from zero and takes a point's part each time ends as the sum of the parts. -/
theorem outs_last (r : Fin 8) (step : Fin cfg0.N → Fin 1024 → EReal) (f : Fin 4096 → Fin 1024 → EReal)
    (first : ∀ t : Fin cfg0.N, t.val % 8 = 0 → ∀ j, (outsAt0 (F := Ideal) m c t.val t.isLt).2.2.2 (ix2 r j) = 0 + step t j)
    (next : ∀ t : Fin cfg0.N, ¬t.val % 8 = 0 → ∀ j, (outsAt0 (F := Ideal) m c t.val t.isLt).2.2.2 (ix2 r j) =
      (outsAt0 (F := Ideal) m c (t.val - 1) (by omega)).2.2.2 (ix2 r j) + step t j)
    (parts : ∀ t j, step t j = ∑ q, f (rowOf t q) j) (j : Fin 1024) :
    (outsAt0 (F := Ideal) m c lastPt.val lastPt.isLt).2.2.2 (ix2 r j) = ∑ i, f i j := by
  refine (Pipeline.eq_sum_fin_of_reset_step_apply_last (fun n hn j => (outsAt0 (F := Ideal) m c n hn).2.2.2 (ix2 r j)) 8 (fun _ => (0 : EReal))
    (fun t j => step t j) (fun t h i => first t h i) (fun t h i => next t h i) N_0.le lastPt N_0.symm j).trans ?_
  rw [zero_add, ← sum_points]
  exact Finset.sum_congr rfl fun t _ => parts t j

theorem outs_dshift_last (j : Fin 1024) : (outsAt0 (F := Ideal) m c lastPt.val lastPt.isLt).2.2.2 (ix2 0 j) =
    dshiftAt (hArr m c) (a7 m c) (a8 m c) (a4 m c) (a5 m c) j :=
  outs_last 0 (dshiftStep m c) _ (outs_dshift_first m c) (outs_dshift_next m c)
    (fun t j => Finset.sum_congr rfl fun q _ => congrFun (dh_eq t q) j) j

theorem outs_dscale_last (j : Fin 1024) : (outsAt0 (F := Ideal) m c lastPt.val lastPt.isLt).2.2.2 (ix2 1 j) =
    dscaleAt (hArr m c) (a0 m c) (a7 m c) (a8 m c) (a4 m c) (a5 m c) (a1 m c) j := by
  refine outs_last 1 (dscaleStep m c) (fun i j => Cert.Proof.Post.dgateRow (dhAt (hArr m c) (a7 m c) (a8 m c) (a4 m c) (a5 m c) i)
    (row (a0 m c) i) (fun k => a1 m c (ix1 k)) j) (outs_dscale_first m c) (outs_dscale_next m c) (fun t j => ?_) j
  unfold dscaleStep
  refine Finset.sum_congr rfl fun q _ => ?_
  rw [dh_eq, row_1, row_g]

theorem outs_dpre_last (j : Fin 1024) : (outsAt0 (F := Ideal) m c lastPt.val lastPt.isLt).2.2.2 (ix2 3 j) =
    dpreAt (hArr m c) (a0 m c) (a7 m c) (a8 m c) (a4 m c) (a5 m c) (a3 m c) j := by
  refine outs_last 3 (dpreStep m c) (fun i j => Cert.Proof.Post.dpostRow (dhAt (hArr m c) (a7 m c) (a8 m c) (a4 m c) (a5 m c) i)
    (row (a0 m c) i) (fun k => a3 m c (ix1 k)) j) (outs_dpre_first m c) (outs_dpre_next m c) (fun t j => ?_) j
  unfold dpreStep
  refine Finset.sum_congr rfl fun q _ => ?_
  rw [dh_eq, row_1, row_scale]

theorem arr_dx : (dats (F := Ideal) m 0 c).arrAt 9 cfg0.N = dxArr m c := by
  refine (dats m 0 c).arrAt_eq_of_covers 9 _ (by decide +kernel) fun t hf y => ?_
  blk_simp
  rw [after0_9]
  have e : y = ix2 (y 0) (y 1) := ValueIdx.eq_ix2 y
  refine (outs_dx m c t y).trans ((congrArg (dxBlk m c t) e).trans ((dx_eq t (y 0) (y 1)).trans (congrArg (dxArr m c) (funext fun a => Fin.ext ?_))))
  match a with
  | 0 => blk_simp [(index_rows t).2.2.2.2]; rfl
  | 1 => blk_simp [(index_rows t).2.2.2.2]

/-- A column of the second half, from the half's start. -/
def fromHalf {n : Nat} (j : Fin n) (h : n = 2816) : Fin 1408 := ⟨j.val - 1408, by omega⟩

variable (m c) in
/-- The whole array: on the second half of the columns what the region writes, the rest as found. -/
def actFull (j : S4096x2816.Idx) : EReal :=
  if 1408 ≤ (j 1).val then actArr m c (ix2 (j 0) (fromHalf (j 1) rfl)) else (V m c main_v26_1 : S4096x2816.Idx → EReal) j

theorem actFull_rest {j : S4096x2816.Idx} (h : ¬1408 ≤ (j 1).val) : actFull m c j = (V m c main_v26_1 : S4096x2816.Idx → EReal) j := if_neg h

/-- The units' values on the second half of the columns. -/
theorem arr_act (y : S4096x1408.Idx) :
    ((dats (F := Ideal) m 0 c).arrAt 10 cfg0.N : S4096x2816.Idx → EReal)
      (ix2 (y 0) ⟨1408 + (y 1).val, Nat.add_lt_add_left (y 1).isLt 1408⟩) = actArr m c y := by
  have e : (dats (F := Ideal) m 0 c).arrAt 10 cfg0.N = actFull m c := by
    refine (dats m 0 c).arrAt_eq_of_coversWhere_of_agree 10 _ (fun β => 1 ≤ β 1) (by decide +kernel) (fun t hf y => ?_) (fun j hj => ?_)
    · blk_simp
      rw [after0_10]
      refine (outs_act m c t y).trans ((act_eq t (y 0) (y 1)).trans ?_)
      refine Eq.trans ?_ (if_pos (by blk_simp [index_10 t]; omega)).symm
      refine congrArg (actArr m c) (funext fun a => Fin.ext ?_)
      match a with
      | 0 => blk_simp [index_10 t]; rfl
      | 1 => unfold fromHalf; blk_simp [index_10 t]; exact (Nat.add_sub_cancel_left _ _).symm
    · blk_simp [Pipeline.Window.cell_apply] at hj
      have h : ¬1408 ≤ (j 1).val := by omega
      exact (actFull_rest h).symm
  rw [e]
  refine (if_pos (Nat.le_add_right _ _)).trans (congrArg (actArr m c) (Eq.trans ?_ (ValueIdx.eq_ix2 y).symm))
  exact congrArg (ix2 (y 0)) (Fin.ext (Nat.add_sub_cancel_left _ _))

variable (m c) in
/-- The whole array: on the second half of the columns what the region writes, the rest as found. -/
def daFull (j : S2x4096x2816.Idx) : EReal :=
  if 1408 ≤ (j 2).val then daArr m c (ix3 (j 0) (j 1) (fromHalf (j 2) rfl)) else (V m c main_v26_2 : S2x4096x2816.Idx → EReal) j

theorem daFull_rest {j : S2x4096x2816.Idx} (h : ¬1408 ≤ (j 2).val) : daFull m c j = (V m c main_v26_2 : S2x4096x2816.Idx → EReal) j := if_neg h

/-- The gradients by their products on the second half of the columns. -/
theorem arr_da (y : S2x4096x1408.Idx) :
    ((dats (F := Ideal) m 0 c).arrAt 11 cfg0.N : S2x4096x2816.Idx → EReal)
      (ix3 (y 0) (y 1) ⟨1408 + (y 2).val, Nat.add_lt_add_left (y 2).isLt 1408⟩) = daArr m c y := by
  have e : (dats (F := Ideal) m 0 c).arrAt 11 cfg0.N = daFull m c := by
    refine (dats m 0 c).arrAt_eq_of_coversWhere_of_agree 11 _ (fun β => 1 ≤ β 2) (by decide +kernel) (fun t hf y => ?_) (fun j hj => ?_)
    · blk_simp
      rw [after0_11]
      refine (outs_da m c t y).trans ((if_congr Iff.rfl (dg_eq t (y 1) (y 2)) (dup_eq t (y 1) (y 2))).trans ?_)
      refine Eq.trans ?_ (if_pos (by blk_simp [index_11 t]; omega)).symm
      refine congrArg (daArr m c) (a₁ := ix3 (y 0) (rowOf t (y 1)) (y 2)) (funext fun a => Fin.ext ?_)
      match a with
      | 0 => blk_simp [index_11 t]
      | 1 => blk_simp [index_11 t]; rfl
      | 2 => unfold fromHalf; blk_simp [index_11 t]; exact (Nat.add_sub_cancel_left _ _).symm
    · blk_simp [Pipeline.Window.cell_apply] at hj
      have h : ¬1408 ≤ (j 2).val := by omega
      exact (daFull_rest h).symm
  rw [e]
  refine (if_pos (Nat.le_add_right _ _)).trans (congrArg (daArr m c) (Eq.trans ?_ (ValueIdx.eq_ix3 y).symm))
  exact congrArg (ix3 (y 0) (y 1)) (Fin.ext (Nat.add_sub_cancel_left _ _))

/-- The accumulated rows are those of the last point. -/
theorem arr_vec : (dats (F := Ideal) m 0 c).arrAt 12 cfg0.N = (outsAt0 (F := Ideal) m c lastPt.val lastPt.isLt).2.2.2 := by
  refine (dats m 0 c).arrAt_eq_of_after_last 12 lastPt (by decide +kernel) _ fun j => ?_
  blk_simp
  rw [after0_12]

end Cert.Kernel6Ideal.Hand

end
-- ==== Proof.BackResults.lean ====
/- The results of the gradient through a gated layer's remaining hidden units, from the arguments. -/
module

public import proofs.«01_k».proof.Proof.BackArrays
public import Idealize.ShloMosaic.Lib.Pipeline.FrameSuffix

@[expose] public section

set_option maxRecDepth 16384

noncomputable section

namespace Cert.Kernel6Ideal.Hand

open Cert.Kernel6Ideal Cert.Kernel6Ideal.Gen Idealize.ShloMosaic Idealize.ShloMosaic.TcCoe Idealize.SL.Sem Idealize.ShloMosaic.StableHlo
open Cert.Proof.Back

section Slices

/-- The second half of the columns, and one row of the table of vectors. -/
def half2 (A : S4096x2816.Idx → EReal) : S4096x1408.Idx → EReal := extractStridedSlice S4096x1408 ![0, 1408] A slices_S4096x2816_S4096x1408_0_1408
def half3 (A : S2x4096x2816.Idx → EReal) : S2x4096x1408.Idx → EReal :=
  extractStridedSlice S2x4096x1408 ![0, 0, 1408] A slices_S2x4096x2816_S2x4096x1408_0_0_1408
def row0 (A : S8x1024.Idx → EReal) : S1024.Idx → EReal :=
  shapeCast S1024 (extractStridedSlice S1x1024 ![0, 0] A slices_S8x1024_S1x1024_0_0) shapeCasts_S1x1024_S1024
def row1 (A : S8x1024.Idx → EReal) : S1024.Idx → EReal :=
  shapeCast S1024 (extractStridedSlice S1x1024 ![1, 0] A slices_S8x1024_S1x1024_1_0) shapeCasts_S1x1024_S1024
def row3 (A : S8x1024.Idx → EReal) : S1024.Idx → EReal :=
  shapeCast S1024 (extractStridedSlice S1x1024 ![3, 0] A slices_S8x1024_S1x1024_3_0) shapeCasts_S1x1024_S1024

theorem half2_at (A) (y : S4096x1408.Idx) : half2 A y = A (ix2 (y 0) ⟨1408 + (y 1).val, Nat.add_lt_add_left (y 1).isLt 1408⟩) := by
  unfold half2
  pointwise

theorem half3_at (A) (y : S2x4096x1408.Idx) : half3 A y = A (ix3 (y 0) (y 1) ⟨1408 + (y 2).val, Nat.add_lt_add_left (y 2).isLt 1408⟩) := by
  unfold half3
  pointwise

theorem row0_at (A) (i : S1024.Idx) : row0 A i = A (ix2 0 (i 0)) := by
  unfold row0
  pointwise

theorem row1_at (A) (i : S1024.Idx) : row1 A i = A (ix2 1 (i 0)) := by
  unfold row1
  pointwise

theorem row3_at (A) (i : S1024.Idx) : row3 A i = A (ix2 3 (i 0)) := by
  unfold row3
  pointwise

end Slices

/-- What the host makes of what the region leaves. -/
structure Tail (W W' : Valuation τ sig (Elt Ideal)) : Prop where
  act : (W' (Proc.devRef .tc main_v27) : S4096x1408.Idx → EReal) = half2 (W (Proc.devRef .tc main_v26_1))
  da : (W' (Proc.devRef .tc main_v28) : S2x4096x1408.Idx → EReal) = half3 (W (Proc.devRef .tc main_v26_2))
  dshift : (W' (Proc.devRef .tc main_v30) : S1024.Idx → EReal) = row0 (W (Proc.devRef .tc main_v26_3))
  dscale : (W' (Proc.devRef .tc main_v32) : S1024.Idx → EReal) = row1 (W (Proc.devRef .tc main_v26_3))
  dpre : (W' (Proc.devRef .tc main_v34) : S1024.Idx → EReal) = row3 (W (Proc.devRef .tc main_v26_3))

theorem tail (W : Valuation τ sig (Elt Ideal)) : Tail W (StableHlo.after (List.flatten [hostOps1]) W) := by
  simp only [List.flatten_cons, List.flatten_nil, List.append_nil, hostOps1, List.cons_append, List.nil_append]
  constructor
  all_goals
    after_results_simp
    rfl

variable (m : (ℓ : Loc nD τ sig) → Buf (Elt Ideal) ℓ) (c : Dev nD)

/-- What the region leaves. -/
def exitV : Valuation τ sig (Elt Ideal) :=
  Pipeline.withArrays cfg0.spec c (V0 m c) fun w => (dats (F := Ideal) m 0 c).arrAt w cfg0.N

theorem exitV_act : exitV m c (Proc.devRef .tc main_v26_1) = (dats (F := Ideal) m 0 c).arrAt 10 cfg0.N :=
  (dats (F := Ideal) m 0 c).withArrays_arrAt sharedIn0 (V0 m c) (A_eq m c) 10

theorem exitV_da : exitV m c (Proc.devRef .tc main_v26_2) = (dats (F := Ideal) m 0 c).arrAt 11 cfg0.N :=
  (dats (F := Ideal) m 0 c).withArrays_arrAt sharedIn0 (V0 m c) (A_eq m c) 11

theorem exitV_vec : exitV m c (Proc.devRef .tc main_v26_3) = (outsAt0 (F := Ideal) m c lastPt.val lastPt.isLt).2.2.2 :=
  ((dats (F := Ideal) m 0 c).withArrays_arrAt sharedIn0 (V0 m c) (A_eq m c) 12).trans arr_vec

theorem res_act : StableHlo.after (List.flatten [hostOps1]) (exitV m c) (Proc.devRef .tc main_v27) = actArr m c := by
  refine (tail _).act.trans ?_
  rw [exitV_act]
  exact funext fun y => (half2_at _ y).trans (arr_act y)

theorem res_da : StableHlo.after (List.flatten [hostOps1]) (exitV m c) (Proc.devRef .tc main_v28) = daArr m c := by
  refine (tail _).da.trans ?_
  rw [exitV_da]
  exact funext fun y => (half3_at _ y).trans (arr_da y)

/-- The gradients by the norm's shift, by its scale and by its weight. -/
def dshiftRes (i : S1024.Idx) : EReal := dshiftAt (hArr m c) (a7 m c) (a8 m c) (a4 m c) (a5 m c) (i 0)
def dscaleRes (i : S1024.Idx) : EReal := dscaleAt (hArr m c) (a0 m c) (a7 m c) (a8 m c) (a4 m c) (a5 m c) (a1 m c) (i 0)
def dpreRes (i : S1024.Idx) : EReal := dpreAt (hArr m c) (a0 m c) (a7 m c) (a8 m c) (a4 m c) (a5 m c) (a3 m c) (i 0)

theorem res_dshift : StableHlo.after (List.flatten [hostOps1]) (exitV m c) (Proc.devRef .tc main_v30) = dshiftRes m c := by
  refine (tail _).dshift.trans ?_
  rw [exitV_vec]
  exact funext fun i => (row0_at _ i).trans (outs_dshift_last (i 0))

theorem res_dscale : StableHlo.after (List.flatten [hostOps1]) (exitV m c) (Proc.devRef .tc main_v32) = dscaleRes m c := by
  refine (tail _).dscale.trans ?_
  rw [exitV_vec]
  exact funext fun i => (row1_at _ i).trans (outs_dscale_last (i 0))

theorem res_dpre : StableHlo.after (List.flatten [hostOps1]) (exitV m c) (Proc.devRef .tc main_v34) = dpreRes m c := by
  refine (tail _).dpre.trans ?_
  rw [exitV_vec]
  exact funext fun i => (row3_at _ i).trans (outs_dpre_last (i 0))

end Cert.Kernel6Ideal.Hand

end
-- ==== Proof.BackReference.lean ====
/- The reference's six results of the gradient through the remaining hidden units and the norm before the layer, read at an index. -/
module

public import proofs.«01_k».proof.Proof.BackRows
public import proofs.«01_k».proof.Proof.Gen.Reference6Ideal.Read
public import Idealize.ShloMosaic.Lib.Pointwise

@[expose] public section

noncomputable section

namespace Cert.Reference6Ideal.Hand

open Cert.Reference6Ideal Cert.Reference6Ideal.Gen Cert.Reference6Ideal.Read Cert.Proof Cert.Proof.Back
open Cert.Proof.Hidden hiding dactAt gAt upAt dgAt dupAt dhAt
open Cert.Proof.Post (ms rinv uhat dnormRef throughMean duRef duRow duRow_eq dgateRow dpostRow)
open Cert.Proof.Loss (unit)
open Idealize.ShloMosaic hiding ix1 ix2 ix3 eq_ix1 eq_ix2
open Idealize.ShloMosaic.ValueIdx Idealize.ShloMosaic.TcCoe Idealize.ShloMosaic.StableHlo

variable (x0 : (⟨S4096x1024, .f32⟩ : BufTy).Contents (Elt Ideal)) (x1 x2 x3 : (⟨S1024, .f32⟩ : BufTy).Contents (Elt Ideal))
  (x4 : (⟨S1024x5632, .f32⟩ : BufTy).Contents (Elt Ideal)) (x5 : (⟨S2816x1024, .f32⟩ : BufTy).Contents (Elt Ideal))
  (x6 x7 x8 : (⟨S4096x1024, .f32⟩ : BufTy).Contents (Elt Ideal))

/-- The layer's input. -/
abbrev hid : S4096x1024.Idx → EReal := val_main_v26 (F := Ideal) x0 x1 x2 x3

/-- A row of the gradient by it. -/
abbrev dhRow (i : Fin 4096) (k : Fin 1024) : EReal := val_main_v39 (F := Ideal) x0 x1 x2 x3 x4 x5 x7 x8 (ix2 i k)

theorem v9_at (y : S4096x1.Idx) : val_main_v9 (F := Ideal) x0 y = ms fun k => x0 (ix2 (y 0) k) := by
  unfold val_main_v9 val_main_v8 val_main_cst_1 val_main_v7 val_main_v6 val_main_cst_0 val_main_v5 val_main_v4 val_main_cst val_main_v3
  pointwise
  rfl

theorem v10_at (y : S4096x1.Idx) : val_main_v10 (F := Ideal) x0 y = Ideal.rsqrt (ms fun k => x0 (ix2 (y 0) k)) := by
  unfold val_main_v10
  pointwise
  rw [v9_at]

theorem v15_at (y : S4096x1024.Idx) : val_main_v15 (F := Ideal) x0 y = uhat (fun k => x0 (ix2 (y 0) k)) (y 1) := by
  unfold val_main_v15 val_main_v14
  pointwise
  rw [v10_at]
  exact congrArg (fun z => x0 z * _) (eq_ix2 y)

theorem v18_at (y : S4096x1024.Idx) : val_main_v18 (F := Ideal) x0 x1 y = uhat (fun k => x0 (ix2 (y 0) k)) (y 1) * x1 (ix1 (y 1)) := by
  unfold val_main_v18 val_main_v17 val_main_v16
  pointwise
  rw [v15_at]
  rfl

theorem v26_at (y : S4096x1024.Idx) : val_main_v26 (F := Ideal) x0 x1 x2 x3 y =
    uhat (fun k => x0 (ix2 (y 0) k)) (y 1) * x1 (ix1 (y 1)) * (1 + x3 (ix1 (y 1))) + x2 (ix1 (y 1)) := by
  unfold val_main_v26 val_main_v25 val_main_v24 val_main_v23 val_main_v22 val_main_v21 val_main_v20 val_main_v19 val_main_cst_3
  pointwise
  rw [v18_at]
  rfl

theorem v27_at (y : S4096x1408.Idx) : val_main_v27 (F := Ideal) x0 x1 x2 x3 x4 y = gAt (hid x0 x1 x2 x3) x4 (y 0) (y 1) := by
  unfold val_main_v27 val_main_v0 hid
  generalize val_main_v26 (F := Ideal) x0 x1 x2 x3 = h
  pointwise
  rfl

theorem v28_at (y : S4096x1408.Idx) : val_main_v28 (F := Ideal) x0 x1 x2 x3 x4 y = upAt (hid x0 x1 x2 x3) x4 (y 0) (y 1) := by
  unfold val_main_v28 val_main_v1 hid
  generalize val_main_v26 (F := Ideal) x0 x1 x2 x3 = h
  pointwise
  rfl

theorem v29_2_at (y : S4096x1408.Idx) :
    val_main_v29_2 (F := Ideal) x0 x1 x2 x3 x4 y = Ideal.logistic (gAt (hid x0 x1 x2 x3) x4 (y 0) (y 1)) := by
  unfold val_main_v29_2 val_main_call0_v4 val_main_call0_cst_0 val_main_call0_v3 val_main_call0_v2 val_main_call0_cst val_main_call0_v1
    val_main_call0_v0
  pointwise
  rw [v27_at]
  rfl

theorem v29_0_at (y : S4096x1408.Idx) : val_main_v29_0 (F := Ideal) x0 x1 x2 x3 x4 y =
    gAt (hid x0 x1 x2 x3) x4 (y 0) (y 1) * Ideal.logistic (gAt (hid x0 x1 x2 x3) x4 (y 0) (y 1)) := by
  unfold val_main_v29_0
  pointwise
  rw [v27_at, v29_2_at]

theorem v70_at (y : S4096x1408.Idx) : val_main_v70 (F := Ideal) x0 x1 x2 x3 x4 y =
    unit (gAt (hid x0 x1 x2 x3) x4 (y 0) (y 1)) (upAt (hid x0 x1 x2 x3) x4 (y 0) (y 1)) := by
  unfold val_main_v70 val_main_v30
  pointwise
  rw [v29_0_at, v28_at]
  rfl

theorem v32_at (y : S4096x1408.Idx) : val_main_v32 (F := Ideal) x5 x7 y = dactAt x7 x5 (y 0) (y 1) := by
  unfold val_main_v32 val_main_v2
  pointwise
  rfl

theorem v33_at (y : S4096x1408.Idx) :
    val_main_v33 (F := Ideal) x0 x1 x2 x3 x4 x5 x7 y = dupAt (hid x0 x1 x2 x3) x7 x4 x5 (y 0) (y 1) := by
  unfold val_main_v33
  pointwise
  rw [v29_0_at, v32_at]
  exact mul_comm _ _

theorem v47_at (y : S4096x1024.Idx) : val_main_v47 (F := Ideal) x0 x1 x2 x3 x4 x5 x7 x8 y =
    dhRow x0 x1 x2 x3 x4 x5 x7 x8 (y 0) (y 1) * (1 + x3 (ix1 (y 1))) := by
  unfold val_main_v47 val_main_v46 val_main_v21 val_main_v20 val_main_v19 val_main_cst_3 dhRow
  generalize val_main_v39 (F := Ideal) x0 x1 x2 x3 x4 x5 x7 x8 = d
  pointwise
  exact congrArg (fun z => d z * _) (eq_ix2 y)

theorem v53_at (y : S4096x1024.Idx) : val_main_v53 (F := Ideal) x0 x1 x2 x3 x4 x5 x7 x8 y =
    dnormRef (dhRow x0 x1 x2 x3 x4 x5 x7 x8 (y 0)) (fun k => x1 (ix1 k)) (fun k => x3 (ix1 k)) (y 1) := by
  unfold val_main_v53 val_main_v52 val_main_v16
  pointwise
  rw [v47_at]
  exact congrArg (· * _) (mul_comm _ _)

theorem v63_at (y : S4096.Idx) : val_main_v63 (F := Ideal) x0 x1 x2 x3 x4 x5 x7 x8 y =
    throughMean (dhRow x0 x1 x2 x3 x4 x5 x7 x8 (y 0)) (fun k => x0 (ix2 (y 0) k)) (fun k => x1 (ix1 k)) (fun k => x3 (ix1 k)) := by
  unfold val_main_v63 val_main_cst_12 val_main_v62 val_main_v61 val_main_cst_11 val_main_v60 val_main_v57 val_main_v56 val_main_cst_10
    val_main_v55 val_main_v13 val_main_v12 val_main_cst_2 val_main_v11
  pointwise
  simp only [v9_at, v10_at, v53_at]
  exact Fin.sum_univ_one _

theorem v68_at (y : S4096x1024.Idx) : val_main_v68 (F := Ideal) x0 x1 x2 x3 x4 x5 x7 x8 y =
    duRef (dhRow x0 x1 x2 x3 x4 x5 x7 x8 (y 0)) (fun k => x0 (ix2 (y 0) k)) (fun k => x1 (ix1 k)) (fun k => x3 (ix1 k)) (y 1) := by
  unfold val_main_v68 val_main_v67 val_main_v66 val_main_v65 val_main_v64 val_main_v59 val_main_v58
  pointwise
  simp only [v10_at, v53_at, v63_at]
  rw [show x0 y = x0 (ix2 (y 0) (y 1)) from congrArg x0 (eq_ix2 y)]
  rfl

theorem v42_at (y : S1024.Idx) :
    val_main_v42 (F := Ideal) x0 x1 x2 x3 x4 x5 x7 x8 y = ∑ i, dhRow x0 x1 x2 x3 x4 x5 x7 x8 i (y 0) := by
  unfold val_main_v42 val_main_cst_5 val_main_v41 val_main_v40 val_main_cst_4 dhRow
  generalize val_main_v39 (F := Ideal) x0 x1 x2 x3 x4 x5 x7 x8 = d
  pointwise
  exact Fin.sum_univ_one _

theorem v48_at (y : S1024.Idx) : val_main_v48 (F := Ideal) x0 x1 x2 x3 x4 x5 x7 x8 y =
    ∑ i, dgateRow (dhRow x0 x1 x2 x3 x4 x5 x7 x8 i) (fun k => x0 (ix2 i k)) (fun k => x1 (ix1 k)) (y 0) := by
  unfold val_main_v48 val_main_cst_7 val_main_v45 val_main_v44 val_main_cst_6 val_main_v43 dhRow
  generalize val_main_v39 (F := Ideal) x0 x1 x2 x3 x4 x5 x7 x8 = d
  pointwise
  simp only [v18_at]
  exact (Fin.sum_univ_one _).trans (Finset.sum_congr rfl fun i _ => mul_comm _ _)

theorem v54_at (y : S1024.Idx) : val_main_v54 (F := Ideal) x0 x1 x2 x3 x4 x5 x7 x8 y =
    ∑ i, dpostRow (dhRow x0 x1 x2 x3 x4 x5 x7 x8 i) (fun k => x0 (ix2 i k)) (fun k => x3 (ix1 k)) (y 0) := by
  unfold val_main_v54 val_main_cst_9 val_main_v51 val_main_v50 val_main_cst_8 val_main_v49
  pointwise
  simp only [v15_at, v47_at]
  exact (Fin.sum_univ_one _).trans (Finset.sum_congr rfl fun i _ => mul_comm _ _)

/-! ## Of real arguments -/

/-- A unit's gradients are real where what they are made of is. -/
theorem gateGrad_real (e g u : ℝ) : ∃ r : ℝ, gateGrad (e : EReal) g u = r := by
  obtain ⟨s, hs⟩ := logistic_real g
  unfold gateGrad
  rw [hs, ← EReal.coe_one]
  norm_cast
  exact ⟨_, rfl⟩

theorem upGrad_real (e g : ℝ) : ∃ r : ℝ, upGrad (e : EReal) g = r := by
  obtain ⟨s, hs⟩ := logistic_real g
  unfold upGrad
  rw [hs]
  norm_cast
  exact ⟨_, rfl⟩

section Real

variable {x0 x1 x2 x3 x4 x5 x6 x7 x8}
variable (f0 : AllReal x0) (f1 : AllReal x1) (f2 : AllReal x2) (f3 : AllReal x3) (f4 : AllReal x4) (f5 : AllReal x5)
  (f7 : AllReal x7) (f8 : AllReal x8)

theorem dact_real (f5 : AllReal x5) (f7 : AllReal x7) (i : Fin 4096) (k : Fin 1408) : ∃ r : ℝ, dactAt x7 x5 i k = r :=
  ⟨_, sum_mul_real (fun j => f7 _) fun j => f5 _⟩

include f0 f1 f2 f3

theorem hid_real (y : S4096x1024.Idx) : ∃ r : ℝ, hid x0 x1 x2 x3 y = r := by
  obtain ⟨R, hR⟩ : ∃ r : ℝ, rinv (fun k => x0 (ix2 (y 0) k)) = r := rinv_real fun k => ⟨_, f0 _⟩
  refine ⟨(x0 (ix2 (y 0) (y 1))).toReal * R * (x1 (ix1 (y 1))).toReal * (1 + (x3 (ix1 (y 1))).toReal) + (x2 (ix1 (y 1))).toReal, ?_⟩
  refine (v26_at x0 x1 x2 x3 y).trans ?_
  have e : uhat (fun k => x0 (ix2 (y 0) k)) (y 1) = ((x0 (ix2 (y 0) (y 1))).toReal * R : ℝ) := by
    rw [EReal.coe_mul, ← f0, ← hR]
    rfl
  rw [EReal.coe_add, EReal.coe_mul, EReal.coe_mul, EReal.coe_add, EReal.coe_one]
  exact congrArg₂ (· + ·) (congrArg₂ (· * ·) (congrArg₂ (· * ·) e (f1 _)) (congrArg (1 + ·) (f3 _))) (f2 _)

include f4

theorem sum_real (i : Fin 4096) (s : Fin 5632) : ∃ r : ℝ, ∑ d, hid x0 x1 x2 x3 (ix2 i d) * x4 (ix2 d s) = r := by
  choose h hh using hid_real f0 f1 f2 f3
  exact ⟨_, sum_mul_real (fun d => hh _) fun d => f4 _⟩

theorem g_real (i : Fin 4096) (k : Fin 1408) : ∃ r : ℝ, gAt (hid x0 x1 x2 x3) x4 i k = r := sum_real f0 f1 f2 f3 f4 i _

theorem up_real (i : Fin 4096) (k : Fin 1408) : ∃ r : ℝ, upAt (hid x0 x1 x2 x3) x4 i k = r := sum_real f0 f1 f2 f3 f4 i _

include f5 f7

theorem dg_real (i : Fin 4096) (k : Fin 1408) : ∃ r : ℝ, dgAt (hid x0 x1 x2 x3) x7 x4 x5 i k = r := by
  obtain ⟨e, he⟩ := dact_real f5 f7 i k
  obtain ⟨g, hg⟩ := g_real f0 f1 f2 f3 f4 i k
  obtain ⟨u, hu⟩ := up_real f0 f1 f2 f3 f4 i k
  unfold dgAt
  rw [he, hg, hu]
  exact gateGrad_real e g u

theorem dup_real (i : Fin 4096) (k : Fin 1408) : ∃ r : ℝ, dupAt (hid x0 x1 x2 x3) x7 x4 x5 i k = r := by
  obtain ⟨e, he⟩ := dact_real f5 f7 i k
  obtain ⟨g, hg⟩ := g_real f0 f1 f2 f3 f4 i k
  unfold dupAt
  rw [he, hg]
  exact upGrad_real e g

theorem v35_at (y : S4096x1408.Idx) :
    val_main_v35 (F := Ideal) x0 x1 x2 x3 x4 x5 x7 y = dgAt (hid x0 x1 x2 x3) x7 x4 x5 (y 0) (y 1) := by
  refine Eq.trans ?_ (gateGrad_eq (dact_real f5 f7 (y 0) (y 1)) (g_real f0 f1 f2 f3 f4 (y 0) (y 1)) (up_real f0 f1 f2 f3 f4 (y 0) (y 1)))
  unfold val_main_v35 val_main_call1_v2 val_main_call1_v1 val_main_call1_v0 val_main_v34 val_main_v29_1 val_main_call0_v7 val_main_call0_v6
    val_main_call0_cst_1
  pointwise
  rw [v32_at, v27_at, v28_at, v29_2_at]
  rfl

theorem v74_at (y : S2x4096x1408.Idx) : val_main_v74 (F := Ideal) x0 x1 x2 x3 x4 x5 x7 y =
    if (y 0).val = 0 then dgAt (hid x0 x1 x2 x3) x7 x4 x5 (y 1) (y 2) else dupAt (hid x0 x1 x2 x3) x7 x4 x5 (y 1) (y 2) := by
  have e3 := v33_at x0 x1 x2 x3 x4 x5 x7
  have e5 := v35_at f0 f1 f2 f3 f4 f5 f7
  unfold val_main_v74 val_main_v73 val_main_v72 val_main_v71
  generalize val_main_v33 (F := Ideal) x0 x1 x2 x3 x4 x5 x7 = p at *
  generalize val_main_v35 (F := Ideal) x0 x1 x2 x3 x4 x5 x7 = q at *
  pointwise
  by_cases e : (y 0).val < 1
  · exact (dif_pos e).trans ((e5 _).trans (if_pos (Nat.lt_one_iff.1 e)).symm)
  · exact (dif_neg e).trans ((e3 _).trans (if_neg fun h => e (Nat.lt_one_iff.2 h)).symm)

theorem v39_at (y : S4096x1024.Idx) :
    val_main_v39 (F := Ideal) x0 x1 x2 x3 x4 x5 x7 x8 y = dhAt (hid x0 x1 x2 x3) x7 x8 x4 x5 (y 0) (y 1) := by
  have e3 := v33_at x0 x1 x2 x3 x4 x5 x7
  have e5 := v35_at f0 f1 f2 f3 f4 f5 f7
  unfold val_main_v39 val_main_v38 val_main_v37 val_main_v36 val_main_v1 val_main_v0
  generalize val_main_v33 (F := Ideal) x0 x1 x2 x3 x4 x5 x7 = p at *
  generalize val_main_v35 (F := Ideal) x0 x1 x2 x3 x4 x5 x7 = q at *
  pointwise
  simp only [e3, e5]
  exact congrArg₂ (· + ·) (congrArg x8 (eq_ix2 y)) (add_comm _ _)

theorem dhRow_eq (i : Fin 4096) : dhRow x0 x1 x2 x3 x4 x5 x7 x8 i = dhAt (hid x0 x1 x2 x3) x7 x8 x4 x5 i :=
  funext fun k => v39_at f0 f1 f2 f3 f4 f5 f7 (ix2 i k)

theorem dshift_at (y : S1024.Idx) :
    val_main_v42 (F := Ideal) x0 x1 x2 x3 x4 x5 x7 x8 y = dshiftAt (hid x0 x1 x2 x3) x7 x8 x4 x5 (y 0) := by
  rw [v42_at]
  exact Finset.sum_congr rfl fun i _ => congrFun (dhRow_eq f0 f1 f2 f3 f4 f5 f7 i) (y 0)

theorem dscale_at (y : S1024.Idx) :
    val_main_v48 (F := Ideal) x0 x1 x2 x3 x4 x5 x7 x8 y = dscaleAt (hid x0 x1 x2 x3) x0 x7 x8 x4 x5 x1 (y 0) := by
  rw [v48_at]
  exact Finset.sum_congr rfl fun i _ => congrArg (fun d => dgateRow d _ _ (y 0)) (dhRow_eq f0 f1 f2 f3 f4 f5 f7 i)

theorem dpre_at (y : S1024.Idx) :
    val_main_v54 (F := Ideal) x0 x1 x2 x3 x4 x5 x7 x8 y = dpreAt (hid x0 x1 x2 x3) x0 x7 x8 x4 x5 x3 (y 0) := by
  rw [v54_at]
  exact Finset.sum_congr rfl fun i _ => congrArg (fun d => dpostRow d _ _ (y 0)) (dhRow_eq f0 f1 f2 f3 f4 f5 f7 i)

include f8

theorem dh_real (i : Fin 4096) (d : Fin 1024) : ∃ r : ℝ, dhAt (hid x0 x1 x2 x3) x7 x8 x4 x5 i d = r := by
  choose p hp using dg_real f0 f1 f2 f3 f4 f5 f7 i
  choose q hq using dup_real f0 f1 f2 f3 f4 f5 f7 i
  unfold dhAt
  rw [sum_mul_real hp fun k => f4 _, sum_mul_real hq fun k => f4 _, f8]
  norm_cast
  exact ⟨_, rfl⟩

theorem dx_at (x6) (y : S4096x1024.Idx) : val_main_v69 (F := Ideal) x0 x1 x2 x3 x4 x5 x6 x7 x8 y =
    dxAt (hid x0 x1 x2 x3) x0 x6 x7 x8 x4 x5 x1 x3 (y 0) (y 1) := by
  unfold val_main_v69
  pointwise
  refine congrArg₂ (· + ·) (congrArg x6 (eq_ix2 y)) ((v68_at x0 x1 x2 x3 x4 x5 x7 x8 y).trans ?_)
  exact (congrArg (fun d => duRef d _ _ _ (y 1)) (dhRow_eq f0 f1 f2 f3 f4 f5 f7 (y 0))).trans
    (duRow_eq (dh_real f0 f1 f2 f3 f4 f5 f7 f8 (y 0)) (fun k => ⟨_, f0 _⟩) (fun k => ⟨_, f1 _⟩) (fun k => ⟨_, f3 _⟩) (y 1))

end Real

end Cert.Reference6Ideal.Hand

end
-- ==== Proof.BackFinite.lean ====
/- What the precondition of the gradient through the remaining hidden units says: every argument but the first cotangent holds reals. -/
module

public import proofs.«01_k».proof.Proof.Finite
public import proofs.«01_k».proof.Proof.Gen.Pre_finite6

@[expose] public section

noncomputable section

namespace Cert.Pre_finite6.Hand

open Cert.Pre_finite6 Idealize.ShloMosaic Cert.Proof Cert.Pre_finite.Hand

theorem finite_of (x0 : FVec Ideal S4096x1024 .f32) (x1 x2 x3 : FVec Ideal S1024 .f32) (x4 : FVec Ideal S1024x5632 .f32)
    (x5 : FVec Ideal S2816x1024 .f32) (x6 x7 x8 : FVec Ideal S4096x1024 .f32) (j : S_.Idx)
    (h : fn (F := Ideal) x0 x1 x2 x3 x4 x5 x6 x7 x8 j = 1#1) :
    AllReal x0 ∧ AllReal x1 ∧ AllReal x2 ∧ AllReal x3 ∧ AllReal x4 ∧ AllReal x5 ∧ AllReal x7 ∧ AllReal x8 := by
  obtain ⟨h, h8⟩ := andi_split h
  obtain ⟨h, h7⟩ := andi_split h
  obtain ⟨h, h5⟩ := andi_split h
  obtain ⟨h, h4⟩ := andi_split h
  obtain ⟨h, h3⟩ := andi_split h
  obtain ⟨h, h2⟩ := andi_split h
  obtain ⟨h0, h1⟩ := andi_split h
  exact ⟨allReal_of x0 _ _ _ _ j h0, allReal_of x1 _ _ _ _ j h1, allReal_of x2 _ _ _ _ j h2, allReal_of x3 _ _ _ _ j h3,
    allReal_of x4 _ _ _ _ j h4, allReal_of x5 _ _ _ _ j h5, allReal_of x7 _ _ _ _ j h7, allReal_of x8 _ _ _ _ j h8⟩

end Cert.Pre_finite6.Hand

end
-- ==== Proof.BackEquation.lean ====
/- The arrays of the gradient through the remaining hidden units are the reference's results of the same arguments. -/
module

public import proofs.«01_k».proof.Proof.BackResults
public import proofs.«01_k».proof.Proof.BackReference
public import proofs.«01_k».proof.Proof.BackFinite

@[expose] public section

set_option maxRecDepth 16384

noncomputable section

namespace Cert.Reference6Ideal.Hand

open Cert.Reference6Ideal Cert.Reference6Ideal.Gen Cert.Reference6Ideal.Read Cert.Proof Cert.Kernel6Ideal.Hand
open Idealize.ShloMosaic Idealize.ShloMosaic.TcCoe

variable (m : (ℓ : Loc Cert.Kernel6Ideal.nD Cert.Kernel6Ideal.τ Cert.Kernel6Ideal.sig) → Buf (Elt Ideal) ℓ) (c : Dev Cert.Kernel6Ideal.nD)

/-- The reference's arguments are the kernel's, and all but the first cotangent real. -/
structure Same (m' : (ℓ : Loc nD τ sig) → Buf (Elt Ideal) ℓ) (c' : Dev nD) : Prop where
  e0 : m' (c'.tc.loc main_arg0) = a0 m c
  e1 : m' (c'.tc.loc main_arg1) = a1 m c
  e2 : m' (c'.tc.loc main_arg2) = a2 m c
  e3 : m' (c'.tc.loc main_arg3) = a3 m c
  e4 : m' (c'.tc.loc main_arg4) = a4 m c
  e5 : m' (c'.tc.loc main_arg5) = a5 m c
  e6 : m' (c'.tc.loc main_arg6) = a6 m c
  e7 : m' (c'.tc.loc main_arg7) = a7 m c
  e8 : m' (c'.tc.loc main_arg8) = a8 m c
  f0 : AllReal (a0 m c)
  f1 : AllReal (a1 m c)
  f2 : AllReal (a2 m c)
  f3 : AllReal (a3 m c)
  f4 : AllReal (a4 m c)
  f5 : AllReal (a5 m c)
  f7 : AllReal (a7 m c)
  f8 : AllReal (a8 m c)

variable {m c} {m' : (ℓ : Loc nD τ sig) → Buf (Elt Ideal) ℓ} {c' : Dev nD} (s : Same m c m' c')

include s

theorem dx_res : Cert.Reference6Ideal.Value.res_main_v69 m' c' = dxArr m c := by
  rw [val_main_v69_eq, s.e0, s.e1, s.e2, s.e3, s.e4, s.e5, s.e6, s.e7, s.e8]
  exact funext (dx_at s.f0 s.f1 s.f2 s.f3 s.f4 s.f5 s.f7 s.f8 _)

theorem act_res : Cert.Reference6Ideal.Value.res_main_v70 m' c' = actArr m c := by
  rw [val_main_v70_eq, s.e0, s.e1, s.e2, s.e3, s.e4]
  exact funext (v70_at _ _ _ _ _)

theorem da_res : Cert.Reference6Ideal.Value.res_main_v74 m' c' = daArr m c := by
  rw [val_main_v74_eq, s.e0, s.e1, s.e2, s.e3, s.e4, s.e5, s.e7]
  exact funext (v74_at s.f0 s.f1 s.f2 s.f3 s.f4 s.f5 s.f7)

theorem dshift_res : Cert.Reference6Ideal.Value.res_main_v42 m' c' = dshiftRes m c := by
  rw [val_main_v42_eq, s.e0, s.e1, s.e2, s.e3, s.e4, s.e5, s.e7, s.e8]
  exact funext (dshift_at s.f0 s.f1 s.f2 s.f3 s.f4 s.f5 s.f7)

theorem dscale_res : Cert.Reference6Ideal.Value.res_main_v48 m' c' = dscaleRes m c := by
  rw [val_main_v48_eq, s.e0, s.e1, s.e2, s.e3, s.e4, s.e5, s.e7, s.e8]
  exact funext (dscale_at s.f0 s.f1 s.f2 s.f3 s.f4 s.f5 s.f7)

theorem dpre_res : Cert.Reference6Ideal.Value.res_main_v54 m' c' = dpreRes m c := by
  rw [val_main_v54_eq, s.e0, s.e1, s.e2, s.e3, s.e4, s.e5, s.e7, s.e8]
  exact funext (dpre_at s.f0 s.f1 s.f2 s.f3 s.f4 s.f5 s.f7)

end Cert.Reference6Ideal.Hand

end
-- ==== Proof.FirstBlock.lean ====
/- One point of the grid before a gated layer's first hidden units: what it leaves in its blocks, row by row. -/
module

public import proofs.«01_k».proof.Proof.LossBlock
public import proofs.«01_k».proof.Proof.Gen.Kernel7Ideal.Frame

@[expose] public section

set_option maxRecDepth 16384

noncomputable section

namespace Cert.Proof.First

open Idealize.ShloMosaic

/-- A row normalized, weighted, scaled and shifted. -/
def normed (x g shift scale : Fin 1024 → EReal) (k : Fin 1024) : EReal := Post.uhat x k * g k * (1 + scale k) + shift k

end Cert.Proof.First

namespace Cert.Kernel7Ideal.Hand

open Cert.Kernel7Ideal Cert.Kernel7Ideal.Gen Idealize.ShloMosaic Idealize.ShloMosaic.TcCoe Idealize.SL.Sem Idealize.ShloMosaic.StableHlo
open Cert.Proof.First
open Cert.Proof.Loss (hidden unit)
open Cert.Kernel4Ideal.Hand (row proj)

variable (b0 : S512x1024.Idx → EReal) (b1 : S8x1024.Idx → EReal) (b2 b3 : S1x1024x1408.Idx → EReal) (b4 : S1x1408x1024.Idx → EReal)

/-- A row of the layer's input. -/
def hRow (q : Fin 512) : Fin 1024 → EReal := normed (row b0 q) (row b1 0) (row b1 2) (row b1 3)

theorem pay4_at (h h' h'') (i : S512x1024.Idx) :
    k0_pay4 (F := Ideal) b0 (View.ld (Val := Elt Ideal) (e' := .f32) b1 (Rect.unit (s := S8x1024) ![0, 0] ![1, 1024] h))
      (View.ld (Val := Elt Ideal) (e' := .f32) b1 (Rect.unit (s := S8x1024) ![3, 0] ![1, 1024] h'))
      (View.ld (Val := Elt Ideal) (e' := .f32) b1 (Rect.unit (s := S8x1024) ![2, 0] ![1, 1024] h'')) i = hRow b0 b1 (i 0) (i 1) := by
  unfold k0_pay4
  pointwise
  unfold hRow normed Cert.Proof.Post.uhat
  refine congrArg₂ (· + ·) (congrArg₂ (· * ·) (congrArg₂ (· * ·) (congrArg₂ (· * ·) (congrArg b0 (ValueIdx.eq_ix2 i)) ?_) rfl) rfl) rfl
  rfl

theorem pay5_at (h h' h'') (i : S512x1408.Idx) :
    k0_pay5 (F := Ideal) b0 (View.ld (Val := Elt Ideal) (e' := .f32) b1 (Rect.unit (s := S8x1024) ![0, 0] ![1, 1024] h))
      (View.ld (Val := Elt Ideal) (e' := .f32) b1 (Rect.unit (s := S8x1024) ![3, 0] ![1, 1024] h'))
      (View.ld (Val := Elt Ideal) (e' := .f32) b1 (Rect.unit (s := S8x1024) ![2, 0] ![1, 1024] h'')) b2 i = proj (hRow b0 b1 (i 0)) b2 (i 1) := by
  have e := pay4_at b0 b1 h h' h''
  unfold k0_pay5
  generalize k0_pay4 (F := Ideal) _ _ _ _ = f at *
  pointwise
  simp only [e]
  rfl

theorem pay6_at (h h' h'') (i : S512x1408.Idx) :
    k0_pay6 (F := Ideal) b0 (View.ld (Val := Elt Ideal) (e' := .f32) b1 (Rect.unit (s := S8x1024) ![0, 0] ![1, 1024] h))
      (View.ld (Val := Elt Ideal) (e' := .f32) b1 (Rect.unit (s := S8x1024) ![3, 0] ![1, 1024] h'))
      (View.ld (Val := Elt Ideal) (e' := .f32) b1 (Rect.unit (s := S8x1024) ![2, 0] ![1, 1024] h'')) b3 i = proj (hRow b0 b1 (i 0)) b3 (i 1) :=
  pay5_at b0 b1 b3 h h' h'' i

theorem pay1_at (f : S512x1408.Idx → EReal) (q : Fin 512) (k : Fin 1408) : k0_pay1 (F := Ideal) f (ix3 0 q k) = f (ix2 q k) := by
  unfold k0_pay1
  pointwise

theorem pay2_at (f : S512x1408.Idx → EReal) (q : Fin 512) (k : Fin 1408) : k0_pay2 (F := Ideal) f (ix3 0 q k) = f (ix2 q k) := by
  unfold k0_pay2
  pointwise

theorem pay3_at (f f' : S512x1408.Idx → EReal) (i : S512x1024.Idx) :
    k0_pay3 (F := Ideal) f f' b4 i = hidden (fun k => f (ix2 (i 0) k)) (fun k => f' (ix2 (i 0) k)) fun k => b4 (ix3 0 k (i 1)) := by
  unfold k0_pay3
  pointwise
  rfl

theorem out_h (y : S512x1024.Idx) : out0_5 (F := Ideal) b0 b1 b2 b3 b4 y = hRow b0 b1 (y 0) (y 1) := by
  unfold_out out0_5
  frame_out
  exact pay4_at b0 b1 _ _ _ y

theorem out_a (y : S2x512x1408.Idx) : out0_6 (F := Ideal) b0 b1 b2 b3 b4 y =
    if (y 0).val = 0 then proj (hRow b0 b1 (y 1)) b2 (y 2) else proj (hRow b0 b1 (y 1)) b3 (y 2) := by
  unfold_out out0_6
  frame_out
  refine (Cert.Kernel4Ideal.Hand.canon_halves _ _ y).trans (if_congr Iff.rfl ?_ ?_)
  · exact (pay1_at _ (y 1) (y 2)).trans (pay5_at b0 b1 b2 _ _ _ (ix2 (y 1) (y 2)))
  · exact (pay2_at _ (y 1) (y 2)).trans (pay6_at b0 b1 b3 _ _ _ (ix2 (y 1) (y 2)))

theorem out_u (y : S512x1024.Idx) : out0_7 (F := Ideal) b0 b1 b2 b3 b4 y =
    hidden (proj (hRow b0 b1 (y 0)) b2) (proj (hRow b0 b1 (y 0)) b3) fun k => b4 (ix3 0 k (y 1)) := by
  unfold_out out0_7
  frame_out
  refine (pay3_at b4 _ _ y).trans (congrArg₂ (fun f f' => hidden f f' _) (funext fun k => ?_) (funext fun k => ?_))
  · exact pay5_at b0 b1 b2 _ _ _ (ix2 (y 0) k)
  · exact pay6_at b0 b1 b3 _ _ _ (ix2 (y 0) k)

end Cert.Kernel7Ideal.Hand

end
-- ==== Proof.FirstArrays.lean ====
/- The arrays the call before a gated layer's first hidden units leaves. -/
module

public import proofs.«01_k».proof.Proof.FirstBlock
public import proofs.«01_k».proof.Proof.HiddenRows
public import proofs.«01_k».proof.Proof.BackHost
public import Idealize.ShloMosaic.Lib.Pipeline.ValueKit.Partial
public import Idealize.ShloMosaic.Lib.Pipeline.FrameSuffix

@[expose] public section

set_option maxRecDepth 16384

noncomputable section

namespace Cert.Kernel7Ideal.Hand

open Cert.Kernel7Ideal Cert.Kernel7Ideal.Gen Idealize.ShloMosaic Idealize.ShloMosaic.TcCoe Idealize.SL.Sem Idealize.ShloMosaic.StableHlo
open Cert.Proof.First
open Cert.Proof.Hidden (gAt upAt)
open Cert.Proof.Loss (hidden unit)
open Cert.Kernel4Ideal.Hand (row proj)

/-! ## What the host prepares -/

/-- The three vectors in a table whose other rows are zeros. -/
def vecs (x1 x2 x3 : FVec Ideal S1024 .f32) : FVec Ideal S8x1024 .f32 :=
  have z := Cert.Kernel6Ideal.Hand.asRow Cert.Kernel2Ideal.Hand.noVec
  concatenate S8x1024 0 [⟨S1x1024, Cert.Kernel6Ideal.Hand.asRow x1⟩, ⟨S1x1024, z⟩, ⟨S1x1024, Cert.Kernel6Ideal.Hand.asRow x2⟩,
    ⟨S1x1024, Cert.Kernel6Ideal.Hand.asRow x3⟩, ⟨S1x1024, z⟩, ⟨S1x1024, z⟩, ⟨S1x1024, z⟩, ⟨S1x1024, z⟩]
    concatenates_S1x1024_S1x1024_S1x1024_S1x1024_S1x1024_S1x1024_S1x1024_S1x1024_S8x1024_d0

section Vecs

variable (x1 x2 x3 : FVec Ideal S1024 .f32) (k : Fin 1024)

theorem vecs_pre : vecs x1 x2 x3 (ix2 0 k) = x1 (ix1 k) := by
  unfold vecs Cert.Kernel6Ideal.Hand.asRow
  pointwise

theorem vecs_shift : vecs x1 x2 x3 (ix2 2 k) = x2 (ix1 k) := by
  unfold vecs Cert.Kernel6Ideal.Hand.asRow
  pointwise

theorem vecs_scale : vecs x1 x2 x3 (ix2 3 k) = x3 (ix1 k) := by
  unfold vecs Cert.Kernel6Ideal.Hand.asRow
  pointwise

end Vecs

variable (m : (ℓ : Loc nD τ sig) → Buf (Elt Ideal) ℓ) (c : Dev nD)

/-- The arguments. -/
def a0 : FVec Ideal S4096x1024 .f32 := m (c.tc.loc main_arg0)
def a1 : FVec Ideal S1024 .f32 := m (c.tc.loc main_arg1)
def a2 : FVec Ideal S1024 .f32 := m (c.tc.loc main_arg2)
def a3 : FVec Ideal S1024 .f32 := m (c.tc.loc main_arg3)
def a4 : FVec Ideal S1024x5632 .f32 := m (c.tc.loc main_arg4)
def a5 : FVec Ideal S2816x1024 .f32 := m (c.tc.loc main_arg5)

theorem V_vec : V m c main_v9 = vecs (a1 m c) (a2 m c) (a3 m c) := by
  show StableHlo.after (List.flatten [hostOps0]) (fun b => m (c, b)) (Proc.devRef .tc main_v9) = _
  simp only [List.flatten_cons, List.flatten_nil, List.append_nil, hostOps0, List.cons_append, List.nil_append]
  after_results_simp
  rfl

theorem V_in : V m c main_v12 = Cert.Kernel4Ideal.Hand.inParts (a4 m c) := by
  show StableHlo.after (List.flatten [hostOps0]) (fun b => m (c, b)) (Proc.devRef .tc main_v12) = _
  simp only [List.flatten_cons, List.flatten_nil, List.append_nil, hostOps0, List.cons_append, List.nil_append]
  after_results_simp
  rfl

theorem V_out : V m c main_v14 = Cert.Kernel4Ideal.Hand.outParts (a5 m c) := by
  show StableHlo.after (List.flatten [hostOps0]) (fun b => m (c, b)) (Proc.devRef .tc main_v14) = _
  simp only [List.flatten_cons, List.flatten_nil, List.append_nil, hostOps0, List.cons_append, List.nil_append]
  after_results_simp
  rfl

/-! ## The windows -/

/-- The row of the array that is row `q` of a grid point's block. -/
def rowOf (t : Fin cfg0.N) (q : Fin 512) : Fin 4096 := ⟨t.val * 512 + q.val, by have := t.isLt; have : cfg0.N = 8 := N_0; omega⟩

theorem index_rows : ∀ t : Fin cfg0.N, (cfg0.win 0).index t = ![t.val, 0] ∧ (cfg0.win 5).index t = ![t.val, 0] ∧
    (cfg0.win 7).index t = ![t.val, 0] := by decide +kernel
theorem index_1 : ∀ t : Fin cfg0.N, (cfg0.win 1).index t = ![0, 0] := by decide +kernel
theorem index_weights : ∀ t : Fin cfg0.N, (cfg0.win 2).index t = ![0, 0, 0] ∧ (cfg0.win 3).index t = ![2, 0, 0] ∧
    (cfg0.win 4).index t = ![0, 0, 0] := by decide +kernel
theorem index_6 : ∀ t : Fin cfg0.N, (cfg0.win 6).index t = ![0, t.val, 0] := by decide +kernel

variable {m c}

theorem emb_0 (A : S4096x1024.Idx → EReal) (t : Fin cfg0.N) (q : Fin 512) (k : Fin 1024) :
    ((cfg0.win 0).blk t).view.read (Elt Ideal) A (ix2 q k) = A (ix2 (rowOf t q) k) := by
  refine congrArg A (funext fun a => Fin.ext ?_)
  match a with
  | 0 => blk_simp [(index_rows t).1]; rfl
  | 1 => blk_simp [(index_rows t).1]

theorem emb_1 (A : S8x1024.Idx → EReal) (t : Fin cfg0.N) : ((cfg0.win 1).blk t).view.read (Elt Ideal) A = A := by
  refine funext fun y => congrArg A (funext fun a => Fin.ext ?_)
  match a with
  | 0 => blk_simp [index_1 t]
  | 1 => blk_simp [index_1 t]

theorem emb_2 (A : S4x1024x1408.Idx → EReal) (t : Fin cfg0.N) (d : Fin 1024) (k : Fin 1408) :
    ((cfg0.win 2).blk t).view.read (Elt Ideal) A (ix3 0 d k) = A (ix3 0 d k) := by
  refine congrArg A (funext fun a => Fin.ext ?_)
  match a with
  | 0 => blk_simp [(index_weights t).1]; rfl
  | 1 => blk_simp [(index_weights t).1]
  | 2 => blk_simp [(index_weights t).1]

theorem emb_3 (A : S4x1024x1408.Idx → EReal) (t : Fin cfg0.N) (d : Fin 1024) (k : Fin 1408) :
    ((cfg0.win 3).blk t).view.read (Elt Ideal) A (ix3 0 d k) = A (ix3 2 d k) := by
  refine congrArg A (funext fun a => Fin.ext ?_)
  match a with
  | 0 => blk_simp [(index_weights t).2.1]; rfl
  | 1 => blk_simp [(index_weights t).2.1]
  | 2 => blk_simp [(index_weights t).2.1]

theorem emb_4 (A : S2x1408x1024.Idx → EReal) (t : Fin cfg0.N) (k : Fin 1408) (j : Fin 1024) :
    ((cfg0.win 4).blk t).view.read (Elt Ideal) A (ix3 0 k j) = A (ix3 0 k j) := by
  refine congrArg A (funext fun a => Fin.ext ?_)
  match a with
  | 0 => blk_simp [(index_weights t).2.2]; rfl
  | 1 => blk_simp [(index_weights t).2.2]
  | 2 => blk_simp [(index_weights t).2.2]

/-! ## What the region leaves -/

/-- The layer's input by the sublayer's. -/
def hAt (x0 : S4096x1024.Idx → EReal) (x1 x2 x3 : S1024.Idx → EReal) (y : S4096x1024.Idx) : EReal :=
  normed (row x0 (y 0)) (fun k => x1 (ix1 k)) (fun k => x2 (ix1 k)) (fun k => x3 (ix1 k)) (y 1)

/-- What the first hidden units add to the layer's output. -/
def uAt (h : S4096x1024.Idx → EReal) (x4 : S1024x5632.Idx → EReal) (x5 : S2816x1024.Idx → EReal) (y : S4096x1024.Idx) : EReal :=
  hidden (gAt h x4 (y 0)) (upAt h x4 (y 0)) fun k => x5 (ix2 ⟨k.val, by omega⟩ (y 1))

variable (m c)

def hArr : S4096x1024.Idx → EReal := hAt (a0 m c) (a1 m c) (a2 m c) (a3 m c)

/-- The first hidden units' products: the gates', then the others'. -/
def aArr (y : S2x4096x1408.Idx) : EReal :=
  if (y 0).val = 0 then gAt (hArr m c) (a4 m c) (y 1) (y 2) else upAt (hArr m c) (a4 m c) (y 1) (y 2)

def uArr : S4096x1024.Idx → EReal := uAt (hArr m c) (a4 m c) (a5 m c)

variable {m c}

theorem row_0 (t : Fin cfg0.N) (q : Fin 512) : row (iblk m c 0 t) q = row (a0 m c) (rowOf t q) :=
  funext fun k => (emb_0 (V m c main_arg0) t q k).trans (congrFun (V_main_arg0 m c) _)

theorem row_pre (t : Fin cfg0.N) : row (iblk m c 1 t) 0 = fun k => a1 m c (ix1 k) :=
  funext fun k => (congrFun ((emb_1 (V m c main_v9) t).trans (V_vec m c)) _).trans (vecs_pre _ _ _ k)

theorem row_shift (t : Fin cfg0.N) : row (iblk m c 1 t) 2 = fun k => a2 m c (ix1 k) :=
  funext fun k => (congrFun ((emb_1 (V m c main_v9) t).trans (V_vec m c)) _).trans (vecs_shift _ _ _ k)

theorem row_scale (t : Fin cfg0.N) : row (iblk m c 1 t) 3 = fun k => a3 m c (ix1 k) :=
  funext fun k => (congrFun ((emb_1 (V m c main_v9) t).trans (V_vec m c)) _).trans (vecs_scale _ _ _ k)

theorem in_gate (t : Fin cfg0.N) (d : Fin 1024) (k : Fin 1408) :
    (iblk m c 2 t : S1x1024x1408.Idx → EReal) (ix3 0 d k) = a4 m c (ix2 d ⟨k.val, by omega⟩) := by
  refine ((emb_2 (V m c main_v12) t d k).trans (congrFun (V_in m c) _)).trans
    ((Cert.Kernel4Ideal.Hand.inParts_at _ _).trans (congrArg (a4 m c) ?_))
  exact congrArg (ix2 d) (Fin.ext (by show 0 * 1408 + k.val = k.val; omega))

theorem in_up (t : Fin cfg0.N) (d : Fin 1024) (k : Fin 1408) :
    (iblk m c 3 t : S1x1024x1408.Idx → EReal) (ix3 0 d k) = a4 m c (ix2 d ⟨2816 + k.val, by omega⟩) := by
  refine ((emb_3 (V m c main_v12) t d k).trans (congrFun (V_in m c) _)).trans
    ((Cert.Kernel4Ideal.Hand.inParts_at _ _).trans (congrArg (a4 m c) ?_))
  exact congrArg (ix2 d) (Fin.ext rfl)

theorem out_blk (t : Fin cfg0.N) (k : Fin 1408) (j : Fin 1024) :
    (iblk m c 4 t : S1x1408x1024.Idx → EReal) (ix3 0 k j) = a5 m c (ix2 ⟨k.val, by omega⟩ j) := by
  refine ((emb_4 (V m c main_v14) t k j).trans (congrFun (V_out m c) _)).trans
    ((Cert.Kernel4Ideal.Hand.outParts_at _ _).trans (congrArg (a5 m c) ?_))
  exact congrArg (ix2 · j) (Fin.ext (by show 0 * 1408 + k.val = k.val; omega))

/-- A block's row of the layer's input is the array's. -/
theorem h_eq (t : Fin cfg0.N) (q : Fin 512) : hRow (iblk m c 0 t) (iblk m c 1 t) q = row (hArr m c) (rowOf t q) := by
  unfold hRow
  rw [row_0, row_pre, row_shift, row_scale]
  rfl

theorem gate_eq (t : Fin cfg0.N) (q : Fin 512) (k : Fin 1408) :
    proj (hRow (iblk m c 0 t) (iblk m c 1 t) q) (iblk m c 2 t) k = gAt (hArr m c) (a4 m c) (rowOf t q) k := by
  rw [h_eq]
  exact Finset.sum_congr rfl fun d _ => congrArg (_ * ·) (in_gate t d k)

theorem up_eq (t : Fin cfg0.N) (q : Fin 512) (k : Fin 1408) :
    proj (hRow (iblk m c 0 t) (iblk m c 1 t) q) (iblk m c 3 t) k = upAt (hArr m c) (a4 m c) (rowOf t q) k := by
  rw [h_eq]
  exact Finset.sum_congr rfl fun d _ => congrArg (_ * ·) (in_up t d k)

theorem u_eq (t : Fin cfg0.N) (q : Fin 512) (j : Fin 1024) :
    hidden (proj (hRow (iblk m c 0 t) (iblk m c 1 t) q) (iblk m c 2 t)) (proj (hRow (iblk m c 0 t) (iblk m c 1 t) q) (iblk m c 3 t))
      (fun k => (iblk m c 4 t : S1x1408x1024.Idx → EReal) (ix3 0 k j)) = uArr m c (ix2 (rowOf t q) j) :=
  Finset.sum_congr rfl fun k _ => congrArg₂ (· * ·) (congrArg₂ unit (gate_eq t q k) (up_eq t q k)) (out_blk t k j)

theorem arr_h : (dats (F := Ideal) m 0 c).arrAt 5 cfg0.N = hArr m c := by
  refine (dats m 0 c).arrAt_eq_of_covers 5 _ (by decide +kernel) fun t hf y => ?_
  blk_simp
  rw [after0_5]
  refine (out_h _ _ _ _ _ y).trans ((congrFun (h_eq t (y 0)) (y 1)).trans (congrArg (hArr m c) (funext fun a => Fin.ext ?_)))
  match a with
  | 0 => blk_simp [(index_rows t).2.1]; rfl
  | 1 => blk_simp [(index_rows t).2.1]

theorem arr_u : (dats (F := Ideal) m 0 c).arrAt 7 cfg0.N = uArr m c := by
  refine (dats m 0 c).arrAt_eq_of_covers 7 _ (by decide +kernel) fun t hf y => ?_
  blk_simp
  rw [after0_7]
  refine (out_u _ _ _ _ _ y).trans ((u_eq t (y 0) (y 1)).trans (congrArg (uArr m c) (funext fun a => Fin.ext ?_)))
  match a with
  | 0 => blk_simp [(index_rows t).2.2]; rfl
  | 1 => blk_simp [(index_rows t).2.2]

variable (m c) in
/-- The whole array: on the first half of the columns what the region writes, the rest as found. -/
def aFull (j : S2x4096x2816.Idx) : EReal :=
  if h : (j 2).val < 1408 then aArr m c (ix3 (j 0) (j 1) ⟨(j 2).val, h⟩) else (V m c main_v15_1 : S2x4096x2816.Idx → EReal) j

theorem aFull_rest {j : S2x4096x2816.Idx} (h : ¬(j 2).val < 1408) : aFull m c j = (V m c main_v15_1 : S2x4096x2816.Idx → EReal) j := dif_neg h

/-- The products on the first half of the columns. -/
theorem arr_a (y : S2x4096x1408.Idx) :
    ((dats (F := Ideal) m 0 c).arrAt 6 cfg0.N : S2x4096x2816.Idx → EReal)
      (ix3 (y 0) (y 1) ⟨(y 2).val, Nat.lt_trans (y 2).isLt (by decide)⟩) = aArr m c y := by
  have e : (dats (F := Ideal) m 0 c).arrAt 6 cfg0.N = aFull m c := by
    refine (dats m 0 c).arrAt_eq_of_coversWhere_of_agree 6 _ (fun β => β 2 < 1) (by decide +kernel) (fun t hf y => ?_) (fun j hj => ?_)
    · blk_simp
      rw [after0_6]
      refine (out_a _ _ _ _ _ y).trans ((if_congr Iff.rfl (gate_eq t (y 1) (y 2)) (up_eq t (y 1) (y 2))).trans ?_)
      have hy : (y 2).val < 1408 := (y 2).isLt
      refine Eq.trans ?_ (dif_pos (by blk_simp [index_6 t]; exact hy)).symm
      refine congrArg (aArr m c) (a₁ := ix3 (y 0) (rowOf t (y 1)) (y 2)) (funext fun a => Fin.ext ?_)
      match a with
      | 0 => blk_simp [index_6 t]
      | 1 => blk_simp [index_6 t]; rfl
      | 2 => blk_simp [index_6 t]
    · blk_simp [Pipeline.Window.cell_apply] at hj
      have h : ¬(j 2).val < 1408 := by omega
      exact (aFull_rest h).symm
  rw [e]
  refine (dif_pos (y 2).isLt).trans (congrArg (aArr m c) (ValueIdx.eq_ix3 y).symm)

/-! ## What the host cuts out -/

theorem tail_a (W : Valuation τ sig (Elt Ideal)) : StableHlo.after (List.flatten [hostOps1]) W (Proc.devRef .tc main_v16)
    = (extractStridedSlice S2x4096x1408 ![0, 0, 0] (W (Proc.devRef .tc main_v15_1) : S2x4096x2816.Idx → EReal)
        slices_S2x4096x2816_S2x4096x1408_0_0_0 : S2x4096x1408.Idx → EReal) := by
  simp only [List.flatten_cons, List.flatten_nil, List.append_nil, hostOps1, List.cons_append, List.nil_append]
  after_results_simp

theorem slice_a (A : S2x4096x2816.Idx → EReal) (y : S2x4096x1408.Idx) :
    extractStridedSlice S2x4096x1408 ![0, 0, 0] A slices_S2x4096x2816_S2x4096x1408_0_0_0 y =
      A (ix3 (y 0) (y 1) ⟨(y 2).val, Nat.lt_trans (y 2).isLt (by decide)⟩) := by
  pointwise

variable (m c)

/-- What the region leaves. -/
def exitV : Valuation τ sig (Elt Ideal) :=
  Pipeline.withArrays cfg0.spec c (V0 m c) fun w => (dats (F := Ideal) m 0 c).arrAt w cfg0.N

theorem exitV_a : exitV m c (Proc.devRef .tc main_v15_1) = (dats (F := Ideal) m 0 c).arrAt 6 cfg0.N :=
  (dats (F := Ideal) m 0 c).withArrays_arrAt sharedIn0 (V0 m c) (A_eq m c) 6

theorem out_res : StableHlo.after (List.flatten [hostOps1]) (exitV m c) (Proc.devRef .tc main_v16) = aArr m c := by
  rw [tail_a, exitV_a]
  funext y
  exact (slice_a _ y).trans (arr_a y)

end Cert.Kernel7Ideal.Hand

end
-- ==== Proof.FirstReference.lean ====
/- The reference's three results before a gated layer's first hidden units, read at an index. -/
module

public import proofs.«01_k».proof.Proof.FirstArrays
public import proofs.«01_k».proof.Proof.PostReal
public import proofs.«01_k».proof.Proof.Gen.Reference7Ideal.Read
public import Idealize.ShloMosaic.Lib.Pointwise

@[expose] public section

set_option maxRecDepth 16384

noncomputable section

namespace Cert.Reference7Ideal.Hand

open Cert.Reference7Ideal Cert.Reference7Ideal.Gen Cert.Reference7Ideal.Read Cert.Proof.First
open Cert.Proof.Hidden (gAt upAt)
open Cert.Proof.Post (ms uhat)
open Cert.Proof.Loss (hidden)
open Cert.Kernel7Ideal.Hand (a0 a1 a2 a3 a4 a5 hArr aArr uArr hAt uAt)
open Idealize.ShloMosaic hiding ix1 ix2 ix3 eq_ix1 eq_ix2
open Idealize.ShloMosaic.ValueIdx Idealize.ShloMosaic.TcCoe Idealize.ShloMosaic.StableHlo

variable (x0 : (⟨S4096x1024, .f32⟩ : BufTy).Contents (Elt Ideal)) (x1 x2 x3 : (⟨S1024, .f32⟩ : BufTy).Contents (Elt Ideal))
  (x4 : (⟨S1024x5632, .f32⟩ : BufTy).Contents (Elt Ideal)) (x5 : (⟨S2816x1024, .f32⟩ : BufTy).Contents (Elt Ideal))

theorem v9_at (y : S4096x1.Idx) : val_main_v9 (F := Ideal) x0 y = ms fun k => x0 (ix2 (y 0) k) := by
  unfold val_main_v9 val_main_v8 val_main_cst_1 val_main_v7 val_main_v6 val_main_cst_0 val_main_v5 val_main_v4 val_main_cst val_main_v3
  pointwise
  rfl

theorem v12_at (y : S4096x1024.Idx) : val_main_v12 (F := Ideal) x0 y = uhat (fun k => x0 (ix2 (y 0) k)) (y 1) := by
  unfold val_main_v12 val_main_v11 val_main_v10
  pointwise
  rw [v9_at]
  exact congrArg (fun z => x0 z * _) (eq_ix2 y)

/-- The layer's input. -/
theorem v23_at (y : S4096x1024.Idx) : val_main_v23 (F := Ideal) x0 x1 x2 x3 y = hAt x0 x1 x2 x3 y := by
  unfold val_main_v23 val_main_v22 val_main_v21 val_main_v20 val_main_v19 val_main_v18 val_main_v17 val_main_v16 val_main_cst_2
    val_main_v15 val_main_v14 val_main_v13
  pointwise
  rw [v12_at]
  rfl

theorem v26_eq : val_main_v26 (F := Ideal) x0 x1 x2 x3 = hAt x0 x1 x2 x3 := funext (v23_at x0 x1 x2 x3)

theorem v24_at (y : S4096x1408.Idx) : val_main_v24 (F := Ideal) x0 x1 x2 x3 x4 y = gAt (hAt x0 x1 x2 x3) x4 (y 0) (y 1) := by
  unfold val_main_v24 val_main_v0
  rw [funext (v23_at x0 x1 x2 x3)]
  generalize hAt x0 x1 x2 x3 = h
  pointwise
  rfl

theorem v25_at (y : S4096x1408.Idx) : val_main_v25 (F := Ideal) x0 x1 x2 x3 x4 y = upAt (hAt x0 x1 x2 x3) x4 (y 0) (y 1) := by
  unfold val_main_v25 val_main_v1
  rw [funext (v23_at x0 x1 x2 x3)]
  generalize hAt x0 x1 x2 x3 = h
  pointwise
  rfl

/-- The second result: both products. -/
theorem v30_at (y : S2x4096x1408.Idx) : val_main_v30 (F := Ideal) x0 x1 x2 x3 x4 y =
    if (y 0).val = 0 then gAt (hAt x0 x1 x2 x3) x4 (y 1) (y 2) else upAt (hAt x0 x1 x2 x3) x4 (y 1) (y 2) := by
  have eg := v24_at x0 x1 x2 x3 x4
  have eu := v25_at x0 x1 x2 x3 x4
  unfold val_main_v30 val_main_v29 val_main_v27 val_main_v28
  generalize val_main_v24 (F := Ideal) x0 x1 x2 x3 x4 = g at *
  generalize val_main_v25 (F := Ideal) x0 x1 x2 x3 x4 = u at *
  pointwise
  by_cases e : (y 0).val < 1
  · exact (dif_pos e).trans ((eg _).trans (if_pos (Nat.lt_one_iff.1 e)).symm)
  · exact (dif_neg e).trans ((eu _).trans (if_neg fun h => e (Nat.lt_one_iff.2 h)).symm)

/-- The third result: what these units add to the layer's output. -/
theorem v33_at (y : S4096x1024.Idx) : val_main_v33 (F := Ideal) x0 x1 x2 x3 x4 x5 y = uAt (hAt x0 x1 x2 x3) x4 x5 y := by
  have eg := v24_at x0 x1 x2 x3 x4
  have eu := v25_at x0 x1 x2 x3 x4
  unfold val_main_v33 val_main_v32 val_main_v31 val_main_call0_v5 val_main_call0_v4 val_main_call0_cst_0 val_main_call0_v3 val_main_call0_v2
    val_main_call0_cst val_main_call0_v1 val_main_call0_v0 val_main_v2
  generalize val_main_v24 (F := Ideal) x0 x1 x2 x3 x4 = g at *
  generalize val_main_v25 (F := Ideal) x0 x1 x2 x3 x4 = u at *
  pointwise
  unfold uAt Cert.Proof.Loss.hidden
  refine Finset.sum_congr rfl fun k _ => ?_
  rw [eg, eu]
  rfl

/-! ## The kernel's arrays are the reference's results of the same arguments -/

variable (m : (ℓ : Loc Cert.Kernel7Ideal.nD Cert.Kernel7Ideal.τ Cert.Kernel7Ideal.sig) → Buf (Elt Ideal) ℓ) (c : Dev Cert.Kernel7Ideal.nD)

theorem res_h : val_main_v26 (F := Ideal) (a0 m c) (a1 m c) (a2 m c) (a3 m c) = hArr m c := v26_eq _ _ _ _

theorem res_a : val_main_v30 (F := Ideal) (a0 m c) (a1 m c) (a2 m c) (a3 m c) (a4 m c) = aArr m c := funext (v30_at _ _ _ _ _)

theorem res_u : val_main_v33 (F := Ideal) (a0 m c) (a1 m c) (a2 m c) (a3 m c) (a4 m c) (a5 m c) = uArr m c := funext (v33_at _ _ _ _ _ _)

end Cert.Reference7Ideal.Hand

end
-- ==== Proof.AfterRows.lean ====
/- One row of the layer's end behind the attention: the heads' outputs, their norm and the gated sum. -/
module

public import proofs.«01_k».proof.Proof.PostRows

@[expose] public section

noncomputable section

namespace Cert.Proof.After

open Idealize.ShloMosaic Idealize.ShloMosaic.ValueIdx
open Cert.Proof.Post (uhat entry_congr)

/-- A row with its normalized, weighted and gated update. -/
def result (x u g gate : Fin 1024 → EReal) (k : Fin 1024) : EReal := x k + (1 + gate k) * (uhat u k * g k)

/-- The heads' outputs of a row: those of the pair `j` through the value maps on a diagonal of blocks. -/
def ocRow (o : Fin 2048 → EReal) (bd : (⟨3, ![8, 256, 128]⟩ : Shape).Idx → EReal) (n : Fin 1024) : EReal :=
  ∑ z : Fin 256, o ⟨256 * (n.val / 128) + z.val, by omega⟩ * bd (ix3 ⟨n.val / 128, by omega⟩ z ⟨n.val % 128, by omega⟩)

/-- The output `v` of the pair `j`. -/
theorem ocRow_eq (o : Fin 2048 → EReal) (bd : (⟨3, ![8, 256, 128]⟩ : Shape).Idx → EReal) (n : Fin 1024) (j : Fin 8) (v : Fin 128)
    (h : n.val = 128 * j.val + v.val) :
    ocRow o bd n = ∑ z : Fin 256, o ⟨256 * j.val + z.val, by omega⟩ * bd (ix3 j z v) := by
  refine Finset.sum_congr rfl fun z _ => congrArg₂ (· * ·) (congrArg o (Fin.ext ?_)) (entry_congr bd (Fin.ext ?_) rfl (Fin.ext ?_))
  · show 256 * (n.val / 128) + z.val = 256 * j.val + z.val
    omega
  · show n.val / 128 = j.val
    omega
  · show n.val % 128 = v.val
    omega

/-- On a diagonal of blocks only the output's own head counts. -/
theorem ocRow_diag (o : Fin 2048 → EReal) (bd : (⟨3, ![8, 256, 128]⟩ : Shape).Idx → EReal) (uv : (⟨3, ![128, 16, 64]⟩ : Shape).Idx → EReal)
    (hbd : ∀ (j : Fin 8) (z : Fin 256) (n : Fin 128), bd (ix3 j z n) =
      uv (ix3 ⟨z.val % 128, by omega⟩ ⟨2 * j.val + z.val / 128, by omega⟩ ⟨n.val % 64, by omega⟩) * if z.val / 128 = n.val / 64 then 1 else 0)
    (n : Fin 1024) :
    ocRow o bd n = ∑ c : Fin 128, uv (ix3 c ⟨n.val / 64, by omega⟩ ⟨n.val % 64, by omega⟩) * o ⟨128 * (n.val / 64) + c.val, by omega⟩ := by
  unfold ocRow
  rw [← (finProdFinEquiv (m := 2) (n := 128)).sum_comp, Fintype.sum_prod_type]
  have key : ∀ (b : Fin 2) (c : Fin 128), (finProdFinEquiv (b, c) : Fin (2 * 128)).val = c.val + 128 * b.val := fun b c => rfl
  rw [Finset.sum_eq_single (⟨n.val / 64 % 2, by omega⟩ : Fin 2)]
  · refine Finset.sum_congr rfl fun c _ => ?_
    rw [hbd, if_pos, mul_one, mul_comm]
    · refine congrArg₂ (· * ·) (entry_congr uv (Fin.ext ?_) (Fin.ext ?_) (Fin.ext ?_)) (congrArg o (Fin.ext ?_))
      · show (c.val + 128 * (n.val / 64 % 2)) % 128 = c.val
        omega
      · show 2 * (n.val / 128) + (c.val + 128 * (n.val / 64 % 2)) / 128 = n.val / 64
        omega
      · show n.val % 128 % 64 = n.val % 64
        omega
      · show 256 * (n.val / 128) + (c.val + 128 * (n.val / 64 % 2)) = 128 * (n.val / 64) + c.val
        omega
    · show (c.val + 128 * (n.val / 64 % 2)) / 128 = n.val % 128 / 64
      omega
  · intro b _ hb
    refine Finset.sum_eq_zero fun c _ => ?_
    rw [hbd, if_neg, mul_zero, mul_zero]
    intro hz
    refine hb (Fin.ext ?_)
    have hz : (c.val + 128 * b.val) / 128 = n.val % 128 / 64 := hz
    show b.val = n.val / 64 % 2
    omega
  · exact fun hn => absurd (Finset.mem_univ _) hn

end Cert.Proof.After

end
-- ==== Proof.AfterBlock.lean ====
/- One point of the grid of the layer's end behind the attention: what it leaves in its blocks, row by row. -/
module

public import proofs.«01_k».proof.Proof.AfterRows
public import proofs.«01_k».proof.Proof.PostBlock
public import proofs.«01_k».proof.Proof.Gen.Kernel8Ideal.Frame

@[expose] public section

set_option maxRecDepth 16384

noncomputable section

namespace Cert.Kernel8Ideal.Hand

open Cert.Kernel8Ideal Cert.Kernel8Ideal.Gen Idealize.ShloMosaic Idealize.ShloMosaic.TcCoe Idealize.SL.Sem Idealize.ShloMosaic.StableHlo
open Cert.Proof.After
open Cert.Kernel2Ideal.Hand (row)

section Payloads

variable (ob : S512x2048.Idx → EReal) (bd : S8x256x128.Idx → EReal)

/-- A pair's columns of the heads' outputs. -/
theorem oc_piece {j a e : Nat} (ha : a = 256 * j) (he : e = 128 * j) (hj : j < 8) (h h' h'') (x : S512x128.Idx) :
    k0_pay1 (F := Ideal) (View.ld (Val := Elt Ideal) (e' := .bf16) ob (Rect.unit (s := S512x2048) ![0, a] ![512, 256] h))
        (View.ld (Val := Elt Ideal) (e' := .bf16) bd (Rect.unit (s := S8x256x128) ![j, 0, 0] ![1, 256, 128] h')) x =
      (fun y : S512x1024.Idx => ocRow (row ob (y 0)) bd (y 1)) ((Rect.unit (s := S512x1024) ![0, e] ![512, 128] h'').emb x) := by
  subst ha he
  unfold k0_pay1
  pointwise
  have h0 : (Rect.unit (s := S512x1024) ![0, 128 * j] ![512, 128] h'').emb x 0 = x 0 := Fin.ext (by show 0 + 1 * (x 0).val = (x 0).val; omega)
  refine Eq.symm ((ocRow_eq _ bd _ ⟨j, hj⟩ (x 1) ?_).trans ?_)
  · show 128 * j + 1 * (x 1).val = 128 * j + (x 1).val
    omega
  · refine Finset.sum_congr rfl fun n _ => ?_
    exact congrArg (fun q => ob (ix2 q _) * _) h0

/-- The pairs' products are one payload. -/
theorem oc_pays (v : Vec Ideal S512x256 .bf16) (w : Vec Ideal S1x256x128 .bf16) :
    k0_pay2 v w = k0_pay1 v w ∧ k0_pay3 v w = k0_pay1 v w ∧ k0_pay5 (k0_pay4 v w) = k0_pay1 v w ∧ k0_pay6 v w = k0_pay1 v w ∧
      k0_pay7 v w = k0_pay1 v w ∧ k0_pay8 v w = k0_pay1 v w ∧ k0_pay10 (k0_pay9 v) w = k0_pay1 v w :=
  ⟨rfl, rfl, rfl, rfl, rfl, rfl, rfl⟩

variable (D : S512x1024.Idx → EReal) (wo : S1024x1024.Idx → EReal) (xb : S512x1024.Idx → EReal) (vb : S8x1024.Idx → EReal)

/-- A row of the projection. -/
def projRow (d : Fin 1024 → EReal) (k : Fin 1024) : EReal := ∑ n, d n * wo (ix2 n k)

theorem pay11_at (i : S512x1024.Idx) : k0_pay11 (F := Ideal) D wo i = projRow wo (row D (i 0)) (i 1) := by
  unfold k0_pay11
  pointwise
  rfl

theorem pay12_at (h h') (i : S512x1024.Idx) :
    k0_pay12 (F := Ideal) D wo xb (View.ld (Val := Elt Ideal) (e' := .f32) vb (Rect.unit (s := S8x1024) ![4, 0] ![1, 1024] h))
      (View.ld (Val := Elt Ideal) (e' := .f32) vb (Rect.unit (s := S8x1024) ![1, 0] ![1, 1024] h')) i =
      result (row xb (i 0)) (projRow wo (row D (i 0))) (row vb 1) (row vb 4) (i 1) := by
  have e := pay11_at D wo
  unfold k0_pay12
  generalize k0_pay11 (F := Ideal) D wo = u at *
  pointwise
  simp only [e]
  unfold result Cert.Proof.Post.uhat
  refine congrArg₂ (· + ·) (congrArg xb (ValueIdx.eq_ix2 i)) (congrArg₂ (· * ·) rfl (congrArg₂ (· * ·) (congrArg₂ (· * ·) rfl ?_) rfl))
  rfl

end Payloads

/-- A pair's columns as a piece of the block. -/
abbrev piece (ob : S512x2048.Idx → EReal) (bd : S8x256x128.Idx → EReal) {j a e : Nat}
    (h : ∀ i, (![0, a] : Fin 2 → Nat) i + (![512, 256] : Fin 2 → Nat) i ≤ S512x2048.size i)
    (h' : ∀ i, (![j, 0, 0] : Fin 3 → Nat) i + (![1, 256, 128] : Fin 3 → Nat) i ≤ S8x256x128.size i)
    (h'' : ∀ i, (![0, e] : Fin 2 → Nat) i + (![512, 128] : Fin 2 → Nat) i ≤ S512x1024.size i) : View.Piece (Elt Ideal) S512x1024 .bf16 :=
  ⟨Rect.unit (s := S512x1024) ![0, e] ![512, 128] h'', k0_pay1 (F := Ideal)
    (View.ld (Val := Elt Ideal) (e' := .bf16) ob (Rect.unit (s := S512x2048) ![0, a] ![512, 256] h))
    (View.ld (Val := Elt Ideal) (e' := .bf16) bd (Rect.unit (s := S8x256x128) ![j, 0, 0] ![1, 256, 128] h'))⟩

/-- The eight pairs' pieces, the last one stored first. -/
def pieces (ob : S512x2048.Idx → EReal) (bd : S8x256x128.Idx → EReal) : List (View.Piece (Elt Ideal) S512x1024 .bf16) :=
  [piece ob bd inb_S512x2048_S512x256_0_1792 inb_S8x256x128_S1x256x128_7_0_0 inb_S512x1024_S512x128_0_896,
    piece ob bd inb_S512x2048_S512x256_0_1536 inb_S8x256x128_S1x256x128_6_0_0 inb_S512x1024_S512x128_0_768,
    piece ob bd inb_S512x2048_S512x256_0_1280 inb_S8x256x128_S1x256x128_5_0_0 inb_S512x1024_S512x128_0_640,
    piece ob bd inb_S512x2048_S512x256_0_1024 inb_S8x256x128_S1x256x128_4_0_0 inb_S512x1024_S512x128_0_512,
    piece ob bd inb_S512x2048_S512x256_0_768 inb_S8x256x128_S1x256x128_3_0_0 inb_S512x1024_S512x128_0_384,
    piece ob bd inb_S512x2048_S512x256_0_512 inb_S8x256x128_S1x256x128_2_0_0 inb_S512x1024_S512x128_0_256,
    piece ob bd inb_S512x2048_S512x256_0_256 inb_S8x256x128_S1x256x128_1_0_0 inb_S512x1024_S512x128_0_128,
    piece ob bd inb_S512x2048_S512x256_0_0 inb_S8x256x128_S1x256x128_0_0_0 inb_S512x1024_S512x128_0_0]

/-- They make the block. -/
theorem canon_pieces (ob : S512x2048.Idx → EReal) (bd : S8x256x128.Idx → EReal) (y : S512x1024.Idx) :
    View.canon (pieces ob bd) y = ocRow (row ob (y 0)) bd (y 1) := by
  refine View.canon_append_of_piecesOf (Val := Elt Ideal) (e := .bf16) (fun y : S512x1024.Idx => ocRow (row ob (y 0)) bd (y 1)) []
    (pieces ob bd) ?_ y ?_
  swap
  · exact View.cover_of_tiledL (s := S512x1024) (pieces ob bd) S512x128.size (by sl_kernel_rfl) y
  exact ⟨oc_piece ob bd (j := 7) rfl rfl (by decide) inb_S512x2048_S512x256_0_1792 inb_S8x256x128_S1x256x128_7_0_0 inb_S512x1024_S512x128_0_896,
    oc_piece ob bd (j := 6) rfl rfl (by decide) inb_S512x2048_S512x256_0_1536 inb_S8x256x128_S1x256x128_6_0_0 inb_S512x1024_S512x128_0_768,
    oc_piece ob bd (j := 5) rfl rfl (by decide) inb_S512x2048_S512x256_0_1280 inb_S8x256x128_S1x256x128_5_0_0 inb_S512x1024_S512x128_0_640,
    oc_piece ob bd (j := 4) rfl rfl (by decide) inb_S512x2048_S512x256_0_1024 inb_S8x256x128_S1x256x128_4_0_0 inb_S512x1024_S512x128_0_512,
    oc_piece ob bd (j := 3) rfl rfl (by decide) inb_S512x2048_S512x256_0_768 inb_S8x256x128_S1x256x128_3_0_0 inb_S512x1024_S512x128_0_384,
    oc_piece ob bd (j := 2) rfl rfl (by decide) inb_S512x2048_S512x256_0_512 inb_S8x256x128_S1x256x128_2_0_0 inb_S512x1024_S512x128_0_256,
    oc_piece ob bd (j := 1) rfl rfl (by decide) inb_S512x2048_S512x256_0_256 inb_S8x256x128_S1x256x128_1_0_0 inb_S512x1024_S512x128_0_128,
    oc_piece ob bd (j := 0) rfl rfl (by decide) inb_S512x2048_S512x256_0_0 inb_S8x256x128_S1x256x128_0_0_0 inb_S512x1024_S512x128_0_0, trivial⟩

/-- Read back whole. -/
theorem read_pieces {κ : Kind} {sp : Space} (v : View sig κ sp S512x1024 .bf16) (ob : S512x2048.Idx → EReal) (bd : S8x256x128.Idx → EReal) (h) :
    v.readCov (Val := Elt Ideal) (pieces ob bd) (Rect.unit (s := S512x1024) ![0, 0] ![512, 1024] h).toLoadRect =
      fun y : S512x1024.Idx => ocRow (row ob (y 0)) bd (y 1) := by
  rw [View.readCov_eq_canon']
  funext y
  refine (congrArg (View.canon (pieces ob bd)) (funext fun a => Fin.ext ?_)).trans (canon_pieces ob bd y)
  match a with
  | 0 => show 0 + 1 * (y 0).val = (y 0).val; omega
  | 1 => show 0 + 1 * (y 1).val = (y 1).val; omega

variable (m : (ℓ : Loc nD τ sig) → Buf (Elt Ideal) ℓ) (c : Dev nD) (t : Fin cfg0.N)

/-- The heads' outputs in the point's block. -/
def ocBlock (y : S512x1024.Idx) : EReal := ocRow (row (iblk m c 0 t) (y 0)) (iblk m c 3 t) (y 1)

/-- What a point leaves in its block of the heads' outputs. -/
theorem outs_oc (y : S512x1024.Idx) : (outsAt0 (F := Ideal) m c t).2.2 y = ocBlock m c t y := by
  unfold outsAt0
  frame_open
  simp (disch := decide) only [↓ View.readCov_skip, ↓ View.readCov_cons_toLoadRect, ↓ View.readCov_fill]
  frame_out
  simp only [oc_pays]
  exact canon_pieces (iblk m c 0 t) (iblk m c 3 t) y

/-- What a point leaves in its block of the projection. -/
theorem outs_u (y : S512x1024.Idx) : (outsAt0 (F := Ideal) m c t).2.1 y = projRow (iblk m c 4 t) (row (ocBlock m c t) (y 0)) (y 1) := by
  unfold outsAt0
  frame_open
  simp (disch := decide) only [↓ View.readCov_skip, ↓ View.readCov_cons_toLoadRect, ↓ View.readCov_fill]
  frame_out
  simp only [oc_pays]
  exact (congrArg (fun D => k0_pay11 (F := Ideal) D (iblk m c 4 t) y) (read_pieces (ms0_7 t).view (iblk m c 0 t) (iblk m c 3 t) _)).trans
    (pay11_at (ocBlock m c t) (iblk m c 4 t) y)

/-- What a point leaves in its block of the result. -/
theorem outs_xo (y : S512x1024.Idx) : (outsAt0 (F := Ideal) m c t).1 y = result (row (iblk m c 1 t) (y 0))
    (projRow (iblk m c 4 t) (row (ocBlock m c t) (y 0))) (row (iblk m c 2 t) 1) (row (iblk m c 2 t) 4) (y 1) := by
  unfold outsAt0
  frame_open
  simp (disch := decide) only [↓ View.readCov_skip, ↓ View.readCov_cons_toLoadRect, ↓ View.readCov_fill]
  frame_out
  simp only [oc_pays]
  exact (congrArg (fun D => k0_pay12 (F := Ideal) D (iblk m c 4 t) (iblk m c 1 t) _ _ y) (read_pieces (ms0_7 t).view (iblk m c 0 t) (iblk m c 3 t) _)).trans
    (pay12_at (ocBlock m c t) (iblk m c 4 t) (iblk m c 1 t) (iblk m c 2 t) _ _ y)

end Cert.Kernel8Ideal.Hand

end
-- ==== Proof.AfterArrays.lean ====
/- The arrays the layer's end behind the attention leaves. -/
module

public import proofs.«01_k».proof.Proof.AfterBlock
public import proofs.«01_k».proof.Proof.PostHost
public import Idealize.ShloMosaic.Lib.Pipeline.FrameSuffix

@[expose] public section

set_option maxRecDepth 16384

noncomputable section

namespace Cert.Kernel8Ideal.Hand

open Cert.Kernel8Ideal Cert.Kernel8Ideal.Gen Idealize.ShloMosaic Idealize.ShloMosaic.TcCoe Idealize.SL.Sem Idealize.ShloMosaic.StableHlo
open Cert.Proof.After
open Cert.Proof.Post (oAt uAt)
open Cert.Kernel2Ideal.Hand (row vecs flatLat diag)

variable (m : (ℓ : Loc nD τ sig) → Buf (Elt Ideal) ℓ) (c : Dev nD)

/-- The arguments. -/
def a0 : FVec Ideal S4096x16x128 .f32 := m (c.tc.loc main_arg0)
def a1 : FVec Ideal S4096x1024 .f32 := m (c.tc.loc main_arg1)
def a2 : FVec Ideal S128x16x64 .f32 := m (c.tc.loc main_arg2)
def a3 : FVec Ideal S1024x1024 .f32 := m (c.tc.loc main_arg3)
def a4 : FVec Ideal S1024 .f32 := m (c.tc.loc main_arg4)
def a5 : FVec Ideal S1024 .f32 := m (c.tc.loc main_arg5)

theorem V_ol : V m c main_v26 = flatLat (a0 m c) := by
  show StableHlo.after (List.flatten [hostOps0]) (fun b => m (c, b)) (Proc.devRef .tc main_v26) = _
  simp only [List.flatten_cons, List.flatten_nil, List.append_nil, hostOps0, List.cons_append, List.nil_append]
  after_results_simp
  rfl

theorem V_vec : V m c main_v9 = vecs (a4 m c) (a5 m c) := by
  show StableHlo.after (List.flatten [hostOps0]) (fun b => m (c, b)) (Proc.devRef .tc main_v9) = _
  simp only [List.flatten_cons, List.flatten_nil, List.append_nil, hostOps0, List.cons_append, List.nil_append]
  after_results_simp
  rfl

theorem V_bd : V m c main_v24 = diag (a2 m c) := by
  show StableHlo.after (List.flatten [hostOps0]) (fun b => m (c, b)) (Proc.devRef .tc main_v24) = _
  simp only [List.flatten_cons, List.flatten_nil, List.append_nil, hostOps0, List.cons_append, List.nil_append]
  after_results_simp
  rfl

theorem V_wo : V m c main_v27 = a3 m c := by
  show StableHlo.after (List.flatten [hostOps0]) (fun b => m (c, b)) (Proc.devRef .tc main_v27) = _
  simp only [List.flatten_cons, List.flatten_nil, List.append_nil, hostOps0, List.cons_append, List.nil_append]
  after_results_simp
  rfl

/-! ## The windows -/

/-- The row of the array that is row `q` of a grid point's block. -/
def rowOf (t : Fin cfg0.N) (q : Fin 512) : Fin 4096 := ⟨t.val * 512 + q.val, by have := t.isLt; have : cfg0.N = 8 := N_0; omega⟩

theorem index_in : ∀ t : Fin cfg0.N, (cfg0.win 0).index t = ![t.val, 0] ∧ (cfg0.win 1).index t = ![t.val, 0] := by decide +kernel
theorem index_whole : ∀ t : Fin cfg0.N, (cfg0.win 2).index t = ![0, 0] ∧ (cfg0.win 3).index t = ![0, 0, 0] ∧
    (cfg0.win 4).index t = ![0, 0] := by decide +kernel
theorem index_out : ∀ t : Fin cfg0.N, (cfg0.win 5).index t = ![t.val, 0] ∧ (cfg0.win 6).index t = ![t.val, 0] ∧
    (cfg0.win 7).index t = ![t.val, 0] := by decide +kernel

variable {m c}

theorem emb_0 (A : S4096x2048.Idx → EReal) (t : Fin cfg0.N) (q : Fin 512) (k : Fin 2048) :
    ((cfg0.win 0).blk t).view.read (Elt Ideal) A (ix2 q k) = A (ix2 (rowOf t q) k) := by
  refine congrArg A (funext fun a => Fin.ext ?_)
  match a with
  | 0 => blk_simp [(index_in t).1]; rfl
  | 1 => blk_simp [(index_in t).1]

theorem emb_1 (A : S4096x1024.Idx → EReal) (t : Fin cfg0.N) (q : Fin 512) (k : Fin 1024) :
    ((cfg0.win 1).blk t).view.read (Elt Ideal) A (ix2 q k) = A (ix2 (rowOf t q) k) := by
  refine congrArg A (funext fun a => Fin.ext ?_)
  match a with
  | 0 => blk_simp [(index_in t).2]; rfl
  | 1 => blk_simp [(index_in t).2]

theorem emb_2 (A : S8x1024.Idx → EReal) (t : Fin cfg0.N) : ((cfg0.win 2).blk t).view.read (Elt Ideal) A = A := by
  refine funext fun y => congrArg A (funext fun a => Fin.ext ?_)
  match a with
  | 0 => blk_simp [(index_whole t).1]
  | 1 => blk_simp [(index_whole t).1]

theorem emb_3 (A : S8x256x128.Idx → EReal) (t : Fin cfg0.N) : ((cfg0.win 3).blk t).view.read (Elt Ideal) A = A := by
  refine funext fun y => congrArg A (funext fun a => Fin.ext ?_)
  match a with
  | 0 => blk_simp [(index_whole t).2.1]
  | 1 => blk_simp [(index_whole t).2.1]
  | 2 => blk_simp [(index_whole t).2.1]

theorem emb_4 (A : S1024x1024.Idx → EReal) (t : Fin cfg0.N) : ((cfg0.win 4).blk t).view.read (Elt Ideal) A = A := by
  refine funext fun y => congrArg A (funext fun a => Fin.ext ?_)
  match a with
  | 0 => blk_simp [(index_whole t).2.2]
  | 1 => blk_simp [(index_whole t).2.2]

/-! ## What the region leaves -/

variable (m c)

/-- The heads' outputs, side by side. -/
def ocArr (y : S4096x1024.Idx) : EReal := oAt (a0 m c) (a2 m c) (y 0) (y 1)

/-- Their projection. -/
def uArr (y : S4096x1024.Idx) : EReal := uAt (a0 m c) (a2 m c) (a3 m c) (y 0) (y 1)

/-- The result. -/
def xoArr (y : S4096x1024.Idx) : EReal :=
  result (row (a1 m c) (y 0)) (uAt (a0 m c) (a2 m c) (a3 m c) (y 0)) (fun k => a4 m c (ix1 k)) (fun k => a5 m c (ix1 k)) (y 1)

variable {m c}

theorem row_1 (t : Fin cfg0.N) (q : Fin 512) : row (iblk m c 1 t) q = row (a1 m c) (rowOf t q) :=
  funext fun k => (emb_1 (V m c main_arg1) t q k).trans (congrFun (V_main_arg1 m c) _)

theorem row_g (t : Fin cfg0.N) : row (iblk m c 2 t) 1 = fun k => a4 m c (ix1 k) :=
  funext fun k => (congrFun ((emb_2 (V m c main_v9) t).trans (V_vec m c)) _).trans (Cert.Kernel2Ideal.Hand.vecs_g _ _ k)

theorem row_gate (t : Fin cfg0.N) : row (iblk m c 2 t) 4 = fun k => a5 m c (ix1 k) :=
  funext fun k => (congrFun ((emb_2 (V m c main_v9) t).trans (V_vec m c)) _).trans (Cert.Kernel2Ideal.Hand.vecs_gate _ _ k)

theorem bd_eq (t : Fin cfg0.N) : (iblk m c 3 t : S8x256x128.Idx → EReal) = diag (a2 m c) := (emb_3 (V m c main_v24) t).trans (V_bd m c)

theorem wo_eq (t : Fin cfg0.N) : (iblk m c 4 t : S1024x1024.Idx → EReal) = a3 m c := (emb_4 (V m c main_v27) t).trans (V_wo m c)

/-- A block's row of the heads' outputs is the array's. -/
theorem oc_eq (t : Fin cfg0.N) (q : Fin 512) : row (ocBlock m c t) q = oAt (a0 m c) (a2 m c) (rowOf t q) := by
  funext n
  show ocRow (row (iblk m c 0 t) q) (iblk m c 3 t) n = _
  rw [bd_eq]
  refine (ocRow_diag _ _ (a2 m c) (Cert.Kernel2Ideal.Hand.diag_at (a2 m c)) n).trans (Finset.sum_congr rfl fun e _ => congrArg (_ * ·) ?_)
  exact ((emb_0 (V m c main_v26) t q _).trans (congrFun (V_ol m c) _)).trans
    (Cert.Kernel2Ideal.Hand.flatLat_at (a0 m c) (rowOf t q) ⟨n.val / 64, by omega⟩ e)

theorem u_eq (t : Fin cfg0.N) (q : Fin 512) :
    projRow (iblk m c 4 t) (row (ocBlock m c t) q) = uAt (a0 m c) (a2 m c) (a3 m c) (rowOf t q) := by
  rw [wo_eq, oc_eq]
  rfl

theorem xo_eq (t : Fin cfg0.N) (q : Fin 512) (k : Fin 1024) :
    result (row (iblk m c 1 t) q) (projRow (iblk m c 4 t) (row (ocBlock m c t) q)) (row (iblk m c 2 t) 1) (row (iblk m c 2 t) 4) k =
      xoArr m c (ix2 (rowOf t q) k) := by
  rw [row_1, u_eq, row_g, row_gate]
  rfl

theorem arr_xo : (dats (F := Ideal) m 0 c).arrAt 5 cfg0.N = xoArr m c := by
  refine (dats m 0 c).arrAt_eq_of_covers 5 _ (by decide +kernel) fun t hf y => ?_
  blk_simp
  rw [after0_5]
  refine (outs_xo m c t y).trans ((xo_eq t (y 0) (y 1)).trans (congrArg (xoArr m c) (funext fun a => Fin.ext ?_)))
  match a with
  | 0 => blk_simp [(index_out t).1]; rfl
  | 1 => blk_simp [(index_out t).1]

theorem arr_u : (dats (F := Ideal) m 0 c).arrAt 6 cfg0.N = uArr m c := by
  refine (dats m 0 c).arrAt_eq_of_covers 6 _ (by decide +kernel) fun t hf y => ?_
  blk_simp
  rw [after0_6]
  refine (outs_u m c t y).trans ((congrFun (u_eq t (y 0)) (y 1)).trans
    (congrArg (uArr m c) (a₁ := ix2 (rowOf t (y 0)) (y 1)) (funext fun a => Fin.ext ?_)))
  match a with
  | 0 => blk_simp [(index_out t).2.1]; rfl
  | 1 => blk_simp [(index_out t).2.1]

theorem arr_oc : (dats (F := Ideal) m 0 c).arrAt 7 cfg0.N = ocArr m c := by
  refine (dats m 0 c).arrAt_eq_of_covers 7 _ (by decide +kernel) fun t hf y => ?_
  blk_simp
  rw [after0_7]
  refine ((outs_oc m c t y).trans (congrArg (ocBlock m c t) (ValueIdx.eq_ix2 y))).trans ((congrFun (oc_eq t (y 0)) (y 1)).trans
    (congrArg (ocArr m c) (a₁ := ix2 (rowOf t (y 0)) (y 1)) (funext fun a => Fin.ext ?_)))
  match a with
  | 0 => blk_simp [(index_out t).2.2]; rfl
  | 1 => blk_simp [(index_out t).2.2]

end Cert.Kernel8Ideal.Hand

end
-- ==== Proof.AfterReference.lean ====
/- The reference's three results behind the attention, read at an index. -/
module

public import proofs.«01_k».proof.Proof.AfterArrays
public import proofs.«01_k».proof.Proof.Gen.Reference8Ideal.Read
public import Idealize.ShloMosaic.Lib.Pointwise

@[expose] public section

set_option maxRecDepth 16384

noncomputable section

namespace Cert.Reference8Ideal.Hand

open Cert.Reference8Ideal Cert.Reference8Ideal.Gen Cert.Reference8Ideal.Read Cert.Proof.After
open Cert.Proof.Post (uhat oAt uAt)
open Cert.Kernel8Ideal.Hand (a0 a1 a2 a3 a4 a5 ocArr uArr xoArr)
open Idealize.ShloMosaic hiding ix1 ix2 ix3 eq_ix1 eq_ix2
open Idealize.ShloMosaic.ValueIdx Idealize.ShloMosaic.TcCoe Idealize.ShloMosaic.StableHlo

variable (x0 : (⟨S4096x16x128, .f32⟩ : BufTy).Contents (Elt Ideal)) (x1 : (⟨S4096x1024, .f32⟩ : BufTy).Contents (Elt Ideal))
  (x2 : (⟨S128x16x64, .f32⟩ : BufTy).Contents (Elt Ideal)) (x3 : (⟨S1024x1024, .f32⟩ : BufTy).Contents (Elt Ideal))
  (x4 x5 : (⟨S1024, .f32⟩ : BufTy).Contents (Elt Ideal))

/-- The heads' outputs. -/
theorem v2_at (y : S4096x1024.Idx) : val_main_v2 (F := Ideal) x0 x2 y = oAt x0 x2 (y 0) (y 1) := by
  unfold val_main_v2 val_main_v1 val_main_v0
  pointwise
  rfl

/-- Their projection. -/
theorem v3_at (y : S4096x1024.Idx) : val_main_v3 (F := Ideal) x0 x2 x3 y = uAt x0 x2 x3 (y 0) (y 1) := by
  have e := v2_at x0 x2
  unfold val_main_v3
  generalize val_main_v2 (F := Ideal) x0 x2 = o at *
  pointwise
  unfold uAt
  refine Finset.sum_congr rfl fun n _ => ?_
  rw [e]
  rfl

/-- The gated sum. -/
theorem v22_at (y : S4096x1024.Idx) : val_main_v22 (F := Ideal) x0 x1 x2 x3 x4 x5 y =
    result (fun k => x1 (ix2 (y 0) k)) (uAt x0 x2 x3 (y 0)) (fun k => x4 (ix1 k)) (fun k => x5 (ix1 k)) (y 1) := by
  have e := v3_at x0 x2 x3
  unfold val_main_v22 val_main_v21 val_main_v20 val_main_v19 val_main_v18 val_main_v17 val_main_v16 val_main_v15 val_main_v14 val_main_v13
    val_main_v12 val_main_v11 val_main_cst_2 val_main_v10 val_main_v9 val_main_cst_1 val_main_v8 val_main_v7 val_main_cst_0 val_main_v6
    val_main_v5 val_main_v4 val_main_cst
  generalize val_main_v3 (F := Ideal) x0 x2 x3 = u at *
  pointwise
  simp only [e]
  refine congrArg₂ (· + ·) (congrArg x1 (eq_ix2 y)) ?_
  rfl

/-! ## The kernel's arrays are the reference's results of the same arguments -/

variable (m : (ℓ : Loc Cert.Kernel8Ideal.nD Cert.Kernel8Ideal.τ Cert.Kernel8Ideal.sig) → Buf (Elt Ideal) ℓ) (c : Dev Cert.Kernel8Ideal.nD)

theorem res_xo : val_main_v22 (F := Ideal) (a0 m c) (a1 m c) (a2 m c) (a3 m c) (a4 m c) (a5 m c) = xoArr m c := funext (v22_at _ _ _ _ _ _)

theorem res_u : val_main_v3 (F := Ideal) (a0 m c) (a2 m c) (a3 m c) = uArr m c := funext (v3_at _ _ _)

theorem res_oc : val_main_v23 (F := Ideal) (a0 m c) (a2 m c) = ocArr m c := funext (v2_at _ _)

end Cert.Reference8Ideal.Hand

end
-- ==== Proof.SecondBlock.lean ====
/- One point of the grid that ends a gated layer: what it leaves in its blocks, row by row. -/
module

public import proofs.«01_k».proof.Proof.LossBlock
public import proofs.«01_k».proof.Proof.Gen.Kernel9Ideal.Frame

@[expose] public section

set_option maxRecDepth 16384

noncomputable section

namespace Cert.Kernel9Ideal.Hand

open Cert.Kernel9Ideal Cert.Kernel9Ideal.Gen Idealize.ShloMosaic Idealize.ShloMosaic.TcCoe Idealize.SL.Sem Idealize.ShloMosaic.StableHlo
open Cert.Proof.Loss
open Cert.Kernel4Ideal.Hand (row proj both)

section Payloads

variable (ub hb xb : S512x1024.Idx → EReal) (wg wu : S1x1024x1408.Idx → EReal) (wo : S1x1408x1024.Idx → EReal) (vb : S8x1024.Idx → EReal)

/-- The layer before the norm is the one that ends in the loss. -/
theorem pay7_at (i : S512x1024.Idx) : k0_pay7 (F := Ideal) ub hb wg wu wo i = both wg wu wo (row hb (i 0)) (row ub (i 0)) (i 1) :=
  Cert.Kernel4Ideal.Hand.pay8_at hb wg wu wo ub i

/-- So is its norm with the gated sum. -/
theorem pay1_eq (v v' : S1x1024.Idx → EReal) :
    k0_pay1 (F := Ideal) (k0_pay7 ub hb wg wu wo) (k0_pay8 ub hb wg wu wo) (Scalar.ofBits .f32 0x44800000#32) xb v v' =
      Cert.Kernel4Ideal.Gen.k0_pay9 (k0_pay7 (F := Ideal) ub hb wg wu wo) xb v v' := rfl

theorem pay1_at (h h') (i : S512x1024.Idx) :
    k0_pay1 (F := Ideal) (k0_pay7 ub hb wg wu wo) (k0_pay8 ub hb wg wu wo) (Scalar.ofBits .f32 0x44800000#32) xb
      (View.ld (Val := Elt Ideal) (e' := .f32) vb (Rect.unit (s := S8x1024) ![4, 0] ![1, 1024] h))
      (View.ld (Val := Elt Ideal) (e' := .f32) vb (Rect.unit (s := S8x1024) ![1, 0] ![1, 1024] h')) i =
      result (row xb (i 0)) (both wg wu wo (row hb (i 0)) (row ub (i 0))) (row vb 1) (row vb 4) (i 1) := by
  rw [pay1_eq]
  refine (Cert.Kernel4Ideal.Hand.pay9_at _ xb vb h h' i).trans (congrArg (fun u => result _ u _ _ (i 1)) (funext fun k => ?_))
  exact pay7_at ub hb wg wu wo (ix2 (i 0) k)

end Payloads

variable (m : (ℓ : Loc nD τ sig) → Buf (Elt Ideal) ℓ) (c : Dev nD) (t : Fin cfg0.N)

/-- A row of the layer before the norm, of the point's blocks. -/
def uRow (q : Fin 512) : Fin 1024 → EReal :=
  both (iblk m c 4 t) (iblk m c 5 t) (iblk m c 6 t) (row (iblk m c 1 t) q) (row (iblk m c 2 t) q)

/-- What a point leaves in its block of the result. -/
theorem outs_xo (y : S512x1024.Idx) : (outsAt0 (F := Ideal) m c t).1 y =
    result (row (iblk m c 0 t) (y 0)) (uRow m c t (y 0)) (row (iblk m c 3 t) 1) (row (iblk m c 3 t) 4) (y 1) := by
  unfold outsAt0
  frame_open
  simp (disch := decide) only [↓ View.readCov_skip, ↓ View.readCov_cons_toLoadRect, ↓ View.readCov_fill]
  frame_out
  exact pay1_at _ _ _ _ _ _ _ _ _ y

/-- What a point leaves in its block of the layer before the norm. -/
theorem outs_u (y : S512x1024.Idx) : (outsAt0 (F := Ideal) m c t).2.2 y = uRow m c t (y 0) (y 1) := by
  unfold outsAt0
  frame_open
  simp (disch := decide) only [↓ View.readCov_skip, ↓ View.readCov_cons_toLoadRect, ↓ View.readCov_fill]
  frame_out
  exact pay7_at _ _ _ _ _ y

/-- What a point leaves in its block of the hidden units' products. -/
theorem outs_a (y : S2x512x1408.Idx) : (outsAt0 (F := Ideal) m c t).2.1 y =
    if (y 0).val = 0 then proj (row (iblk m c 1 t) (y 1)) (iblk m c 4 t) (y 2) else proj (row (iblk m c 1 t) (y 1)) (iblk m c 5 t) (y 2) := by
  unfold outsAt0
  frame_open
  simp (disch := decide) only [↓ View.readCov_skip, ↓ View.readCov_cons_toLoadRect, ↓ View.readCov_fill]
  frame_out
  exact (Cert.Kernel4Ideal.Hand.canon_halves _ _ y).trans
    (if_congr Iff.rfl (Cert.Kernel4Ideal.Hand.pay6_at _ _ _) (Cert.Kernel4Ideal.Hand.pay7_at _ _ _))

end Cert.Kernel9Ideal.Hand

end
-- ==== Proof.SecondArrays.lean ====
/- The arrays that the end of a gated layer leaves. -/
module

public import proofs.«01_k».proof.Proof.SecondBlock
public import proofs.«01_k».proof.Proof.LossArrays

@[expose] public section

set_option maxRecDepth 16384

noncomputable section

namespace Cert.Kernel9Ideal.Hand

open Cert.Kernel9Ideal Cert.Kernel9Ideal.Gen Idealize.ShloMosaic Idealize.ShloMosaic.TcCoe Idealize.SL.Sem Idealize.ShloMosaic.StableHlo
open Cert.Proof.Loss
open Cert.Kernel4Ideal.Hand (row proj gateAt upAt inParts inParts_at outParts outParts_at outHalf outHalf_at padHalf padHalf_at)

variable (m : (ℓ : Loc nD τ sig) → Buf (Elt Ideal) ℓ) (c : Dev nD)

/-- The arguments. -/
def a0 : FVec Ideal S4096x1024 .f32 := m (c.tc.loc main_arg0)
def a1 : FVec Ideal S1024 .f32 := m (c.tc.loc main_arg1)
def a2 : FVec Ideal S1024 .f32 := m (c.tc.loc main_arg2)
def a3 : FVec Ideal S1024 .f32 := m (c.tc.loc main_arg3)
def a4 : FVec Ideal S1024x5632 .f32 := m (c.tc.loc main_arg4)
def a5 : FVec Ideal S2816x1024 .f32 := m (c.tc.loc main_arg5)
def a6 : FVec Ideal S1024 .f32 := m (c.tc.loc main_arg6)
def a7 : FVec Ideal S1024 .f32 := m (c.tc.loc main_arg7)

/-- The normalized input, modulated. -/
def hArr : FVec Ideal S4096x1024 .f32 := Cert.Reference4Ideal.Read.val_main_v20 (F := Ideal) (a0 m c) (a1 m c) (a2 m c) (a3 m c)

theorem V_h : V m c main_v47 = truncf .bf16 (hArr m c) bitsLt_bf16_f32 := by
  show StableHlo.after (List.flatten [hostOps0, hostOps0_1, hostOps0_2, hostOps0_3, hostOps0_4]) (fun b => m (c, b)) (Proc.devRef .tc main_v47) = _
  simp only [List.flatten_cons, List.flatten_nil, List.append_nil, hostOps0, hostOps0_1, hostOps0_2, hostOps0_3, hostOps0_4,
    List.cons_append, List.nil_append]
  after_results_simp
  rfl

theorem V_half : V m c main_v28 = outHalf (hArr m c) (a4 m c) (a5 m c) := by
  show StableHlo.after (List.flatten [hostOps0, hostOps0_1, hostOps0_2, hostOps0_3, hostOps0_4]) (fun b => m (c, b)) (Proc.devRef .tc main_v28) = _
  simp only [List.flatten_cons, List.flatten_nil, List.append_nil, hostOps0, hostOps0_1, hostOps0_2, hostOps0_3, hostOps0_4,
    List.cons_append, List.nil_append]
  after_results_simp
  rfl

theorem V_vec : V m c main_v43 = Cert.Kernel2Ideal.Hand.vecs (a6 m c) (a7 m c) := by
  show StableHlo.after (List.flatten [hostOps0, hostOps0_1, hostOps0_2, hostOps0_3, hostOps0_4]) (fun b => m (c, b)) (Proc.devRef .tc main_v43) = _
  simp only [List.flatten_cons, List.flatten_nil, List.append_nil, hostOps0, hostOps0_1, hostOps0_2, hostOps0_3, hostOps0_4,
    List.cons_append, List.nil_append]
  after_results_simp
  rfl

theorem V_in : V m c main_v46 = inParts (a4 m c) := by
  show StableHlo.after (List.flatten [hostOps0, hostOps0_1, hostOps0_2, hostOps0_3, hostOps0_4]) (fun b => m (c, b)) (Proc.devRef .tc main_v46) = _
  simp only [List.flatten_cons, List.flatten_nil, List.append_nil, hostOps0, hostOps0_1, hostOps0_2, hostOps0_3, hostOps0_4,
    List.cons_append, List.nil_append]
  after_results_simp
  rfl

theorem V_out : V m c main_v49 = outParts (a5 m c) := by
  show StableHlo.after (List.flatten [hostOps0, hostOps0_1, hostOps0_2, hostOps0_3, hostOps0_4]) (fun b => m (c, b)) (Proc.devRef .tc main_v49) = _
  simp only [List.flatten_cons, List.flatten_nil, List.append_nil, hostOps0, hostOps0_1, hostOps0_2, hostOps0_3, hostOps0_4,
    List.cons_append, List.nil_append]
  after_results_simp
  rfl

theorem V_a : V m c main_v50_1 = padHalf (hArr m c) (a4 m c) := by
  show StableHlo.after (List.flatten [hostOps0, hostOps0_1, hostOps0_2, hostOps0_3, hostOps0_4]) (fun b => m (c, b)) (Proc.devRef .tc main_v50_1) = _
  simp only [List.flatten_cons, List.flatten_nil, List.append_nil, hostOps0, hostOps0_1, hostOps0_2, hostOps0_3, hostOps0_4,
    List.cons_append, List.nil_append]
  after_results_simp
  rfl

/-! ## The windows -/

/-- The row of the array that is row `q` of a grid point's block. -/
def rowOf (t : Fin cfg0.N) (q : Fin 512) : Fin 4096 := ⟨t.val * 512 + q.val, by have := t.isLt; have : cfg0.N = 8 := N_0; omega⟩

theorem index_rows : ∀ t : Fin cfg0.N, (cfg0.win 0).index t = ![t.val, 0] ∧ (cfg0.win 1).index t = ![t.val, 0] ∧
    (cfg0.win 2).index t = ![t.val, 0] ∧ (cfg0.win 7).index t = ![t.val, 0] ∧ (cfg0.win 9).index t = ![t.val, 0] := by decide +kernel
theorem index_3 : ∀ t : Fin cfg0.N, (cfg0.win 3).index t = ![0, 0] := by decide +kernel
theorem index_weights : ∀ t : Fin cfg0.N, (cfg0.win 4).index t = ![1, 0, 0] ∧ (cfg0.win 5).index t = ![3, 0, 0] ∧
    (cfg0.win 6).index t = ![1, 0, 0] := by decide +kernel
theorem index_8 : ∀ t : Fin cfg0.N, (cfg0.win 8).index t = ![0, t.val, 1] := by decide +kernel

variable {m c}

theorem emb_0 (A : S4096x1024.Idx → EReal) (t : Fin cfg0.N) (q : Fin 512) (k : Fin 1024) :
    ((cfg0.win 0).blk t).view.read (Elt Ideal) A (ix2 q k) = A (ix2 (rowOf t q) k) := by
  refine congrArg A (funext fun a => Fin.ext ?_)
  match a with
  | 0 => blk_simp [(index_rows t).1]; rfl
  | 1 => blk_simp [(index_rows t).1]

theorem emb_1 (A : S4096x1024.Idx → EReal) (t : Fin cfg0.N) (q : Fin 512) (k : Fin 1024) :
    ((cfg0.win 1).blk t).view.read (Elt Ideal) A (ix2 q k) = A (ix2 (rowOf t q) k) := by
  refine congrArg A (funext fun a => Fin.ext ?_)
  match a with
  | 0 => blk_simp [(index_rows t).2.1]; rfl
  | 1 => blk_simp [(index_rows t).2.1]

theorem emb_2 (A : S4096x1024.Idx → EReal) (t : Fin cfg0.N) (q : Fin 512) (k : Fin 1024) :
    ((cfg0.win 2).blk t).view.read (Elt Ideal) A (ix2 q k) = A (ix2 (rowOf t q) k) := by
  refine congrArg A (funext fun a => Fin.ext ?_)
  match a with
  | 0 => blk_simp [(index_rows t).2.2.1]; rfl
  | 1 => blk_simp [(index_rows t).2.2.1]

theorem emb_3 (A : S8x1024.Idx → EReal) (t : Fin cfg0.N) : ((cfg0.win 3).blk t).view.read (Elt Ideal) A = A := by
  refine funext fun y => congrArg A (funext fun a => Fin.ext ?_)
  match a with
  | 0 => blk_simp [index_3 t]
  | 1 => blk_simp [index_3 t]

theorem emb_4 (A : S4x1024x1408.Idx → EReal) (t : Fin cfg0.N) (d : Fin 1024) (k : Fin 1408) :
    ((cfg0.win 4).blk t).view.read (Elt Ideal) A (ix3 0 d k) = A (ix3 1 d k) := by
  refine congrArg A (funext fun a => Fin.ext ?_)
  match a with
  | 0 => blk_simp [(index_weights t).1]; rfl
  | 1 => blk_simp [(index_weights t).1]
  | 2 => blk_simp [(index_weights t).1]

theorem emb_5 (A : S4x1024x1408.Idx → EReal) (t : Fin cfg0.N) (d : Fin 1024) (k : Fin 1408) :
    ((cfg0.win 5).blk t).view.read (Elt Ideal) A (ix3 0 d k) = A (ix3 3 d k) := by
  refine congrArg A (funext fun a => Fin.ext ?_)
  match a with
  | 0 => blk_simp [(index_weights t).2.1]; rfl
  | 1 => blk_simp [(index_weights t).2.1]
  | 2 => blk_simp [(index_weights t).2.1]

theorem emb_6 (A : S2x1408x1024.Idx → EReal) (t : Fin cfg0.N) (k : Fin 1408) (j : Fin 1024) :
    ((cfg0.win 6).blk t).view.read (Elt Ideal) A (ix3 0 k j) = A (ix3 1 k j) := by
  refine congrArg A (funext fun a => Fin.ext ?_)
  match a with
  | 0 => blk_simp [(index_weights t).2.2]; rfl
  | 1 => blk_simp [(index_weights t).2.2]
  | 2 => blk_simp [(index_weights t).2.2]

/-! ## What the region leaves -/

variable (m c)

/-- The layer's output before the norm. -/
def uArr (y : S4096x1024.Idx) : EReal :=
  hidden (gateAt (hArr m c) (a4 m c) (y 0)) (upAt (hArr m c) (a4 m c) (y 0)) fun k => a5 m c (ix2 k (y 1))

/-- The hidden units' products: the gates', then the others'. -/
def aArr (y : S2x4096x2816.Idx) : EReal :=
  if (y 0).val = 0 then gateAt (hArr m c) (a4 m c) (y 1) (y 2) else upAt (hArr m c) (a4 m c) (y 1) (y 2)

/-- The layer's result. -/
def xoArr (y : S4096x1024.Idx) : EReal :=
  result (row (a0 m c) (y 0)) (row (uArr m c) (y 0)) (fun k => a6 m c (ix1 k)) (fun k => a7 m c (ix1 k)) (y 1)

variable {m c}

theorem row_0 (t : Fin cfg0.N) (q : Fin 512) : row (iblk m c 0 t) q = row (a0 m c) (rowOf t q) :=
  funext fun k => (emb_0 (V m c main_arg0) t q k).trans (congrFun (V_main_arg0 m c) _)

theorem row_1 (t : Fin cfg0.N) (q : Fin 512) : row (iblk m c 1 t) q = row (hArr m c) (rowOf t q) :=
  funext fun k => (emb_1 (V m c main_v47) t q k).trans (congrFun (V_h m c) _)

theorem row_2 (t : Fin cfg0.N) (q : Fin 512) : row (iblk m c 2 t) q = row (outHalf (hArr m c) (a4 m c) (a5 m c)) (rowOf t q) :=
  funext fun k => (emb_2 (V m c main_v28) t q k).trans (congrFun (V_half m c) _)

theorem row_g (t : Fin cfg0.N) : row (iblk m c 3 t) 1 = fun k => a6 m c (ix1 k) :=
  funext fun k => (congrFun ((emb_3 (V m c main_v43) t).trans (V_vec m c)) _).trans (Cert.Kernel2Ideal.Hand.vecs_g _ _ k)

theorem row_gate (t : Fin cfg0.N) : row (iblk m c 3 t) 4 = fun k => a7 m c (ix1 k) :=
  funext fun k => (congrFun ((emb_3 (V m c main_v43) t).trans (V_vec m c)) _).trans (Cert.Kernel2Ideal.Hand.vecs_gate _ _ k)

theorem proj_gate (t : Fin cfg0.N) (q : Fin 512) (k : Fin 1408) :
    proj (row (iblk m c 1 t) q) (iblk m c 4 t) k = gateAt (hArr m c) (a4 m c) (rowOf t q) ⟨1408 + k.val, by omega⟩ := by
  unfold proj gateAt Cert.Kernel4Ideal.Hand.pre
  refine Finset.sum_congr rfl fun d _ => congrArg₂ (· * ·) (congrFun (row_1 t q) d) ?_
  refine ((emb_4 (V m c main_v46) t d k).trans (congrFun (V_in m c) _)).trans ((inParts_at _ _).trans (congrArg (a4 m c) ?_))
  exact congrArg (ix2 d) (Fin.ext rfl)

theorem proj_up (t : Fin cfg0.N) (q : Fin 512) (k : Fin 1408) :
    proj (row (iblk m c 1 t) q) (iblk m c 5 t) k = upAt (hArr m c) (a4 m c) (rowOf t q) ⟨1408 + k.val, by omega⟩ := by
  unfold proj upAt Cert.Kernel4Ideal.Hand.pre
  refine Finset.sum_congr rfl fun d _ => congrArg₂ (· * ·) (congrFun (row_1 t q) d) ?_
  refine ((emb_5 (V m c main_v46) t d k).trans (congrFun (V_in m c) _)).trans ((inParts_at _ _).trans (congrArg (a4 m c) ?_))
  exact congrArg (ix2 d) (Fin.ext (by show 3 * 1408 + k.val = 2816 + (1408 + k.val); omega))

theorem out_blk (t : Fin cfg0.N) (k : Fin 1408) (j : Fin 1024) :
    (iblk m c 6 t : S1x1408x1024.Idx → EReal) (ix3 0 k j) = a5 m c (ix2 ⟨1408 + k.val, by omega⟩ j) := by
  refine ((emb_6 (V m c main_v49) t k j).trans (congrFun (V_out m c) _)).trans ((outParts_at _ _).trans (congrArg (a5 m c) ?_))
  exact congrArg (ix2 · j) (Fin.ext rfl)

/-- A row of the layer before the norm, of a point's blocks, is the array's. -/
theorem u_eq (t : Fin cfg0.N) (q : Fin 512) : uRow m c t q = row (uArr m c) (rowOf t q) := by
  refine funext fun j => Eq.trans ?_ (hidden_halves _ _ _).symm
  refine congrArg₂ (· + ·) ((congrFun (row_2 t q) j).trans (outHalf_at _ _ _ _)) (Finset.sum_congr rfl fun k _ => ?_)
  exact congrArg₂ (· * ·) (congrArg₂ unit (proj_gate t q k) (proj_up t q k)) (out_blk t k j)

theorem xo_eq (t : Fin cfg0.N) (q : Fin 512) (k : Fin 1024) :
    result (row (iblk m c 0 t) q) (uRow m c t q) (row (iblk m c 3 t) 1) (row (iblk m c 3 t) 4) k = xoArr m c (ix2 (rowOf t q) k) := by
  rw [row_0, row_g, row_gate, u_eq]
  rfl

theorem a_eq (t : Fin cfg0.N) (n : Fin 2) (q : Fin 512) (k : Fin 1408) :
    (if n.val = 0 then proj (row (iblk m c 1 t) q) (iblk m c 4 t) k else proj (row (iblk m c 1 t) q) (iblk m c 5 t) k) =
      aArr m c (ix3 n (rowOf t q) ⟨1408 + k.val, by omega⟩) :=
  if_congr Iff.rfl (proj_gate t q k) (proj_up t q k)

theorem arr_xo : (dats (F := Ideal) m 0 c).arrAt 7 cfg0.N = xoArr m c := by
  refine (dats m 0 c).arrAt_eq_of_covers 7 _ (by decide +kernel) fun t hf y => ?_
  blk_simp
  rw [after0_7]
  refine (outs_xo m c t y).trans ((xo_eq t (y 0) (y 1)).trans (congrArg (xoArr m c) (funext fun a => Fin.ext ?_)))
  match a with
  | 0 => blk_simp [(index_rows t).2.2.2.1]; rfl
  | 1 => blk_simp [(index_rows t).2.2.2.1]

theorem arr_u : (dats (F := Ideal) m 0 c).arrAt 9 cfg0.N = uArr m c := by
  refine (dats m 0 c).arrAt_eq_of_covers 9 _ (by decide +kernel) fun t hf y => ?_
  blk_simp
  rw [after0_9]
  refine (outs_u m c t y).trans ((congrFun (u_eq t (y 0)) (y 1)).trans (congrArg (uArr m c) (funext fun a => Fin.ext ?_)))
  match a with
  | 0 => blk_simp [(index_rows t).2.2.2.2]; rfl
  | 1 => blk_simp [(index_rows t).2.2.2.2]

theorem arr_a : (dats (F := Ideal) m 0 c).arrAt 8 cfg0.N = aArr m c := by
  refine (dats m 0 c).arrAt_eq_of_coversWhere_of_agree 8 _ (fun β => 1 ≤ β 2) (by decide +kernel) (fun t hf y => ?_) (fun j hj => ?_)
  · blk_simp
    rw [after0_8]
    refine (outs_a m c t y).trans ((a_eq t (y 0) (y 1) (y 2)).trans (congrArg (aArr m c) (funext fun a => Fin.ext ?_)))
    match a with
    | 0 => blk_simp [index_8 t]
    | 1 => blk_simp [index_8 t]; rfl
    | 2 => blk_simp [index_8 t]
  · blk_simp [Pipeline.Window.cell_apply] at hj
    have h : (j 2).val < 1408 := by omega
    exact (congrFun (V_a m c) _).trans (padHalf_at _ _ _ h)

end Cert.Kernel9Ideal.Hand

end
-- ==== Proof.SecondReference.lean ====
/- The reference's three results at the end of a gated layer, read as those of the layer that ends in the loss. -/
module

public import proofs.«01_k».proof.Proof.SecondArrays
public import proofs.«01_k».proof.Proof.LossReference
public import proofs.«01_k».proof.Proof.Gen.Reference9Ideal.Read

@[expose] public section

set_option maxRecDepth 16384

noncomputable section

namespace Cert.Reference9Ideal.Hand

open Cert.Reference9Ideal Cert.Reference9Ideal.Gen Cert.Reference9Ideal.Read Cert.Proof.Loss
open Cert.Kernel4Ideal.Hand (row)
open Cert.Kernel9Ideal.Hand (a0 a1 a2 a3 a4 a5 a6 a7 aArr uArr xoArr)
open Idealize.ShloMosaic Idealize.ShloMosaic.TcCoe Idealize.ShloMosaic.StableHlo

variable (x0 : (⟨S4096x1024, .f32⟩ : BufTy).Contents (Elt Ideal)) (x1 x2 x3 : (⟨S1024, .f32⟩ : BufTy).Contents (Elt Ideal))
  (x4 : (⟨S1024x5632, .f32⟩ : BufTy).Contents (Elt Ideal)) (x5 : (⟨S2816x1024, .f32⟩ : BufTy).Contents (Elt Ideal))
  (x6 x7 : (⟨S1024, .f32⟩ : BufTy).Contents (Elt Ideal))

theorem v26_eq : val_main_v26 (F := Ideal) x0 x1 x2 x3 x4 x5 = Cert.Reference4Ideal.Read.val_main_v26 (F := Ideal) x0 x1 x2 x3 x4 x5 := rfl

theorem v51_eq : val_main_v51 (F := Ideal) x0 x1 x2 x3 x4 = Cert.Reference4Ideal.Read.val_main_v66 (F := Ideal) x0 x1 x2 x3 x4 := rfl

/-- The first result: the layer's. -/
theorem v47_at (y : S4096x1024.Idx) : val_main_v47 (F := Ideal) x0 x1 x2 x3 x4 x5 x6 x7 y =
    result (row x0 (y 0)) (row (val_main_v26 (F := Ideal) x0 x1 x2 x3 x4 x5) (y 0)) (fun k => x6 (ValueIdx.ix1 k))
      (fun k => x7 (ValueIdx.ix1 k)) (y 1) := by
  unfold val_main_v47 val_main_v46 val_main_v45 val_main_v44 val_main_v43 val_main_v42 val_main_v41 val_main_v40 val_main_v39
    val_main_v38 val_main_v37 val_main_v36 val_main_cst_7 val_main_v35 val_main_v34 val_main_cst_6 val_main_v33 val_main_v32 val_main_cst_5
    val_main_v31 val_main_v30 val_main_v29 val_main_cst_4 val_main_v28 val_main_v27 val_main_cst_3
  generalize val_main_v26 (F := Ideal) x0 x1 x2 x3 x4 x5 = u
  pointwise
  have e (f : S4096x1024.Idx → EReal) : f y = f (ValueIdx.ix2 (y 0) (y 1)) := congrArg f (ValueIdx.eq_ix2 y)
  rw [e x0, e u]
  rfl

/-! ## The kernel's arrays are the reference's results of the same arguments -/

variable (m : (ℓ : Loc Cert.Kernel9Ideal.nD Cert.Kernel9Ideal.τ Cert.Kernel9Ideal.sig) → Buf (Elt Ideal) ℓ) (c : Dev Cert.Kernel9Ideal.nD)

theorem res_u : val_main_v26 (F := Ideal) (a0 m c) (a1 m c) (a2 m c) (a3 m c) (a4 m c) (a5 m c) = uArr m c :=
  (v26_eq _ _ _ _ _ _).trans (funext (Cert.Reference4Ideal.Hand.v26_at _ _ _ _ _ _))

theorem res_a : val_main_v51 (F := Ideal) (a0 m c) (a1 m c) (a2 m c) (a3 m c) (a4 m c) = aArr m c :=
  (v51_eq _ _ _ _ _).trans (funext (Cert.Reference4Ideal.Hand.v66_at _ _ _ _ _))

theorem res_xo : val_main_v47 (F := Ideal) (a0 m c) (a1 m c) (a2 m c) (a3 m c) (a4 m c) (a5 m c) (a6 m c) (a7 m c) = xoArr m c :=
  funext fun y => (v47_at _ _ _ _ _ _ _ _ y).trans (congrArg (fun u => result _ (row u (y 0)) _ _ (y 1)) (res_u m c))

end Cert.Reference9Ideal.Hand

end
-- ==== Proof.lean ====
/- The claim: of the backward attention, of the gradient through the output projection, of the forward attention, of the hidden layer
that ends in the loss, of the gradient through a hidden layer's first and remaining units, of a hidden layer's first units after the
norm, of the output projection after the attention and of a hidden layer's remaining units with its norm, each the three frames, and the
equation with the reference. -/
module

public import proofs.«01_k».proof.Defs
public import proofs.«01_k».proof.Proof.Gen.Kernel
public import proofs.«01_k».proof.Proof.Gen.Kernel.Frame
public import proofs.«01_k».proof.Proof.Results
public import proofs.«01_k».proof.Proof.Gen.Kernel2
public import proofs.«01_k».proof.Proof.Gen.Kernel2.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Reference3Ideal.Run
public import proofs.«01_k».proof.Proof.Gen.Kernel4
public import proofs.«01_k».proof.Proof.Gen.Kernel4.Frame
public import proofs.«01_k».proof.Proof.Gen.Reference4Ideal.Run
public import proofs.«01_k».proof.Proof.Gen.Kernel5
public import proofs.«01_k».proof.Proof.Gen.Kernel5.Frame
public import proofs.«01_k».proof.Proof.Gen.Reference5Ideal.Run
public import proofs.«01_k».proof.Proof.Gen.Kernel6
public import proofs.«01_k».proof.Proof.Gen.Kernel6.Frame
public import proofs.«01_k».proof.Proof.Gen.Reference6Ideal.Run
public import proofs.«01_k».proof.Proof.Gen.Kernel7
public import proofs.«01_k».proof.Proof.Gen.Kernel7.Frame
public import proofs.«01_k».proof.Proof.Gen.Reference7Ideal.Run
public import proofs.«01_k».proof.Proof.Gen.Kernel8
public import proofs.«01_k».proof.Proof.Gen.Kernel8.Frame
public import proofs.«01_k».proof.Proof.Gen.Reference8Ideal.Run
public import proofs.«01_k».proof.Proof.Gen.Kernel9
public import proofs.«01_k».proof.Proof.Gen.Kernel9.Frame
public import proofs.«01_k».proof.Proof.Gen.Reference9Ideal.Run
public import proofs.«01_k».proof.Proof.PostResults
public import proofs.«01_k».proof.Proof.PostReference
public import proofs.«01_k».proof.Proof.PostFinite
public import proofs.«01_k».proof.Proof.FwdArrays
public import proofs.«01_k».proof.Proof.FwdReference
public import proofs.«01_k».proof.Proof.FwdFinite
public import proofs.«01_k».proof.Proof.LossArrays
public import proofs.«01_k».proof.Proof.LossReference
public import proofs.«01_k».proof.Proof.HiddenEquation
public import proofs.«01_k».proof.Proof.BackEquation
public import proofs.«01_k».proof.Proof.FirstReference
public import proofs.«01_k».proof.Proof.AfterReference
public import proofs.«01_k».proof.Proof.SecondReference
public import proofs.«01_k».proof.Proof.Finite
public import Idealize.ShloMosaic.Adequacy
public import Idealize.ShloMosaic.Init

@[expose] public section

noncomputable section

namespace Cert.Proof

open Idealize.ShloMosaic Idealize.SL.Sem

/-- The reference keeps its arguments, and declares no semaphore. -/
theorem frame_reference : Cert.quiescent_ReferenceIdeal := fun m ρ _ =>
  (θ_run Cert.ReferenceIdeal.defs _ _).mono (fun r h => ⟨fun c => (h c).2.2.2.2, Idealize.ShloMosaic.sem_eq_zero_of_no_sems (by decide) r.2⟩)
    (Cert.ReferenceIdeal.Value.run (F := Ideal) m ρ)

section Equation

open Cert.KernelIdeal Cert.KernelIdeal.Gen Cert.KernelIdeal.Hand

theorem algebraic_attn : Cert.algebraic_KernelIdeal_ReferenceIdeal_pre_finite := by
  intro m g m' g' hp ha
  have f : ∀ c, Finite m c := fun c => by
    obtain ⟨f0, f1, f2, f3, f4⟩ := Cert.Pre_finite.Hand.finite_of _ _ _ _ _ (fun a => a.elim0) (congrFun (hp c) _)
    exact ⟨f0, f1, f2, f3, f4⟩
  refine ⟨fun c => gradQl (attn m c), fun c => gradQr (attn m c), fun c => gradCkv (attn m c), fun c => gradKr (attn m c), ?_, ?_⟩
  · refine (θ_run Cert.KernelIdeal.defs _ _).mono (fun r h c => ?_) (θ_run_and (run_main (F := Ideal) m g) (unchanged (F := Ideal) m g))
    refine ⟨?_, ?_, ?_, ?_, h.2 c⟩
    · exact ((h.1 c).2 main_v64 (Pipeline.mem_restRefs_of main_v64 (by decide) (by decide))).trans (res_dql (f c))
    · exact ((h.1 c).2 main_v60 (Pipeline.mem_restRefs_of main_v60 (by decide) (by decide))).trans (res_dqr (f c))
    · exact ((h.1 c).2 main_v66 (Pipeline.mem_restRefs_of main_v66 (by decide) (by decide))).trans (res_dckv (f c))
    · exact ((h.1 c).2 main_v63 (Pipeline.mem_restRefs_of main_v63 (by decide) (by decide))).trans (res_dkr (f c))
  · refine (θ_run Cert.ReferenceIdeal.defs _ _).mono (fun r h c => ?_) (Cert.ReferenceIdeal.Value.run (F := Ideal) m' g')
    obtain ⟨e0, e1, e2, e3, e4⟩ := ha c
    have k := f c
    refine ⟨(h c).1.trans ?_, (h c).2.1.trans ?_, (h c).2.2.1.trans ?_, (h c).2.2.2.1.trans ?_, (h c).2.2.2.2⟩
    · rw [Cert.ReferenceIdeal.Read.val_main_v65_eq, e0, e1, e2, e3, e4]
      exact funext fun i => Cert.ReferenceIdeal.Hand.dql_real k.f0 k.f1 k.f2 k.f3 k.f4 i
    · rw [Cert.ReferenceIdeal.Read.val_main_v59_eq, e0, e1, e2, e3, e4]
      exact funext fun i => Cert.ReferenceIdeal.Hand.dqr_real k.f0 k.f1 k.f2 k.f3 k.f4 i
    · rw [Cert.ReferenceIdeal.Read.val_main_v63_eq, e0, e1, e2, e3, e4]
      exact funext fun i => Cert.ReferenceIdeal.Hand.dckv_real k.f0 k.f1 k.f2 k.f3 k.f4 i
    · rw [Cert.ReferenceIdeal.Read.val_main_v57_eq, e0, e1, e2, e3, e4]
      exact funext fun i => Cert.ReferenceIdeal.Hand.dkr_real k.f0 k.f1 k.f2 k.f3 k.f4 i

end Equation

theorem frame_reference2 : Cert.quiescent_Reference2Ideal := fun m ρ _ =>
  (θ_run Cert.Reference2Ideal.defs _ _).mono
    (fun r h => ⟨fun c => (h c).2.2.2.2.2.2, Idealize.ShloMosaic.sem_eq_zero_of_no_sems (by decide) r.2⟩)
    (Cert.Reference2Ideal.Value.run (F := Ideal) m ρ)

section PostEquation

open Cert.Kernel2Ideal Cert.Kernel2Ideal.Gen Cert.Kernel2Ideal.Hand Cert.Proof.Post

theorem algebraic_post : Cert.algebraic_Kernel2Ideal_Reference2Ideal_pre_finite2 := by
  intro m g m' g' hp ha
  refine ⟨fun c => duArr m c, fun c => docArr m c, fun c => dolArr m c, fun c => deltaArr m c,
    fun c => fun i : S1024.Idx => dgateAt (a0 m c) (a1 m c) (a2 m c) (a3 m c) (a5 m c) (i 0),
    fun c => fun i : S1024.Idx => dpostAt (a0 m c) (a1 m c) (a2 m c) (a4 m c) (a5 m c) (i 0), ?_, ?_⟩
  · refine (θ_run Cert.Kernel2Ideal.defs _ _).mono (fun r h c => ?_) (θ_run_and (run_main (F := Ideal) m g) (unchanged (F := Ideal) m g))
    refine ⟨?_, ?_, ?_, ?_, ?_, ?_, h.2 c⟩
    · exact ((h.1 c).1 6).trans arr_du
    · exact ((h.1 c).1 7).trans arr_doc
    · exact ((h.1 c).1 8).trans arr_dol
    · exact ((h.1 c).1 9).trans arr_delta
    · exact ((h.1 c).2 main_v34 (Pipeline.mem_restRefs_of main_v34 (by decide) (by decide))).trans (res_dgate m c)
    · exact ((h.1 c).2 main_v36 (Pipeline.mem_restRefs_of main_v36 (by decide) (by decide))).trans (res_dpost m c)
  · refine (θ_run Cert.Reference2Ideal.defs _ _).mono (fun r h c => ?_) (Cert.Reference2Ideal.Value.run (F := Ideal) m' g')
    obtain ⟨e0, e1, e2, e3, e4, e5⟩ := ha c
    obtain ⟨f0, f1, f2, f3, f4, f5⟩ := Cert.Pre_finite2.Hand.finite_of _ _ _ _ _ _ (fun a => a.elim0) (congrFun (hp c) _)
    have d := Cert.Reference2Ideal.Hand.v50_real _ _ _ _ _ _ f0 f1 f2 f3 f4 f5
    refine ⟨(h c).1.trans ?_, (h c).2.1.trans ?_, (h c).2.2.1.trans ?_, (h c).2.2.2.1.trans ?_, (h c).2.2.2.2.1.trans ?_,
      (h c).2.2.2.2.2.1.trans ?_, (h c).2.2.2.2.2.2⟩
    · rw [Cert.Reference2Ideal.Read.val_main_v59_eq, e0, e1, e2, e3, e4, e5]
      exact funext fun y => (Cert.Reference2Ideal.Hand.v59_at d y).trans (du_res m c y).symm
    · rw [Cert.Reference2Ideal.Read.val_main_v60_eq, e0, e1, e2, e3, e4, e5]
      exact funext fun y => (Cert.Reference2Ideal.Hand.v60_at d y).trans (doc_res m c y).symm
    · rw [Cert.Reference2Ideal.Read.val_main_v62_eq, e0, e1, e2, e3, e4, e5]
      exact funext fun y => (Cert.Reference2Ideal.Hand.v62_at d y).trans (dol_res m c y).symm
    · rw [Cert.Reference2Ideal.Read.val_main_v63_eq, e0, e1, e2, e3, e4, e5]
      exact funext fun y => (Cert.Reference2Ideal.Hand.v63_at d y).trans (delta_res m c y).symm
    · rw [Cert.Reference2Ideal.Read.val_main_v30_eq, e0, e1, e2, e3, e5]
      exact funext fun i => Cert.Reference2Ideal.Hand.v30_at _ _ _ _ _ i
    · rw [Cert.Reference2Ideal.Read.val_main_v36_eq, e0, e1, e2, e4, e5]
      exact funext fun i => Cert.Reference2Ideal.Hand.v36_at _ _ _ _ _ i

end PostEquation

theorem frame_reference3 : Cert.quiescent_Reference3Ideal := fun m ρ _ =>
  (θ_run Cert.Reference3Ideal.defs _ _).mono (fun r h => ⟨fun c => (h c).2.2, Idealize.ShloMosaic.sem_eq_zero_of_no_sems (by decide) r.2⟩)
    (Cert.Reference3Ideal.Value.run (F := Ideal) m ρ)

section ForwardEquation

open Cert.Kernel3Ideal Cert.Kernel3Ideal.Gen Cert.Kernel3Ideal.Hand

theorem algebraic_fwd : Cert.algebraic_Kernel3Ideal_Reference3Ideal_pre_finite3 := by
  intro m g m' g' hp ha
  have f : ∀ c, Finite m c := fun c => by
    obtain ⟨f0, f1, f2, f3⟩ := Cert.Pre_finite3.Hand.finite_of _ _ _ _ (fun a => a.elim0) (congrFun (hp c) _)
    exact ⟨f0, f1, f2, f3⟩
  refine ⟨fun c => outArr m c, fun c => lseArr m c, ?_, ?_⟩
  · refine (θ_run Cert.Kernel3Ideal.defs _ _).mono (fun r h c => ?_) (θ_run_and (run_main (F := Ideal) m g) (unchanged (F := Ideal) m g))
    exact ⟨((h.1 c).1 3).trans (arr_out (f c)), ((h.1 c).1 4).trans (arr_lse (f c)), h.2 c⟩
  · refine (θ_run Cert.Reference3Ideal.defs _ _).mono (fun r h c => ?_) (Cert.Reference3Ideal.Value.run (F := Ideal) m' g')
    obtain ⟨e0, e1, e2, e3⟩ := ha c
    have k := f c
    refine ⟨(h c).1.trans ?_, (h c).2.1.trans ?_, (h c).2.2⟩
    · rw [Cert.Reference3Ideal.Read.val_main_v35_eq, e0, e1, e2, e3]
      exact funext fun i => Cert.Reference3Ideal.Hand.v35_real k.f0 k.f1 k.f2 k.f3 i
    · rw [Cert.Reference3Ideal.Read.val_main_v36_eq, e0, e1, e2, e3]
      exact funext fun i => Cert.Reference3Ideal.Hand.v36_real k.f0 k.f1 k.f2 k.f3 i

end ForwardEquation

theorem frame_reference4 : Cert.quiescent_Reference4Ideal := fun m ρ _ =>
  (θ_run Cert.Reference4Ideal.defs _ _).mono (fun r h => ⟨fun c => (h c).2.2.2.2, Idealize.ShloMosaic.sem_eq_zero_of_no_sems (by decide) r.2⟩)
    (Cert.Reference4Ideal.Value.run (F := Ideal) m ρ)

section LossEquation

open Cert.Kernel4Ideal Cert.Kernel4Ideal.Gen Cert.Kernel4Ideal.Hand

theorem algebraic_loss : Cert.algebraic_Kernel4Ideal_Reference4Ideal := by
  intro m g m' g' _ ha
  refine ⟨fun c => dyArr m c, fun c => aArr m c, fun c => uArr m c, fun c => lossArr m c, ?_, ?_⟩
  · refine (θ_run Cert.Kernel4Ideal.defs _ _).mono (fun r h c => ?_) (θ_run_and (run_main (F := Ideal) m g) (unchanged (F := Ideal) m g))
    exact ⟨((h.1 c).1 8).trans arr_dy, ((h.1 c).1 9).trans arr_a, ((h.1 c).1 10).trans arr_u, ((h.1 c).1 11).trans arr_loss, h.2 c⟩
  · refine (θ_run Cert.Reference4Ideal.defs _ _).mono (fun r h c => ?_) (Cert.Reference4Ideal.Value.run (F := Ideal) m' g')
    obtain ⟨e0, e1, e2, e3, e4, e5, e6, e7, e8⟩ := ha c
    have s : Cert.Reference4Ideal.Hand.Same m c m' c := ⟨e0, e1, e2, e3, e4, e5, e6, e7, e8⟩
    refine ⟨(h c).1.trans (Cert.Reference4Ideal.Hand.res_dy s), (h c).2.1.trans ?_, (h c).2.2.1.trans ?_,
      (h c).2.2.2.1.trans (Cert.Reference4Ideal.Hand.res_loss s), (h c).2.2.2.2⟩
    · refine (Cert.Reference4Ideal.Read.val_main_v66_eq _ _ _ _ _).trans ?_
      rw [e0, e1, e2, e3, e4]
      exact Cert.Reference4Ideal.Hand.res_a m c
    · rw [Cert.Reference4Ideal.Read.val_main_v26_eq, e0, e1, e2, e3, e4, e5]
      exact Cert.Reference4Ideal.Hand.res_u m c

end LossEquation

theorem frame_reference5 : Cert.quiescent_Reference5Ideal := fun m ρ _ =>
  (θ_run Cert.Reference5Ideal.defs _ _).mono
    (fun r h => ⟨fun c => (h c).2.2.2.2.2.2, Idealize.ShloMosaic.sem_eq_zero_of_no_sems (by decide) r.2⟩)
    (Cert.Reference5Ideal.Value.run (F := Ideal) m ρ)

theorem frame_reference6 : Cert.quiescent_Reference6Ideal := fun m ρ _ =>
  (θ_run Cert.Reference6Ideal.defs _ _).mono
    (fun r h => ⟨fun c => (h c).2.2.2.2.2.2, Idealize.ShloMosaic.sem_eq_zero_of_no_sems (by decide) r.2⟩)
    (Cert.Reference6Ideal.Value.run (F := Ideal) m ρ)

section HiddenEquation

open Cert.Kernel5Ideal Cert.Kernel5Ideal.Gen Cert.Kernel5Ideal.Hand

theorem algebraic_hidden : Cert.algebraic_Kernel5Ideal_Reference5Ideal_pre_finite5 := by
  intro m g m' g' hp ha
  refine ⟨fun c => duArr m c, fun c => dhArr m c, fun c => actArr m c, fun c => daArr m c, fun c => dgateRes m c, fun c => dpostRes m c, ?_, ?_⟩
  · refine (θ_run Cert.Kernel5Ideal.defs _ _).mono (fun r h c => ?_) (θ_run_and (run_main (F := Ideal) m g) (unchanged (F := Ideal) m g))
    refine ⟨((h.1 c).1 7).trans arr_du, ((h.1 c).1 8).trans arr_dh, ?_, ?_, ?_, ?_, h.2 c⟩
    · exact ((h.1 c).2 main_v26 (Pipeline.mem_restRefs_of main_v26 (by decide) (by decide))).trans (res_act m c)
    · exact ((h.1 c).2 main_v27 (Pipeline.mem_restRefs_of main_v27 (by decide) (by decide))).trans (res_da m c)
    · exact ((h.1 c).2 main_v29 (Pipeline.mem_restRefs_of main_v29 (by decide) (by decide))).trans (res_dgate m c)
    · exact ((h.1 c).2 main_v31 (Pipeline.mem_restRefs_of main_v31 (by decide) (by decide))).trans (res_dpost m c)
  · refine (θ_run Cert.Reference5Ideal.defs _ _).mono (fun r h c => ?_) (Cert.Reference5Ideal.Value.run (F := Ideal) m' g')
    obtain ⟨e0, e1, e2, e3, e4, e5⟩ := ha c
    obtain ⟨f0, f1, f2, f3, f4, f5⟩ := Cert.Pre_finite5.Hand.finite_of _ _ _ _ _ _ (fun a => a.elim0) (congrFun (hp c) _)
    have s : Cert.Reference5Ideal.Hand.Same m c m' c := ⟨e0, e1, e2, e3, e4, e5, f0, f1, f2, f3, f4, f5⟩
    refine ⟨(h c).1.trans (Cert.Reference5Ideal.Hand.du_res s), (h c).2.1.trans (Cert.Reference5Ideal.Hand.dh_res s), (h c).2.2.1.trans ?_,
      (h c).2.2.2.1.trans (Cert.Reference5Ideal.Hand.da_res s), (h c).2.2.2.2.1.trans ?_,
      (h c).2.2.2.2.2.1.trans (Cert.Reference5Ideal.Hand.dpost_res s), (h c).2.2.2.2.2.2⟩
    · exact (Cert.Reference5Ideal.Read.val_main_v73_eq _ _).trans (Cert.Reference5Ideal.Hand.act_res s)
    · exact (Cert.Reference5Ideal.Read.val_main_v56_eq _ _ _ _ _).trans (Cert.Reference5Ideal.Hand.dgate_res s)

end HiddenEquation

section BackEquation

open Cert.Kernel6Ideal Cert.Kernel6Ideal.Gen Cert.Kernel6Ideal.Hand

theorem algebraic_back : Cert.algebraic_Kernel6Ideal_Reference6Ideal_pre_finite6 := by
  intro m g m' g' hp ha
  refine ⟨fun c => dxArr m c, fun c => actArr m c, fun c => daArr m c, fun c => dshiftRes m c, fun c => dscaleRes m c, fun c => dpreRes m c, ?_, ?_⟩
  · refine (θ_run Cert.Kernel6Ideal.defs _ _).mono (fun r h c => ?_) (θ_run_and (run_main (F := Ideal) m g) (unchanged (F := Ideal) m g))
    refine ⟨((h.1 c).1 9).trans arr_dx, ?_, ?_, ?_, ?_, ?_, h.2 c⟩
    · exact ((h.1 c).2 main_v27 (Pipeline.mem_restRefs_of main_v27 (by decide) (by decide))).trans (res_act m c)
    · exact ((h.1 c).2 main_v28 (Pipeline.mem_restRefs_of main_v28 (by decide) (by decide))).trans (res_da m c)
    · exact ((h.1 c).2 main_v30 (Pipeline.mem_restRefs_of main_v30 (by decide) (by decide))).trans (res_dshift m c)
    · exact ((h.1 c).2 main_v32 (Pipeline.mem_restRefs_of main_v32 (by decide) (by decide))).trans (res_dscale m c)
    · exact ((h.1 c).2 main_v34 (Pipeline.mem_restRefs_of main_v34 (by decide) (by decide))).trans (res_dpre m c)
  · refine (θ_run Cert.Reference6Ideal.defs _ _).mono (fun r h c => ?_) (Cert.Reference6Ideal.Value.run (F := Ideal) m' g')
    obtain ⟨e0, e1, e2, e3, e4, e5, e6, e7, e8⟩ := ha c
    obtain ⟨f0, f1, f2, f3, f4, f5, f7, f8⟩ := Cert.Pre_finite6.Hand.finite_of _ _ _ _ _ _ _ _ _ (fun a => a.elim0) (congrFun (hp c) _)
    have s : Cert.Reference6Ideal.Hand.Same m c m' c := ⟨e0, e1, e2, e3, e4, e5, e6, e7, e8, f0, f1, f2, f3, f4, f5, f7, f8⟩
    exact ⟨(h c).1.trans (Cert.Reference6Ideal.Hand.dx_res s), (h c).2.1.trans (Cert.Reference6Ideal.Hand.act_res s),
      (h c).2.2.1.trans (Cert.Reference6Ideal.Hand.da_res s), (h c).2.2.2.1.trans (Cert.Reference6Ideal.Hand.dshift_res s),
      (h c).2.2.2.2.1.trans (Cert.Reference6Ideal.Hand.dscale_res s), (h c).2.2.2.2.2.1.trans (Cert.Reference6Ideal.Hand.dpre_res s),
      (h c).2.2.2.2.2.2⟩

end BackEquation

theorem frame_reference7 : Cert.quiescent_Reference7Ideal := fun m ρ _ =>
  (θ_run Cert.Reference7Ideal.defs _ _).mono (fun r h => ⟨fun c => (h c).2.2.2, Idealize.ShloMosaic.sem_eq_zero_of_no_sems (by decide) r.2⟩)
    (Cert.Reference7Ideal.Value.run (F := Ideal) m ρ)

section FirstEquation

open Cert.Kernel7Ideal Cert.Kernel7Ideal.Gen Cert.Kernel7Ideal.Hand

theorem algebraic_first : Cert.algebraic_Kernel7Ideal_Reference7Ideal := by
  intro m g m' g' _ ha
  refine ⟨fun c => hArr m c, fun c => aArr m c, fun c => uArr m c, ?_, ?_⟩
  · refine (θ_run Cert.Kernel7Ideal.defs _ _).mono (fun r h c => ?_) (θ_run_and (run_main (F := Ideal) m g) (unchanged (F := Ideal) m g))
    refine ⟨((h.1 c).1 5).trans arr_h, ?_, ((h.1 c).1 7).trans arr_u, h.2 c⟩
    exact ((h.1 c).2 main_v16 (Pipeline.mem_restRefs_of main_v16 (by decide) (by decide))).trans (out_res m c)
  · refine (θ_run Cert.Reference7Ideal.defs _ _).mono (fun r h c => ?_) (Cert.Reference7Ideal.Value.run (F := Ideal) m' g')
    obtain ⟨e0, e1, e2, e3, e4, e5⟩ := ha c
    refine ⟨(h c).1.trans ?_, (h c).2.1.trans ?_, (h c).2.2.1.trans ?_, (h c).2.2.2⟩
    · refine (Cert.Reference7Ideal.Read.val_main_v26_eq _ _ _ _).trans ?_
      rw [e0, e1, e2, e3]
      exact Cert.Reference7Ideal.Hand.res_h m c
    · refine (Cert.Reference7Ideal.Read.val_main_v30_eq _ _ _ _ _).trans ?_
      rw [e0, e1, e2, e3, e4]
      exact Cert.Reference7Ideal.Hand.res_a m c
    · rw [Cert.Reference7Ideal.Read.val_main_v33_eq, e0, e1, e2, e3, e4, e5]
      exact Cert.Reference7Ideal.Hand.res_u m c

end FirstEquation

theorem frame_reference8 : Cert.quiescent_Reference8Ideal := fun m ρ _ =>
  (θ_run Cert.Reference8Ideal.defs _ _).mono (fun r h => ⟨fun c => (h c).2.2.2, Idealize.ShloMosaic.sem_eq_zero_of_no_sems (by decide) r.2⟩)
    (Cert.Reference8Ideal.Value.run (F := Ideal) m ρ)

section AfterEquation

open Cert.Kernel8Ideal Cert.Kernel8Ideal.Gen Cert.Kernel8Ideal.Hand

theorem algebraic_after : Cert.algebraic_Kernel8Ideal_Reference8Ideal := by
  intro m g m' g' _ ha
  refine ⟨fun c => xoArr m c, fun c => uArr m c, fun c => ocArr m c, ?_, ?_⟩
  · refine (θ_run Cert.Kernel8Ideal.defs _ _).mono (fun r h c => ?_) (θ_run_and (run_main (F := Ideal) m g) (unchanged (F := Ideal) m g))
    exact ⟨((h.1 c).1 5).trans arr_xo, ((h.1 c).1 6).trans arr_u, ((h.1 c).1 7).trans arr_oc, h.2 c⟩
  · refine (θ_run Cert.Reference8Ideal.defs _ _).mono (fun r h c => ?_) (Cert.Reference8Ideal.Value.run (F := Ideal) m' g')
    obtain ⟨e0, e1, e2, e3, e4, e5⟩ := ha c
    refine ⟨(h c).1.trans ?_, (h c).2.1.trans ?_, (h c).2.2.1.trans ?_, (h c).2.2.2⟩
    · rw [Cert.Reference8Ideal.Read.val_main_v22_eq, e0, e1, e2, e3, e4, e5]
      exact Cert.Reference8Ideal.Hand.res_xo m c
    · rw [Cert.Reference8Ideal.Read.val_main_v3_eq, e0, e2, e3]
      exact Cert.Reference8Ideal.Hand.res_u m c
    · refine (Cert.Reference8Ideal.Read.val_main_v23_eq _ _).trans ?_
      rw [e0, e2]
      exact Cert.Reference8Ideal.Hand.res_oc m c

end AfterEquation

theorem frame_reference9 : Cert.quiescent_Reference9Ideal := fun m ρ _ =>
  (θ_run Cert.Reference9Ideal.defs _ _).mono (fun r h => ⟨fun c => (h c).2.2.2, Idealize.ShloMosaic.sem_eq_zero_of_no_sems (by decide) r.2⟩)
    (Cert.Reference9Ideal.Value.run (F := Ideal) m ρ)

section SecondEquation

open Cert.Kernel9Ideal Cert.Kernel9Ideal.Gen Cert.Kernel9Ideal.Hand

theorem algebraic_second : Cert.algebraic_Kernel9Ideal_Reference9Ideal := by
  intro m g m' g' _ ha
  refine ⟨fun c => xoArr m c, fun c => aArr m c, fun c => uArr m c, ?_, ?_⟩
  · refine (θ_run Cert.Kernel9Ideal.defs _ _).mono (fun r h c => ?_) (θ_run_and (run_main (F := Ideal) m g) (unchanged (F := Ideal) m g))
    exact ⟨((h.1 c).1 7).trans arr_xo, ((h.1 c).1 8).trans arr_a, ((h.1 c).1 9).trans arr_u, h.2 c⟩
  · refine (θ_run Cert.Reference9Ideal.defs _ _).mono (fun r h c => ?_) (Cert.Reference9Ideal.Value.run (F := Ideal) m' g')
    obtain ⟨e0, e1, e2, e3, e4, e5, e6, e7⟩ := ha c
    refine ⟨(h c).1.trans ?_, (h c).2.1.trans ?_, (h c).2.2.1.trans ?_, (h c).2.2.2⟩
    · rw [Cert.Reference9Ideal.Read.val_main_v47_eq, e0, e1, e2, e3, e4, e5, e6, e7]
      exact Cert.Reference9Ideal.Hand.res_xo m c
    · refine (Cert.Reference9Ideal.Read.val_main_v51_eq _ _ _ _ _).trans ?_
      rw [e0, e1, e2, e3, e4]
      exact Cert.Reference9Ideal.Hand.res_a m c
    · rw [Cert.Reference9Ideal.Read.val_main_v26_eq, e0, e1, e2, e3, e4, e5]
      exact Cert.Reference9Ideal.Hand.res_u m c

end SecondEquation

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Pre_finite.Gen.facts, Cert.Pre_finite2.Gen.facts, Cert.Pre_finite3.Gen.facts, Cert.Pre_finite5.Gen.facts, Cert.Pre_finite6.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel2.Gen.frame m ρ, fun m ρ _ => Cert.Kernel2Ideal.Gen.frame m ρ, fun m ρ _ => Cert.Kernel2Ideal.Gen.frame m ρ,
  frame_reference2, fun m ρ _ => frame_reference2 m ρ trivial,
  fun m ρ _ => Cert.Kernel3.Gen.frame m ρ, fun m ρ _ => Cert.Kernel3Ideal.Gen.frame m ρ, fun m ρ _ => Cert.Kernel3Ideal.Gen.frame m ρ,
  frame_reference3, fun m ρ _ => frame_reference3 m ρ trivial,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, fun m ρ _ => Cert.Kernel5Ideal.Gen.frame m ρ,
  frame_reference5, fun m ρ _ => frame_reference5 m ρ trivial,
  fun m ρ _ => Cert.Kernel6.Gen.frame m ρ, fun m ρ _ => Cert.Kernel6Ideal.Gen.frame m ρ, fun m ρ _ => Cert.Kernel6Ideal.Gen.frame m ρ,
  frame_reference6, fun m ρ _ => frame_reference6 m ρ trivial,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  trivial, algebraic_attn, trivial, algebraic_post, trivial, algebraic_fwd, trivial, algebraic_loss, trivial, algebraic_hidden,
  trivial, algebraic_back, trivial, algebraic_first, trivial, algebraic_after, trivial, algebraic_second⟩

end Cert.Proof

end
